-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v58_0)) (v1 : (c : Dev Cert.Kernel2Ideal.nD) → Buf (Elt Ideal) ((c.tc : Thread Cert.Kernel2Ideal.nD Cert.Kernel2Ideal.τ).loc Cert.Kernel2Ideal.main_v58_1)) (v2 : (c : Dev Cert.Kernel2Ideal.nD) → Buf (Elt Ideal) ((c.tc : Thread Cert.Kernel2Ideal.nD Cert.Kernel2Ideal.τ).loc Cert.Kernel2Ideal.main_v58_2)) (v3 : (c : Dev Cert.Kernel2Ideal.nD) → Buf (Elt Ideal) ((c.tc : Thread Cert.Kernel2Ideal.nD Cert.Kernel2Ideal.τ).loc Cert.Kernel2Ideal.main_v58_3)) (v4 : (c : Dev Cert.Kernel2Ideal.nD) → Buf (Elt Ideal) ((c.tc : Thread Cert.Kernel2Ideal.nD Cert.Kernel2Ideal.τ).loc Cert.Kernel2Ideal.main_v58_4)) (v5 : (c : Dev Cert.Kernel2Ideal.nD) → Buf (Elt Ideal) ((c.tc : Thread Cert.Kernel2Ideal.nD Cert.Kernel2Ideal.τ).loc Cert.Kernel2Ideal.main_v58_5)) (v6 : (c : Dev Cert.Kernel2Ideal.nD) → Buf (Elt Ideal) ((c.tc : Thread Cert.Kernel2Ideal.nD Cert.Kernel2Ideal.τ).loc Cert.Kernel2Ideal.main_v58_6)) (v7 : (c : Dev Cert.Kernel2Ideal.nD) → Buf (Elt Ideal) ((c.tc : Thread Cert.Kernel2Ideal.nD Cert.Kernel2Ideal.τ).loc Cert.Kernel2Ideal.main_v58_7)) (v8 : (c : Dev Cert.Kernel2Ideal.nD) → Buf (Elt Ideal) ((c.tc : Thread Cert.Kernel2Ideal.nD Cert.Kernel2Ideal.τ).loc Cert.Kernel2Ideal.main_v58_8)) (v9 : (c : Dev Cert.Kernel2Ideal.nD) → Buf (Elt Ideal) ((c.tc : Thread Cert.Kernel2Ideal.nD Cert.Kernel2Ideal.τ).loc Cert.Kernel2Ideal.main_v58_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v58_0) = v0 c
          ∧ r.2.mem ((c.tc : Thread Cert.Kernel2Ideal.nD Cert.Kernel2Ideal.τ).loc Cert.Kernel2Ideal.main_v58_1) = v1 c
          ∧ r.2.mem ((c.tc : Thread Cert.Kernel2Ideal.nD Cert.Kernel2Ideal.τ).loc Cert.Kernel2Ideal.main_v58_2) = v2 c
          ∧ r.2.mem ((c.tc : Thread Cert.Kernel2Ideal.nD Cert.Kernel2Ideal.τ).loc Cert.Kernel2Ideal.main_v58_3) = v3 c
          ∧ r.2.mem ((c.tc : Thread Cert.Kernel2Ideal.nD Cert.Kernel2Ideal.τ).loc Cert.Kernel2Ideal.main_v58_4) = v4 c
          ∧ r.2.mem ((c.tc : Thread Cert.Kernel2Ideal.nD Cert.Kernel2Ideal.τ).loc Cert.Kernel2Ideal.main_v58_5) = v5 c
          ∧ r.2.mem ((c.tc : Thread Cert.Kernel2Ideal.nD Cert.Kernel2Ideal.τ).loc Cert.Kernel2Ideal.main_v58_6) = v6 c
          ∧ r.2.mem ((c.tc : Thread Cert.Kernel2Ideal.nD Cert.Kernel2Ideal.τ).loc Cert.Kernel2Ideal.main_v58_7) = v7 c
          ∧ r.2.mem ((c.tc : Thread Cert.Kernel2Ideal.nD Cert.Kernel2Ideal.τ).loc Cert.Kernel2Ideal.main_v58_8) = v8 c
          ∧ r.2.mem ((c.tc : Thread Cert.Kernel2Ideal.nD Cert.Kernel2Ideal.τ).loc Cert.Kernel2Ideal.main_v58_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v145) = v0 c
          ∧ r.2.mem ((c.tc : Thread Cert.Reference2Ideal.nD Cert.Reference2Ideal.τ).loc Cert.Reference2Ideal.main_v146) = v1 c
          ∧ r.2.mem ((c.tc : Thread Cert.Reference2Ideal.nD Cert.Reference2Ideal.τ).loc Cert.Reference2Ideal.main_v148) = v2 c
          ∧ r.2.mem ((c.tc : Thread Cert.Reference2Ideal.nD Cert.Reference2Ideal.τ).loc Cert.Reference2Ideal.main_v150) = v3 c
          ∧ r.2.mem ((c.tc : Thread Cert.Reference2Ideal.nD Cert.Reference2Ideal.τ).loc Cert.Reference2Ideal.main_v152) = v4 c
          ∧ r.2.mem ((c.tc : Thread Cert.Reference2Ideal.nD Cert.Reference2Ideal.τ).loc Cert.Reference2Ideal.main_v153) = v5 c
          ∧ r.2.mem ((c.tc : Thread Cert.Reference2Ideal.nD Cert.Reference2Ideal.τ).loc Cert.Reference2Ideal.main_v154) = v6 c
          ∧ r.2.mem ((c.tc : Thread Cert.Reference2Ideal.nD Cert.Reference2Ideal.τ).loc Cert.Reference2Ideal.main_v155) = v7 c
          ∧ r.2.mem ((c.tc : Thread Cert.Reference2Ideal.nD Cert.Reference2Ideal.τ).loc Cert.Reference2Ideal.main_v141) = v8 c
          ∧ r.2.mem ((c.tc : Thread Cert.Reference2Ideal.nD Cert.Reference2Ideal.τ).loc Cert.Reference2Ideal.main_v158) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x4096x4x128 : Shape := ⟨4, ![4, 4096, 4, 128]⟩
abbrev S4x4096x4x64 : Shape := ⟨4, ![4, 4096, 4, 64]⟩
abbrev S4x4096x192 : Shape := ⟨3, ![4, 4096, 192]⟩
abbrev S_ : Shape := ⟨0, ![]⟩

class Facts : Prop where
  bcast_S_S4x4096x4x128 : S_.BroadcastsInDim S4x4096x4x128 (![] : Fin 0 → Fin S4x4096x4x128.rank)
  bcast_S_S4x4096x4x64 : S_.BroadcastsInDim S4x4096x4x64 (![] : Fin 0 → Fin S4x4096x4x64.rank)
  bcast_S_S4x4096x192 : S_.BroadcastsInDim S4x4096x192 (![] : Fin 0 → Fin S4x4096x192.rank)

variable [Facts]

def fn {F : FTy → Type} [FloatOps F] (main_arg0 : FVec F S4x4096x4x128 .f32) (main_arg1 : FVec F S4x4096x4x64 .f32) (main_arg2 : FVec F S4x4096x192 .f32) : IVec S4x4096x4x128 1 × IVec S4x4096x4x64 1 × IVec S4x4096x192 1 :=
  let main_v0 : FVec F S4x4096x4x128 .f32 := Host.absf main_arg0
  let main_cst : FVec F S_ .f32 := constant S_ .f32 0x7F800000#32
  let main_v1 : FVec F S4x4096x4x128 .f32 := broadcastInDim S4x4096x4x128 ![] bcast_S_S4x4096x4x128 main_cst
  let main_v2 : IVec S4x4096x4x128 1 := cmpf .olt main_v0 main_v1
  let main_v3 : FVec F S4x4096x4x64 .f32 := Host.absf main_arg1
  let main_cst_0 : FVec F S_ .f32 := constant S_ .f32 0x7F800000#32
  let main_v4 : FVec F S4x4096x4x64 .f32 := broadcastInDim S4x4096x4x64 ![] bcast_S_S4x4096x4x64 main_cst_0
  let main_v5 : IVec S4x4096x4x64 1 := cmpf .olt main_v3 main_v4
  let main_v6 : FVec F S4x4096x192 .f32 := Host.absf main_arg2
  let main_cst_1 : FVec F S_ .f32 := constant S_ .f32 0x7F800000#32
  let main_v7 : FVec F S4x4096x192 .f32 := broadcastInDim S4x4096x192 ![] bcast_S_S4x4096x192 main_cst_1
  let main_v8 : IVec S4x4096x192 1 := cmpf .olt main_v6 main_v7
  (main_v2, main_v5, main_v8)
-- ==== Pre_finite2.lean ====
abbrev S4x4096x1024 : Shape := ⟨3, ![4, 4096, 1024]⟩
abbrev S4x1024 : Shape := ⟨2, ![4, 1024]⟩
abbrev S1024 : Shape := ⟨1, ![1024]⟩
abbrev S1024x2776 : Shape := ⟨2, ![1024, 2776]⟩
abbrev S256 : Shape := ⟨1, ![256]⟩
abbrev S256x4x192 : Shape := ⟨3, ![256, 4, 192]⟩
abbrev S128 : Shape := ⟨1, ![128]⟩
abbrev S128x4x128 : Shape := ⟨3, ![128, 4, 128]⟩
abbrev S_ : Shape := ⟨0, ![]⟩

class Facts : Prop where
  bcast_S_S256 : S_.BroadcastsInDim S256 (![] : Fin 0 → Fin S256.rank)
  bcast_S_S256x4x192 : S_.BroadcastsInDim S256x4x192 (![] : Fin 0 → Fin S256x4x192.rank)

variable [Facts]

def fn {F : FTy → Type} [FloatOps F] (main_arg0 : FVec F S4x4096x1024 .f32) (main_arg1 : FVec F S4x1024 .f32) (main_arg2 : FVec F S4x1024 .f32) (main_arg3 : FVec F S1024 .f32) (main_arg4 : FVec F S1024x2776 .f32) (main_arg5 : FVec F S256 .f32) (main_arg6 : FVec F S256x4x192 .f32) (main_arg7 : FVec F S128 .f32) (main_arg8 : FVec F S128x4x128 .f32) : IVec S256 1 × IVec S256x4x192 1 :=
  let main_v0 : FVec F S256 .f32 := Host.absf main_arg5
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S256x4x192 .f32 := Host.absf main_arg6
  let main_cst_0 : FVec F S_ .f32 := constant S_ .f32 0x7F800000#32
  let main_v4 : FVec F S256x4x192 .f32 := broadcastInDim S256x4x192 ![] bcast_S_S256x4x192 main_cst_0
  let main_v5 : IVec S256x4x192 1 := cmpf .olt main_v3 main_v4
  (main_v2, main_v5)
-- ==== Kernel.lean ====
abbrev S4x4096x4x128 : Shape := ⟨4, ![4, 4096, 4, 128]⟩
abbrev S4x4096x4x64 : Shape := ⟨4, ![4, 4096, 4, 64]⟩
abbrev S4x4096x192 : Shape := ⟨3, ![4, 4096, 192]⟩
abbrev S_ : Shape := ⟨0, ![]⟩
abbrev S4x4096x4x256 : Shape := ⟨4, ![4, 4096, 4, 256]⟩
abbrev S16384x1024 : Shape := ⟨2, ![16384, 1024]⟩
abbrev S4x192x4096 : Shape := ⟨3, ![4, 192, 4096]⟩
abbrev S4x64x4096 : Shape := ⟨3, ![4, 64, 4096]⟩
abbrev S4x256x4096 : Shape := ⟨3, ![4, 256, 4096]⟩
abbrev S16384x512 : Shape := ⟨2, ![16384, 512]⟩
abbrev S256x1024 : Shape := ⟨2, ![256, 1024]⟩
abbrev S1x256x4096 : Shape := ⟨3, ![1, 256, 4096]⟩
abbrev S256x512 : Shape := ⟨2, ![256, 512]⟩
abbrev S1024x4096 : Shape := ⟨2, ![1024, 4096]⟩
abbrev S1024x256 : Shape := ⟨2, ![1024, 256]⟩
abbrev S256x256 : Shape := ⟨2, ![256, 256]⟩
abbrev S1024x1 : Shape := ⟨2, ![1024, 1]⟩
abbrev S1x256x1024 : Shape := ⟨3, ![1, 256, 1024]⟩
abbrev S1024x1024 : Shape := ⟨2, ![1024, 1024]⟩
abbrev S1024 : Shape := ⟨1, ![1024]⟩
abbrev S4x256x1024 : Shape := ⟨3, ![4, 256, 1024]⟩
abbrev S1024x128 : Shape := ⟨2, ![1024, 128]⟩
abbrev S256x128 : Shape := ⟨2, ![256, 128]⟩

abbrev nBuf : Space → Nat
  | .hbm => 28
  | .vmem => 8
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x64, .f32⟩
  | .hbm, ⟨2, _⟩ => ⟨S4x4096x192, .f32⟩
  | .hbm, ⟨3, _⟩ => ⟨S_, .f32⟩
  | .hbm, ⟨4, _⟩ => ⟨S4x4096x4x64, .f32⟩
  | .hbm, ⟨5, _⟩ => ⟨S_, .f32⟩
  | .hbm, ⟨6, _⟩ => ⟨S4x4096x4x128, .f32⟩
  | .hbm, ⟨7, _⟩ => ⟨S4x4096x4x128, .f32⟩
  | .hbm, ⟨8, _⟩ => ⟨S_, .f32⟩
  | .hbm, ⟨9, _⟩ => ⟨S4x4096x4x64, .f32⟩
  | .hbm, ⟨10, _⟩ => ⟨S4x4096x4x64, .f32⟩
  | .hbm, ⟨11, _⟩ => ⟨S4x4096x4x256, .f32⟩
  | .hbm, ⟨12, _⟩ => ⟨S4x4096x4x256, .bf16⟩
  | .hbm, ⟨13, _⟩ => ⟨S16384x1024, .bf16⟩
  | .hbm, ⟨14, _⟩ => ⟨S4x192x4096, .f32⟩
  | .hbm, ⟨15, _⟩ => ⟨S4x64x4096, .i32⟩
  | .hbm, ⟨16, _⟩ => ⟨S_, .i32⟩
  | .hbm, ⟨17, _⟩ => ⟨S4x64x4096, .i32⟩
  | .hbm, ⟨18, _⟩ => ⟨S4x64x4096, .i1⟩
  | .hbm, ⟨19, _⟩ => ⟨S_, .f32⟩
  | .hbm, ⟨20, _⟩ => ⟨S_, .f32⟩
  | .hbm, ⟨21, _⟩ => ⟨S4x64x4096, .f32⟩
  | .hbm, ⟨22, _⟩ => ⟨S4x64x4096, .f32⟩
  | .hbm, ⟨23, _⟩ => ⟨S4x64x4096, .f32⟩
  | .hbm, ⟨24, _⟩ => ⟨S4x64x4096, .f32⟩
  | .hbm, ⟨25, _⟩ => ⟨S4x256x4096, .f32⟩
  | .hbm, ⟨26, _⟩ => ⟨S4x256x4096, .bf16⟩
  | .hbm, ⟨27, _⟩ => ⟨S16384x512, .f32⟩
  | .local _ .vmem, ⟨0, _⟩ => ⟨S256x1024, .bf16⟩
  | .local _ .vmem, ⟨1, _⟩ => ⟨S256x1024, .bf16⟩
  | .local _ .vmem, ⟨2, _⟩ => ⟨S1x256x4096, .bf16⟩
  | .local _ .vmem, ⟨3, _⟩ => ⟨S1x256x4096, .bf16⟩
  | .local _ .vmem, ⟨4, _⟩ => ⟨S256x512, .f32⟩
  | .local _ .vmem, ⟨5, _⟩ => ⟨S256x512, .f32⟩
  | .local _ .vmem, ⟨6, _⟩ => ⟨S1024x4096, .f32⟩
  | .local _ .vmem, ⟨7, _⟩ => ⟨S1024x256, .f32⟩
  | _, _ => ⟨S4x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_8 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v28 : BitVec 32 := Scalar.subi v17 c0_i32_8
  let c1_i32_9 : BitVec 32 := 1#32
  let v30 : BitVec 32 := Scalar.divsi v28 c1_i32_9
  let v31 : BitVec 32 := Scalar.muli v30 c1_i32_9
  let v32 : BitVec 32 := Scalar.addi c0_i32_8 v31
  let c1_i32_10 : BitVec 32 := 1#32
  ⟨c0_i32_8, v32, c1_i32_10⟩
def k0_mult1 (i : grid0.Coords) (k0_t1 : Fin (k0_t1_loop i).trips) : BitVec 32 :=
  let c0_i32_8 : BitVec 32 := 0#32
  let c1_i32_10 : BitVec 32 := 1#32
  let arg7 : BitVec 32 := Scf.iv c0_i32_8 c1_i32_10 k0_t1
  let c1024_i32_37 : BitVec 32 := 1024#32
  let v84 : BitVec 32 := Scalar.muli arg7 c1024_i32_37
  v84
def k0_off1 (i : grid0.Coords) (k0_t1 : Fin (k0_t1_loop i).trips) : Fin 3 → Nat :=
  let c0_38 : Index := 0#32
  let c0_39 : Index := 0#32
  let c0_i32_8 : BitVec 32 := 0#32
  let c1_i32_10 : BitVec 32 := 1#32
  let arg7 : BitVec 32 := Scf.iv c0_i32_8 c1_i32_10 k0_t1
  let c1024_i32_37 : BitVec 32 := 1024#32
  let v84 : BitVec 32 := Scalar.muli arg7 c1024_i32_37
  let v85 : BitVec 32 := v84
  let v86 : Index := Scalar.indexCast v85
  ![0, 0, v86.toNat]
def k0_off2 (i : grid0.Coords) (k0_t1 : Fin (k0_t1_loop i).trips) : Fin 2 → Nat :=
  let c0_41 : Index := 0#32
  let c0_i32_8 : BitVec 32 := 0#32
  let c1_i32_10 : BitVec 32 := 1#32
  let arg7 : BitVec 32 := Scf.iv c0_i32_8 c1_i32_10 k0_t1
  let c1024_i32_37 : BitVec 32 := 1024#32
  let v84 : BitVec 32 := Scalar.muli arg7 c1024_i32_37
  let v85 : BitVec 32 := v84
  let v90 : Index := Scalar.indexCast v85
  ![0, v90.toNat]
@[reducible] def k0_t2_loop (i : grid0.Coords) : Scf.Loop 32 :=
  let c0_i32_8 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v28 : BitVec 32 := Scalar.subi v17 c0_i32_8
  let c1_i32_9 : BitVec 32 := 1#32
  let v30 : BitVec 32 := Scalar.divsi v28 c1_i32_9
  let v31 : BitVec 32 := Scalar.muli v30 c1_i32_9
  let v32 : BitVec 32 := Scalar.addi c0_i32_8 v31
  let v29 : BitVec 32 := Scalar.addi c0_i32_8 v28
  let c1_i32_11 : BitVec 32 := 1#32
  ⟨v32, v29, c1_i32_11⟩
def k0_mult2 (i : grid0.Coords) (k0_t2 : Fin (k0_t2_loop i).trips) : BitVec 32 :=
  let c0_i32_8 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v28 : BitVec 32 := Scalar.subi v17 c0_i32_8
  let c1_i32_9 : BitVec 32 := 1#32
  let v30 : BitVec 32 := Scalar.divsi v28 c1_i32_9
  let v31 : BitVec 32 := Scalar.muli v30 c1_i32_9
  let v32 : BitVec 32 := Scalar.addi c0_i32_8 v31
  let c1_i32_11 : BitVec 32 := 1#32
  let arg7 : BitVec 32 := Scf.iv v32 c1_i32_11 k0_t2
  let c1024_i32_37 : BitVec 32 := 1024#32
  let v84 : BitVec 32 := Scalar.muli arg7 c1024_i32_37
  v84
def k0_off3 (i : grid0.Coords) (k0_t2 : Fin (k0_t2_loop i).trips) : Fin 3 → Nat :=
  let c0_38 : Index := 0#32
  let c0_39 : Index := 0#32
  let c0_i32_8 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v28 : BitVec 32 := Scalar.subi v17 c0_i32_8
  let c1_i32_9 : BitVec 32 := 1#32
  let v30 : BitVec 32 := Scalar.divsi v28 c1_i32_9
  let v31 : BitVec 32 := Scalar.muli v30 c1_i32_9
  let v32 : BitVec 32 := Scalar.addi c0_i32_8 v31
  let c1_i32_11 : BitVec 32 := 1#32
  let arg7 : BitVec 32 := Scf.iv v32 c1_i32_11 k0_t2
  let c1024_i32_37 : BitVec 32 := 1024#32
  let v84 : BitVec 32 := Scalar.muli arg7 c1024_i32_37
  let v85 : BitVec 32 := v84
  let v86 : Index := Scalar.indexCast v85
  ![0, 0, v86.toNat]
def k0_off4 (i : grid0.Coords) (k0_t2 : Fin (k0_t2_loop i).trips) : Fin 2 → Nat :=
  let c0_41 : Index := 0#32
  let c0_i32_8 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v28 : BitVec 32 := Scalar.subi v17 c0_i32_8
  let c1_i32_9 : BitVec 32 := 1#32
  let v30 : BitVec 32 := Scalar.divsi v28 c1_i32_9
  let v31 : BitVec 32 := Scalar.muli v30 c1_i32_9
  let v32 : BitVec 32 := Scalar.addi c0_i32_8 v31
  let c1_i32_11 : BitVec 32 := 1#32
  let arg7 : BitVec 32 := Scf.iv v32 c1_i32_11 k0_t2
  let c1024_i32_37 : BitVec 32 := 1024#32
  let v84 : BitVec 32 := Scalar.muli arg7 c1024_i32_37
  let v85 : BitVec 32 := v84
  let v90 : Index := Scalar.indexCast v85
  ![0, v90.toNat]
def k0_mult3 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_12 : BitVec 32 := 1024#32
  let v35 : BitVec 32 := Scalar.muli v17 c1024_i32_12
  v35
def k0_off5 (i : grid0.Coords) : Fin 3 → Nat :=
  let c0_14 : Index := 0#32
  let c0_15 : Index := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_12 : BitVec 32 := 1024#32
  let v35 : BitVec 32 := Scalar.muli v17 c1024_i32_12
  let v36 : BitVec 32 := v35
  let v46 : Index := Scalar.indexCast v36
  ![0, 0, v46.toNat]
@[reducible] def k0_t3_loop (i : grid0.Coords) : Scf.Loop 32 :=
  let c0_i32_25 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v66 : BitVec 32 := Scalar.subi v17 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let c1_i32_27 : BitVec 32 := 1#32
  ⟨c0_i32_25, v70, c1_i32_27⟩
def k0_mult4 (i : grid0.Coords) (k0_t3 : Fin (k0_t3_loop i).trips) : BitVec 32 :=
  let c0_i32_25 : BitVec 32 := 0#32
  let c1_i32_27 : BitVec 32 := 1#32
  let arg7 : BitVec 32 := Scf.iv c0_i32_25 c1_i32_27 k0_t3
  let c1024_i32_37 : BitVec 32 := 1024#32
  let v84 : BitVec 32 := Scalar.muli arg7 c1024_i32_37
  v84
def k0_off6 (i : grid0.Coords) (k0_t3 : Fin (k0_t3_loop i).trips) : Fin 2 → Nat :=
  let c0_38 : Index := 0#32
  let c0_i32_25 : BitVec 32 := 0#32
  let c1_i32_27 : BitVec 32 := 1#32
  let arg7 : BitVec 32 := Scf.iv c0_i32_25 c1_i32_27 k0_t3
  let c1024_i32_37 : BitVec 32 := 1024#32
  let v84 : BitVec 32 := Scalar.muli arg7 c1024_i32_37
  let v85 : BitVec 32 := v84
  let v86 : Index := Scalar.indexCast v85
  ![0, v86.toNat]
def k0_off7 (i : grid0.Coords) (k0_t3 : Fin (k0_t3_loop i).trips) : Fin 3 → Nat :=
  let c0_41 : Index := 0#32
  let c0_42 : Index := 0#32
  let c0_i32_25 : BitVec 32 := 0#32
  let c1_i32_27 : BitVec 32 := 1#32
  let arg7 : BitVec 32 := Scf.iv c0_i32_25 c1_i32_27 k0_t3
  let c1024_i32_37 : BitVec 32 := 1024#32
  let v84 : BitVec 32 := Scalar.muli arg7 c1024_i32_37
  let v85 : BitVec 32 := v84
  let v93 : Index := Scalar.indexCast v85
  ![0, 0, v93.toNat]
@[reducible] def k0_t4_loop (i : grid0.Coords) : Scf.Loop 32 :=
  let c0_i32_25 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v66 : BitVec 32 := Scalar.subi v17 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let v67 : BitVec 32 := Scalar.addi c0_i32_25 v66
  let c1_i32_28 : BitVec 32 := 1#32
  ⟨v70, v67, c1_i32_28⟩
def k0_mult5 (i : grid0.Coords) (k0_t4 : Fin (k0_t4_loop i).trips) : BitVec 32 :=
  let c0_i32_25 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v66 : BitVec 32 := Scalar.subi v17 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let c1_i32_28 : BitVec 32 := 1#32
  let arg7 : BitVec 32 := Scf.iv v70 c1_i32_28 k0_t4
  let c1024_i32_37 : BitVec 32 := 1024#32
  let v84 : BitVec 32 := Scalar.muli arg7 c1024_i32_37
  v84
def k0_off8 (i : grid0.Coords) (k0_t4 : Fin (k0_t4_loop i).trips) : Fin 2 → Nat :=
  let c0_38 : Index := 0#32
  let c0_i32_25 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v66 : BitVec 32 := Scalar.subi v17 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let c1_i32_28 : BitVec 32 := 1#32
  let arg7 : BitVec 32 := Scf.iv v70 c1_i32_28 k0_t4
  let c1024_i32_37 : BitVec 32 := 1024#32
  let v84 : BitVec 32 := Scalar.muli arg7 c1024_i32_37
  let v85 : BitVec 32 := v84
  let v86 : Index := Scalar.indexCast v85
  ![0, v86.toNat]
def k0_off9 (i : grid0.Coords) (k0_t4 : Fin (k0_t4_loop i).trips) : Fin 3 → Nat :=
  let c0_41 : Index := 0#32
  let c0_42 : Index := 0#32
  let c0_i32_25 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let v66 : BitVec 32 := Scalar.subi v17 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let c1_i32_28 : BitVec 32 := 1#32
  let arg7 : BitVec 32 := Scf.iv v70 c1_i32_28 k0_t4
  let c1024_i32_37 : BitVec 32 := 1024#32
  let v84 : BitVec 32 := Scalar.muli arg7 c1024_i32_37
  let v85 : BitVec 32 := v84
  let v93 : Index := Scalar.indexCast v85
  ![0, 0, v93.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x4x128 : Shape := ⟨4, ![4, 4096, 4, 128]⟩
abbrev S4x4096x4x64 : Shape := ⟨4, ![4, 4096, 4, 64]⟩
abbrev S4x4096x192 : Shape := ⟨3, ![4, 4096, 192]⟩
abbrev S4096 : Shape := ⟨1, ![4096]⟩
abbrev S4x4096x128 : Shape := ⟨3, ![4, 4096, 128]⟩
abbrev S4x4096x64 : Shape := ⟨3, ![4, 4096, 64]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S16384x512 : Shape := ⟨2, ![16384, 512]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x64, .f32⟩
  | .hbm, ⟨2, _⟩ => ⟨S4x4096x192, .f32⟩
  | .hbm, ⟨3, _⟩ => ⟨S4096, .i32⟩
  | .hbm, ⟨4, _⟩ => ⟨S4x4096x128, .f32⟩
  | .hbm, ⟨5, _⟩ => ⟨S4x4096x64, .f32⟩
  | .hbm, ⟨6, _⟩ => ⟨S4x4096x4096x4, .f32⟩
  | .hbm, ⟨7, _⟩ => ⟨S4x4x4096x4096, .f32⟩
  | .hbm, ⟨8, _⟩ => ⟨S4x4096x4096x4, .f32⟩
  | .hbm, ⟨9, _⟩ => ⟨S4x4x4096x4096, .f32⟩
  | .hbm, ⟨10, _⟩ => ⟨S4x4x4096x4096, .f32⟩
  | .hbm, ⟨11, _⟩ => ⟨S_, .f32⟩
  | .hbm, ⟨12, _⟩ => ⟨S4x4x4096x4096, .f32⟩
  | .hbm, ⟨13, _⟩ => ⟨S4x4x4096x4096, .f32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x1x4096x4096, .i1⟩
  | .hbm, ⟨20, _⟩ => ⟨S_, .f32⟩
  | .hbm, ⟨21, _⟩ => ⟨S_, .f32⟩
  | .hbm, ⟨22, _⟩ => ⟨S4x4x4096x4096, .i1⟩
  | .hbm, ⟨23, _⟩ => ⟨S4x4x4096x4096, .f32⟩
  | .hbm, ⟨24, _⟩ => ⟨S4x4x4096x4096, .f32⟩
  | .hbm, ⟨25, _⟩ => ⟨S_, .f32⟩
  | .hbm, ⟨26, _⟩ => ⟨S4x4x4096, .f32⟩
  | .hbm, ⟨27, _⟩ => ⟨S_, .f32⟩
  | .hbm, ⟨28, _⟩ => ⟨S4x4x4096, .f32⟩
  | .hbm, ⟨29, _⟩ => ⟨S4x4x4096, .f32⟩
  | .hbm, ⟨30, _⟩ => ⟨S4x4x4096x1, .f32⟩
  | .hbm, ⟨31, _⟩ => ⟨S4x4x4096x4096, .f32⟩
  | .hbm, ⟨32, _⟩ => ⟨S4x4x4096x4096, .f32⟩
  | .hbm, ⟨33, _⟩ => ⟨S4x4x4096x4096, .f32⟩
  | .hbm, ⟨34, _⟩ => ⟨S_, .f32⟩
  | .hbm, ⟨35, _⟩ => ⟨S4x4x4096, .f32⟩
  | .hbm, ⟨36, _⟩ => ⟨S4x4x4096x1, .f32⟩
  | .hbm, ⟨37, _⟩ => ⟨S4x4x4096x4096, .f32⟩
  | .hbm, ⟨38, _⟩ => ⟨S4x4x4096x4096, .f32⟩
  | .hbm, ⟨39, _⟩ => ⟨S_, .f32⟩
  | .hbm, ⟨40, _⟩ => ⟨S_, .f32⟩
  | .hbm, ⟨41, _⟩ => ⟨S4x4x4096x4096, .i1⟩
  | .hbm, ⟨42, _⟩ => ⟨S4x4x4096x4096, .f32⟩
  | .hbm, ⟨43, _⟩ => ⟨S4x4x4096x4096, .f32⟩
  | .hbm, ⟨44, _⟩ => ⟨S4x128x4x4096, .f32⟩
  | .hbm, ⟨45, _⟩ => ⟨S4x4096x4x128, .f32⟩
  | .hbm, ⟨46, _⟩ => ⟨S16384x512, .f32⟩
  | _, _ => ⟨S4x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1024 : Shape := ⟨2, ![4, 1024]⟩
abbrev S1024 : Shape := ⟨1, ![1024]⟩
abbrev S1024x2776 : Shape := ⟨2, ![1024, 2776]⟩
abbrev S256 : Shape := ⟨1, ![256]⟩
abbrev S256x4x192 : Shape := ⟨3, ![256, 4, 192]⟩
abbrev S128 : Shape := ⟨1, ![128]⟩
abbrev S128x4x128 : Shape := ⟨3, ![128, 4, 128]⟩
abbrev S1024x24 : Shape := ⟨2, ![1024, 24]⟩
abbrev S_ : Shape := ⟨0, ![]⟩
abbrev S1024x128 : Shape := ⟨2, ![1024, 128]⟩
abbrev S1024x512 : Shape := ⟨2, ![1024, 512]⟩
abbrev S1024x256 : Shape := ⟨2, ![1024, 256]⟩
abbrev S1024x1920 : Shape := ⟨2, ![1024, 1920]⟩
abbrev S1024x768 : Shape := ⟨2, ![1024, 768]⟩
abbrev S1024x64 : Shape := ⟨2, ![1024, 64]⟩
abbrev S1024x960 : Shape := ⟨2, ![1024, 960]⟩
abbrev S960x1024 : Shape := ⟨2, ![960, 1024]⟩
abbrev S256x4x128 : Shape := ⟨3, ![256, 4, 128]⟩
abbrev S256x512 : Shape := ⟨2, ![256, 512]⟩
abbrev S256x4x64 : Shape := ⟨3, ![256, 4, 64]⟩
abbrev S256x4x32 : Shape := ⟨3, ![256, 4, 32]⟩
abbrev S4x128x128 : Shape := ⟨3, ![4, 128, 128]⟩
abbrev S1x1024 : Shape := ⟨2, ![1, 1024]⟩
abbrev S1x256 : Shape := ⟨2, ![1, 256]⟩
abbrev S128x1 : Shape := ⟨2, ![128, 1]⟩
abbrev S4096 : Shape := ⟨1, ![4096]⟩
abbrev S16384x1024 : Shape := ⟨2, ![16384, 1024]⟩
abbrev S4x1x1024 : Shape := ⟨3, ![4, 1, 1024]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S32x4096 : Shape := ⟨2, ![32, 4096]⟩
abbrev S16384x512 : Shape := ⟨2, ![16384, 512]⟩
abbrev S16384x128 : Shape := ⟨2, ![16384, 128]⟩
abbrev S4x512x4096 : Shape := ⟨3, ![4, 512, 4096]⟩
abbrev S4x256x4096 : Shape := ⟨3, ![4, 256, 4096]⟩
abbrev S4x768x4096 : Shape := ⟨3, ![4, 768, 4096]⟩
abbrev S4x192x4096 : Shape := ⟨3, ![4, 192, 4096]⟩
abbrev S512x1024 : Shape := ⟨2, ![512, 1024]⟩
abbrev S1x1x1024 : Shape := ⟨3, ![1, 1, 1024]⟩
abbrev S512x128 : Shape := ⟨2, ![512, 128]⟩
abbrev S32x512 : Shape := ⟨2, ![32, 512]⟩
abbrev S512x512 : Shape := ⟨2, ![512, 512]⟩
abbrev S1x512x512 : Shape := ⟨3, ![1, 512, 512]⟩
abbrev S1x256x512 : Shape := ⟨3, ![1, 256, 512]⟩
abbrev S1x768x512 : Shape := ⟨3, ![1, 768, 512]⟩
abbrev S1x192x512 : Shape := ⟨3, ![1, 192, 512]⟩
abbrev S512 : Shape := ⟨1, ![512]⟩
abbrev S512x1 : Shape := ⟨2, ![512, 1]⟩
abbrev S512x1920 : Shape := ⟨2, ![512, 1920]⟩
abbrev S512x256 : Shape := ⟨2, ![512, 256]⟩
abbrev S1x128x128 : Shape := ⟨3, ![1, 128, 128]⟩
abbrev S128x128 : Shape := ⟨2, ![128, 128]⟩
abbrev S960x512 : Shape := ⟨2, ![960, 512]⟩
abbrev S768x512 : Shape := ⟨2, ![768, 512]⟩
abbrev S128x512 : Shape := ⟨2, ![128, 512]⟩
abbrev S1x512 : Shape := ⟨2, ![1, 512]⟩
abbrev S64x512 : Shape := ⟨2, ![64, 512]⟩
abbrev S192x512 : Shape := ⟨2, ![192, 512]⟩

abbrev nBuf : Space → Nat
  | .hbm => 87
  | .vmem => 43
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x2776, .f32⟩
  | .hbm, ⟨5, _⟩ => ⟨S256, .f32⟩
  | .hbm, ⟨6, _⟩ => ⟨S256x4x192, .f32⟩
  | .hbm, ⟨7, _⟩ => ⟨S128, .f32⟩
  | .hbm, ⟨8, _⟩ => ⟨S128x4x128, .f32⟩
  | .hbm, ⟨9, _⟩ => ⟨S1024x24, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x256, .f32⟩
  | .hbm, ⟨20, _⟩ => ⟨S1024x1920, .f32⟩
  | .hbm, ⟨21, _⟩ => ⟨S1024x1920, .bf16⟩
  | .hbm, ⟨22, _⟩ => ⟨S1024x768, .f32⟩
  | .hbm, ⟨23, _⟩ => ⟨S1024x128, .f32⟩
  | .hbm, ⟨24, _⟩ => ⟨S1024x64, .f32⟩
  | .hbm, ⟨25, _⟩ => ⟨S1024x960, .f32⟩
  | .hbm, ⟨26, _⟩ => ⟨S960x1024, .f32⟩
  | .hbm, ⟨27, _⟩ => ⟨S960x1024, .bf16⟩
  | .hbm, ⟨28, _⟩ => ⟨S256x4x128, .f32⟩
  | .hbm, ⟨29, _⟩ => ⟨S256x512, .f32⟩
  | .hbm, ⟨30, _⟩ => ⟨S256x512, .bf16⟩
  | .hbm, ⟨31, _⟩ => ⟨S256x4x64, .f32⟩
  | .hbm, ⟨32, _⟩ => ⟨S256x4x32, .f32⟩
  | .hbm, ⟨33, _⟩ => ⟨S256x4x32, .f32⟩
  | .hbm, ⟨34, _⟩ => ⟨S256x4x32, .f32⟩
  | .hbm, ⟨35, _⟩ => ⟨S256x4x64, .f32⟩
  | .hbm, ⟨36, _⟩ => ⟨S_, .i32⟩
  | .hbm, ⟨37, _⟩ => ⟨S_, .f32⟩
  | .hbm, ⟨38, _⟩ => ⟨S256x4x128, .f32⟩
  | .hbm, ⟨39, _⟩ => ⟨S256x512, .f32⟩
  | .hbm, ⟨40, _⟩ => ⟨S256x512, .bf16⟩
  | .hbm, ⟨41, _⟩ => ⟨S_, .i32⟩
  | .hbm, ⟨42, _⟩ => ⟨S_, .f32⟩
  | .hbm, ⟨43, _⟩ => ⟨S256x4x128, .f32⟩
  | .hbm, ⟨44, _⟩ => ⟨S256x512, .f32⟩
  | .hbm, ⟨45, _⟩ => ⟨S256x512, .bf16⟩
  | .hbm, ⟨46, _⟩ => ⟨S4x128x128, .f32⟩
  | .hbm, ⟨47, _⟩ => ⟨S4x128x128, .bf16⟩
  | .hbm, ⟨48, _⟩ => ⟨S1x1024, .f32⟩
  | .hbm, ⟨49, _⟩ => ⟨S1x256, .f32⟩
  | .hbm, ⟨50, _⟩ => ⟨S128x1, .f32⟩
  | .hbm, ⟨51, _⟩ => ⟨S4096, .i32⟩
  | .hbm, ⟨52, _⟩ => ⟨S16384x1024, .f32⟩
  | .hbm, ⟨53, _⟩ => ⟨S4x1x1024, .f32⟩
  | .hbm, ⟨54, _⟩ => ⟨S4x1x1024, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S4096, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S_, .f32⟩
  | .hbm, ⟨72, _⟩ => ⟨S4096x64, .f32⟩
  | .hbm, ⟨73, _⟩ => ⟨S4096x128, .f32⟩
  | .hbm, ⟨74, _⟩ => ⟨S4096x128, .f32⟩
  | .hbm, ⟨75, _⟩ => ⟨S32x4096, .f32⟩
  | .hbm, ⟨76, _⟩ => ⟨S32x4096, .f32⟩
  | .hbm, ⟨77, _⟩ => ⟨S16384x512, .bf16⟩
  | .hbm, ⟨78, _⟩ => ⟨S16384x128, .f32⟩
  | .hbm, ⟨79, _⟩ => ⟨S16384x512, .f32⟩
  | .hbm, ⟨80, _⟩ => ⟨S16384x512, .f32⟩
  | .hbm, ⟨81, _⟩ => ⟨S16384x1024, .bf16⟩
  | .hbm, ⟨82, _⟩ => ⟨S4x512x4096, .f32⟩
  | .hbm, ⟨83, _⟩ => ⟨S4x256x4096, .f32⟩
  | .hbm, ⟨84, _⟩ => ⟨S4x768x4096, .bf16⟩
  | .hbm, ⟨85, _⟩ => ⟨S4x192x4096, .f32⟩
  | .hbm, ⟨86, _⟩ => ⟨S4x256x4096, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1920, .bf16⟩
  | .local _ .vmem, ⟨8, _⟩ => ⟨S960x1024, .bf16⟩
  | .local _ .vmem, ⟨9, _⟩ => ⟨S1x256, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S4x128x128, .bf16⟩
  | .local _ .vmem, ⟨14, _⟩ => ⟨S128x1, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S32x512, .f32⟩
  | .local _ .vmem, ⟨20, _⟩ => ⟨S32x512, .f32⟩
  | .local _ .vmem, ⟨21, _⟩ => ⟨S32x512, .f32⟩
  | .local _ .vmem, ⟨22, _⟩ => ⟨S32x512, .f32⟩
  | .local _ .vmem, ⟨23, _⟩ => ⟨S512x512, .bf16⟩
  | .local _ .vmem, ⟨24, _⟩ => ⟨S512x512, .bf16⟩
  | .local _ .vmem, ⟨25, _⟩ => ⟨S512x128, .f32⟩
  | .local _ .vmem, ⟨26, _⟩ => ⟨S512x128, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x1024, .bf16⟩
  | .local _ .vmem, ⟨32, _⟩ => ⟨S512x1024, .bf16⟩
  | .local _ .vmem, ⟨33, _⟩ => ⟨S1x512x512, .f32⟩
  | .local _ .vmem, ⟨34, _⟩ => ⟨S1x512x512, .f32⟩
  | .local _ .vmem, ⟨35, _⟩ => ⟨S1x256x512, .f32⟩
  | .local _ .vmem, ⟨36, _⟩ => ⟨S1x256x512, .f32⟩
  | .local _ .vmem, ⟨37, _⟩ => ⟨S1x768x512, .bf16⟩
  | .local _ .vmem, ⟨38, _⟩ => ⟨S1x768x512, .bf16⟩
  | .local _ .vmem, ⟨39, _⟩ => ⟨S1x192x512, .f32⟩
  | .local _ .vmem, ⟨40, _⟩ => ⟨S1x192x512, .f32⟩
  | .local _ .vmem, ⟨41, _⟩ => ⟨S1x256x512, .bf16⟩
  | .local _ .vmem, ⟨42, _⟩ => ⟨S1x256x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_0 : Ref sig .tc := ⟨.hbm, 36, rfl⟩
abbrev main_call1_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_call2_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_4 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v58_2 : Ref sig .tc := ⟨.hbm, 79, rfl⟩
abbrev main_v58_3 : Ref sig .tc := ⟨.hbm, 80, rfl⟩
abbrev main_v58_4 : Ref sig .tc := ⟨.hbm, 81, rfl⟩
abbrev main_v58_5 : Ref sig .tc := ⟨.hbm, 82, rfl⟩
abbrev main_v58_6 : Ref sig .tc := ⟨.hbm, 83, rfl⟩
abbrev main_v58_7 : Ref sig .tc := ⟨.hbm, 84, rfl⟩
abbrev main_v58_8 : Ref sig .tc := ⟨.hbm, 85, rfl⟩
abbrev main_v58_9 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_15 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_22 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_23 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_24 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_25 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S960x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x768x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x192x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x256x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference2Ideal.lean ====
abbrev S4x4096x1024 : Shape := ⟨3, ![4, 4096, 1024]⟩
abbrev S4x1024 : Shape := ⟨2, ![4, 1024]⟩
abbrev S1024 : Shape := ⟨1, ![1024]⟩
abbrev S1024x2776 : Shape := ⟨2, ![1024, 2776]⟩
abbrev S256 : Shape := ⟨1, ![256]⟩
abbrev S256x4x192 : Shape := ⟨3, ![256, 4, 192]⟩
abbrev S128 : Shape := ⟨1, ![128]⟩
abbrev S128x4x128 : Shape := ⟨3, ![128, 4, 128]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x2776 : Shape := ⟨3, ![4, 4096, 2776]⟩
abbrev S4x4096x512 : Shape := ⟨3, ![4, 4096, 512]⟩
abbrev S4x4096x768 : Shape := ⟨3, ![4, 4096, 768]⟩
abbrev S4x4096x24 : Shape := ⟨3, ![4, 4096, 24]⟩
abbrev S4x4096x256 : Shape := ⟨3, ![4, 4096, 256]⟩
abbrev S4x4096x128 : Shape := ⟨3, ![4, 4096, 128]⟩
abbrev S4x4096x64 : Shape := ⟨3, ![4, 4096, 64]⟩
abbrev S1x1x256 : Shape := ⟨3, ![1, 1, 256]⟩
abbrev S4x4096x4x192 : Shape := ⟨4, ![4, 4096, 4, 192]⟩
abbrev S4x4096x4x64 : Shape := ⟨4, ![4, 4096, 4, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x4x32 : Shape := ⟨4, ![4, 4096, 4, 32]⟩
abbrev S4x4096x4x128 : Shape := ⟨4, ![4, 4096, 4, 128]⟩
abbrev S4x128x4x4096 : Shape := ⟨4, ![4, 128, 4, 4096]⟩
abbrev S4x4096x1x64 : Shape := ⟨4, ![4, 4096, 1, 64]⟩
abbrev S4x4096x1x32 : Shape := ⟨4, ![4, 4096, 1, 32]⟩
abbrev S1x1x128 : Shape := ⟨3, ![1, 1, 128]⟩
abbrev S4x4096x192 : Shape := ⟨3, ![4, 4096, 192]⟩
abbrev S4x4096x104 : Shape := ⟨3, ![4, 4096, 104]⟩
abbrev S4x4096x4x256 : Shape := ⟨4, ![4, 4096, 4, 256]⟩
abbrev S4x768x4096 : Shape := ⟨3, ![4, 768, 4096]⟩
abbrev S4x4096x63 : Shape := ⟨3, ![4, 4096, 63]⟩
abbrev S4x192x4096 : Shape := ⟨3, ![4, 192, 4096]⟩
abbrev S16384x512 : Shape := ⟨2, ![16384, 512]⟩
abbrev S16384x128 : Shape := ⟨2, ![16384, 128]⟩
abbrev S16384x1024 : Shape := ⟨2, ![16384, 1024]⟩
abbrev S4x512x4096 : Shape := ⟨3, ![4, 512, 4096]⟩
abbrev S4x256x4096 : Shape := ⟨3, ![4, 256, 4096]⟩

abbrev nBuf : Space → Nat
  | .hbm => 207
  | .vmem => 0
  | .smem => 0
  | _ => 0

abbrev hbmTy0_0 (i : Nat) : BufTy := match i % 128 with
  | 0 => ⟨S4x4096x1024, .f32⟩
  | 1 => ⟨S4x1024, .f32⟩
  | 2 => ⟨S4x1024, .f32⟩
  | 3 => ⟨S1024, .f32⟩
  | 4 => ⟨S1024x2776, .f32⟩
  | 5 => ⟨S256, .f32⟩
  | 6 => ⟨S256x4x192, .f32⟩
  | 7 => ⟨S128, .f32⟩
  | 8 => ⟨S128x4x128, .f32⟩
  | 9 => ⟨S4096, .i32⟩
  | 10 => ⟨S4x4096x1024, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x1024, .f32⟩
  | 22 => ⟨S4x4096x1024, .f32⟩
  | 23 => ⟨S1x1x1024, .f32⟩
  | 24 => ⟨S4x4096x1024, .f32⟩
  | 25 => ⟨S4x4096x1024, .f32⟩
  | 26 => ⟨S4x1x1024, .f32⟩
  | 27 => ⟨S_, .f32⟩
  | 28 => ⟨S4x1x1024, .f32⟩
  | 29 => ⟨S4x1x1024, .f32⟩
  | 30 => ⟨S4x4096x1024, .f32⟩
  | 31 => ⟨S4x4096x1024, .f32⟩
  | 32 => ⟨S4x1x1024, .f32⟩
  | 33 => ⟨S4x4096x1024, .f32⟩
  | 34 => ⟨S4x4096x1024, .f32⟩
  | 35 => ⟨S4x4096x2776, .f32⟩
  | 36 => ⟨S4x4096x512, .f32⟩
  | 37 => ⟨S4x4096x768, .f32⟩
  | 38 => ⟨S4x4096x24, .f32⟩
  | 39 => ⟨S4x4096x512, .f32⟩
  | 40 => ⟨S4x4096x256, .f32⟩
  | 41 => ⟨S4x4096x128, .f32⟩
  | 42 => ⟨S4x4096x64, .f32⟩
  | 43 => ⟨S4x4096x512, .f32⟩
  | 44 => ⟨S4x4096x24, .f32⟩
  | 45 => ⟨S4x4096x24, .f32⟩
  | 46 => ⟨S_, .f32⟩
  | 47 => ⟨S4x4096x24, .f32⟩
  | 48 => ⟨S4x4096x24, .f32⟩
  | 49 => ⟨S_, .f32⟩
  | 50 => ⟨S4x4096x24, .f32⟩
  | 51 => ⟨S4x4096x24, .f32⟩
  | 52 => ⟨S4x4096x256, .f32⟩
  | 53 => ⟨S_, .f32⟩
  | 54 => ⟨S4x4096, .f32⟩
  | 55 => ⟨S4x4096x1, .f32⟩
  | 56 => ⟨S_, .f32⟩
  | 57 => ⟨S4x4096x1, .f32⟩
  | 58 => ⟨S4x4096x1, .f32⟩
  | 59 => ⟨S_, .f32⟩
  | 60 => ⟨S4x4096x1, .f32⟩
  | 61 => ⟨S4x4096x1, .f32⟩
  | 62 => ⟨S4x4096x1, .f32⟩
  | 63 => ⟨S4x4096x256, .f32⟩
  | 64 => ⟨S4x4096x256, .f32⟩
  | 65 => ⟨S1x1x256, .f32⟩
  | 66 => ⟨S4x4096x256, .f32⟩
  | 67 => ⟨S4x4096x256, .f32⟩
  | 68 => ⟨S4x4096x4x192, .f32⟩
  | 69 => ⟨S4x4096x4x64, .f32⟩
  | 70 => ⟨S32, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S4096, .f32⟩
  | 79 => ⟨S4096x1, .f32⟩
  | 80 => ⟨S1x32, .f32⟩
  | 81 => ⟨S4096x32, .f32⟩
  | 82 => ⟨S4096x32, .f32⟩
  | 83 => ⟨S4096x32, .f32⟩
  | 84 => ⟨S4096x32, .f32⟩
  | 85 => ⟨S1x4096x1x32, .f32⟩
  | 86 => ⟨S4096x32, .f32⟩
  | 87 => ⟨S1x4096x1x32, .f32⟩
  | 88 => ⟨S4x4096x4x32, .f32⟩
  | 89 => ⟨S4x4096x4x32, .f32⟩
  | 90 => ⟨S4x4096x4x32, .f32⟩
  | 91 => ⟨S4x4096x4x32, .f32⟩
  | 92 => ⟨S4x4096x4x32, .f32⟩
  | 93 => ⟨S4x4096x4x32, .f32⟩
  | 94 => ⟨S4x4096x4x32, .f32⟩
  | 95 => ⟨S4x4096x4x32, .f32⟩
  | 96 => ⟨S4x4096x4x32, .f32⟩
  | 97 => ⟨S4x4096x4x32, .f32⟩
  | 98 => ⟨S4x4096x4x32, .f32⟩
  | 99 => ⟨S4x4096x4x32, .f32⟩
  | 100 => ⟨S4x4096x4x64, .f32⟩
  | 101 => ⟨S4x4096x4x128, .f32⟩
  | 102 => ⟨S4x128x4x4096, .f32⟩
  | 103 => ⟨S4x4096x4x128, .f32⟩
  | 104 => ⟨S4x4096x1x64, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S4096, .f32⟩
  | 114 => ⟨S4096x1, .f32⟩
  | 115 => ⟨S1x32, .f32⟩
  | 116 => ⟨S4096x32, .f32⟩
  | 117 => ⟨S4096x32, .f32⟩
  | 118 => ⟨S4096x32, .f32⟩
  | 119 => ⟨S4096x32, .f32⟩
  | 120 => ⟨S1x4096x1x32, .f32⟩
  | 121 => ⟨S4096x32, .f32⟩
  | 122 => ⟨S1x4096x1x32, .f32⟩
  | 123 => ⟨S4x4096x1x32, .f32⟩
  | 124 => ⟨S4x4096x1x32, .f32⟩
  | 125 => ⟨S4x4096x1x32, .f32⟩
  | 126 => ⟨S4x4096x1x32, .f32⟩
  | 127 => ⟨S4x4096x1x32, .f32⟩
  | _ => ⟨S4x4096x1024, .f32⟩

abbrev hbmTy0_1 (i : Nat) : BufTy := match i % 128 with
  | 0 => ⟨S4x4096x1x32, .f32⟩
  | 1 => ⟨S4x4096x1x32, .f32⟩
  | 2 => ⟨S4x4096x1x32, .f32⟩
  | 3 => ⟨S4x4096x1x32, .f32⟩
  | 4 => ⟨S4x4096x1x32, .f32⟩
  | 5 => ⟨S4x4096x1x32, .f32⟩
  | 6 => ⟨S4x4096x1x32, .f32⟩
  | 7 => ⟨S4x4096x1x64, .f32⟩
  | 8 => ⟨S4x4096x64, .f32⟩
  | 9 => ⟨S4x4096x128, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x128, .f32⟩
  | 21 => ⟨S4x4096x128, .f32⟩
  | 22 => ⟨S1x1x128, .f32⟩
  | 23 => ⟨S4x4096x128, .f32⟩
  | 24 => ⟨S4x4096x128, .f32⟩
  | 25 => ⟨S4x4096x192, .f32⟩
  | 26 => ⟨S_, .f32⟩
  | 27 => ⟨S4x4096x104, .f32⟩
  | 28 => ⟨S4x4096x128, .f32⟩
  | 29 => ⟨S_, .f32⟩
  | 30 => ⟨S4x4096x4x128, .f32⟩
  | 31 => ⟨S4x4096x4x128, .f32⟩
  | 32 => ⟨S_, .f32⟩
  | 33 => ⟨S4x4096x4x64, .f32⟩
  | 34 => ⟨S4x4096x4x64, .f32⟩
  | 35 => ⟨S_, .f32⟩
  | 36 => ⟨S4x4096x4x64, .f32⟩
  | 37 => ⟨S4x4096x4x256, .f32⟩
  | 38 => ⟨S4x768x4096, .f32⟩
  | 39 => ⟨S_, .f32⟩
  | 40 => ⟨S4x4096x1, .f32⟩
  | 41 => ⟨S_, .f32⟩
  | 42 => ⟨S4x4096x63, .f32⟩
  | 43 => ⟨S4x4096x64, .f32⟩
  | 44 => ⟨S4x192x4096, .f32⟩
  | 45 => ⟨S_, .f32⟩
  | 46 => ⟨S4x4096x512, .f32⟩
  | 47 => ⟨S4x4096x512, .f32⟩
  | 48 => ⟨S16384x512, .f32⟩
  | 49 => ⟨S16384x512, .bf16⟩
  | 50 => ⟨S16384x128, .f32⟩
  | 51 => ⟨S4x4096x512, .f32⟩
  | 52 => ⟨S4x4096x512, .f32⟩
  | 53 => ⟨S_, .f32⟩
  | 54 => ⟨S4x4096x512, .f32⟩
  | 55 => ⟨S4x4096x512, .f32⟩
  | 56 => ⟨S_, .f32⟩
  | 57 => ⟨S4x4096x512, .f32⟩
  | 58 => ⟨S4x4096x512, .f32⟩
  | 59 => ⟨S4x4096x512, .f32⟩
  | 60 => ⟨S16384x512, .f32⟩
  | 61 => ⟨S4x4096x512, .f32⟩
  | 62 => ⟨S4x4096x512, .f32⟩
  | 63 => ⟨S_, .f32⟩
  | 64 => ⟨S4x4096x512, .f32⟩
  | 65 => ⟨S4x4096x512, .f32⟩
  | 66 => ⟨S_, .f32⟩
  | 67 => ⟨S4x4096x512, .f32⟩
  | 68 => ⟨S4x4096x512, .f32⟩
  | 69 => ⟨S4x4096x512, .f32⟩
  | 70 => ⟨S16384x512, .f32⟩
  | 71 => ⟨S16384x1024, .f32⟩
  | 72 => ⟨S16384x1024, .bf16⟩
  | 73 => ⟨S4x512x4096, .f32⟩
  | 74 => ⟨S4x256x4096, .f32⟩
  | 75 => ⟨S4x768x4096, .bf16⟩
  | 76 => ⟨S4x4096x256, .f32⟩
  | 77 => ⟨S4x256x4096, .f32⟩
  | 78 => ⟨S4x256x4096, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_10 : Ref sig .tc := ⟨.hbm, 107, rfl⟩
abbrev main_v87 : Ref sig .tc := ⟨.hbm, 108, rfl⟩
abbrev main_v88 : Ref sig .tc := ⟨.hbm, 109, rfl⟩
abbrev main_cst_11 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_12 : Ref sig .tc := ⟨.hbm, 138, rfl⟩
abbrev main_v116 : Ref sig .tc := ⟨.hbm, 139, rfl⟩
abbrev main_v117 : Ref sig .tc := ⟨.hbm, 140, rfl⟩
abbrev main_cst_13 : Ref sig .tc := ⟨.hbm, 141, rfl⟩
abbrev main_v118 : Ref sig .tc := ⟨.hbm, 142, rfl⟩
abbrev main_v119 : Ref sig .tc := ⟨.hbm, 143, rfl⟩
abbrev main_cst_14 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_15 : Ref sig .tc := ⟨.hbm, 154, rfl⟩
abbrev main_v129 : Ref sig .tc := ⟨.hbm, 155, rfl⟩
abbrev main_v130 : Ref sig .tc := ⟨.hbm, 156, rfl⟩
abbrev main_cst_16 : Ref sig .tc := ⟨.hbm, 157, rfl⟩
abbrev main_v131 : Ref sig .tc := ⟨.hbm, 158, rfl⟩
abbrev main_v132 : Ref sig .tc := ⟨.hbm, 159, rfl⟩
abbrev main_cst_17 : Ref sig .tc := ⟨.hbm, 160, rfl⟩
abbrev main_v133 : Ref sig .tc := ⟨.hbm, 161, rfl⟩
abbrev main_v134 : Ref sig .tc := ⟨.hbm, 162, rfl⟩
abbrev main_cst_18 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_19 : Ref sig .tc := ⟨.hbm, 167, rfl⟩
abbrev main_v138 : Ref sig .tc := ⟨.hbm, 168, rfl⟩
abbrev main_cst_20 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_cst_21 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_call0_v0 : Ref sig .tc := ⟨.hbm, 179, rfl⟩
abbrev main_call0_v1 : Ref sig .tc := ⟨.hbm, 180, rfl⟩
abbrev main_call0_cst : Ref sig .tc := ⟨.hbm, 181, rfl⟩
abbrev main_call0_v2 : Ref sig .tc := ⟨.hbm, 182, rfl⟩
abbrev main_call0_v3 : Ref sig .tc := ⟨.hbm, 183, rfl⟩
abbrev main_call0_cst_0 : Ref sig .tc := ⟨.hbm, 184, rfl⟩
abbrev main_call0_v4 : Ref sig .tc := ⟨.hbm, 185, rfl⟩
abbrev main_call0_v5 : Ref sig .tc := ⟨.hbm, 186, rfl⟩
abbrev main_v147 : Ref sig .tc := ⟨.hbm, 187, rfl⟩
abbrev main_v148 : Ref sig .tc := ⟨.hbm, 188, rfl⟩
abbrev main_call1_v0 : Ref sig .tc := ⟨.hbm, 189, rfl⟩
abbrev main_call1_v1 : Ref sig .tc := ⟨.hbm, 190, rfl⟩
abbrev main_call1_cst : Ref sig .tc := ⟨.hbm, 191, rfl⟩
abbrev main_call1_v2 : Ref sig .tc := ⟨.hbm, 192, rfl⟩
abbrev main_call1_v3 : Ref sig .tc := ⟨.hbm, 193, rfl⟩
abbrev main_call1_cst_0 : Ref sig .tc := ⟨.hbm, 194, rfl⟩
abbrev main_call1_v4 : Ref sig .tc := ⟨.hbm, 195, rfl⟩
abbrev main_call1_v5 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x1024 : Shape := ⟨2, ![4, 1024]⟩
abbrev S4x4096x512 : Shape := ⟨3, ![4, 4096, 512]⟩
abbrev S4x4096x4x128 : Shape := ⟨4, ![4, 4096, 4, 128]⟩
abbrev S128x4x128 : Shape := ⟨3, ![128, 4, 128]⟩
abbrev S1024x1024 : Shape := ⟨2, ![1024, 1024]⟩
abbrev S1024 : Shape := ⟨1, ![1024]⟩
abbrev S4x128x128 : Shape := ⟨3, ![4, 128, 128]⟩
abbrev S1x1024 : Shape := ⟨2, ![1, 1024]⟩
abbrev S16384x1024 : Shape := ⟨2, ![16384, 1024]⟩
abbrev S4x1x1024 : Shape := ⟨3, ![4, 1, 1024]⟩
abbrev S16384x512 : Shape := ⟨2, ![16384, 512]⟩
abbrev S512x1024 : Shape := ⟨2, ![512, 1024]⟩
abbrev S1x1x1024 : Shape := ⟨3, ![1, 1, 1024]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S512 : Shape := ⟨1, ![512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x4096x512, .f32⟩
  | .hbm, ⟨3, _⟩ => ⟨S4x4096x4x128, .f32⟩
  | .hbm, ⟨4, _⟩ => ⟨S4x4096x512, .f32⟩
  | .hbm, ⟨5, _⟩ => ⟨S4x4096x512, .f32⟩
  | .hbm, ⟨6, _⟩ => ⟨S128x4x128, .f32⟩
  | .hbm, ⟨7, _⟩ => ⟨S1024x1024, .f32⟩
  | .hbm, ⟨8, _⟩ => ⟨S1024, .f32⟩
  | .hbm, ⟨9, _⟩ => ⟨S4x128x128, .f32⟩
  | .hbm, ⟨10, _⟩ => ⟨S4x128x128, .bf16⟩
  | .hbm, ⟨11, _⟩ => ⟨S1024x1024, .bf16⟩
  | .hbm, ⟨12, _⟩ => ⟨S1x1024, .f32⟩
  | .hbm, ⟨13, _⟩ => ⟨S16384x1024, .f32⟩
  | .hbm, ⟨14, _⟩ => ⟨S4x1x1024, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S4x128x128, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4x4096x1024 : Shape := ⟨3, ![4, 4096, 1024]⟩
abbrev S4x1024 : Shape := ⟨2, ![4, 1024]⟩
abbrev S4x4096x512 : Shape := ⟨3, ![4, 4096, 512]⟩
abbrev S4x4096x4x128 : Shape := ⟨4, ![4, 4096, 4, 128]⟩
abbrev S128x4x128 : Shape := ⟨3, ![128, 4, 128]⟩
abbrev S1024x1024 : Shape := ⟨2, ![1024, 1024]⟩
abbrev S1024 : Shape := ⟨1, ![1024]⟩
abbrev S4x128x4x4096 : Shape := ⟨4, ![4, 128, 4, 4096]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x4096x512, .f32⟩
  | .hbm, ⟨3, _⟩ => ⟨S4x4096x4x128, .f32⟩
  | .hbm, ⟨4, _⟩ => ⟨S4x4096x512, .f32⟩
  | .hbm, ⟨5, _⟩ => ⟨S4x4096x512, .f32⟩
  | .hbm, ⟨6, _⟩ => ⟨S128x4x128, .f32⟩
  | .hbm, ⟨7, _⟩ => ⟨S1024x1024, .f32⟩
  | .hbm, ⟨8, _⟩ => ⟨S1024, .f32⟩
  | .hbm, ⟨9, _⟩ => ⟨S4x4096x512, .f32⟩
  | .hbm, ⟨10, _⟩ => ⟨S4x128x4x4096, .f32⟩
  | .hbm, ⟨11, _⟩ => ⟨S4x4096x4x128, .f32⟩
  | .hbm, ⟨12, _⟩ => ⟨S4x4096x512, .f32⟩
  | .hbm, ⟨13, _⟩ => ⟨S4x4096x512, .f32⟩
  | .hbm, ⟨14, _⟩ => ⟨S4x4096x1024, .f32⟩
  | .hbm, ⟨15, _⟩ => ⟨S4x4096x1024, .f32⟩
  | .hbm, ⟨16, _⟩ => ⟨S4x1x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel4.lean ====
abbrev S4x1024 : Shape := ⟨2, ![4, 1024]⟩
abbrev S128x1024 : Shape := ⟨2, ![128, 1024]⟩
abbrev S1024x3072 : Shape := ⟨2, ![1024, 3072]⟩
abbrev S1x3072 : Shape := ⟨2, ![1, 3072]⟩
abbrev S132x1024 : Shape := ⟨2, ![132, 1024]⟩
abbrev S_ : Shape := ⟨0, ![]⟩
abbrev S136x1024 : Shape := ⟨2, ![136, 1024]⟩
abbrev S136x3072 : Shape := ⟨2, ![136, 3072]⟩
abbrev S1024x512 : Shape := ⟨2, ![1024, 512]⟩
abbrev S1x512 : Shape := ⟨2, ![1, 512]⟩
abbrev S136x512 : Shape := ⟨2, ![136, 512]⟩

abbrev nBuf : Space → Nat
  | .hbm => 9
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S1024x3072, .f32⟩
  | .hbm, ⟨3, _⟩ => ⟨S1x3072, .f32⟩
  | .hbm, ⟨4, _⟩ => ⟨S132x1024, .f32⟩
  | .hbm, ⟨5, _⟩ => ⟨S_, .i32⟩
  | .hbm, ⟨6, _⟩ => ⟨S_, .f32⟩
  | .hbm, ⟨7, _⟩ => ⟨S136x1024, .f32⟩
  | .hbm, ⟨8, _⟩ => ⟨S136x3072, .f32⟩
  | .local _ .vmem, ⟨0, _⟩ => ⟨S136x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S136x512, .f32⟩
  | .local _ .vmem, ⟨6, _⟩ => ⟨S136x512, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x1024 : Shape := ⟨2, ![4, 1024]⟩
abbrev S128x1024 : Shape := ⟨2, ![128, 1024]⟩
abbrev S1024x3072 : Shape := ⟨2, ![1024, 3072]⟩
abbrev S1x3072 : Shape := ⟨2, ![1, 3072]⟩
abbrev S4x3072 : Shape := ⟨2, ![4, 3072]⟩
abbrev S128x3072 : Shape := ⟨2, ![128, 3072]⟩
abbrev S_ : Shape := ⟨0, ![]⟩
abbrev S136x3072 : Shape := ⟨2, ![136, 3072]⟩

abbrev nBuf : Space → Nat
  | .hbm => 15
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S1024x3072, .f32⟩
  | .hbm, ⟨3, _⟩ => ⟨S1x3072, .f32⟩
  | .hbm, ⟨4, _⟩ => ⟨S4x3072, .f32⟩
  | .hbm, ⟨5, _⟩ => ⟨S4x3072, .f32⟩
  | .hbm, ⟨6, _⟩ => ⟨S4x3072, .f32⟩
  | .hbm, ⟨7, _⟩ => ⟨S128x3072, .f32⟩
  | .hbm, ⟨8, _⟩ => ⟨S128x3072, .f32⟩
  | .hbm, ⟨9, _⟩ => ⟨S128x3072, .f32⟩
  | .hbm, ⟨10, _⟩ => ⟨S_, .f32⟩
  | .hbm, ⟨11, _⟩ => ⟨S4x3072, .f32⟩
  | .hbm, ⟨12, _⟩ => ⟨S4x3072, .f32⟩
  | .hbm, ⟨13, _⟩ => ⟨S4x3072, .f32⟩
  | .hbm, ⟨14, _⟩ => ⟨S136x3072, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S128x4x1024 : Shape := ⟨3, ![128, 4, 1024]⟩
abbrev S128x1024 : Shape := ⟨2, ![128, 1024]⟩
abbrev S128x4x512 : Shape := ⟨3, ![128, 4, 512]⟩
abbrev S128x4x4x128 : Shape := ⟨4, ![128, 4, 4, 128]⟩
abbrev S128x4x128 : Shape := ⟨3, ![128, 4, 128]⟩
abbrev S1024x1024 : Shape := ⟨2, ![1024, 1024]⟩
abbrev S1024 : Shape := ⟨1, ![1024]⟩
abbrev S4x128x128 : Shape := ⟨3, ![4, 128, 128]⟩
abbrev S1x1024 : Shape := ⟨2, ![1, 1024]⟩
abbrev S512x1024 : Shape := ⟨2, ![512, 1024]⟩
abbrev S1x512x1024 : Shape := ⟨3, ![1, 512, 1024]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S512 : Shape := ⟨1, ![512]⟩
abbrev S512x1 : Shape := ⟨2, ![512, 1]⟩

abbrev nBuf : Space → Nat
  | .hbm => 22
  | .vmem => 10
  | .smem => 0
  | _ => 0

abbrev bufTy : (tb : Table) → Fin (tcTables nBuf tb) → BufTy
  | .hbm, ⟨0, _⟩ => ⟨S128x4x1024, .f32⟩
  | .hbm, ⟨1, _⟩ => ⟨S128x1024, .f32⟩
  | .hbm, ⟨2, _⟩ => ⟨S128x4x512, .f32⟩
  | .hbm, ⟨3, _⟩ => ⟨S128x4x4x128, .f32⟩
  | .hbm, ⟨4, _⟩ => ⟨S128x4x512, .f32⟩
  | .hbm, ⟨5, _⟩ => ⟨S128x4x512, .f32⟩
  | .hbm, ⟨6, _⟩ => ⟨S128x4x128, .f32⟩
  | .hbm, ⟨7, _⟩ => ⟨S1024x1024, .f32⟩
  | .hbm, ⟨8, _⟩ => ⟨S1024, .f32⟩
  | .hbm, ⟨9, _⟩ => ⟨S4x128x128, .f32⟩
  | .hbm, ⟨10, _⟩ => ⟨S4x128x128, .bf16⟩
  | .hbm, ⟨11, _⟩ => ⟨S1024x1024, .bf16⟩
  | .hbm, ⟨12, _⟩ => ⟨S1x1024, .f32⟩
  | .hbm, ⟨13, _⟩ => ⟨S128x4x1024, .f32⟩
  | .hbm, ⟨14, _⟩ => ⟨S512x1024, .f32⟩
  | .hbm, ⟨15, _⟩ => ⟨S1x512x1024, .f32⟩
  | .hbm, ⟨16, _⟩ => ⟨S512x1024, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x1024, .f32⟩
  | .local _ .vmem, ⟨0, _⟩ => ⟨S512x1024, .f32⟩
  | .local _ .vmem, ⟨1, _⟩ => ⟨S1x512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S4x128x128, .bf16⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S128x4x1024 : Shape := ⟨3, ![128, 4, 1024]⟩
abbrev S128x1024 : Shape := ⟨2, ![128, 1024]⟩
abbrev S128x4x512 : Shape := ⟨3, ![128, 4, 512]⟩
abbrev S128x4x4x128 : Shape := ⟨4, ![128, 4, 4, 128]⟩
abbrev S128x4x128 : Shape := ⟨3, ![128, 4, 128]⟩
abbrev S1024x1024 : Shape := ⟨2, ![1024, 1024]⟩
abbrev S1024 : Shape := ⟨1, ![1024]⟩
abbrev S4x128x128x4 : Shape := ⟨4, ![4, 128, 128, 4]⟩
abbrev S128x1x1024 : Shape := ⟨3, ![128, 1, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S512x1024 : Shape := ⟨2, ![512, 1024]⟩

abbrev nBuf : Space → Nat
  | .hbm => 37
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x1024, .f32⟩
  | .hbm, ⟨2, _⟩ => ⟨S128x4x512, .f32⟩
  | .hbm, ⟨3, _⟩ => ⟨S128x4x4x128, .f32⟩
  | .hbm, ⟨4, _⟩ => ⟨S128x4x512, .f32⟩
  | .hbm, ⟨5, _⟩ => ⟨S128x4x512, .f32⟩
  | .hbm, ⟨6, _⟩ => ⟨S128x4x128, .f32⟩
  | .hbm, ⟨7, _⟩ => ⟨S1024x1024, .f32⟩
  | .hbm, ⟨8, _⟩ => ⟨S1024, .f32⟩
  | .hbm, ⟨9, _⟩ => ⟨S128x4x512, .f32⟩
  | .hbm, ⟨10, _⟩ => ⟨S4x128x128x4, .f32⟩
  | .hbm, ⟨11, _⟩ => ⟨S128x4x4x128, .f32⟩
  | .hbm, ⟨12, _⟩ => ⟨S128x4x512, .f32⟩
  | .hbm, ⟨13, _⟩ => ⟨S128x4x512, .f32⟩
  | .hbm, ⟨14, _⟩ => ⟨S128x4x1024, .f32⟩
  | .hbm, ⟨15, _⟩ => ⟨S128x4x1024, .f32⟩
  | .hbm, ⟨16, _⟩ => ⟨S128x1x1024, .f32⟩
  | .hbm, ⟨17, _⟩ => ⟨S128x4x1024, .f32⟩
  | .hbm, ⟨18, _⟩ => ⟨S128x4x1024, .f32⟩
  | .hbm, ⟨19, _⟩ => ⟨S128x4x1024, .f32⟩
  | .hbm, ⟨20, _⟩ => ⟨S128x4x1024, .f32⟩
  | .hbm, ⟨21, _⟩ => ⟨S_, .f32⟩
  | .hbm, ⟨22, _⟩ => ⟨S128x4, .f32⟩
  | .hbm, ⟨23, _⟩ => ⟨S128x4x1, .f32⟩
  | .hbm, ⟨24, _⟩ => ⟨S_, .f32⟩
  | .hbm, ⟨25, _⟩ => ⟨S128x4x1, .f32⟩
  | .hbm, ⟨26, _⟩ => ⟨S128x4x1, .f32⟩
  | .hbm, ⟨27, _⟩ => ⟨S_, .f32⟩
  | .hbm, ⟨28, _⟩ => ⟨S128x4x1, .f32⟩
  | .hbm, ⟨29, _⟩ => ⟨S128x4x1, .f32⟩
  | .hbm, ⟨30, _⟩ => ⟨S128x4x1, .f32⟩
  | .hbm, ⟨31, _⟩ => ⟨S128x4x1024, .f32⟩
  | .hbm, ⟨32, _⟩ => ⟨S128x4x1024, .f32⟩
  | .hbm, ⟨33, _⟩ => ⟨S1x1x1024, .f32⟩
  | .hbm, ⟨34, _⟩ => ⟨S128x4x1024, .f32⟩
  | .hbm, ⟨35, _⟩ => ⟨S128x4x1024, .f32⟩
  | .hbm, ⟨36, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.Literals.lean ====
/-
  The float constants of the two programs, as the extended reals they stand for: 0, 1, the two infinities and the scale
  (the float nearest to 1/√192, here only known to be real).
-/
module

public import Idealize.ShloMosaic.PureOps.Ideal.Laws

@[expose] public section

noncomputable section

namespace Cert.Mla

open Idealize.ShloMosaic

theorem lit_neg_inf : FloatOps.ofBits (F := Ideal) .f32 0xFF800000#32 = (⊥ : EReal) := by
  show Ideal.ofBits .f32 0xFF800000#32 = _
  simp [Ideal.ofBits, Ideal.ieee]
theorem lit_inf : FloatOps.ofBits (F := Ideal) .f32 0x7F800000#32 = (⊤ : EReal) := by
  show Ideal.ofBits .f32 0x7F800000#32 = _
  simp [Ideal.ofBits, Ideal.ieee]
theorem lit_zero : FloatOps.ofBits (F := Ideal) .f32 0x00000000#32 = (0 : EReal) := by
  show Ideal.ofBits .f32 0x00000000#32 = _
  simp [Ideal.ofBits, Ideal.ieee]
theorem lit_one : FloatOps.ofBits (F := Ideal) .f32 0x3F800000#32 = (1 : EReal) := by
  show Ideal.ofBits .f32 0x3F800000#32 = _
  simp [Ideal.ofBits, Ideal.ieee, -EReal.coe_mul]; norm_num

/-- The scale of the scores. -/
def scale : ℝ := 9686330 * 2 ^ (-27 : ℤ)

theorem lit_scale : FloatOps.ofBits (F := Ideal) .f32 0x3D93CD3A#32 = ((scale : ℝ) : EReal) := by
  show Ideal.ofBits .f32 0x3D93CD3A#32 = _
  unfold scale
  simp [Ideal.ofBits, Ideal.ieee, -EReal.coe_mul]

end Cert.Mla
end
-- ==== Proof.Entries.lean ====
/-
  Arrays of extended reals read entry by entry at natural-number coordinates, and what the vector operations do to the entries:
  slices, changes of shape, broadcasts, products, and the row normalised by its mean square.
-/
module

public import proofs.«01_k».proof.Proof.Literals
public import Idealize.ShloMosaic.Lib.ValueIdx
public import Idealize.ShloMosaic.Lib.Pipeline.Value
public import Idealize.ShloMosaic.Lib.MatmulPlain
public import Idealize.ShloMosaic.Lib.Pipeline.ValueKit.Tiles

@[expose] public section

set_option maxRecDepth 16384

noncomputable section

namespace Cert.Ent

open Cert.Mla
open Idealize.ShloMosaic Idealize.ShloMosaic.ValueIdx
open scoped BigOperators

abbrev Ent1 {a : ℕ} (x : (⟨1, ![a]⟩ : Shape).Idx → EReal) (X : ℕ → EReal) : Prop := ∀ y, x y = X (y 0).val
abbrev Ent2 {a b : ℕ} (x : (⟨2, ![a, b]⟩ : Shape).Idx → EReal) (X : ℕ → ℕ → EReal) : Prop := ∀ y, x y = X (y 0).val (y 1).val
abbrev Ent3 {a b c : ℕ} (x : (⟨3, ![a, b, c]⟩ : Shape).Idx → EReal) (X : ℕ → ℕ → ℕ → EReal) : Prop :=
  ∀ y, x y = X (y 0).val (y 1).val (y 2).val
abbrev Ent4 {a b c d : ℕ} (x : (⟨4, ![a, b, c, d]⟩ : Shape).Idx → EReal) (X : ℕ → ℕ → ℕ → ℕ → EReal) : Prop :=
  ∀ y, x y = X (y 0).val (y 1).val (y 2).val (y 3).val

/-! ## Every array has its entries -/

theorem exists1 {a : ℕ} (x : (⟨1, ![a]⟩ : Shape).Idx → EReal) : ∃ X, Ent1 x X := by
  refine ⟨fun i => if h : i < a then x (ix1 ⟨i, h⟩) else 0, fun y => ?_⟩
  obtain ⟨i, rfl⟩ : ∃ i, y = ix1 i := ⟨_, eq_ix1 y⟩
  show _ = if h : i.val < a then x (ix1 ⟨i.val, h⟩) else 0
  rw [dif_pos i.isLt]

theorem exists2 {a b : ℕ} (x : (⟨2, ![a, b]⟩ : Shape).Idx → EReal) : ∃ X, Ent2 x X := by
  refine ⟨fun i j => if h : i < a ∧ j < b then x (ix2 ⟨i, h.1⟩ ⟨j, h.2⟩) else 0, fun y => ?_⟩
  obtain ⟨i, j, rfl⟩ : ∃ i j, y = ix2 i j := ⟨_, _, eq_ix2 y⟩
  show _ = if h : i.val < a ∧ j.val < b then x (ix2 ⟨i.val, h.1⟩ ⟨j.val, h.2⟩) else 0
  rw [dif_pos ⟨i.isLt, j.isLt⟩]

theorem exists3 {a b c : ℕ} (x : (⟨3, ![a, b, c]⟩ : Shape).Idx → EReal) : ∃ X, Ent3 x X := by
  refine ⟨fun i j k => if h : i < a ∧ j < b ∧ k < c then x (ix3 ⟨i, h.1⟩ ⟨j, h.2.1⟩ ⟨k, h.2.2⟩) else 0, fun y => ?_⟩
  obtain ⟨i, j, k, rfl⟩ : ∃ i j k, y = ix3 i j k := ⟨_, _, _, eq_ix3 y⟩
  show _ = if h : i.val < a ∧ j.val < b ∧ k.val < c then x (ix3 ⟨i.val, h.1⟩ ⟨j.val, h.2.1⟩ ⟨k.val, h.2.2⟩) else 0
  rw [dif_pos ⟨i.isLt, j.isLt, k.isLt⟩]

theorem exists4 {a b c d : ℕ} (x : (⟨4, ![a, b, c, d]⟩ : Shape).Idx → EReal) : ∃ X, Ent4 x X := by
  refine ⟨fun i j k l => if h : i < a ∧ j < b ∧ k < c ∧ l < d then x (ix4 ⟨i, h.1⟩ ⟨j, h.2.1⟩ ⟨k, h.2.2.1⟩ ⟨l, h.2.2.2⟩) else 0, fun y => ?_⟩
  obtain ⟨i, j, k, l, rfl⟩ : ∃ i j k l, y = ix4 i j k l := ⟨_, _, _, _, eq_ix4 y⟩
  show _ = if h : i.val < a ∧ j.val < b ∧ k.val < c ∧ l.val < d then x (ix4 ⟨i.val, h.1⟩ ⟨j.val, h.2.1⟩ ⟨k.val, h.2.2.1⟩ ⟨l.val, h.2.2.2⟩) else 0
  rw [dif_pos ⟨i.isLt, j.isLt, k.isLt, l.isLt⟩]

/-! ## Slices, changes of shape, broadcasts -/

variable {a b c d p q r : ℕ}

theorem slice2 {x : (⟨2, ![a, b]⟩ : Shape).Idx → EReal} {X : ℕ → ℕ → EReal} (hx : Ent2 x X) (h) :
    Ent2 (a := c) (b := d) (extractStridedSlice ⟨2, ![c, d]⟩ ![p, q] x h) fun i j => X (p + i) (q + j) := by
  intro y
  obtain ⟨i, j, rfl⟩ : ∃ i j, y = ix2 i j := ⟨_, _, eq_ix2 y⟩
  have h0 : p + c ≤ a := h.2 0
  have h1 : q + d ≤ b := h.2 1
  refine (extractStridedSlice_apply (s := ⟨2, ![a, b]⟩) (t := ⟨2, ![c, d]⟩) ![p, q] x h (ix2 i j)
    (ix2 ⟨p + i.val, by have := i.isLt; omega⟩ ⟨q + j.val, by have := j.isLt; omega⟩) (fun e => ?_)).trans (hx _)
  match e with
  | ⟨0, _⟩ => rfl
  | ⟨1, _⟩ => rfl

theorem cast22 {x : (⟨2, ![a, b]⟩ : Shape).Idx → EReal} {X : ℕ → ℕ → EReal} (hx : Ent2 x X) (h) :
    Ent2 (a := a) (b := b) (shapeCast ⟨2, ![a, b]⟩ x h) X := by
  intro y; rw [shapeCast_self]; exact hx y

theorem cast32 {x : (⟨3, ![1, a, b]⟩ : Shape).Idx → EReal} {X : ℕ → ℕ → ℕ → EReal} (hx : Ent3 x X) (h) :
    Ent2 (a := a) (b := b) (shapeCast ⟨2, ![a, b]⟩ x h) (X 0) := by
  intro y
  obtain ⟨i, j, rfl⟩ : ∃ i j, y = ix2 i j := ⟨_, _, eq_ix2 y⟩
  refine (shapeCast_apply (s := ⟨3, ![1, a, b]⟩) (t := ⟨2, ![a, b]⟩) x h (ix2 i j) (ix3 ⟨0, Nat.one_pos⟩ i j) ?_).trans (hx _)
  rw [Shape.rowMajor_val_three, Shape.rowMajor_val_two]
  show (0 * a + i.val) * b + j.val = i.val * b + j.val
  rw [Nat.zero_mul, Nat.zero_add]

theorem cast23 {x : (⟨2, ![a, b]⟩ : Shape).Idx → EReal} {X : ℕ → ℕ → EReal} (hx : Ent2 x X) (h) :
    Ent3 (a := 1) (b := a) (c := b) (shapeCast ⟨3, ![1, a, b]⟩ x h) fun _ i j => X i j := by
  intro y
  obtain ⟨z, i, j, rfl⟩ : ∃ z i j, y = ix3 z i j := ⟨_, _, _, eq_ix3 y⟩
  refine (shapeCast_apply (s := ⟨2, ![a, b]⟩) (t := ⟨3, ![1, a, b]⟩) x h (ix3 z i j) (ix2 i j) ?_).trans (hx _)
  rw [Shape.rowMajor_val_three, Shape.rowMajor_val_two]
  have hz : z.val = 0 := by have := z.isLt; omega
  show i.val * b + j.val = (z.val * a + i.val) * b + j.val
  rw [hz, Nat.zero_mul, Nat.zero_add]

/-- One row repeated. -/
theorem rows2 {x : (⟨2, ![1, b]⟩ : Shape).Idx → EReal} {X : ℕ → ℕ → EReal} (hx : Ent2 x X) (h) :
    Ent2 (a := a) (b := b) (broadcastTo ⟨2, ![a, b]⟩ x h) fun _ j => X 0 j := by
  intro y
  obtain ⟨i, j, rfl⟩ : ∃ i j, y = ix2 i j := ⟨_, _, eq_ix2 y⟩
  refine (broadcastTo_apply (s := ⟨2, ![1, b]⟩) (t := ⟨2, ![a, b]⟩) x h (ix2 i j) (ix2 ⟨0, Nat.one_pos⟩ j) (fun e => ?_)).trans (hx _)
  match e with
  | ⟨0, _⟩ => rfl
  | ⟨1, _⟩ =>
    show j.val = if b = 1 then 0 else j.val
    by_cases hb : b = 1
    · rw [if_pos hb]; have := j.isLt; omega
    · rw [if_neg hb]

/-- One column repeated. -/
theorem cols2 {x : (⟨2, ![a, 1]⟩ : Shape).Idx → EReal} {X : ℕ → ℕ → EReal} (hx : Ent2 x X) (h) :
    Ent2 (a := a) (b := b) (broadcastTo ⟨2, ![a, b]⟩ x h) fun i _ => X i 0 := by
  intro y
  obtain ⟨i, j, rfl⟩ : ∃ i j, y = ix2 i j := ⟨_, _, eq_ix2 y⟩
  refine (broadcastTo_apply (s := ⟨2, ![a, 1]⟩) (t := ⟨2, ![a, b]⟩) x h (ix2 i j) (ix2 i ⟨0, Nat.one_pos⟩) (fun e => ?_)).trans (hx _)
  match e with
  | ⟨0, _⟩ =>
    show i.val = if a = 1 then 0 else i.val
    by_cases ha : a = 1
    · rw [if_pos ha]; have := i.isLt; omega
    · rw [if_neg ha]
  | ⟨1, _⟩ => rfl

/-- A part of an array, read. -/
theorem ld2 {e : EltTy} {x : (⟨2, ![a, b]⟩ : Shape).Idx → Elt Ideal e} {f : Elt Ideal e → EReal} {X : ℕ → ℕ → EReal}
    (hx : Ent2 (fun y => f (x y)) X) (inb) :
    Ent2 (a := a) (b := b) (fun y => f (View.ld x (Rect.unit (s := ⟨2, ![a, b]⟩) ![0, 0] ![a, b] inb) y)) X := by
  intro y
  obtain ⟨i, j, rfl⟩ : ∃ i j, y = ix2 i j := ⟨_, _, eq_ix2 y⟩
  have e1 : View.ld x (Rect.unit (s := ⟨2, ![a, b]⟩) ![0, 0] ![a, b] inb) (ix2 i j) = x (ix2 i j) :=
    View.ld_unit_apply_of x _ _ inb (ix2 i j) (ix2 i j) fun e => by
      match e with
      | ⟨0, _⟩ => exact (Nat.zero_add i.val).symm
      | ⟨1, _⟩ => exact (Nat.zero_add j.val).symm
  beta_reduce
  rw [e1]
  exact hx _

theorem ld3 {e : EltTy} {x : (⟨3, ![a, b, c]⟩ : Shape).Idx → Elt Ideal e} {f : Elt Ideal e → EReal} {X : ℕ → ℕ → ℕ → EReal}
    (hx : Ent3 (fun y => f (x y)) X) (inb) :
    Ent3 (a := d) (b := b) (c := c) (fun y => f (View.ld x (Rect.unit (s := ⟨3, ![a, b, c]⟩) ![p, 0, 0] ![d, b, c] inb) y)) fun i => X (p + i) := by
  intro y
  obtain ⟨i, j, k, rfl⟩ : ∃ i j k, y = ix3 i j k := ⟨_, _, _, eq_ix3 y⟩
  have h0 : p + d ≤ a := inb 0
  have e1 : View.ld x (Rect.unit (s := ⟨3, ![a, b, c]⟩) ![p, 0, 0] ![d, b, c] inb) (ix3 i j k)
      = x (ix3 ⟨p + i.val, by have := i.isLt; omega⟩ j k) :=
    View.ld_unit_apply_of x _ _ inb (ix3 i j k) _ fun e => by
      match e with
      | ⟨0, _⟩ => rfl
      | ⟨1, _⟩ => exact (Nat.zero_add j.val).symm
      | ⟨2, _⟩ => exact (Nat.zero_add k.val).symm
  beta_reduce
  rw [e1]
  exact hx _

/-! ## Rows flattened -/

theorem flat3 {n : ℕ} {x : (⟨3, ![a, b, c]⟩ : Shape).Idx → EReal} {X : ℕ → ℕ → ℕ → EReal} (hx : Ent3 x X) (hn : n = b * a) (h) :
    Ent2 (a := n) (b := c) (shapeCast ⟨2, ![n, c]⟩ x h) fun i j => X (i / b) (i % b) j := by
  intro y
  obtain ⟨i, j, rfl⟩ : ∃ i j, y = ix2 i j := ⟨_, _, eq_ix2 y⟩
  have hi : i.val < b * a := hn ▸ i.isLt
  have hb : 0 < b := by rcases Nat.eq_zero_or_pos b with e | e; · rw [e, Nat.zero_mul] at hi; omega
                        · exact e
  refine (shapeCast_apply (s := ⟨3, ![a, b, c]⟩) (t := ⟨2, ![n, c]⟩) x h (ix2 i j)
    (ix3 ⟨i.val / b, Nat.div_lt_of_lt_mul hi⟩ ⟨i.val % b, Nat.mod_lt _ hb⟩ j) ?_).trans (hx _)
  rw [Shape.rowMajor_val_three, Shape.rowMajor_val_two]
  show (i.val / b * b + i.val % b) * c + j.val = i.val * c + j.val
  rw [Nat.div_add_mod' i.val b]

theorem flat4 {n k : ℕ} {x : (⟨4, ![a, b, c, d]⟩ : Shape).Idx → EReal} {X : ℕ → ℕ → ℕ → ℕ → EReal} (hx : Ent4 x X) (hn : n = b * a)
    (hk : k = d * c) (h) :
    Ent2 (a := n) (b := k) (shapeCast ⟨2, ![n, k]⟩ x h) fun i j => X (i / b) (i % b) (j / d) (j % d) := by
  intro y
  obtain ⟨i, j, rfl⟩ : ∃ i j, y = ix2 i j := ⟨_, _, eq_ix2 y⟩
  have hi : i.val < b * a := hn ▸ i.isLt
  have hj : j.val < d * c := hk ▸ j.isLt
  have hb : 0 < b := by rcases Nat.eq_zero_or_pos b with e | e; · rw [e, Nat.zero_mul] at hi; omega
                        · exact e
  have hd : 0 < d := by rcases Nat.eq_zero_or_pos d with e | e; · rw [e, Nat.zero_mul] at hj; omega
                        · exact e
  refine (shapeCast_apply (s := ⟨4, ![a, b, c, d]⟩) (t := ⟨2, ![n, k]⟩) x h (ix2 i j)
    (ix4 ⟨i.val / b, Nat.div_lt_of_lt_mul hi⟩ ⟨i.val % b, Nat.mod_lt _ hb⟩ ⟨j.val / d, Nat.div_lt_of_lt_mul hj⟩ ⟨j.val % d, Nat.mod_lt _ hd⟩) ?_).trans (hx _)
  rw [Shape.rowMajor_val_four, Shape.rowMajor_val_two]
  show ((i.val / b * b + i.val % b) * c + j.val / d) * d + j.val % d = i.val * k + j.val
  rw [Nat.div_add_mod' i.val b, Nat.add_mul, Nat.mul_assoc, Nat.mul_comm c d, ← hk, Nat.add_assoc, Nat.div_add_mod' j.val d]

/-! ## Products -/

theorem dot {φ₁ φ₂ : FTy} {A : FVec Ideal ⟨2, ![a, b]⟩ φ₁} {B : FVec Ideal ⟨2, ![b, c]⟩ φ₂} {X Y : ℕ → ℕ → EReal}
    (hA : Ent2 A X) (hB : Ent2 B Y) (prec : Option ContractPrecision) :
    Ent2 (FloatOps.matmul (DotDims.plain a b c) prec A B (constant ⟨2, ![a, c]⟩ .f32 0x00000000#32))
      fun i j => ∑ k ∈ Finset.range b, X i k * Y k j := by
  intro y
  obtain ⟨i, j, rfl⟩ : ∃ i j, y = ix2 i j := ⟨_, _, eq_ix2 y⟩
  refine (Ideal.matmul_plain_apply (M := a) (K := b) (N := c) prec A B _ i j).trans ?_
  have h0 : constant (F := Ideal) ⟨2, ![a, c]⟩ .f32 0x00000000#32 (ix2 i j) = 0 := lit_zero
  rw [h0, zero_add]
  refine Eq.trans (Finset.sum_congr rfl fun k _ => ?_) (Fin.sum_univ_eq_sum_range (fun k => X i.val k * Y k j.val) b)
  rw [hA, hB]; rfl

theorem dotT {φ₁ φ₂ : FTy} {A : FVec Ideal ⟨2, ![a, b]⟩ φ₁} {B : FVec Ideal ⟨2, ![c, b]⟩ φ₂} {X Y : ℕ → ℕ → EReal}
    (hA : Ent2 A X) (hB : Ent2 B Y) (prec : Option ContractPrecision) :
    Ent2 (FloatOps.matmul (DotDims.transposedRhs a b c) prec A B (constant ⟨2, ![a, c]⟩ .f32 0x00000000#32))
      fun i j => ∑ k ∈ Finset.range b, X i k * Y j k := by
  intro y
  obtain ⟨i, j, rfl⟩ : ∃ i j, y = ix2 i j := ⟨_, _, eq_ix2 y⟩
  refine (Ideal.matmul_transposedRhs_apply (M := a) (K := b) (N := c) prec A B _ i j).trans ?_
  have h0 : constant (F := Ideal) ⟨2, ![a, c]⟩ .f32 0x00000000#32 (ix2 i j) = 0 := lit_zero
  rw [h0, zero_add]
  refine Eq.trans (Finset.sum_congr rfl fun k _ => ?_) (Fin.sum_univ_eq_sum_range (fun k => X i.val k * Y j.val k) b)
  rw [hA, hB]; rfl

/-! ## The mean square of a row or a column -/

/-- The reciprocal root of the mean square of `n` numbers, the mean taken by dividing by `l` and moved by `e`. -/
def rms (l e : BitVec 32) (n : ℕ) (v : ℕ → EReal) : EReal :=
  Ideal.rsqrt (Ideal.div (∑ k ∈ Finset.range n, v k * v k) (FloatOps.ofBits (F := Ideal) .f32 l) + FloatOps.ofBits (F := Ideal) .f32 e)

theorem rmsRow {x : FVec Ideal ⟨2, ![a, b]⟩ .f32} {X : ℕ → ℕ → EReal} (hx : Ent2 x X) (l e : BitVec 32) (h h1 h2 h3 h4) :
    Ent2 (a := a) (b := b) (broadcastTo ⟨2, ![a, b]⟩ (rsqrt (F := Ideal) (addf (divf (shapeCast ⟨2, ![a, 1]⟩
      (multiReduction (F := Ideal) .add [1] ⟨1, ![a]⟩ (mulf x x) 0x00000000#32 h h1 h2) h3)
      (broadcast ⟨2, ![a, 1]⟩ (Scalar.ofBits .f32 l))) (broadcast ⟨2, ![a, 1]⟩ (Scalar.ofBits .f32 e)))) h4)
      fun i _ => rms l e b (X i) := by
  refine cols2 (X := fun i _ => rms l e b (X i)) (fun y => ?_) h4
  obtain ⟨i, j, rfl⟩ : ∃ i j, y = ix2 i j := ⟨_, _, eq_ix2 y⟩
  have hs : shapeCast ⟨2, ![a, 1]⟩ (multiReduction (F := Ideal) .add [1] ⟨1, ![a]⟩ (mulf x x) 0x00000000#32 h h1 h2) h3 (ix2 i j)
      = ∑ k ∈ Finset.range b, X i.val k * X i.val k := by
    refine (shapeCast_apply (s := ⟨1, ![a]⟩) (t := ⟨2, ![a, 1]⟩) _ h3 (ix2 i j) (ix1 i) ?_).trans ?_
    · rw [Shape.rowMajor_val_one, Shape.rowMajor_val_two]
      have := j.isLt
      show i.val = i.val * 1 + j.val
      omega
    refine (Ideal.multiReduction_add_single (mulf x x) _ h h1 h2 (ix1 i)).trans ?_
    refine Eq.trans (Finset.sum_congr rfl fun k _ => ?_) (Fin.sum_univ_eq_sum_range (fun k => X i.val k * X i.val k) b)
    show (x _ : EReal) * x _ = _
    rw [hx]
    rfl
  show Ideal.rsqrt (Ideal.div (shapeCast ⟨2, ![a, 1]⟩ (multiReduction (F := Ideal) .add [1] ⟨1, ![a]⟩ (mulf x x) 0x00000000#32 h h1 h2) h3 (ix2 i j)) _ + _) = _
  rw [hs]
  rfl

theorem rmsCol {x : FVec Ideal ⟨2, ![a, b]⟩ .f32} {X : ℕ → ℕ → EReal} (hx : Ent2 x X) (l e : BitVec 32) (h h1 h2 h3 h4) :
    Ent2 (a := a) (b := b) (broadcastTo ⟨2, ![a, b]⟩ (rsqrt (F := Ideal) (addf (divf (shapeCast ⟨2, ![1, b]⟩
      (multiReduction (F := Ideal) .add [0] ⟨1, ![b]⟩ (mulf x x) 0x00000000#32 h h1 h2) h3)
      (broadcast ⟨2, ![1, b]⟩ (Scalar.ofBits .f32 l))) (broadcast ⟨2, ![1, b]⟩ (Scalar.ofBits .f32 e)))) h4)
      fun _ j => rms l e a fun k => X k j := by
  refine rows2 (X := fun _ j => rms l e a fun k => X k j) (fun y => ?_) h4
  obtain ⟨i, j, rfl⟩ : ∃ i j, y = ix2 i j := ⟨_, _, eq_ix2 y⟩
  have hs : shapeCast ⟨2, ![1, b]⟩ (multiReduction (F := Ideal) .add [0] ⟨1, ![b]⟩ (mulf x x) 0x00000000#32 h h1 h2) h3 (ix2 i j)
      = ∑ k ∈ Finset.range a, X k j.val * X k j.val := by
    refine (shapeCast_apply (s := ⟨1, ![b]⟩) (t := ⟨2, ![1, b]⟩) _ h3 (ix2 i j) (ix1 j) ?_).trans ?_
    · rw [Shape.rowMajor_val_one, Shape.rowMajor_val_two]
      have := i.isLt
      show j.val = i.val * b + j.val
      have hi : i.val = 0 := by omega
      rw [hi, Nat.zero_mul, Nat.zero_add]
    refine (Ideal.multiReduction_add_single (mulf x x) _ h h1 h2 (ix1 j)).trans ?_
    refine Eq.trans (Finset.sum_congr rfl fun k _ => ?_) (Fin.sum_univ_eq_sum_range (fun k => X k j.val * X k j.val) a)
    show (x _ : EReal) * x _ = _
    rw [hx]
    rfl
  show Ideal.rsqrt (Ideal.div (shapeCast ⟨2, ![1, b]⟩ (multiReduction (F := Ideal) .add [0] ⟨1, ![b]⟩ (mulf x x) 0x00000000#32 h h1 h2) h3 (ix2 i j)) _ + _) = _
  rw [hs]
  rfl

end Cert.Ent
end
-- ==== Proof.MergeBlock.lean ====
/-
  One row of the merge of the two attentions' outputs, and the idealized kernel's block of it: the sparse attention's output gated,
  the latent attention's taken through its value projection and gated, both through the output projection, added to the gated
  residual, and the row normalised.
-/
module

public import proofs.«01_k».proof.Proof.Entries
public import proofs.«01_k».proof.Proof.Gen.Kernel3Ideal.Value

@[expose] public section

set_option maxRecDepth 16384

noncomputable section

namespace Cert.Merge

open Cert.Ent
open scoped BigOperators

/-- The row before the output projection. -/
def joined (oa sza ol szb : ℕ → EReal) (wuv : ℕ → ℕ → ℕ → EReal) (k : ℕ) : EReal :=
  if k < 512 then oa k * sza k
  else (∑ d ∈ Finset.range 128, ol (128 * ((k - 512) / 128) + d) * wuv ((k - 512) / 128) d ((k - 512) % 128)) * szb (k - 512)

/-- The row after it, added to the residual. -/
def merged (x g oa sza ol szb : ℕ → EReal) (wuv : ℕ → ℕ → ℕ → EReal) (wout : ℕ → ℕ → EReal) (c : ℕ) : EReal :=
  x c + g c * ∑ k ∈ Finset.range 1024, joined oa sza ol szb wuv k * wout k c

/-- The normalised row. -/
def mergedNorm (x g oa sza ol szb : ℕ → EReal) (wuv : ℕ → ℕ → ℕ → EReal) (wout : ℕ → ℕ → EReal) (gf : ℕ → EReal) (c : ℕ) : EReal :=
  merged x g oa sza ol szb wuv wout c * rms 0x44800000#32 0x358637BD#32 1024 (merged x g oa sza ol szb wuv wout) * gf c

end Cert.Merge

namespace Cert.Kernel3Ideal.Hand

open Cert.Kernel3Ideal Cert.Kernel3Ideal.Gen Cert.Ent Cert.Merge
open Idealize.ShloMosaic Idealize.ShloMosaic.ValueIdx
open scoped BigOperators

variable {x0 : Vec Ideal S512x1024 .f32} {x1 : Vec Ideal S1x1x1024 .f32} {x2 x3 x4 x5 : Vec Ideal S512x512 .f32}
  {x6 : Vec Ideal S4x128x128 .bf16} {x7 : Vec Ideal S1024x1024 .bf16} {x8 : Vec Ideal S1x1024 .f32}
  {X0 X2 X3 X4 X5 X7 X8 : ℕ → ℕ → EReal} {X1 X6 : ℕ → ℕ → ℕ → EReal}

/-- A head of the latent attention's output, through its value projection. -/
theorem head_apply (p : ℕ) (v : FVec Ideal S512x512 .f32) (w : FVec Ideal S1x128x128 .bf16) {W : ℕ → ℕ → ℕ → EReal}
    (hv : Ent2 (a := 512) (b := 512) v X3) (hw : Ent3 (a := 1) (b := 128) (c := 128) w W) (h) (n : ℕ) (hn : W 0 = X6 n) :
    Ent2 (a := 512) (b := 128) (matmul dot_S512x128_S128x128_S512x128_1_0_0_1_n_n none
      (truncf .bf16 (extractStridedSlice S512x128 ![0, p] v h) bitsLt_bf16_f32)
      (shapeCast S128x128 w shapeCasts_S1x128x128_S128x128) (constant S512x128 .f32 0x00000000#32))
      fun r j => ∑ d ∈ Finset.range 128, X3 r (p + d) * X6 n d j := by
  have hs : Ent2 (a := 512) (b := 128) (truncf (F := Ideal) .bf16 (extractStridedSlice S512x128 ![0, p] v h) bitsLt_bf16_f32)
      fun r d => X3 (0 + r) (p + d) := slice2 (a := 512) (b := 512) (c := 512) (d := 128) hv h
  intro y
  refine (dot (a := 512) (b := 128) (c := 128) hs (cast32 (a := 128) (b := 128) hw shapeCasts_S1x128x128_S128x128) none y).trans ?_
  beta_reduce
  rw [hn, Nat.zero_add]

/-- A head's product with its gate. -/
theorem gated_apply (p : ℕ) (v u : FVec Ideal S512x512 .f32) (w : FVec Ideal S1x128x128 .bf16) {W : ℕ → ℕ → ℕ → EReal}
    (hv : Ent2 (a := 512) (b := 512) v X3) (hu : Ent2 (a := 512) (b := 512) u X5) (hw : Ent3 (a := 1) (b := 128) (c := 128) w W)
    (h h') (n : ℕ) (hn : W 0 = X6 n) :
    Ent2 (a := 512) (b := 128) (mulf (matmul dot_S512x128_S128x128_S512x128_1_0_0_1_n_n none
      (truncf .bf16 (extractStridedSlice S512x128 ![0, p] v h) bitsLt_bf16_f32)
      (shapeCast S128x128 w shapeCasts_S1x128x128_S128x128) (constant S512x128 .f32 0x00000000#32))
      (extractStridedSlice S512x128 ![0, p] u h'))
      fun r j => (∑ d ∈ Finset.range 128, X3 r (p + d) * X6 n d j) * X5 r (p + j) := by
  intro y
  have e := slice2 (a := 512) (b := 512) (c := 512) (d := 128) hu h' y
  refine congrArg₂ (fun a b : EReal => a * b) (head_apply p v w hv hw h n hn y) (e.trans ?_)
  beta_reduce
  rw [Nat.zero_add]

/-- The five pieces side by side. -/
theorem joined_apply (v4 : FVec Ideal S512x512 .f32) (v15 v22 v29 v36 : FVec Ideal S512x128 .f32)
    (h4 : Ent2 (a := 512) (b := 512) v4 fun r k => X2 r k * X4 r k)
    (h15 : Ent2 (a := 512) (b := 128) v15 fun r j => (∑ d ∈ Finset.range 128, X3 r (0 + d) * X6 0 d j) * X5 r (0 + j))
    (h22 : Ent2 (a := 512) (b := 128) v22 fun r j => (∑ d ∈ Finset.range 128, X3 r (128 + d) * X6 1 d j) * X5 r (128 + j))
    (h29 : Ent2 (a := 512) (b := 128) v29 fun r j => (∑ d ∈ Finset.range 128, X3 r (256 + d) * X6 2 d j) * X5 r (256 + j))
    (h36 : Ent2 (a := 512) (b := 128) v36 fun r j => (∑ d ∈ Finset.range 128, X3 r (384 + d) * X6 3 d j) * X5 r (384 + j)) :
    Ent2 (a := 512) (b := 1024) (concatenate S512x1024 1
      [⟨S512x512, v4⟩, ⟨S512x128, v15⟩, ⟨S512x128, v22⟩, ⟨S512x128, v29⟩, ⟨S512x128, v36⟩]
      concatenates_S512x512_S512x128_S512x128_S512x128_S512x128_S512x1024_d1)
      fun r => joined (X2 r) (X4 r) (X3 r) (X5 r) X6 := by
  intro y
  obtain ⟨r, k, rfl⟩ : ∃ (r : Fin 512) (k : Fin 1024), y = ix2 r k := ⟨_, _, eq_ix2 y⟩
  show _ = joined (X2 r.val) (X4 r.val) (X3 r.val) (X5 r.val) X6 k.val
  unfold joined
  have hk := k.isLt
  by_cases c : k.val < 512
  · rw [if_pos c]
    refine (concatenate_apply_piece (t := S512x1024) 1 _ _ _ 0 (by simp) S512x512 v4 rfl rfl 0 rfl (ix2 r ⟨k.val, c⟩)
      (fun a ha => ?_) (by show 0 + k.val = k.val; omega)).trans (h4 _)
    fin_cases a <;> first | rfl | exact absurd rfl ha
  rw [if_neg c]
  have hq : (k.val - 512) / 128 = 0 ∨ (k.val - 512) / 128 = 1 ∨ (k.val - 512) / 128 = 2 ∨ (k.val - 512) / 128 = 3 := by omega
  rcases hq with q | q | q | q
  · have e : (k.val - 512) % 128 = k.val - 512 := by omega
    refine (concatenate_apply_piece (t := S512x1024) 1 _ _ _ 1 (by simp) S512x128 v15 rfl rfl 512 rfl (ix2 r ⟨k.val - 512, by omega⟩)
      (fun a ha => ?_) (by show 512 + (k.val - 512) = k.val; omega)).trans ?_
    · fin_cases a <;> first | rfl | exact absurd rfl ha
    refine (h15 _).trans ?_
    show (∑ d ∈ Finset.range 128, X3 r.val (0 + d) * X6 0 d (k.val - 512)) * X5 r.val (0 + (k.val - 512)) = _
    rw [q, e, Nat.zero_add]
  · have e : (k.val - 512) % 128 = k.val - 640 := by omega
    refine (concatenate_apply_piece (t := S512x1024) 1 _ _ _ 2 (by simp) S512x128 v22 rfl rfl 640 rfl (ix2 r ⟨k.val - 640, by omega⟩)
      (fun a ha => ?_) (by show 640 + (k.val - 640) = k.val; omega)).trans ?_
    · fin_cases a <;> first | rfl | exact absurd rfl ha
    refine (h22 _).trans ?_
    show (∑ d ∈ Finset.range 128, X3 r.val (128 + d) * X6 1 d (k.val - 640)) * X5 r.val (128 + (k.val - 640)) = _
    rw [q, e, show 128 + (k.val - 640) = k.val - 512 by omega]
  · have e : (k.val - 512) % 128 = k.val - 768 := by omega
    refine (concatenate_apply_piece (t := S512x1024) 1 _ _ _ 3 (by simp) S512x128 v29 rfl rfl 768 rfl (ix2 r ⟨k.val - 768, by omega⟩)
      (fun a ha => ?_) (by show 768 + (k.val - 768) = k.val; omega)).trans ?_
    · fin_cases a <;> first | rfl | exact absurd rfl ha
    refine (h29 _).trans ?_
    show (∑ d ∈ Finset.range 128, X3 r.val (256 + d) * X6 2 d (k.val - 768)) * X5 r.val (256 + (k.val - 768)) = _
    rw [q, e, show 256 + (k.val - 768) = k.val - 512 by omega]
  · have e : (k.val - 512) % 128 = k.val - 896 := by omega
    refine (concatenate_apply_piece (t := S512x1024) 1 _ _ _ 4 (by simp) S512x128 v36 rfl rfl 896 rfl (ix2 r ⟨k.val - 896, by omega⟩)
      (fun a ha => ?_) (by show 896 + (k.val - 896) = k.val; omega)).trans ?_
    · fin_cases a <;> first | rfl | exact absurd rfl ha
    refine (h36 _).trans ?_
    show (∑ d ∈ Finset.range 128, X3 r.val (384 + d) * X6 3 d (k.val - 896)) * X5 r.val (384 + (k.val - 896)) = _
    rw [q, e, show 384 + (k.val - 896) = k.val - 512 by omega]

/-- The residual plus the gated projection. -/
theorem merged_apply (v39 : FVec Ideal S512x1024 .f32) (v41 : FVec Ideal S1x1x1024 .f32) (v43 : FVec Ideal S1024x1024 .bf16)
    (v37 : FVec Ideal S512x1024 .f32) {J : ℕ → ℕ → EReal} (h37 : Ent2 (a := 512) (b := 1024) v37 J)
    (h39 : Ent2 (a := 512) (b := 1024) v39 X0) (h41 : Ent3 (a := 1) (b := 1) (c := 1024) v41 X1) (h43 : Ent2 (a := 1024) (b := 1024) v43 X7) :
    Ent2 (a := 512) (b := 1024) (addf (F := Ideal) (shapeCast S512x1024 v39 shapeCasts_S512x1024_S512x1024)
      (mulf (broadcastTo S512x1024 (shapeCast S1x1024 v41 shapeCasts_S1x1x1024_S1x1024) broadcasts_S1x1024_S512x1024)
        (matmul dot_S512x1024_S1024x1024_S512x1024_1_0_0_1_n_n none (truncf .bf16 v37 bitsLt_bf16_f32)
          (shapeCast S1024x1024 v43 shapeCasts_S1024x1024_S1024x1024) (constant S512x1024 .f32 0x00000000#32))))
      fun r c => X0 r c + X1 0 0 c * ∑ k ∈ Finset.range 1024, J r k * X7 k c := by
  intro y
  exact congrArg₂ (fun a b : EReal => a + b) (cast22 (a := 512) (b := 1024) h39 shapeCasts_S512x1024_S512x1024 y)
    (congrArg₂ (fun a b : EReal => a * b)
      (rows2 (a := 512) (b := 1024) (cast32 (a := 1) (b := 1024) h41 shapeCasts_S1x1x1024_S1x1024) broadcasts_S1x1024_S512x1024 y)
      (dot (a := 512) (b := 1024) (c := 1024) (φ₁ := .bf16) (φ₂ := .bf16) h37 (cast22 (a := 1024) (b := 1024) h43 shapeCasts_S1024x1024_S1024x1024) none y))

/-- A row times the reciprocal root of its mean square, times the gains. -/
theorem normed_apply (v48 : FVec Ideal S512x1024 .f32) (v59 : FVec Ideal S1x1024 .f32) {Y : ℕ → ℕ → EReal}
    (h48 : Ent2 (a := 512) (b := 1024) v48 Y) (h59 : Ent2 (a := 1) (b := 1024) v59 X8) :
    Ent2 (a := 512) (b := 1024) (mulf (F := Ideal) (mulf v48 (broadcastTo S512x1024 (rsqrt (addf (divf (shapeCast S512x1
      (multiReduction .add [1] S512 (mulf v48 v48) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
      (broadcastTo S512x1024 (shapeCast S1x1024 v59 shapeCasts_S1x1024_S1x1024) broadcasts_S1x1024_S512x1024))
      fun r c => Y r c * rms 0x44800000#32 0x358637BD#32 1024 (Y r) * X8 0 c := by
  intro y
  exact congrArg₂ (fun a b : EReal => a * b) (congrArg₂ (fun a b : EReal => a * b) (h48 y)
      (rmsRow (a := 512) (b := 1024) h48 0x44800000#32 0x358637BD#32 reduces_S512x1024_S512 (.inl rfl) rfl shapeCasts_S512_S512x1 broadcasts_S512x1_S512x1024 y))
    (rows2 (a := 512) (b := 1024) (cast22 (a := 1) (b := 1024) h59 shapeCasts_S1x1024_S1x1024) broadcasts_S1x1024_S512x1024 y)

theorem block_apply (h0 : Ent2 (a := 512) (b := 1024) x0 X0) (h1 : Ent3 (a := 1) (b := 1) (c := 1024) x1 X1)
    (h2 : Ent2 (a := 512) (b := 512) x2 X2) (h3 : Ent2 (a := 512) (b := 512) x3 X3) (h4 : Ent2 (a := 512) (b := 512) x4 X4)
    (h5 : Ent2 (a := 512) (b := 512) x5 X5) (h6 : Ent3 (a := 4) (b := 128) (c := 128) x6 X6)
    (h7 : Ent2 (a := 1024) (b := 1024) x7 X7) (h8 : Ent2 (a := 1) (b := 1024) x8 X8) :
    Ent2 (a := 512) (b := 1024) (out0_9 x0 x1 x2 x3 x4 x5 x6 x7 x8)
      fun r => mergedNorm (X0 r) (X1 0 0) (X2 r) (X4 r) (X3 r) (X5 r) X6 X7 (X8 0) := by
  have l0 := ld2 (a := 512) (b := 1024) (e := .f32) (f := id) h0 inb_S512x1024_S512x1024_0_0
  have l1 := ld3 (a := 1) (b := 1) (c := 1024) (d := 1) (p := 0) (e := .f32) (f := id) h1 inb_S1x1x1024_S1x1x1024_0_0_0
  have l2 := ld2 (a := 512) (b := 512) (e := .f32) (f := id) h2 inb_S512x512_S512x512_0_0
  have l3 := ld2 (a := 512) (b := 512) (e := .f32) (f := id) h3 inb_S512x512_S512x512_0_0
  have l4 := ld2 (a := 512) (b := 512) (e := .f32) (f := id) h4 inb_S512x512_S512x512_0_0
  have l5 := ld2 (a := 512) (b := 512) (e := .f32) (f := id) h5 inb_S512x512_S512x512_0_0
  have l60 := ld3 (a := 4) (b := 128) (c := 128) (d := 1) (p := 0) (e := .bf16) (f := id) h6 inb_S4x128x128_S1x128x128_0_0_0
  have l61 := ld3 (a := 4) (b := 128) (c := 128) (d := 1) (p := 1) (e := .bf16) (f := id) h6 inb_S4x128x128_S1x128x128_1_0_0
  have l62 := ld3 (a := 4) (b := 128) (c := 128) (d := 1) (p := 2) (e := .bf16) (f := id) h6 inb_S4x128x128_S1x128x128_2_0_0
  have l63 := ld3 (a := 4) (b := 128) (c := 128) (d := 1) (p := 3) (e := .bf16) (f := id) h6 inb_S4x128x128_S1x128x128_3_0_0
  have l7 := ld2 (a := 1024) (b := 1024) (e := .bf16) (f := id) h7 inb_S1024x1024_S1024x1024_0_0
  have l8 := ld2 (a := 1) (b := 1024) (e := .f32) (f := id) h8 inb_S1x1024_S1x1024_0_0
  have c3 := cast22 (a := 512) (b := 512) l3 shapeCasts_S512x512_S512x512
  have c5 := cast22 (a := 512) (b := 512) l5 shapeCasts_S512x512_S512x512
  have g0 := gated_apply (X6 := X6) 0 _ _ _ c3 c5 l60 slices_S512x512_o0_0_S512x128 slices_S512x512_o0_0_S512x128 0 rfl
  have g1 := gated_apply (X6 := X6) 128 _ _ _ c3 c5 l61 slices_S512x512_o0_128_S512x128 slices_S512x512_o0_128_S512x128 1 rfl
  have g2 := gated_apply (X6 := X6) 256 _ _ _ c3 c5 l62 slices_S512x512_o0_256_S512x128 slices_S512x512_o0_256_S512x128 2 rfl
  have g3 := gated_apply (X6 := X6) 384 _ _ _ c3 c5 l63 slices_S512x512_o0_384_S512x128 slices_S512x512_o0_384_S512x128 3 rfl
  have g : Ent2 (a := 512) (b := 512) (k0_pay2 (View.ld x2 r0_0) (View.ld x4 r0_0)) fun r k => X2 r k * X4 r k := fun y =>
    congrArg₂ (fun a b : EReal => a * b) (cast22 (a := 512) (b := 512) l2 shapeCasts_S512x512_S512x512 y)
      (cast22 (a := 512) (b := 512) l4 shapeCasts_S512x512_S512x512 y)
  have key := normed_apply _ _ (merged_apply _ _ _ _ (joined_apply _ _ _ _ _ g g0 g1 g2 g3) l0 l1 l7) l8
  intro y
  unfold out0_9
  refine View.canon_apply_of_pieces (S := S512x1024) (Val := Elt Ideal) (e := .f32) (fun y => mergedNorm (X0 (y 0).val) (X1 0 0) (X2 (y 0).val) (X4 (y 0).val) (X3 (y 0).val)
    (X5 (y 0).val) X6 X7 (X8 0) (y 1).val) _ ?_ y (cover0_9 _ y)
  intro p hp z
  obtain rfl := List.mem_singleton.1 hp
  have e0 : ((r0_5.emb z) 0).val = (z 0).val := by show 0 + 1 * (z 0).val = _; omega
  have e1 : ((r0_5.emb z) 1).val = (z 1).val := by show 0 + 1 * (z 1).val = _; omega
  beta_reduce
  rw [e0, e1]
  exact key z

end Cert.Kernel3Ideal.Hand
end
-- ==== Proof.MergeArray.lean ====
/-
  The result array of the merge: every block of 512 rows is the merge of its rows of the arguments, and the 32 blocks tile the array.
-/
module

public import proofs.«01_k».proof.Proof.MergeBlock
public import proofs.«01_k».proof.Proof.Gen.Kernel3Ideal.Value
public import Idealize.ShloMosaic.Lib.StableHlo.Run

@[expose] public section

set_option maxRecDepth 16384

noncomputable section

namespace Cert.Merge

/-- The normalised row of one position, from the entries of the arguments. -/
def mergedAt (A0 : ℕ → ℕ → ℕ → EReal) (A1 : ℕ → ℕ → EReal) (A2 : ℕ → ℕ → ℕ → EReal) (A3 : ℕ → ℕ → ℕ → ℕ → EReal)
    (A4 A5 A6 : ℕ → ℕ → ℕ → EReal) (A7 : ℕ → ℕ → EReal) (A8 : ℕ → EReal) (row : ℕ) : ℕ → EReal :=
  mergedNorm (A0 (row / 4096) (row % 4096)) (A1 (row / 4096)) (A2 (row / 4096) (row % 4096)) (A4 (row / 4096) (row % 4096))
    (fun k => A3 (row / 4096) (row % 4096) (k / 128) (k % 128)) (A5 (row / 4096) (row % 4096)) (fun h d n => A6 d h n) A7 A8

end Cert.Merge

namespace Cert.Kernel3Ideal.Hand

open Cert.Kernel3Ideal Cert.Kernel3Ideal.Gen Cert.Ent Cert.Merge
open Idealize.ShloMosaic Idealize.ShloMosaic.TcCoe Idealize.ShloMosaic.ValueIdx Idealize.ShloMosaic.StableHlo
open scoped BigOperators

variable (m : (ℓ : Loc nD τ sig) → Buf (Elt Ideal) ℓ) (c : Dev nD)

/-! ## What the arrays hold when the call starts -/

theorem V_v1 : V m c main_v1 = truncf (F := Ideal) .bf16 (transpose S4x128x128 [1, 0, 2] (m ((c : Thread nD τ).loc main_arg6)) transposes_S128x4x128_S4x128x128_1_0_2) bitsLt_bf16_f32 := by
  show StableHlo.after hostOps0 (fun b => m (c, b)) (Proc.devRef .tc main_v1) = _
  simp only [hostOps0, TRef.ternary, TRef.unary, TRef.toBuf, TRef.ofBuf, cast_eq]
  after_results_simp <;> rfl

theorem V_v2 : V m c main_v2 = truncf (F := Ideal) .bf16 (m ((c : Thread nD τ).loc main_arg7)) bitsLt_bf16_f32 := by
  show StableHlo.after hostOps0 (fun b => m (c, b)) (Proc.devRef .tc main_v2) = _
  simp only [hostOps0, TRef.ternary, TRef.unary, TRef.toBuf, TRef.ofBuf, cast_eq]
  after_results_simp <;> rfl

theorem V_v3 : V m c main_v3 = broadcastInDim S1x1024 ![1] bcast_S1024_S1x1024_1 (m ((c : Thread nD τ).loc main_arg8)) := by
  show StableHlo.after hostOps0 (fun b => m (c, b)) (Proc.devRef .tc main_v3) = _
  simp only [hostOps0, TRef.ternary, TRef.unary, TRef.toBuf, TRef.ofBuf, cast_eq]
  after_results_simp <;> rfl

theorem V_v4 : V m c main_v4 = shapeCast S16384x1024 (m ((c : Thread nD τ).loc main_arg0)) shapeCasts_S4x4096x1024_S16384x1024 := by
  show StableHlo.after hostOps0 (fun b => m (c, b)) (Proc.devRef .tc main_v4) = _
  simp only [hostOps0, TRef.ternary, TRef.unary, TRef.toBuf, TRef.ofBuf, cast_eq]
  after_results_simp <;> rfl

theorem V_v5 : V m c main_v5 = broadcastInDim S4x1x1024 ![0, 2] bcast_S4x1024_S4x1x1024_0_2 (m ((c : Thread nD τ).loc main_arg1)) := by
  show StableHlo.after hostOps0 (fun b => m (c, b)) (Proc.devRef .tc main_v5) = _
  simp only [hostOps0, TRef.ternary, TRef.unary, TRef.toBuf, TRef.ofBuf, cast_eq]
  after_results_simp <;> rfl

theorem V_v6 : V m c main_v6 = shapeCast S16384x512 (m ((c : Thread nD τ).loc main_arg2)) shapeCasts_S4x4096x512_S16384x512 := by
  show StableHlo.after hostOps0 (fun b => m (c, b)) (Proc.devRef .tc main_v6) = _
  simp only [hostOps0, TRef.ternary, TRef.unary, TRef.toBuf, TRef.ofBuf, cast_eq]
  after_results_simp <;> rfl

theorem V_v7 : V m c main_v7 = shapeCast S16384x512 (m ((c : Thread nD τ).loc main_arg3)) shapeCasts_S4x4096x4x128_S16384x512 := by
  show StableHlo.after hostOps0 (fun b => m (c, b)) (Proc.devRef .tc main_v7) = _
  simp only [hostOps0, TRef.ternary, TRef.unary, TRef.toBuf, TRef.ofBuf, cast_eq]
  after_results_simp <;> rfl

theorem V_v8 : V m c main_v8 = shapeCast S16384x512 (m ((c : Thread nD τ).loc main_arg4)) shapeCasts_S4x4096x512_S16384x512 := by
  show StableHlo.after hostOps0 (fun b => m (c, b)) (Proc.devRef .tc main_v8) = _
  simp only [hostOps0, TRef.ternary, TRef.unary, TRef.toBuf, TRef.ofBuf, cast_eq]
  after_results_simp <;> rfl

theorem V_v9 : V m c main_v9 = shapeCast S16384x512 (m ((c : Thread nD τ).loc main_arg5)) shapeCasts_S4x4096x512_S16384x512 := by
  show StableHlo.after hostOps0 (fun b => m (c, b)) (Proc.devRef .tc main_v9) = _
  simp only [hostOps0, TRef.ternary, TRef.unary, TRef.toBuf, TRef.ofBuf, cast_eq]
  after_results_simp <;> rfl

/-! ## Where the point's blocks lie -/

theorem idx_facts : ∀ t : Fin cfg0.N, (grid0.coords t 0).val < 32
      ∧ (win0_0.index t 0 = (grid0.coords t 0).val ∧ win0_0.index t 1 = 0)
      ∧ (win0_2.index t 0 = (grid0.coords t 0).val ∧ win0_2.index t 1 = 0)
      ∧ (win0_3.index t 0 = (grid0.coords t 0).val ∧ win0_3.index t 1 = 0)
      ∧ (win0_4.index t 0 = (grid0.coords t 0).val ∧ win0_4.index t 1 = 0)
      ∧ (win0_5.index t 0 = (grid0.coords t 0).val ∧ win0_5.index t 1 = 0)
      ∧ (win0_9.index t 0 = (grid0.coords t 0).val ∧ win0_9.index t 1 = 0)
      ∧ (win0_1.index t 0 = (grid0.coords t 0).val / 8 ∧ win0_1.index t 1 = 0 ∧ win0_1.index t 2 = 0)
      ∧ (win0_6.index t 0 = 0 ∧ win0_6.index t 1 = 0 ∧ win0_6.index t 2 = 0)
      ∧ (win0_7.index t 0 = 0 ∧ win0_7.index t 1 = 0) ∧ (win0_8.index t 0 = 0 ∧ win0_8.index t 1 = 0) :=
  (by decide +kernel : ∀ t : Fin grid0.N, _)

theorem idx_onto : ∀ k : Fin 32, ∃ t : Fin cfg0.N, win0_9.index t 0 = k.val :=
  (by decide +kernel : ∀ k : Fin 32, ∃ t : Fin grid0.N, win0_9.index t 0 = k.val)

variable {A0 A2 A4 A5 A6 : ℕ → ℕ → ℕ → EReal} {A1 A7 : ℕ → ℕ → EReal} {A3 : ℕ → ℕ → ℕ → ℕ → EReal} {A8 : ℕ → EReal}

/-! ## The blocks -/

theorem block0 (h : Ent3 (a := 4) (b := 4096) (c := 1024) (m ((c : Thread nD τ).loc main_arg0)) A0) (t : Fin cfg0.N) :
    Ent2 (a := 512) (b := 1024) (iblk m c 0 t) fun r k => A0 ((512 * (grid0.coords t 0).val + r) / 4096) ((512 * (grid0.coords t 0).val + r) % 4096) k := by
  intro y
  obtain ⟨g, ⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_0.rect t).emb y 0).val = win0_0.index t 0 * 512 + (y 0).val := Pipeline.Window.rect_emb_val win0_0 t y 0
  have e1 : ((win0_0.rect t).emb y 1).val = win0_0.index t 1 * 1024 + (y 1).val := Pipeline.Window.rect_emb_val win0_0 t y 1
  show (V m c main_v4 : S16384x1024.Idx → EReal) ((win0_0.rect t).emb y) = _
  rw [V_v4]
  refine (flat3 (a := 4) (b := 4096) (c := 1024) (n := 16384) h rfl shapeCasts_S4x4096x1024_S16384x1024 _).trans ?_
  refine congrArg₂ (fun r k => A0 (r / 4096) (r % 4096) k) ?_ ?_
  · rw [e0, i0, Nat.mul_comm]
  · rw [e1, j0, Nat.zero_mul, Nat.zero_add]

theorem block2 (h : Ent3 (a := 4) (b := 4096) (c := 512) (m ((c : Thread nD τ).loc main_arg2)) A2) (t : Fin cfg0.N) :
    Ent2 (a := 512) (b := 512) (iblk m c 2 t) fun r k => A2 ((512 * (grid0.coords t 0).val + r) / 4096) ((512 * (grid0.coords t 0).val + r) % 4096) k := by
  intro y
  obtain ⟨g, ⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_2.rect t).emb y 0).val = win0_2.index t 0 * 512 + (y 0).val := Pipeline.Window.rect_emb_val win0_2 t y 0
  have e1 : ((win0_2.rect t).emb y 1).val = win0_2.index t 1 * 512 + (y 1).val := Pipeline.Window.rect_emb_val win0_2 t y 1
  show (V m c main_v6 : S16384x512.Idx → EReal) ((win0_2.rect t).emb y) = _
  rw [V_v6]
  refine (flat3 (a := 4) (b := 4096) (c := 512) (n := 16384) h rfl shapeCasts_S4x4096x512_S16384x512 _).trans ?_
  refine congrArg₂ (fun r k => A2 (r / 4096) (r % 4096) k) ?_ ?_
  · rw [e0, i2, Nat.mul_comm]
  · rw [e1, j2, Nat.zero_mul, Nat.zero_add]

theorem block3 (h : Ent4 (a := 4) (b := 4096) (c := 4) (d := 128) (m ((c : Thread nD τ).loc main_arg3)) A3) (t : Fin cfg0.N) :
    Ent2 (a := 512) (b := 512) (iblk m c 3 t) fun r k => A3 ((512 * (grid0.coords t 0).val + r) / 4096) ((512 * (grid0.coords t 0).val + r) % 4096) (k / 128) (k % 128) := by
  intro y
  obtain ⟨g, ⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_3.rect t).emb y 0).val = win0_3.index t 0 * 512 + (y 0).val := Pipeline.Window.rect_emb_val win0_3 t y 0
  have e1 : ((win0_3.rect t).emb y 1).val = win0_3.index t 1 * 512 + (y 1).val := Pipeline.Window.rect_emb_val win0_3 t y 1
  show (V m c main_v7 : S16384x512.Idx → EReal) ((win0_3.rect t).emb y) = _
  rw [V_v7]
  refine (flat4 (a := 4) (b := 4096) (c := 4) (d := 128) (n := 16384) (k := 512) h rfl rfl shapeCasts_S4x4096x4x128_S16384x512 _).trans ?_
  refine congrArg₂ (fun r k => A3 (r / 4096) (r % 4096) (k / 128) (k % 128)) ?_ ?_
  · rw [e0, i3, Nat.mul_comm]
  · rw [e1, j3, Nat.zero_mul, Nat.zero_add]

theorem block4 (h : Ent3 (a := 4) (b := 4096) (c := 512) (m ((c : Thread nD τ).loc main_arg4)) A4) (t : Fin cfg0.N) :
    Ent2 (a := 512) (b := 512) (iblk m c 4 t) fun r k => A4 ((512 * (grid0.coords t 0).val + r) / 4096) ((512 * (grid0.coords t 0).val + r) % 4096) k := by
  intro y
  obtain ⟨g, ⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_4.rect t).emb y 0).val = win0_4.index t 0 * 512 + (y 0).val := Pipeline.Window.rect_emb_val win0_4 t y 0
  have e1 : ((win0_4.rect t).emb y 1).val = win0_4.index t 1 * 512 + (y 1).val := Pipeline.Window.rect_emb_val win0_4 t y 1
  show (V m c main_v8 : S16384x512.Idx → EReal) ((win0_4.rect t).emb y) = _
  rw [V_v8]
  refine (flat3 (a := 4) (b := 4096) (c := 512) (n := 16384) h rfl shapeCasts_S4x4096x512_S16384x512 _).trans ?_
  refine congrArg₂ (fun r k => A4 (r / 4096) (r % 4096) k) ?_ ?_
  · rw [e0, i4, Nat.mul_comm]
  · rw [e1, j4, Nat.zero_mul, Nat.zero_add]

theorem block5 (h : Ent3 (a := 4) (b := 4096) (c := 512) (m ((c : Thread nD τ).loc main_arg5)) A5) (t : Fin cfg0.N) :
    Ent2 (a := 512) (b := 512) (iblk m c 5 t) fun r k => A5 ((512 * (grid0.coords t 0).val + r) / 4096) ((512 * (grid0.coords t 0).val + r) % 4096) k := by
  intro y
  obtain ⟨g, ⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_5.rect t).emb y 0).val = win0_5.index t 0 * 512 + (y 0).val := Pipeline.Window.rect_emb_val win0_5 t y 0
  have e1 : ((win0_5.rect t).emb y 1).val = win0_5.index t 1 * 512 + (y 1).val := Pipeline.Window.rect_emb_val win0_5 t y 1
  show (V m c main_v9 : S16384x512.Idx → EReal) ((win0_5.rect t).emb y) = _
  rw [V_v9]
  refine (flat3 (a := 4) (b := 4096) (c := 512) (n := 16384) h rfl shapeCasts_S4x4096x512_S16384x512 _).trans ?_
  refine congrArg₂ (fun r k => A5 (r / 4096) (r % 4096) k) ?_ ?_
  · rw [e0, i5, Nat.mul_comm]
  · rw [e1, j5, Nat.zero_mul, Nat.zero_add]

theorem block1 (h : Ent2 (a := 4) (b := 1024) (m ((c : Thread nD τ).loc main_arg1)) A1) (t : Fin cfg0.N) :
    Ent3 (a := 1) (b := 1) (c := 1024) (iblk m c 1 t) fun _ _ k => A1 ((grid0.coords t 0).val / 8) k := by
  intro y
  obtain ⟨g, ⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have b0 : (y 0).val < 1 := (y 0).isLt
  have b2 : (y 2).val < 1024 := (y 2).isLt
  have e0 : ((win0_1.rect t).emb y 0).val = win0_1.index t 0 * 1 + (y 0).val := Pipeline.Window.rect_emb_val win0_1 t y 0
  have e2 : ((win0_1.rect t).emb y 2).val = win0_1.index t 2 * 1024 + (y 2).val := Pipeline.Window.rect_emb_val win0_1 t y 2
  show (V m c main_v5 : S4x1x1024.Idx → EReal) ((win0_1.rect t).emb y) = _
  rw [V_v5]
  refine (broadcastInDim_apply _ bcast_S4x1024_S4x1x1024_0_2 _ _ (ix2 (⟨(grid0.coords t 0).val / 8, by omega⟩ : Fin 4) (⟨(y 2).val, b2⟩ : Fin 1024)) (fun a => ?_)).trans (h _)
  match a with
  | ⟨0, _⟩ =>
    show (grid0.coords t 0).val / 8 = if (4 : Nat) = 1 then 0 else ((win0_1.rect t).emb y 0).val
    rw [if_neg (by decide), e0, i1]; omega
  | ⟨1, _⟩ =>
    show (y 2).val = if (1024 : Nat) = 1 then 0 else ((win0_1.rect t).emb y 2).val
    rw [if_neg (by decide), e2, k1]; omega

theorem block6 (h : Ent3 (a := 128) (b := 4) (c := 128) (m ((c : Thread nD τ).loc main_arg6)) A6) (t : Fin cfg0.N) :
    Ent3 (a := 4) (b := 128) (c := 128) (iblk m c 6 t) fun n d k => A6 d n k := by
  intro y
  obtain ⟨g, ⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_6.rect t).emb y 0).val = win0_6.index t 0 * 4 + (y 0).val := Pipeline.Window.rect_emb_val win0_6 t y 0
  have e1 : ((win0_6.rect t).emb y 1).val = win0_6.index t 1 * 128 + (y 1).val := Pipeline.Window.rect_emb_val win0_6 t y 1
  have e2 : ((win0_6.rect t).emb y 2).val = win0_6.index t 2 * 128 + (y 2).val := Pipeline.Window.rect_emb_val win0_6 t y 2
  show (V m c main_v1 : S4x128x128.Idx → EReal) ((win0_6.rect t).emb y) = _
  rw [V_v1]
  refine (transpose_apply (t := S4x128x128) [1, 0, 2] (m ((c : Thread nD τ).loc main_arg6)) transposes_S128x4x128_S4x128x128_1_0_2 _
    (ix3 (⟨(y 1).val, (y 1).isLt⟩ : Fin 128) (⟨(y 0).val, (y 0).isLt⟩ : Fin 4) (⟨(y 2).val, (y 2).isLt⟩ : Fin 128)) (fun a => ?_)).trans (h _)
  match a with
  | ⟨0, _⟩ =>
    show (y 0).val = ((win0_6.rect t).emb y 0).val
    rw [e0, i6, Nat.zero_mul, Nat.zero_add]
  | ⟨1, _⟩ =>
    show (y 1).val = ((win0_6.rect t).emb y 1).val
    rw [e1, j6, Nat.zero_mul, Nat.zero_add]
  | ⟨2, _⟩ =>
    show (y 2).val = ((win0_6.rect t).emb y 2).val
    rw [e2, k6, Nat.zero_mul, Nat.zero_add]

theorem block7 (h : Ent2 (a := 1024) (b := 1024) (m ((c : Thread nD τ).loc main_arg7)) A7) (t : Fin cfg0.N) :
    Ent2 (a := 1024) (b := 1024) (iblk m c 7 t) A7 := by
  intro y
  obtain ⟨g, ⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_7.rect t).emb y 0).val = win0_7.index t 0 * 1024 + (y 0).val := Pipeline.Window.rect_emb_val win0_7 t y 0
  have e1 : ((win0_7.rect t).emb y 1).val = win0_7.index t 1 * 1024 + (y 1).val := Pipeline.Window.rect_emb_val win0_7 t y 1
  show (V m c main_v2 : S1024x1024.Idx → EReal) ((win0_7.rect t).emb y) = _
  rw [V_v2]
  refine (h _).trans (congrArg₂ A7 ?_ ?_)
  · rw [e0, i7, Nat.zero_mul, Nat.zero_add]
  · rw [e1, j7, Nat.zero_mul, Nat.zero_add]

theorem block8 (h : Ent1 (a := 1024) (m ((c : Thread nD τ).loc main_arg8)) A8) (t : Fin cfg0.N) :
    Ent2 (a := 1) (b := 1024) (iblk m c 8 t) fun _ k => A8 k := by
  intro y
  obtain ⟨g, ⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e1 : ((win0_8.rect t).emb y 1).val = win0_8.index t 1 * 1024 + (y 1).val := Pipeline.Window.rect_emb_val win0_8 t y 1
  show (V m c main_v3 : S1x1024.Idx → EReal) ((win0_8.rect t).emb y) = _
  rw [V_v3]
  refine (broadcastInDim_apply _ bcast_S1024_S1x1024_1 _ _ (ix1 (⟨(y 1).val, (y 1).isLt⟩ : Fin 1024)) (fun a => ?_)).trans (h _)
  match a with
  | ⟨0, _⟩ =>
    show (y 1).val = if (1024 : Nat) = 1 then 0 else ((win0_8.rect t).emb y 1).val
    rw [if_neg (by decide), e1, j8, Nat.zero_mul, Nat.zero_add]

/-! ## The result array -/

/-- The entries of the nine arguments. -/
structure Args (A0 : ℕ → ℕ → ℕ → EReal) (A1 : ℕ → ℕ → EReal) (A2 : ℕ → ℕ → ℕ → EReal) (A3 : ℕ → ℕ → ℕ → ℕ → EReal)
    (A4 A5 A6 : ℕ → ℕ → ℕ → EReal) (A7 : ℕ → ℕ → EReal) (A8 : ℕ → EReal) : Prop where
  h0 : Ent3 (a := 4) (b := 4096) (c := 1024) (m ((c : Thread nD τ).loc main_arg0)) A0
  h1 : Ent2 (a := 4) (b := 1024) (m ((c : Thread nD τ).loc main_arg1)) A1
  h2 : Ent3 (a := 4) (b := 4096) (c := 512) (m ((c : Thread nD τ).loc main_arg2)) A2
  h3 : Ent4 (a := 4) (b := 4096) (c := 4) (d := 128) (m ((c : Thread nD τ).loc main_arg3)) A3
  h4 : Ent3 (a := 4) (b := 4096) (c := 512) (m ((c : Thread nD τ).loc main_arg4)) A4
  h5 : Ent3 (a := 4) (b := 4096) (c := 512) (m ((c : Thread nD τ).loc main_arg5)) A5
  h6 : Ent3 (a := 128) (b := 4) (c := 128) (m ((c : Thread nD τ).loc main_arg6)) A6
  h7 : Ent2 (a := 1024) (b := 1024) (m ((c : Thread nD τ).loc main_arg7)) A7
  h8 : Ent1 (a := 1024) (m ((c : Thread nD τ).loc main_arg8)) A8

/-- What the result array is shown to hold. -/
def resultArr (A0 : ℕ → ℕ → ℕ → EReal) (A1 : ℕ → ℕ → EReal) (A2 : ℕ → ℕ → ℕ → EReal) (A3 : ℕ → ℕ → ℕ → ℕ → EReal)
    (A4 A5 A6 : ℕ → ℕ → ℕ → EReal) (A7 : ℕ → ℕ → EReal) (A8 : ℕ → EReal) : Vec Ideal S16384x1024 .f32 := fun y => mergedAt A0 A1 A2 A3 A4 A5 A6 A7 A8 (y 0).val (y 1).val

variable {m c}

theorem blk_apply (h : Args m c A0 A1 A2 A3 A4 A5 A6 A7 A8) (t : Fin cfg0.N) :
    Ent2 (a := 512) (b := 1024) (out0_9 (iblk m c 0 t) (iblk m c 1 t) (iblk m c 2 t) (iblk m c 3 t) (iblk m c 4 t) (iblk m c 5 t)
      (iblk m c 6 t) (iblk m c 7 t) (iblk m c 8 t)) fun r k => mergedAt A0 A1 A2 A3 A4 A5 A6 A7 A8 (512 * (grid0.coords t 0).val + r) k := by
  intro y
  have b0 : (y 0).val < 512 := (y 0).isLt
  have hd : (512 * (grid0.coords t 0).val + (y 0).val) / 4096 = (grid0.coords t 0).val / 8 := by omega
  refine (block_apply (block0 m c h.h0 t) (block1 m c h.h1 t) (block2 m c h.h2 t) (block3 m c h.h3 t) (block4 m c h.h4 t)
    (block5 m c h.h5 t) (block6 m c h.h6 t) (block7 m c h.h7 t) (block8 m c h.h8 t) y).trans ?_
  beta_reduce
  unfold mergedAt
  rw [hd]

theorem flushed_eq (h : Args m c A0 A1 A2 A3 A4 A5 A6 A7 A8) (t : Fin cfg0.N) :
    (dats m 0 c).flushed 9 t = (win0_9.blk t).view.read (Elt Ideal) (resultArr A0 A1 A2 A3 A4 A5 A6 A7 A8) := by
  rw [Cert.Kernel3Ideal.Value.flushed9]
  funext y
  obtain ⟨g, ⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_9.rect t).emb y 0).val = win0_9.index t 0 * 512 + (y 0).val := Pipeline.Window.rect_emb_val win0_9 t y 0
  have e1 : ((win0_9.rect t).emb y 1).val = win0_9.index t 1 * 1024 + (y 1).val := Pipeline.Window.rect_emb_val win0_9 t y 1
  refine (blk_apply h t y).trans ?_
  show _ = mergedAt A0 A1 A2 A3 A4 A5 A6 A7 A8 ((win0_9.rect t).emb y 0).val ((win0_9.rect t).emb y 1).val
  rw [e0, e1, i9, j9, Nat.mul_comm _ 512, Nat.zero_mul, Nat.zero_add]

theorem mem_blk (t : Fin cfg0.N) (i : S16384x1024.Idx) :
    i ∈ ((cfg0.win 9).blk t).view.set ↔ win0_9.index t 0 * 512 ≤ (i 0 : Nat) ∧ (i 0 : Nat) < win0_9.index t 0 * 512 + 512 := by
  show i ∈ ((View.whole main_v10).slice (win0_9.rect t)).set ↔ _
  rw [View.set_slice_whole, Rect.mem_set_unit]
  obtain ⟨g, ⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have h1 : (i 1 : Nat) < 1024 := (i 1).isLt
  refine ⟨fun h => h 0, fun h a => ?_⟩
  match a with
  | ⟨0, _⟩ => exact h
  | ⟨1, _⟩ =>
    show win0_9.index t 1 * 1024 ≤ (i 1 : Nat) ∧ (i 1 : Nat) < win0_9.index t 1 * 1024 + 1024
    rw [j9, Nat.zero_mul, Nat.zero_add]
    exact ⟨Nat.zero_le _, h1⟩

theorem cover (i : S16384x1024.Idx) : ∃ t : Fin cfg0.N, (cfg0.win 9).flush t = true ∧ i ∈ ((cfg0.win 9).blk t).view.set := by
  have h0 : (i 0 : Nat) < 16384 := (i 0).isLt
  obtain ⟨t, ht⟩ := idx_onto ⟨(i 0 : Nat) / 512, by omega⟩
  refine ⟨t, flush0_9 t, (mem_blk t i).2 ?_⟩
  rw [ht]
  show (i 0 : Nat) / 512 * 512 ≤ _ ∧ _ < (i 0 : Nat) / 512 * 512 + 512
  omega

/-- So the result array ends holding the merge. -/
theorem final_arr (h : Args m c A0 A1 A2 A3 A4 A5 A6 A7 A8) :
    (dats m 0 c).arrAt 9 cfg0.N = resultArr A0 A1 A2 A3 A4 A5 A6 A7 A8 :=
  (dats m 0 c).arrAt_eq_of_cover 9 (resultArr A0 A1 A2 A3 A4 A5 A6 A7 A8) (fun t _ => flushed_eq h t) cover

end Cert.Kernel3Ideal.Hand
end
-- ==== Proof.MergeRef.lean ====
/-
  The reference's merge read at an entry, and the equation of the two results.
-/
module

public import proofs.«01_k».proof.Proof.MergeArray
public import proofs.«01_k».proof.Proof.Gen.Reference3Ideal.Read

@[expose] public section

set_option maxRecDepth 16384

noncomputable section

namespace Cert.Reference3Ideal.Hand

open Cert.Reference3Ideal Cert.Reference3Ideal.Gen Cert.Reference3Ideal.Read Cert.Ent Cert.Merge Cert.Mla
open Idealize.ShloMosaic Idealize.ShloMosaic.TcCoe Idealize.ShloMosaic.ValueIdx
open scoped BigOperators

variable {x0 : Vec Ideal S4x4096x1024 .f32} {x1 : Vec Ideal S4x1024 .f32} {x2 x4 x5 : Vec Ideal S4x4096x512 .f32}
  {x3 : Vec Ideal S4x4096x4x128 .f32} {x6 : Vec Ideal S128x4x128 .f32} {x7 : Vec Ideal S1024x1024 .f32} {x8 : Vec Ideal S1024 .f32}
  {A0 A2 A4 A5 A6 : ℕ → ℕ → ℕ → EReal} {A1 A7 : ℕ → ℕ → EReal} {A3 : ℕ → ℕ → ℕ → ℕ → EReal} {A8 : ℕ → EReal}

/-- The latent attention's output through its value projection, times its gate. -/
theorem gated_apply (h3 : Ent4 (a := 4) (b := 4096) (c := 4) (d := 128) x3 A3) (h5 : Ent3 (a := 4) (b := 4096) (c := 512) x5 A5)
    (h6 : Ent3 (a := 128) (b := 4) (c := 128) x6 A6) :
    Ent3 (a := 4) (b := 4096) (c := 512) (val_main_v4 (F := Ideal) x3 x5 x6)
      fun b t k => (∑ d ∈ Finset.range 128, A3 b t (k / 128) d * A6 d (k / 128) (k % 128)) * A5 b t k := by
  intro i
  have b0 : (i 0).val < 4 := (i 0).isLt
  have b1 : (i 1).val < 4096 := (i 1).isLt
  have b2 : (i 2).val < 512 := (i 2).isLt
  have f0 : (((i 0).val * 4096 + (i 1).val) * 512 + (i 2).val) / 2097152 = (i 0).val := by omega
  have f1 : (((i 0).val * 4096 + (i 1).val) * 512 + (i 2).val) / 512 % 4096 = (i 1).val := by omega
  have f2 : (((i 0).val * 4096 + (i 1).val) * 512 + (i 2).val) / 128 % 4 = (i 2).val / 128 := by omega
  have f3 : (((i 0).val * 4096 + (i 1).val) * 512 + (i 2).val) % 128 = (i 2).val % 128 := by omega
  rw [val_main_v4_apply, val_main_v3_apply, val_main_v2_apply, val_main_v1_apply]
  refine congrArg₂ (fun a b : EReal => a * b) ?_ (h5 i)
  refine Eq.trans (Finset.sum_congr rfl fun d _ => ?_)
    (Fin.sum_univ_eq_sum_range (fun d => A3 (i 0).val (i 1).val ((i 2).val / 128) d * A6 d ((i 2).val / 128) ((i 2).val % 128)) 128)
  rw [h6, h3, mul_comm]
  show A3 ((((i 0).val * 4096 + (i 1).val) * 512 + (i 2).val) / 2097152) ((((i 0).val * 4096 + (i 1).val) * 512 + (i 2).val) / 512 % 4096)
      ((((i 0).val * 4096 + (i 1).val) * 512 + (i 2).val) / 128 % 4) d.val
    * A6 d.val ((((i 0).val * 4096 + (i 1).val) * 512 + (i 2).val) / 128 % 4) ((((i 0).val * 4096 + (i 1).val) * 512 + (i 2).val) % 128) = _
  rw [f0, f1, f2, f3]

/-- The row before the output projection. -/
theorem joined_apply (h2 : Ent3 (a := 4) (b := 4096) (c := 512) x2 A2) (h3 : Ent4 (a := 4) (b := 4096) (c := 4) (d := 128) x3 A3)
    (h4 : Ent3 (a := 4) (b := 4096) (c := 512) x4 A4) (h5 : Ent3 (a := 4) (b := 4096) (c := 512) x5 A5)
    (h6 : Ent3 (a := 128) (b := 4) (c := 128) x6 A6) :
    Ent3 (a := 4) (b := 4096) (c := 1024) (val_main_v5 (F := Ideal) x2 x3 x4 x5 x6)
      fun b t => joined (A2 b t) (A4 b t) (fun k => A3 b t (k / 128) (k % 128)) (A5 b t) (fun h d n => A6 d h n) := by
  intro i
  obtain ⟨b, t, k, rfl⟩ : ∃ (b : Fin 4) (t : Fin 4096) (k : Fin 1024), i = ix3 b t k := ⟨_, _, _, eq_ix3 i⟩
  have hk : k.val < 1024 := k.isLt
  have hg := gated_apply h3 h5 h6
  have h0 : Ent3 (a := 4) (b := 4096) (c := 512) (val_main_v0 (F := Ideal) x2 x4) fun b t k => A2 b t k * A4 b t k := fun y =>
    congrArg₂ (fun a b : EReal => a * b) (h2 y) (h4 y)
  unfold val_main_v5 joined
  generalize val_main_v4 (F := Ideal) x3 x5 x6 = y1 at hg ⊢
  generalize val_main_v0 (F := Ideal) x2 x4 = y0 at h0 ⊢
  show _ = if k.val < 512 then _ else _
  by_cases hc : k.val < 512
  · rw [if_pos hc]
    refine (concatenate_apply_piece (t := S4x4096x1024) 2 _ _ _ 0 (by simp) S4x4096x512 y0 rfl rfl 0 rfl (ix3 b t (⟨k.val, hc⟩ : Fin 512))
      (fun a ha => ?_) (by show 0 + k.val = k.val; omega)).trans (h0 _)
    fin_cases a <;> first | rfl | exact absurd rfl ha
  · rw [if_neg hc]
    refine (concatenate_apply_piece (t := S4x4096x1024) 2 _ _ _ 1 (by simp) S4x4096x512 y1 rfl rfl 512 rfl (ix3 b t (⟨k.val - 512, by omega⟩ : Fin 512))
      (fun a ha => ?_) (by show 512 + (k.val - 512) = k.val; omega)).trans ((hg _).trans ?_)
    · fin_cases a <;> first | rfl | exact absurd rfl ha
    show (∑ d ∈ Finset.range 128, A3 b.val t.val ((k.val - 512) / 128) d * A6 d ((k.val - 512) / 128) ((k.val - 512) % 128)) * A5 b.val t.val (k.val - 512) = _
    refine congrArg (fun a : EReal => a * A5 b.val t.val (k.val - 512)) (Finset.sum_congr rfl fun d hd => ?_)
    have hd' := Finset.mem_range.1 hd
    have d1 : (128 * ((k.val - 512) / 128) + d) / 128 = (k.val - 512) / 128 := by omega
    have d2 : (128 * ((k.val - 512) / 128) + d) % 128 = d := by omega
    beta_reduce
    rw [d1, d2]

theorem merged_apply (h0 : Ent3 (a := 4) (b := 4096) (c := 1024) x0 A0) (h1 : Ent2 (a := 4) (b := 1024) x1 A1)
    (h2 : Ent3 (a := 4) (b := 4096) (c := 512) x2 A2) (h3 : Ent4 (a := 4) (b := 4096) (c := 4) (d := 128) x3 A3)
    (h4 : Ent3 (a := 4) (b := 4096) (c := 512) x4 A4) (h5 : Ent3 (a := 4) (b := 4096) (c := 512) x5 A5)
    (h6 : Ent3 (a := 128) (b := 4) (c := 128) x6 A6) (h7 : Ent2 (a := 1024) (b := 1024) x7 A7) :
    Ent3 (a := 4) (b := 4096) (c := 1024) (val_main_v10 (F := Ideal) x0 x1 x2 x3 x4 x5 x6 x7)
      fun b t => merged (A0 b t) (A1 b) (A2 b t) (A4 b t) (fun k => A3 b t (k / 128) (k % 128)) (A5 b t) (fun h d n => A6 d h n) A7 := by
  intro i
  rw [val_main_v10_apply, val_main_v9_apply, val_main_v8_apply, val_main_v7_apply, val_main_v6_apply]
  refine congrArg₂ (fun a b : EReal => a + b) (h0 i) (congrArg₂ (fun a b : EReal => a * b) (h1 _) ?_)
  refine Eq.trans (Finset.sum_congr rfl fun k _ => ?_) (Fin.sum_univ_eq_sum_range (fun k =>
    joined (A2 (i 0).val (i 1).val) (A4 (i 0).val (i 1).val) (fun k => A3 (i 0).val (i 1).val (k / 128) (k % 128)) (A5 (i 0).val (i 1).val)
      (fun h d n => A6 d h n) k * A7 k (i 2).val) 1024)
  rw [joined_apply h2 h3 h4 h5 h6, h7]

/-- The reciprocal root of the row's mean square. -/
theorem scale_apply (h0 : Ent3 (a := 4) (b := 4096) (c := 1024) x0 A0) (h1 : Ent2 (a := 4) (b := 1024) x1 A1)
    (h2 : Ent3 (a := 4) (b := 4096) (c := 512) x2 A2) (h3 : Ent4 (a := 4) (b := 4096) (c := 4) (d := 128) x3 A3)
    (h4 : Ent3 (a := 4) (b := 4096) (c := 512) x4 A4) (h5 : Ent3 (a := 4) (b := 4096) (c := 512) x5 A5)
    (h6 : Ent3 (a := 128) (b := 4) (c := 128) x6 A6) (h7 : Ent2 (a := 1024) (b := 1024) x7 A7) (i : S4x4096x1024.Idx) :
    val_main_v19 (F := Ideal) x0 x1 x2 x3 x4 x5 x6 x7 i = rms 0x44800000#32 0x358637BD#32 1024
      (merged (A0 (i 0).val (i 1).val) (A1 (i 0).val) (A2 (i 0).val (i 1).val) (A4 (i 0).val (i 1).val)
        (fun k => A3 (i 0).val (i 1).val (k / 128) (k % 128)) (A5 (i 0).val (i 1).val) (fun h d n => A6 d h n) A7) := by
  have hm := merged_apply h0 h1 h2 h3 h4 h5 h6 h7
  rw [val_main_v19_apply, val_main_v18_apply, val_main_v17_apply, val_main_v15_apply, val_main_v13_apply, val_main_v12_apply,
    val_main_v14_apply, val_main_v16_apply, val_main_cst_apply, val_main_cst_0_apply, val_main_cst_1_apply, lit_zero, zero_add]
  have hs : ∑ k : Fin 1024, val_main_v11 (F := Ideal) x0 x1 x2 x3 x4 x5 x6 x7 (idx_main_v12 (idx_main_v13 (idx_main_v19 i)) k)
      = ∑ k ∈ Finset.range 1024, merged (A0 (i 0).val (i 1).val) (A1 (i 0).val) (A2 (i 0).val (i 1).val) (A4 (i 0).val (i 1).val)
        (fun k => A3 (i 0).val (i 1).val (k / 128) (k % 128)) (A5 (i 0).val (i 1).val) (fun h d n => A6 d h n) A7 k
        * merged (A0 (i 0).val (i 1).val) (A1 (i 0).val) (A2 (i 0).val (i 1).val) (A4 (i 0).val (i 1).val)
        (fun k => A3 (i 0).val (i 1).val (k / 128) (k % 128)) (A5 (i 0).val (i 1).val) (fun h d n => A6 d h n) A7 k := by
    refine Eq.trans (Finset.sum_congr rfl fun k _ => ?_) (Fin.sum_univ_eq_sum_range (fun k =>
      merged (A0 (i 0).val (i 1).val) (A1 (i 0).val) (A2 (i 0).val (i 1).val) (A4 (i 0).val (i 1).val)
        (fun k => A3 (i 0).val (i 1).val (k / 128) (k % 128)) (A5 (i 0).val (i 1).val) (fun h d n => A6 d h n) A7 k
        * merged (A0 (i 0).val (i 1).val) (A1 (i 0).val) (A2 (i 0).val (i 1).val) (A4 (i 0).val (i 1).val)
        (fun k => A3 (i 0).val (i 1).val (k / 128) (k % 128)) (A5 (i 0).val (i 1).val) (fun h d n => A6 d h n) A7 k) 1024)
    rw [val_main_v11_apply]
    exact congrArg₂ (fun a b : EReal => a * b) (hm _) (hm _)
  rw [hs]
  rfl

/-- The reference's result is the merge. -/
theorem result_apply (h0 : Ent3 (a := 4) (b := 4096) (c := 1024) x0 A0) (h1 : Ent2 (a := 4) (b := 1024) x1 A1)
    (h2 : Ent3 (a := 4) (b := 4096) (c := 512) x2 A2) (h3 : Ent4 (a := 4) (b := 4096) (c := 4) (d := 128) x3 A3)
    (h4 : Ent3 (a := 4) (b := 4096) (c := 512) x4 A4) (h5 : Ent3 (a := 4) (b := 4096) (c := 512) x5 A5)
    (h6 : Ent3 (a := 128) (b := 4) (c := 128) x6 A6) (h7 : Ent2 (a := 1024) (b := 1024) x7 A7) (h8 : Ent1 (a := 1024) x8 A8) :
    Ent2 (a := 16384) (b := 1024) (val_main_v24 (F := Ideal) x0 x1 x2 x3 x4 x5 x6 x7 x8)
      (mergedAt A0 A1 A2 A3 A4 A5 A6 A7 A8) := by
  have key : Ent3 (a := 4) (b := 4096) (c := 1024) (val_main_v23 (F := Ideal) x0 x1 x2 x3 x4 x5 x6 x7 x8) fun b t =>
      mergedNorm (A0 b t) (A1 b) (A2 b t) (A4 b t) (fun k => A3 b t (k / 128) (k % 128)) (A5 b t) (fun h d n => A6 d h n) A7 A8 := fun i => by
    rw [val_main_v23_apply, val_main_v20_apply, val_main_v22_apply, val_main_v21_apply, scale_apply h0 h1 h2 h3 h4 h5 h6 h7]
    exact congrArg₂ (fun a b : EReal => a * b) (congrArg (fun a : EReal => a * _) (merged_apply h0 h1 h2 h3 h4 h5 h6 h7 i)) (h8 _)
  unfold val_main_v24
  generalize val_main_v23 (F := Ideal) x0 x1 x2 x3 x4 x5 x6 x7 x8 = y at key ⊢
  exact flat3 (a := 4) (b := 4096) (c := 1024) (n := 16384) key rfl shapeCasts_S4x4096x1024_S16384x1024

end Cert.Reference3Ideal.Hand

namespace Cert.Merge

open Cert.Ent
open Idealize.ShloMosaic Idealize.ShloMosaic.TcCoe

/-- From equal arguments, the two results are equal. -/
theorem results_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v24 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8))
      = (Cert.Kernel3Ideal.Gen.dats m 0 c).arrAt 9 Cert.Kernel3Ideal.cfg0.N := by
  obtain ⟨A0, h0⟩ := exists3 (a := 4) (b := 4096) (c := 1024) (m ((c.tc : Thread Cert.Kernel3Ideal.nD Cert.Kernel3Ideal.τ).loc Cert.Kernel3Ideal.main_arg0))
  obtain ⟨A1, h1⟩ := exists2 (a := 4) (b := 1024) (m ((c.tc : Thread Cert.Kernel3Ideal.nD Cert.Kernel3Ideal.τ).loc Cert.Kernel3Ideal.main_arg1))
  obtain ⟨A2, h2⟩ := exists3 (a := 4) (b := 4096) (c := 512) (m ((c.tc : Thread Cert.Kernel3Ideal.nD Cert.Kernel3Ideal.τ).loc Cert.Kernel3Ideal.main_arg2))
  obtain ⟨A3, h3⟩ := exists4 (a := 4) (b := 4096) (c := 4) (d := 128) (m ((c.tc : Thread Cert.Kernel3Ideal.nD Cert.Kernel3Ideal.τ).loc Cert.Kernel3Ideal.main_arg3))
  obtain ⟨A4, h4⟩ := exists3 (a := 4) (b := 4096) (c := 512) (m ((c.tc : Thread Cert.Kernel3Ideal.nD Cert.Kernel3Ideal.τ).loc Cert.Kernel3Ideal.main_arg4))
  obtain ⟨A5, h5⟩ := exists3 (a := 4) (b := 4096) (c := 512) (m ((c.tc : Thread Cert.Kernel3Ideal.nD Cert.Kernel3Ideal.τ).loc Cert.Kernel3Ideal.main_arg5))
  obtain ⟨A6, h6⟩ := exists3 (a := 128) (b := 4) (c := 128) (m ((c.tc : Thread Cert.Kernel3Ideal.nD Cert.Kernel3Ideal.τ).loc Cert.Kernel3Ideal.main_arg6))
  obtain ⟨A7, h7⟩ := exists2 (a := 1024) (b := 1024) (m ((c.tc : Thread Cert.Kernel3Ideal.nD Cert.Kernel3Ideal.τ).loc Cert.Kernel3Ideal.main_arg7))
  obtain ⟨A8, h8⟩ := exists1 (a := 1024) (m ((c.tc : Thread Cert.Kernel3Ideal.nD Cert.Kernel3Ideal.τ).loc Cert.Kernel3Ideal.main_arg8))
  rw [Cert.Kernel3Ideal.Hand.final_arr (m := m) (c := c) ⟨h0, h1, h2, h3, h4, h5, h6, h7, h8⟩]
  funext i
  exact Cert.Reference3Ideal.Hand.result_apply h0 h1 h2 h3 h4 h5 h6 h7 h8 i

end Cert.Merge
end
-- ==== Proof.ModArray.lean ====
/-
  The result array of the modulation: the stacked conditions, padded with rows of zeros, times the weight, plus the bias. Every block of
  512 columns is that of its columns of the weight and the bias, and the 6 blocks tile the array.
-/
module

public import proofs.«01_k».proof.Proof.Entries
public import proofs.«01_k».proof.Proof.Gen.Kernel4Ideal.Value
public import Idealize.ShloMosaic.Lib.StableHlo.Run
public import Idealize.ShloMosaic.Lib.KernelVsHost

@[expose] public section

set_option maxRecDepth 16384

noncomputable section

namespace Cert.Mod

open scoped BigOperators

/-- The rows of the prompt's conditions, then the sample's, then zeros. -/
def stacked (A0 A1 : ℕ → ℕ → EReal) (r k : ℕ) : EReal := if r < 4 then A0 r k else if r < 132 then A1 (r - 4) k else 0

/-- One entry of the modulation. -/
def modAt (A0 A1 A2 A3 : ℕ → ℕ → EReal) (r j : ℕ) : EReal := (∑ k ∈ Finset.range 1024, stacked A0 A1 r k * A2 k j) + A3 0 j

end Cert.Mod

namespace Cert.Kernel4Ideal.Hand

open Cert.Kernel4Ideal Cert.Kernel4Ideal.Gen Cert.Ent Cert.Mod
open Idealize.ShloMosaic Idealize.ShloMosaic.TcCoe Idealize.ShloMosaic.ValueIdx Idealize.ShloMosaic.StableHlo
open scoped BigOperators

/-! ## What the body computes of its blocks -/

theorem pay_apply (v0 : FVec Ideal S136x1024 .f32) (v3 : FVec Ideal S1024x512 .f32) (v6 : FVec Ideal S1x512 .f32) {X0 X1 X2 : ℕ → ℕ → EReal}
    (h0 : Ent2 (a := 136) (b := 1024) v0 X0) (h1 : Ent2 (a := 1024) (b := 512) v3 X1) (h2 : Ent2 (a := 1) (b := 512) v6 X2) :
    Ent2 (a := 136) (b := 512) (k0_pay1 (F := Ideal) v0 v3 v6) fun r j => (∑ k ∈ Finset.range 1024, X0 r k * X1 k j) + X2 0 j := by
  intro y
  exact congrArg₂ (fun a b : EReal => a + b)
    (dot (a := 136) (b := 1024) (c := 512) (φ₁ := .bf16) (φ₂ := .bf16) (cast22 (a := 136) (b := 1024) h0 shapeCasts_S136x1024_S136x1024) h1 none y)
    (rows2 (a := 136) (b := 512) h2 broadcasts_S1x512_S136x512 y)

theorem block_apply {x0 : Vec Ideal S136x1024 .f32} {x1 : Vec Ideal S1024x512 .f32} {x2 : Vec Ideal S1x512 .f32} {X0 X1 X2 : ℕ → ℕ → EReal}
    (h0 : Ent2 (a := 136) (b := 1024) x0 X0) (h1 : Ent2 (a := 1024) (b := 512) x1 X1) (h2 : Ent2 (a := 1) (b := 512) x2 X2) :
    Ent2 (a := 136) (b := 512) (out0_3 x0 x1 x2) fun r j => (∑ k ∈ Finset.range 1024, X0 r k * X1 k j) + X2 0 j := by
  have l0 := ld2 (a := 136) (b := 1024) (e := .f32) (f := id) h0 inb_S136x1024_S136x1024_0_0
  have l1 := ld2 (a := 1024) (b := 512) (e := .f32) (f := id) h1 inb_S1024x512_S1024x512_0_0
  have l2 := ld2 (a := 1) (b := 512) (e := .f32) (f := id) h2 inb_S1x512_S1x512_0_0
  have key := pay_apply _ _ _ l0 l1 l2
  intro y
  unfold out0_3
  refine View.canon_apply_of_pieces (S := S136x512) (Val := Elt Ideal) (e := .f32)
    (fun y => (∑ k ∈ Finset.range 1024, X0 (y 0).val k * X1 k (y 1).val) + X2 0 (y 1).val) _ ?_ y (cover0_3 _ y)
  intro p hp z
  obtain rfl := List.mem_singleton.1 hp
  have e0 : ((r0_3.emb z) 0).val = (z 0).val := by show 0 + 1 * (z 0).val = _; omega
  have e1 : ((r0_3.emb z) 1).val = (z 1).val := by show 0 + 1 * (z 1).val = _; omega
  beta_reduce
  rw [e0, e1]
  exact key z

/-! ## What the padded conditions hold when the call starts -/

/-- What the host pads with. -/
def padZero : FVec Ideal S_ .f32 := sitofp (F := Ideal) .f32 (constantI S_ 32 0#32)

theorem padZero_apply (y : S_.Idx) : padZero y = 0 := by
  show FloatOps.sitofp (F := Ideal) .f32 (0#32) = (0 : EReal)
  show (((0#32 : BitVec 32).toInt : ℝ) : EReal) = 0
  norm_num

/-- The conditions stacked. -/
def stackArr (x0 : FVec Ideal S4x1024 .f32) (x1 : FVec Ideal S128x1024 .f32) : FVec Ideal S132x1024 .f32 :=
  concatenate S132x1024 0 [⟨S4x1024, x0⟩, ⟨S128x1024, x1⟩] concatenates_S4x1024_S128x1024_S132x1024_d0

/-- The conditions stacked and padded. -/
def condArr (x : FVec Ideal S132x1024 .f32) : FVec Ideal S136x1024 .f32 :=
  pad S136x1024 ![0, 0] ![4, 0] ![0, 0] x padZero pads_S132x1024_S136x1024_040_000 h_S_

variable {A0 A1 A2 A3 : ℕ → ℕ → EReal}

theorem stackArr_apply {x0 : FVec Ideal S4x1024 .f32} {x1 : FVec Ideal S128x1024 .f32} (h0 : Ent2 (a := 4) (b := 1024) x0 A0)
    (h1 : Ent2 (a := 128) (b := 1024) x1 A1) :
    Ent2 (a := 132) (b := 1024) (stackArr x0 x1) fun r k => if r < 4 then A0 r k else A1 (r - 4) k := by
  intro y
  obtain ⟨r, k, rfl⟩ : ∃ (r : Fin 132) (k : Fin 1024), y = ix2 r k := ⟨_, _, eq_ix2 y⟩
  have hr : r.val < 132 := r.isLt
  unfold stackArr
  show _ = if r.val < 4 then A0 r.val k.val else A1 (r.val - 4) k.val
  by_cases h : r.val < 4
  · rw [if_pos h]
    refine (concatenate_apply_piece (t := S132x1024) 0 _ _ _ 0 (by simp) S4x1024 x0 rfl rfl 0 rfl (ix2 (⟨r.val, h⟩ : Fin 4) k)
      (fun a ha => ?_) (by show 0 + r.val = r.val; omega)).trans (h0 _)
    fin_cases a <;> first | rfl | exact absurd rfl ha
  · rw [if_neg h]
    refine (concatenate_apply_piece (t := S132x1024) 0 _ _ _ 1 (by simp) S128x1024 x1 rfl rfl 4 rfl (ix2 (⟨r.val - 4, by omega⟩ : Fin 128) k)
      (fun a ha => ?_) (by show 4 + (r.val - 4) = r.val; omega)).trans (h1 _)
    fin_cases a <;> first | rfl | exact absurd rfl ha

theorem condArr_apply {x : FVec Ideal S132x1024 .f32} (hx : Ent2 (a := 132) (b := 1024) x fun r k => if r < 4 then A0 r k else A1 (r - 4) k) :
    Ent2 (a := 136) (b := 1024) (condArr x) (stacked A0 A1) := by
  intro y
  obtain ⟨r, k, rfl⟩ : ∃ (r : Fin 136) (k : Fin 1024), y = ix2 r k := ⟨_, _, eq_ix2 y⟩
  show pad S136x1024 ![0, 0] ![4, 0] ![0, 0] x padZero pads_S132x1024_S136x1024_040_000 h_S_ (ix2 r k) = stacked A0 A1 r.val k.val
  unfold stacked
  by_cases h : r.val < 132
  · rw [if_pos h]
    refine (pad_apply_of_inside (s := S132x1024) (t := S136x1024) ![0, 0] ![4, 0] ![0, 0] x padZero _ h_S_ (ix2 r k) (ix2 (⟨r.val, h⟩ : Fin 132) k)
      (fun a => ?_)).trans (hx _)
    match a with
    | ⟨0, _⟩ => show r.val = 0 + r.val * (0 + 1); omega
    | ⟨1, _⟩ => show k.val = 0 + k.val * (0 + 1); omega
  · rw [if_neg (show ¬r.val < 4 by omega), if_neg h]
    refine (pad_apply_of_not_inside (s := S132x1024) (t := S136x1024) ![0, 0] ![4, 0] ![0, 0] x padZero _ h_S_ (ix2 r k) 0
      (fun hi => h ?_)).trans (padZero_apply _)
    have h2 : (r.val - 0) / (0 + 1) < 132 := hi.2.2
    omega

variable (m : (ℓ : Loc nD τ sig) → Buf (Elt Ideal) ℓ) (c : Dev nD)

theorem V_v1 : V m c main_v1 = condArr (stackArr (m ((c : Thread nD τ).loc main_arg0)) (m ((c : Thread nD τ).loc main_arg1))) := by
  show StableHlo.after (List.flatten [hostOps0, hostOps0_1]) (fun b => m (c, b)) (Proc.devRef .tc main_v1) = _
  simp only [hostOps0, hostOps0_1, List.flatten_cons, List.flatten_nil, List.append_nil, List.cons_append, List.nil_append,
    TRef.ternary, TRef.unary, TRef.binary, TRef.toBuf, TRef.ofBuf, cast_eq]
  after_results_simp <;> rfl

/-! ## Where the point's blocks lie -/

theorem idx_facts : ∀ t : Fin cfg0.N, (win0_0.index t 0 = 0 ∧ win0_0.index t 1 = 0)
      ∧ (win0_1.index t 0 = 0 ∧ win0_1.index t 1 = (grid0.coords t 0).val)
      ∧ (win0_2.index t 0 = 0 ∧ win0_2.index t 1 = (grid0.coords t 0).val)
      ∧ (win0_3.index t 0 = 0 ∧ win0_3.index t 1 = (grid0.coords t 0).val) :=
  (by decide +kernel : ∀ t : Fin grid0.N, _)

theorem idx_onto : ∀ k : Fin 6, ∃ t : Fin cfg0.N, win0_3.index t 1 = k.val :=
  (by decide +kernel : ∀ k : Fin 6, ∃ t : Fin grid0.N, win0_3.index t 1 = k.val)

/-! ## The blocks -/

theorem block0 (h0 : Ent2 (a := 4) (b := 1024) (m ((c : Thread nD τ).loc main_arg0)) A0)
    (h1 : Ent2 (a := 128) (b := 1024) (m ((c : Thread nD τ).loc main_arg1)) A1) (t : Fin cfg0.N) :
    Ent2 (a := 136) (b := 1024) (iblk m c 0 t) (stacked A0 A1) := by
  intro y
  obtain ⟨⟨i0, j0⟩, -, -, -⟩ := idx_facts t
  have e0 : ((win0_0.rect t).emb y 0).val = win0_0.index t 0 * 136 + (y 0).val := Pipeline.Window.rect_emb_val win0_0 t y 0
  have e1 : ((win0_0.rect t).emb y 1).val = win0_0.index t 1 * 1024 + (y 1).val := Pipeline.Window.rect_emb_val win0_0 t y 1
  show (V m c main_v1 : S136x1024.Idx → EReal) ((win0_0.rect t).emb y) = _
  rw [V_v1]
  refine (condArr_apply (stackArr_apply h0 h1) _).trans (congrArg₂ (stacked A0 A1) ?_ ?_)
  · rw [e0, i0, Nat.zero_mul, Nat.zero_add]
  · rw [e1, j0, Nat.zero_mul, Nat.zero_add]

theorem block1 (h : Ent2 (a := 1024) (b := 3072) (m ((c : Thread nD τ).loc main_arg2)) A2) (t : Fin cfg0.N) :
    Ent2 (a := 1024) (b := 512) (iblk m c 1 t) fun k j => A2 k (512 * (grid0.coords t 0).val + j) := by
  intro y
  obtain ⟨-, ⟨i1, j1⟩, -, -⟩ := idx_facts t
  have e0 : ((win0_1.rect t).emb y 0).val = win0_1.index t 0 * 1024 + (y 0).val := Pipeline.Window.rect_emb_val win0_1 t y 0
  have e1 : ((win0_1.rect t).emb y 1).val = win0_1.index t 1 * 512 + (y 1).val := Pipeline.Window.rect_emb_val win0_1 t y 1
  show (V m c main_arg2 : S1024x3072.Idx → EReal) ((win0_1.rect t).emb y) = _
  rw [V_main_arg2]
  refine (h _).trans (congrArg₂ A2 ?_ ?_)
  · rw [e0, i1, Nat.zero_mul, Nat.zero_add]
  · rw [e1, j1, Nat.mul_comm]

theorem block2 (h : Ent2 (a := 1) (b := 3072) (m ((c : Thread nD τ).loc main_arg3)) A3) (t : Fin cfg0.N) :
    Ent2 (a := 1) (b := 512) (iblk m c 2 t) fun k j => A3 k (512 * (grid0.coords t 0).val + j) := by
  intro y
  obtain ⟨-, -, ⟨i2, j2⟩, -⟩ := idx_facts t
  have e0 : ((win0_2.rect t).emb y 0).val = win0_2.index t 0 * 1 + (y 0).val := Pipeline.Window.rect_emb_val win0_2 t y 0
  have e1 : ((win0_2.rect t).emb y 1).val = win0_2.index t 1 * 512 + (y 1).val := Pipeline.Window.rect_emb_val win0_2 t y 1
  show (V m c main_arg3 : S1x3072.Idx → EReal) ((win0_2.rect t).emb y) = _
  rw [V_main_arg3]
  refine (h _).trans (congrArg₂ A3 ?_ ?_)
  · rw [e0, i2, Nat.zero_mul, Nat.zero_add]
  · rw [e1, j2, Nat.mul_comm]

/-! ## The result array -/

/-- The entries of the four arguments. -/
structure Args (A0 A1 A2 A3 : ℕ → ℕ → EReal) : Prop where
  h0 : Ent2 (a := 4) (b := 1024) (m ((c : Thread nD τ).loc main_arg0)) A0
  h1 : Ent2 (a := 128) (b := 1024) (m ((c : Thread nD τ).loc main_arg1)) A1
  h2 : Ent2 (a := 1024) (b := 3072) (m ((c : Thread nD τ).loc main_arg2)) A2
  h3 : Ent2 (a := 1) (b := 3072) (m ((c : Thread nD τ).loc main_arg3)) A3

/-- What the result array is shown to hold. -/
def resultArr (A0 A1 A2 A3 : ℕ → ℕ → EReal) : Vec Ideal S136x3072 .f32 := fun y => modAt A0 A1 A2 A3 (y 0).val (y 1).val

variable {m c}

theorem flushed_eq (h : Args m c A0 A1 A2 A3) (t : Fin cfg0.N) :
    (dats m 0 c).flushed 3 t = (win0_3.blk t).view.read (Elt Ideal) (resultArr A0 A1 A2 A3) := by
  rw [Cert.Kernel4Ideal.Value.flushed3]
  funext y
  obtain ⟨-, -, -, ⟨i3, j3⟩⟩ := idx_facts t
  have e0 : ((win0_3.rect t).emb y 0).val = win0_3.index t 0 * 136 + (y 0).val := Pipeline.Window.rect_emb_val win0_3 t y 0
  have e1 : ((win0_3.rect t).emb y 1).val = win0_3.index t 1 * 512 + (y 1).val := Pipeline.Window.rect_emb_val win0_3 t y 1
  refine (block_apply (block0 m c h.h0 h.h1 t) (block1 m c h.h2 t) (block2 m c h.h3 t) y).trans ?_
  show _ = modAt A0 A1 A2 A3 ((win0_3.rect t).emb y 0).val ((win0_3.rect t).emb y 1).val
  rw [e0, e1, i3, j3, Nat.mul_comm _ 512, Nat.zero_mul, Nat.zero_add]
  rfl

theorem mem_blk (t : Fin cfg0.N) (i : S136x3072.Idx) :
    i ∈ ((cfg0.win 3).blk t).view.set ↔ win0_3.index t 1 * 512 ≤ (i 1 : Nat) ∧ (i 1 : Nat) < win0_3.index t 1 * 512 + 512 := by
  show i ∈ ((View.whole main_v2).slice (win0_3.rect t)).set ↔ _
  rw [View.set_slice_whole, Rect.mem_set_unit]
  obtain ⟨-, -, -, ⟨i3, j3⟩⟩ := idx_facts t
  have h0 : (i 0 : Nat) < 136 := (i 0).isLt
  refine ⟨fun h => h 1, fun h a => ?_⟩
  match a with
  | ⟨0, _⟩ =>
    show win0_3.index t 0 * 136 ≤ (i 0 : Nat) ∧ (i 0 : Nat) < win0_3.index t 0 * 136 + 136
    rw [i3, Nat.zero_mul, Nat.zero_add]
    exact ⟨Nat.zero_le _, h0⟩
  | ⟨1, _⟩ => exact h

theorem cover (i : S136x3072.Idx) : ∃ t : Fin cfg0.N, (cfg0.win 3).flush t = true ∧ i ∈ ((cfg0.win 3).blk t).view.set := by
  have h1 : (i 1 : Nat) < 3072 := (i 1).isLt
  obtain ⟨t, ht⟩ := idx_onto ⟨(i 1 : Nat) / 512, by omega⟩
  refine ⟨t, flush0_3 t, (mem_blk t i).2 ?_⟩
  rw [ht]
  show (i 1 : Nat) / 512 * 512 ≤ _ ∧ _ < (i 1 : Nat) / 512 * 512 + 512
  omega

/-- So the result array ends holding the modulation. -/
theorem final_arr (h : Args m c A0 A1 A2 A3) : (dats m 0 c).arrAt 3 cfg0.N = resultArr A0 A1 A2 A3 :=
  (dats m 0 c).arrAt_eq_of_cover 3 (resultArr A0 A1 A2 A3) (fun t _ => flushed_eq h t) cover

end Cert.Kernel4Ideal.Hand
end
-- ==== Proof.ModRef.lean ====
/-
  The reference's modulation read at an entry, and the equation of the two results.
-/
module

public import proofs.«01_k».proof.Proof.ModArray
public import proofs.«01_k».proof.Proof.Gen.Reference4Ideal.Read

@[expose] public section

set_option maxRecDepth 16384

noncomputable section

namespace Cert.Reference4Ideal.Hand

open Cert.Reference4Ideal Cert.Reference4Ideal.Gen Cert.Reference4Ideal.Read Cert.Ent Cert.Mod Cert.Mla
open Idealize.ShloMosaic Idealize.ShloMosaic.TcCoe Idealize.ShloMosaic.ValueIdx
open scoped BigOperators

variable {x0 : Vec Ideal S4x1024 .f32} {x1 : Vec Ideal S128x1024 .f32} {x2 : Vec Ideal S1024x3072 .f32} {x3 : Vec Ideal S1x3072 .f32}
  {A0 A1 A2 A3 : ℕ → ℕ → EReal}

/-- The prompt's modulation. -/
theorem prompt_apply (h0 : Ent2 (a := 4) (b := 1024) x0 A0) (h2 : Ent2 (a := 1024) (b := 3072) x2 A2) (h3 : Ent2 (a := 1) (b := 3072) x3 A3) :
    Ent2 (a := 4) (b := 3072) (val_main_v2 (F := Ideal) x0 x2 x3) fun r j => (∑ k ∈ Finset.range 1024, A0 r k * A2 k j) + A3 0 j := by
  intro i
  rw [val_main_v2_apply, val_main_v0_apply, val_main_v1_apply]
  refine congrArg₂ (fun a b : EReal => a + b) ?_ (h3 _)
  refine Eq.trans (Finset.sum_congr rfl fun k _ => ?_) (Fin.sum_univ_eq_sum_range (fun k => A0 (i 0).val k * A2 k (i 1).val) 1024)
  rw [h0, h2]

/-- The sample's modulation. -/
theorem sample_apply (h1 : Ent2 (a := 128) (b := 1024) x1 A1) (h2 : Ent2 (a := 1024) (b := 3072) x2 A2) (h3 : Ent2 (a := 1) (b := 3072) x3 A3) :
    Ent2 (a := 128) (b := 3072) (val_main_v5 (F := Ideal) x1 x2 x3) fun r j => (∑ k ∈ Finset.range 1024, A1 r k * A2 k j) + A3 0 j := by
  intro i
  rw [val_main_v5_apply, val_main_v3_apply, val_main_v4_apply]
  refine congrArg₂ (fun a b : EReal => a + b) ?_ (h3 _)
  refine Eq.trans (Finset.sum_congr rfl fun k _ => ?_) (Fin.sum_univ_eq_sum_range (fun k => A1 (i 0).val k * A2 k (i 1).val) 1024)
  rw [h1, h2]

/-- The rows of padding: the bias. -/
theorem padding_apply (h3 : Ent2 (a := 1) (b := 3072) x3 A3) :
    Ent2 (a := 4) (b := 3072) (val_main_v8 (F := Ideal) x3) fun _ j => A3 0 j := by
  intro i
  rw [val_main_v8_apply, val_main_v6_apply, val_main_v7_apply, val_main_cst_apply, lit_zero]
  exact (zero_add _).trans (h3 _)

/-- The reference's result is the modulation. -/
theorem result_apply (h0 : Ent2 (a := 4) (b := 1024) x0 A0) (h1 : Ent2 (a := 128) (b := 1024) x1 A1)
    (h2 : Ent2 (a := 1024) (b := 3072) x2 A2) (h3 : Ent2 (a := 1) (b := 3072) x3 A3) :
    Ent2 (a := 136) (b := 3072) (val_main_v9 (F := Ideal) x0 x1 x2 x3) (modAt A0 A1 A2 A3) := by
  intro y
  obtain ⟨r, j, rfl⟩ : ∃ (r : Fin 136) (j : Fin 3072), y = ix2 r j := ⟨_, _, eq_ix2 y⟩
  have hr : r.val < 136 := r.isLt
  have k0 := prompt_apply h0 h2 h3
  have k1 := sample_apply h1 h2 h3
  have k2 := padding_apply h3
  unfold val_main_v9
  generalize val_main_v2 (F := Ideal) x0 x2 x3 = y0 at k0 ⊢
  generalize val_main_v5 (F := Ideal) x1 x2 x3 = y1 at k1 ⊢
  generalize val_main_v8 (F := Ideal) x3 = y2 at k2 ⊢
  show _ = (∑ k ∈ Finset.range 1024, stacked A0 A1 r.val k * A2 k j.val) + A3 0 j.val
  unfold stacked
  by_cases h4 : r.val < 4
  · simp only [if_pos h4]
    refine (concatenate_apply_piece (t := S136x3072) 0 _ _ _ 0 (by simp) S4x3072 y0 rfl rfl 0 rfl (ix2 (⟨r.val, h4⟩ : Fin 4) j)
      (fun a ha => ?_) (by show 0 + r.val = r.val; omega)).trans (k0 _)
    fin_cases a <;> first | rfl | exact absurd rfl ha
  · by_cases h132 : r.val < 132
    · simp only [if_neg h4, if_pos h132]
      refine (concatenate_apply_piece (t := S136x3072) 0 _ _ _ 1 (by simp) S128x3072 y1 rfl rfl 4 rfl (ix2 (⟨r.val - 4, by omega⟩ : Fin 128) j)
        (fun a ha => ?_) (by show 4 + (r.val - 4) = r.val; omega)).trans (k1 _)
      fin_cases a <;> first | rfl | exact absurd rfl ha
    · simp only [if_neg h4, if_neg h132, zero_mul, Finset.sum_const_zero, zero_add]
      refine (concatenate_apply_piece (t := S136x3072) 0 _ _ _ 2 (by simp) S4x3072 y2 rfl rfl 132 rfl (ix2 (⟨r.val - 132, by omega⟩ : Fin 4) j)
        (fun a ha => ?_) (by show 132 + (r.val - 132) = r.val; omega)).trans (k2 _)
      fin_cases a <;> first | rfl | exact absurd rfl ha

end Cert.Reference4Ideal.Hand

namespace Cert.Mod

open Cert.Ent
open Idealize.ShloMosaic Idealize.ShloMosaic.TcCoe

/-- From equal arguments, the two results are equal. -/
theorem results_eq (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v9 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      = (Cert.Kernel4Ideal.Gen.dats m 0 c).arrAt 3 Cert.Kernel4Ideal.cfg0.N := by
  obtain ⟨A0, h0⟩ := exists2 (a := 4) (b := 1024) (m ((c.tc : Thread Cert.Kernel4Ideal.nD Cert.Kernel4Ideal.τ).loc Cert.Kernel4Ideal.main_arg0))
  obtain ⟨A1, h1⟩ := exists2 (a := 128) (b := 1024) (m ((c.tc : Thread Cert.Kernel4Ideal.nD Cert.Kernel4Ideal.τ).loc Cert.Kernel4Ideal.main_arg1))
  obtain ⟨A2, h2⟩ := exists2 (a := 1024) (b := 3072) (m ((c.tc : Thread Cert.Kernel4Ideal.nD Cert.Kernel4Ideal.τ).loc Cert.Kernel4Ideal.main_arg2))
  obtain ⟨A3, h3⟩ := exists2 (a := 1) (b := 3072) (m ((c.tc : Thread Cert.Kernel4Ideal.nD Cert.Kernel4Ideal.τ).loc Cert.Kernel4Ideal.main_arg3))
  rw [Cert.Kernel4Ideal.Hand.final_arr (m := m) (c := c) ⟨h0, h1, h2, h3⟩]
  funext i
  exact Cert.Reference4Ideal.Hand.result_apply h0 h1 h2 h3 i

end Cert.Mod
end
-- ==== Proof.StepArray.lean ====
/-
  The merge on the rows of the decoding step: one block of 512 rows, which is the whole array. The body is that of the prompt's merge, but
  every row has its own row of the gate.
-/
module

public import proofs.«01_k».proof.Proof.MergeBlock
public import proofs.«01_k».proof.Proof.Gen.Kernel5Ideal.Value
public import Idealize.ShloMosaic.Lib.StableHlo.Run

@[expose] public section

set_option maxRecDepth 16384

noncomputable section

namespace Cert.StepMerge

open Cert.Merge

/-- The normalised row of one position, from the entries of the arguments. -/
def mergedAt (A0 : ℕ → ℕ → ℕ → EReal) (A1 : ℕ → ℕ → EReal) (A2 : ℕ → ℕ → ℕ → EReal) (A3 : ℕ → ℕ → ℕ → ℕ → EReal)
    (A4 A5 A6 : ℕ → ℕ → ℕ → EReal) (A7 : ℕ → ℕ → EReal) (A8 : ℕ → EReal) (row : ℕ) : ℕ → EReal :=
  mergedNorm (A0 (row / 4) (row % 4)) (A1 (row / 4)) (A2 (row / 4) (row % 4)) (A4 (row / 4) (row % 4))
    (fun k => A3 (row / 4) (row % 4) (k / 128) (k % 128)) (A5 (row / 4) (row % 4)) (fun h d n => A6 d h n) A7 A8

end Cert.StepMerge

namespace Cert.Kernel5Ideal.Hand

open Cert.Kernel5Ideal Cert.Kernel5Ideal.Gen Cert.Ent Cert.Merge Cert.StepMerge
open Idealize.ShloMosaic Idealize.ShloMosaic.TcCoe Idealize.ShloMosaic.ValueIdx Idealize.ShloMosaic.StableHlo
open scoped BigOperators

/-! ## The block -/

section

variable {x0 : Vec Ideal S512x1024 .f32} {x1 : Vec Ideal S1x512x1024 .f32} {x2 x3 x4 x5 : Vec Ideal S512x512 .f32}
  {x6 : Vec Ideal S4x128x128 .bf16} {x7 : Vec Ideal S1024x1024 .bf16} {x8 : Vec Ideal S1x1024 .f32}
  {X0 X2 X3 X4 X5 X7 X8 : ℕ → ℕ → EReal} {X1 X6 : ℕ → ℕ → ℕ → EReal}

/-- The residual plus the gated projection. -/
theorem merged_apply (v39 : FVec Ideal S512x1024 .f32) (v41 : FVec Ideal S1x512x1024 .f32) (v43 : FVec Ideal S1024x1024 .bf16)
    (v37 : FVec Ideal S512x1024 .f32) {J : ℕ → ℕ → EReal} (h37 : Ent2 (a := 512) (b := 1024) v37 J)
    (h39 : Ent2 (a := 512) (b := 1024) v39 X0) (h41 : Ent3 (a := 1) (b := 512) (c := 1024) v41 X1) (h43 : Ent2 (a := 1024) (b := 1024) v43 X7) :
    Ent2 (a := 512) (b := 1024) (addf (F := Ideal) (shapeCast S512x1024 v39 shapeCasts_S512x1024_S512x1024)
      (mulf (shapeCast S512x1024 v41 shapeCasts_S1x512x1024_S512x1024)
        (matmul dot_S512x1024_S1024x1024_S512x1024_1_0_0_1_n_n none (truncf .bf16 v37 bitsLt_bf16_f32)
          (shapeCast S1024x1024 v43 shapeCasts_S1024x1024_S1024x1024) (constant S512x1024 .f32 0x00000000#32))))
      fun r c => X0 r c + X1 0 r c * ∑ k ∈ Finset.range 1024, J r k * X7 k c := by
  intro y
  exact congrArg₂ (fun a b : EReal => a + b) (cast22 (a := 512) (b := 1024) h39 shapeCasts_S512x1024_S512x1024 y)
    (congrArg₂ (fun a b : EReal => a * b)
      (cast32 (a := 512) (b := 1024) h41 shapeCasts_S1x512x1024_S512x1024 y)
      (dot (a := 512) (b := 1024) (c := 1024) (φ₁ := .bf16) (φ₂ := .bf16) h37 (cast22 (a := 1024) (b := 1024) h43 shapeCasts_S1024x1024_S1024x1024) none y))

theorem block_apply (h0 : Ent2 (a := 512) (b := 1024) x0 X0) (h1 : Ent3 (a := 1) (b := 512) (c := 1024) x1 X1)
    (h2 : Ent2 (a := 512) (b := 512) x2 X2) (h3 : Ent2 (a := 512) (b := 512) x3 X3) (h4 : Ent2 (a := 512) (b := 512) x4 X4)
    (h5 : Ent2 (a := 512) (b := 512) x5 X5) (h6 : Ent3 (a := 4) (b := 128) (c := 128) x6 X6)
    (h7 : Ent2 (a := 1024) (b := 1024) x7 X7) (h8 : Ent2 (a := 1) (b := 1024) x8 X8) :
    Ent2 (a := 512) (b := 1024) (out0_9 x0 x1 x2 x3 x4 x5 x6 x7 x8)
      fun r => mergedNorm (X0 r) (X1 0 r) (X2 r) (X4 r) (X3 r) (X5 r) X6 X7 (X8 0) := by
  have l0 := ld2 (a := 512) (b := 1024) (e := .f32) (f := id) h0 inb_S512x1024_S512x1024_0_0
  have l1 := ld3 (a := 1) (b := 512) (c := 1024) (d := 1) (p := 0) (e := .f32) (f := id) h1 inb_S1x512x1024_S1x512x1024_0_0_0
  have l2 := ld2 (a := 512) (b := 512) (e := .f32) (f := id) h2 inb_S512x512_S512x512_0_0
  have l3 := ld2 (a := 512) (b := 512) (e := .f32) (f := id) h3 inb_S512x512_S512x512_0_0
  have l4 := ld2 (a := 512) (b := 512) (e := .f32) (f := id) h4 inb_S512x512_S512x512_0_0
  have l5 := ld2 (a := 512) (b := 512) (e := .f32) (f := id) h5 inb_S512x512_S512x512_0_0
  have l60 := ld3 (a := 4) (b := 128) (c := 128) (d := 1) (p := 0) (e := .bf16) (f := id) h6 inb_S4x128x128_S1x128x128_0_0_0
  have l61 := ld3 (a := 4) (b := 128) (c := 128) (d := 1) (p := 1) (e := .bf16) (f := id) h6 inb_S4x128x128_S1x128x128_1_0_0
  have l62 := ld3 (a := 4) (b := 128) (c := 128) (d := 1) (p := 2) (e := .bf16) (f := id) h6 inb_S4x128x128_S1x128x128_2_0_0
  have l63 := ld3 (a := 4) (b := 128) (c := 128) (d := 1) (p := 3) (e := .bf16) (f := id) h6 inb_S4x128x128_S1x128x128_3_0_0
  have l7 := ld2 (a := 1024) (b := 1024) (e := .bf16) (f := id) h7 inb_S1024x1024_S1024x1024_0_0
  have l8 := ld2 (a := 1) (b := 1024) (e := .f32) (f := id) h8 inb_S1x1024_S1x1024_0_0
  have c3 := cast22 (a := 512) (b := 512) l3 shapeCasts_S512x512_S512x512
  have c5 := cast22 (a := 512) (b := 512) l5 shapeCasts_S512x512_S512x512
  have g0 := Cert.Kernel3Ideal.Hand.gated_apply (X6 := X6) 0 _ _ _ c3 c5 l60 slices_S512x512_o0_0_S512x128 slices_S512x512_o0_0_S512x128 0 rfl
  have g1 := Cert.Kernel3Ideal.Hand.gated_apply (X6 := X6) 128 _ _ _ c3 c5 l61 slices_S512x512_o0_128_S512x128 slices_S512x512_o0_128_S512x128 1 rfl
  have g2 := Cert.Kernel3Ideal.Hand.gated_apply (X6 := X6) 256 _ _ _ c3 c5 l62 slices_S512x512_o0_256_S512x128 slices_S512x512_o0_256_S512x128 2 rfl
  have g3 := Cert.Kernel3Ideal.Hand.gated_apply (X6 := X6) 384 _ _ _ c3 c5 l63 slices_S512x512_o0_384_S512x128 slices_S512x512_o0_384_S512x128 3 rfl
  have g : Ent2 (a := 512) (b := 512) (k0_pay2 (View.ld x2 r0_0) (View.ld x4 r0_0)) fun r k => X2 r k * X4 r k := fun y =>
    congrArg₂ (fun a b : EReal => a * b) (cast22 (a := 512) (b := 512) l2 shapeCasts_S512x512_S512x512 y)
      (cast22 (a := 512) (b := 512) l4 shapeCasts_S512x512_S512x512 y)
  have key := Cert.Kernel3Ideal.Hand.normed_apply _ _ (merged_apply _ _ _ _ (Cert.Kernel3Ideal.Hand.joined_apply _ _ _ _ _ g g0 g1 g2 g3) l0 l1 l7) l8
  intro y
  unfold out0_9
  refine View.canon_apply_of_pieces (S := S512x1024) (Val := Elt Ideal) (e := .f32) (fun y => mergedNorm (X0 (y 0).val) (X1 0 (y 0).val) (X2 (y 0).val) (X4 (y 0).val) (X3 (y 0).val)
    (X5 (y 0).val) X6 X7 (X8 0) (y 1).val) _ ?_ y (cover0_9 _ y)
  intro p hp z
  obtain rfl := List.mem_singleton.1 hp
  have e0 : ((r0_5.emb z) 0).val = (z 0).val := by show 0 + 1 * (z 0).val = _; omega
  have e1 : ((r0_5.emb z) 1).val = (z 1).val := by show 0 + 1 * (z 1).val = _; omega
  beta_reduce
  rw [e0, e1]
  exact key z

end

variable (m : (ℓ : Loc nD τ sig) → Buf (Elt Ideal) ℓ) (c : Dev nD)

/-! ## What the arrays hold when the call starts -/

theorem V_v1 : V m c main_v1 = truncf (F := Ideal) .bf16 (transpose S4x128x128 [1, 0, 2] (m ((c : Thread nD τ).loc main_arg6)) transposes_S128x4x128_S4x128x128_1_0_2) bitsLt_bf16_f32 := by
  show StableHlo.after hostOps0 (fun b => m (c, b)) (Proc.devRef .tc main_v1) = _
  simp only [hostOps0, TRef.ternary, TRef.unary, TRef.toBuf, TRef.ofBuf, cast_eq]
  after_results_simp <;> rfl

theorem V_v2 : V m c main_v2 = truncf (F := Ideal) .bf16 (m ((c : Thread nD τ).loc main_arg7)) bitsLt_bf16_f32 := by
  show StableHlo.after hostOps0 (fun b => m (c, b)) (Proc.devRef .tc main_v2) = _
  simp only [hostOps0, TRef.ternary, TRef.unary, TRef.toBuf, TRef.ofBuf, cast_eq]
  after_results_simp <;> rfl

theorem V_v3 : V m c main_v3 = broadcastInDim S1x1024 ![1] bcast_S1024_S1x1024_1 (m ((c : Thread nD τ).loc main_arg8)) := by
  show StableHlo.after hostOps0 (fun b => m (c, b)) (Proc.devRef .tc main_v3) = _
  simp only [hostOps0, TRef.ternary, TRef.unary, TRef.toBuf, TRef.ofBuf, cast_eq]
  after_results_simp <;> rfl

theorem V_v6 : V m c main_v6 = shapeCast S1x512x1024 (shapeCast S512x1024 (broadcastInDim S128x4x1024 ![0, 2] bcast_S128x1024_S128x4x1024_0_2
      (m ((c : Thread nD τ).loc main_arg1))) shapeCasts_S128x4x1024_S512x1024) shapeCasts_S512x1024_S1x512x1024 := by
  show StableHlo.after hostOps0 (fun b => m (c, b)) (Proc.devRef .tc main_v6) = _
  simp only [hostOps0, TRef.ternary, TRef.unary, TRef.toBuf, TRef.ofBuf, cast_eq]
  after_results_simp <;> rfl

theorem V_v7 : V m c main_v7 = shapeCast S512x1024 (m ((c : Thread nD τ).loc main_arg0)) shapeCasts_S128x4x1024_S512x1024 := by
  show StableHlo.after hostOps0 (fun b => m (c, b)) (Proc.devRef .tc main_v7) = _
  simp only [hostOps0, TRef.ternary, TRef.unary, TRef.toBuf, TRef.ofBuf, cast_eq]
  after_results_simp <;> rfl

theorem V_v8 : V m c main_v8 = shapeCast S512x512 (m ((c : Thread nD τ).loc main_arg2)) shapeCasts_S128x4x512_S512x512 := by
  show StableHlo.after hostOps0 (fun b => m (c, b)) (Proc.devRef .tc main_v8) = _
  simp only [hostOps0, TRef.ternary, TRef.unary, TRef.toBuf, TRef.ofBuf, cast_eq]
  after_results_simp <;> rfl

theorem V_v9 : V m c main_v9 = shapeCast S512x512 (m ((c : Thread nD τ).loc main_arg3)) shapeCasts_S128x4x4x128_S512x512 := by
  show StableHlo.after hostOps0 (fun b => m (c, b)) (Proc.devRef .tc main_v9) = _
  simp only [hostOps0, TRef.ternary, TRef.unary, TRef.toBuf, TRef.ofBuf, cast_eq]
  after_results_simp <;> rfl

theorem V_v10 : V m c main_v10 = shapeCast S512x512 (m ((c : Thread nD τ).loc main_arg4)) shapeCasts_S128x4x512_S512x512 := by
  show StableHlo.after hostOps0 (fun b => m (c, b)) (Proc.devRef .tc main_v10) = _
  simp only [hostOps0, TRef.ternary, TRef.unary, TRef.toBuf, TRef.ofBuf, cast_eq]
  after_results_simp <;> rfl

theorem V_v11 : V m c main_v11 = shapeCast S512x512 (m ((c : Thread nD τ).loc main_arg5)) shapeCasts_S128x4x512_S512x512 := by
  show StableHlo.after hostOps0 (fun b => m (c, b)) (Proc.devRef .tc main_v11) = _
  simp only [hostOps0, TRef.ternary, TRef.unary, TRef.toBuf, TRef.ofBuf, cast_eq]
  after_results_simp <;> rfl

/-! ## Where the point's blocks lie -/

theorem idx_facts : ∀ t : Fin cfg0.N, (win0_0.index t 0 = 0 ∧ win0_0.index t 1 = 0) ∧ (win0_2.index t 0 = 0 ∧ win0_2.index t 1 = 0)
      ∧ (win0_3.index t 0 = 0 ∧ win0_3.index t 1 = 0) ∧ (win0_4.index t 0 = 0 ∧ win0_4.index t 1 = 0)
      ∧ (win0_5.index t 0 = 0 ∧ win0_5.index t 1 = 0) ∧ (win0_9.index t 0 = 0 ∧ win0_9.index t 1 = 0)
      ∧ (win0_1.index t 0 = 0 ∧ win0_1.index t 1 = 0 ∧ win0_1.index t 2 = 0)
      ∧ (win0_6.index t 0 = 0 ∧ win0_6.index t 1 = 0 ∧ win0_6.index t 2 = 0)
      ∧ (win0_7.index t 0 = 0 ∧ win0_7.index t 1 = 0) ∧ (win0_8.index t 0 = 0 ∧ win0_8.index t 1 = 0) :=
  (by decide +kernel : ∀ t : Fin grid0.N, _)

variable {A0 A2 A4 A5 A6 : ℕ → ℕ → ℕ → EReal} {A1 A7 : ℕ → ℕ → EReal} {A3 : ℕ → ℕ → ℕ → ℕ → EReal} {A8 : ℕ → EReal}

/-! ## The blocks -/

theorem block0 (h : Ent3 (a := 128) (b := 4) (c := 1024) (m ((c : Thread nD τ).loc main_arg0)) A0) (t : Fin cfg0.N) :
    Ent2 (a := 512) (b := 1024) (iblk m c 0 t) fun r k => A0 (r / 4) (r % 4) k := by
  intro y
  obtain ⟨⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_0.rect t).emb y 0).val = win0_0.index t 0 * 512 + (y 0).val := Pipeline.Window.rect_emb_val win0_0 t y 0
  have e1 : ((win0_0.rect t).emb y 1).val = win0_0.index t 1 * 1024 + (y 1).val := Pipeline.Window.rect_emb_val win0_0 t y 1
  show (V m c main_v7 : S512x1024.Idx → EReal) ((win0_0.rect t).emb y) = _
  rw [V_v7]
  refine (flat3 (a := 128) (b := 4) (c := 1024) (n := 512) h rfl shapeCasts_S128x4x1024_S512x1024 _).trans ?_
  refine congrArg₂ (fun r k => A0 (r / 4) (r % 4) k) ?_ ?_
  · rw [e0, i0, Nat.zero_mul, Nat.zero_add]
  · rw [e1, j0, Nat.zero_mul, Nat.zero_add]

theorem block2 (h : Ent3 (a := 128) (b := 4) (c := 512) (m ((c : Thread nD τ).loc main_arg2)) A2) (t : Fin cfg0.N) :
    Ent2 (a := 512) (b := 512) (iblk m c 2 t) fun r k => A2 (r / 4) (r % 4) k := by
  intro y
  obtain ⟨⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_2.rect t).emb y 0).val = win0_2.index t 0 * 512 + (y 0).val := Pipeline.Window.rect_emb_val win0_2 t y 0
  have e1 : ((win0_2.rect t).emb y 1).val = win0_2.index t 1 * 512 + (y 1).val := Pipeline.Window.rect_emb_val win0_2 t y 1
  show (V m c main_v8 : S512x512.Idx → EReal) ((win0_2.rect t).emb y) = _
  rw [V_v8]
  refine (flat3 (a := 128) (b := 4) (c := 512) (n := 512) h rfl shapeCasts_S128x4x512_S512x512 _).trans ?_
  refine congrArg₂ (fun r k => A2 (r / 4) (r % 4) k) ?_ ?_
  · rw [e0, i2, Nat.zero_mul, Nat.zero_add]
  · rw [e1, j2, Nat.zero_mul, Nat.zero_add]

theorem block3 (h : Ent4 (a := 128) (b := 4) (c := 4) (d := 128) (m ((c : Thread nD τ).loc main_arg3)) A3) (t : Fin cfg0.N) :
    Ent2 (a := 512) (b := 512) (iblk m c 3 t) fun r k => A3 (r / 4) (r % 4) (k / 128) (k % 128) := by
  intro y
  obtain ⟨⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_3.rect t).emb y 0).val = win0_3.index t 0 * 512 + (y 0).val := Pipeline.Window.rect_emb_val win0_3 t y 0
  have e1 : ((win0_3.rect t).emb y 1).val = win0_3.index t 1 * 512 + (y 1).val := Pipeline.Window.rect_emb_val win0_3 t y 1
  show (V m c main_v9 : S512x512.Idx → EReal) ((win0_3.rect t).emb y) = _
  rw [V_v9]
  refine (flat4 (a := 128) (b := 4) (c := 4) (d := 128) (n := 512) (k := 512) h rfl rfl shapeCasts_S128x4x4x128_S512x512 _).trans ?_
  refine congrArg₂ (fun r k => A3 (r / 4) (r % 4) (k / 128) (k % 128)) ?_ ?_
  · rw [e0, i3, Nat.zero_mul, Nat.zero_add]
  · rw [e1, j3, Nat.zero_mul, Nat.zero_add]

theorem block4 (h : Ent3 (a := 128) (b := 4) (c := 512) (m ((c : Thread nD τ).loc main_arg4)) A4) (t : Fin cfg0.N) :
    Ent2 (a := 512) (b := 512) (iblk m c 4 t) fun r k => A4 (r / 4) (r % 4) k := by
  intro y
  obtain ⟨⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_4.rect t).emb y 0).val = win0_4.index t 0 * 512 + (y 0).val := Pipeline.Window.rect_emb_val win0_4 t y 0
  have e1 : ((win0_4.rect t).emb y 1).val = win0_4.index t 1 * 512 + (y 1).val := Pipeline.Window.rect_emb_val win0_4 t y 1
  show (V m c main_v10 : S512x512.Idx → EReal) ((win0_4.rect t).emb y) = _
  rw [V_v10]
  refine (flat3 (a := 128) (b := 4) (c := 512) (n := 512) h rfl shapeCasts_S128x4x512_S512x512 _).trans ?_
  refine congrArg₂ (fun r k => A4 (r / 4) (r % 4) k) ?_ ?_
  · rw [e0, i4, Nat.zero_mul, Nat.zero_add]
  · rw [e1, j4, Nat.zero_mul, Nat.zero_add]

theorem block5 (h : Ent3 (a := 128) (b := 4) (c := 512) (m ((c : Thread nD τ).loc main_arg5)) A5) (t : Fin cfg0.N) :
    Ent2 (a := 512) (b := 512) (iblk m c 5 t) fun r k => A5 (r / 4) (r % 4) k := by
  intro y
  obtain ⟨⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_5.rect t).emb y 0).val = win0_5.index t 0 * 512 + (y 0).val := Pipeline.Window.rect_emb_val win0_5 t y 0
  have e1 : ((win0_5.rect t).emb y 1).val = win0_5.index t 1 * 512 + (y 1).val := Pipeline.Window.rect_emb_val win0_5 t y 1
  show (V m c main_v11 : S512x512.Idx → EReal) ((win0_5.rect t).emb y) = _
  rw [V_v11]
  refine (flat3 (a := 128) (b := 4) (c := 512) (n := 512) h rfl shapeCasts_S128x4x512_S512x512 _).trans ?_
  refine congrArg₂ (fun r k => A5 (r / 4) (r % 4) k) ?_ ?_
  · rw [e0, i5, Nat.zero_mul, Nat.zero_add]
  · rw [e1, j5, Nat.zero_mul, Nat.zero_add]

theorem block1 (h : Ent2 (a := 128) (b := 1024) (m ((c : Thread nD τ).loc main_arg1)) A1) (t : Fin cfg0.N) :
    Ent3 (a := 1) (b := 512) (c := 1024) (iblk m c 1 t) fun _ r k => A1 (r / 4) k := by
  intro y
  obtain ⟨-, -, -, -, -, -, ⟨i1, j1, k1⟩, -, -, -⟩ := idx_facts t
  have e1 : ((win0_1.rect t).emb y 1).val = win0_1.index t 1 * 512 + (y 1).val := Pipeline.Window.rect_emb_val win0_1 t y 1
  have e2 : ((win0_1.rect t).emb y 2).val = win0_1.index t 2 * 1024 + (y 2).val := Pipeline.Window.rect_emb_val win0_1 t y 2
  have hb : Ent3 (a := 128) (b := 4) (c := 1024) (broadcastInDim S128x4x1024 ![0, 2] bcast_S128x1024_S128x4x1024_0_2
      (m ((c : Thread nD τ).loc main_arg1))) fun b _ k => A1 b k := fun y => by
    refine (broadcastInDim_apply _ bcast_S128x1024_S128x4x1024_0_2 _ _ (ix2 (y 0) (y 2)) (fun a => ?_)).trans (h _)
    match a with
    | ⟨0, _⟩ => show (y 0).val = if (128 : Nat) = 1 then 0 else (y 0).val; rw [if_neg (by decide)]
    | ⟨1, _⟩ => show (y 2).val = if (1024 : Nat) = 1 then 0 else (y 2).val; rw [if_neg (by decide)]
  show (V m c main_v6 : S1x512x1024.Idx → EReal) ((win0_1.rect t).emb y) = _
  rw [V_v6]
  refine (cast23 (a := 512) (b := 1024) (flat3 (a := 128) (b := 4) (c := 1024) (n := 512) hb rfl shapeCasts_S128x4x1024_S512x1024)
    shapeCasts_S512x1024_S1x512x1024 _).trans ?_
  refine congrArg₂ (fun r k => A1 (r / 4) k) ?_ ?_
  · rw [e1, j1, Nat.zero_mul, Nat.zero_add]
  · rw [e2, k1, Nat.zero_mul, Nat.zero_add]

theorem block6 (h : Ent3 (a := 128) (b := 4) (c := 128) (m ((c : Thread nD τ).loc main_arg6)) A6) (t : Fin cfg0.N) :
    Ent3 (a := 4) (b := 128) (c := 128) (iblk m c 6 t) fun n d k => A6 d n k := by
  intro y
  obtain ⟨⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_6.rect t).emb y 0).val = win0_6.index t 0 * 4 + (y 0).val := Pipeline.Window.rect_emb_val win0_6 t y 0
  have e1 : ((win0_6.rect t).emb y 1).val = win0_6.index t 1 * 128 + (y 1).val := Pipeline.Window.rect_emb_val win0_6 t y 1
  have e2 : ((win0_6.rect t).emb y 2).val = win0_6.index t 2 * 128 + (y 2).val := Pipeline.Window.rect_emb_val win0_6 t y 2
  show (V m c main_v1 : S4x128x128.Idx → EReal) ((win0_6.rect t).emb y) = _
  rw [V_v1]
  refine (transpose_apply (t := S4x128x128) [1, 0, 2] (m ((c : Thread nD τ).loc main_arg6)) transposes_S128x4x128_S4x128x128_1_0_2 _
    (ix3 (⟨(y 1).val, (y 1).isLt⟩ : Fin 128) (⟨(y 0).val, (y 0).isLt⟩ : Fin 4) (⟨(y 2).val, (y 2).isLt⟩ : Fin 128)) (fun a => ?_)).trans (h _)
  match a with
  | ⟨0, _⟩ =>
    show (y 0).val = ((win0_6.rect t).emb y 0).val
    rw [e0, i6, Nat.zero_mul, Nat.zero_add]
  | ⟨1, _⟩ =>
    show (y 1).val = ((win0_6.rect t).emb y 1).val
    rw [e1, j6, Nat.zero_mul, Nat.zero_add]
  | ⟨2, _⟩ =>
    show (y 2).val = ((win0_6.rect t).emb y 2).val
    rw [e2, k6, Nat.zero_mul, Nat.zero_add]

theorem block7 (h : Ent2 (a := 1024) (b := 1024) (m ((c : Thread nD τ).loc main_arg7)) A7) (t : Fin cfg0.N) :
    Ent2 (a := 1024) (b := 1024) (iblk m c 7 t) A7 := by
  intro y
  obtain ⟨⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_7.rect t).emb y 0).val = win0_7.index t 0 * 1024 + (y 0).val := Pipeline.Window.rect_emb_val win0_7 t y 0
  have e1 : ((win0_7.rect t).emb y 1).val = win0_7.index t 1 * 1024 + (y 1).val := Pipeline.Window.rect_emb_val win0_7 t y 1
  show (V m c main_v2 : S1024x1024.Idx → EReal) ((win0_7.rect t).emb y) = _
  rw [V_v2]
  refine (h _).trans (congrArg₂ A7 ?_ ?_)
  · rw [e0, i7, Nat.zero_mul, Nat.zero_add]
  · rw [e1, j7, Nat.zero_mul, Nat.zero_add]

theorem block8 (h : Ent1 (a := 1024) (m ((c : Thread nD τ).loc main_arg8)) A8) (t : Fin cfg0.N) :
    Ent2 (a := 1) (b := 1024) (iblk m c 8 t) fun _ k => A8 k := by
  intro y
  obtain ⟨⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e1 : ((win0_8.rect t).emb y 1).val = win0_8.index t 1 * 1024 + (y 1).val := Pipeline.Window.rect_emb_val win0_8 t y 1
  show (V m c main_v3 : S1x1024.Idx → EReal) ((win0_8.rect t).emb y) = _
  rw [V_v3]
  refine (broadcastInDim_apply _ bcast_S1024_S1x1024_1 _ _ (ix1 (⟨(y 1).val, (y 1).isLt⟩ : Fin 1024)) (fun a => ?_)).trans (h _)
  match a with
  | ⟨0, _⟩ =>
    show (y 1).val = if (1024 : Nat) = 1 then 0 else ((win0_8.rect t).emb y 1).val
    rw [if_neg (by decide), e1, j8, Nat.zero_mul, Nat.zero_add]

/-! ## The result array -/

/-- The entries of the nine arguments. -/
structure Args (A0 : ℕ → ℕ → ℕ → EReal) (A1 : ℕ → ℕ → EReal) (A2 : ℕ → ℕ → ℕ → EReal) (A3 : ℕ → ℕ → ℕ → ℕ → EReal)
    (A4 A5 A6 : ℕ → ℕ → ℕ → EReal) (A7 : ℕ → ℕ → EReal) (A8 : ℕ → EReal) : Prop where
  h0 : Ent3 (a := 128) (b := 4) (c := 1024) (m ((c : Thread nD τ).loc main_arg0)) A0
  h1 : Ent2 (a := 128) (b := 1024) (m ((c : Thread nD τ).loc main_arg1)) A1
  h2 : Ent3 (a := 128) (b := 4) (c := 512) (m ((c : Thread nD τ).loc main_arg2)) A2
  h3 : Ent4 (a := 128) (b := 4) (c := 4) (d := 128) (m ((c : Thread nD τ).loc main_arg3)) A3
  h4 : Ent3 (a := 128) (b := 4) (c := 512) (m ((c : Thread nD τ).loc main_arg4)) A4
  h5 : Ent3 (a := 128) (b := 4) (c := 512) (m ((c : Thread nD τ).loc main_arg5)) A5
  h6 : Ent3 (a := 128) (b := 4) (c := 128) (m ((c : Thread nD τ).loc main_arg6)) A6
  h7 : Ent2 (a := 1024) (b := 1024) (m ((c : Thread nD τ).loc main_arg7)) A7
  h8 : Ent1 (a := 1024) (m ((c : Thread nD τ).loc main_arg8)) A8

/-- What the result array is shown to hold. -/
def resultArr (A0 : ℕ → ℕ → ℕ → EReal) (A1 : ℕ → ℕ → EReal) (A2 : ℕ → ℕ → ℕ → EReal) (A3 : ℕ → ℕ → ℕ → ℕ → EReal)
    (A4 A5 A6 : ℕ → ℕ → ℕ → EReal) (A7 : ℕ → ℕ → EReal) (A8 : ℕ → EReal) : Vec Ideal S512x1024 .f32 := fun y => mergedAt A0 A1 A2 A3 A4 A5 A6 A7 A8 (y 0).val (y 1).val

variable {m c}

theorem blk_apply (h : Args m c A0 A1 A2 A3 A4 A5 A6 A7 A8) (t : Fin cfg0.N) :
    Ent2 (a := 512) (b := 1024) (out0_9 (iblk m c 0 t) (iblk m c 1 t) (iblk m c 2 t) (iblk m c 3 t) (iblk m c 4 t) (iblk m c 5 t)
      (iblk m c 6 t) (iblk m c 7 t) (iblk m c 8 t)) (mergedAt A0 A1 A2 A3 A4 A5 A6 A7 A8) := by
  intro y
  refine (block_apply (block0 m c h.h0 t) (block1 m c h.h1 t) (block2 m c h.h2 t) (block3 m c h.h3 t) (block4 m c h.h4 t)
    (block5 m c h.h5 t) (block6 m c h.h6 t) (block7 m c h.h7 t) (block8 m c h.h8 t) y).trans ?_
  beta_reduce
  unfold mergedAt
  rfl

theorem flushed_eq (h : Args m c A0 A1 A2 A3 A4 A5 A6 A7 A8) (t : Fin cfg0.N) :
    (dats m 0 c).flushed 9 t = (win0_9.blk t).view.read (Elt Ideal) (resultArr A0 A1 A2 A3 A4 A5 A6 A7 A8) := by
  rw [Cert.Kernel5Ideal.Value.flushed9]
  funext y
  obtain ⟨⟨i0, j0⟩, ⟨i2, j2⟩, ⟨i3, j3⟩, ⟨i4, j4⟩, ⟨i5, j5⟩, ⟨i9, j9⟩, ⟨i1, j1, k1⟩, ⟨i6, j6, k6⟩, ⟨i7, j7⟩, ⟨i8, j8⟩⟩ := idx_facts t
  have e0 : ((win0_9.rect t).emb y 0).val = win0_9.index t 0 * 512 + (y 0).val := Pipeline.Window.rect_emb_val win0_9 t y 0
  have e1 : ((win0_9.rect t).emb y 1).val = win0_9.index t 1 * 1024 + (y 1).val := Pipeline.Window.rect_emb_val win0_9 t y 1
  refine (blk_apply h t y).trans ?_
  show _ = mergedAt A0 A1 A2 A3 A4 A5 A6 A7 A8 ((win0_9.rect t).emb y 0).val ((win0_9.rect t).emb y 1).val
  refine congrArg₂ (mergedAt A0 A1 A2 A3 A4 A5 A6 A7 A8) ?_ ?_
  · rw [e0, i9]; omega
  · rw [e1, j9]; omega

/-- The one grid point. -/
def point : Fin cfg0.N := ⟨0, by decide⟩

theorem cover (i : S512x1024.Idx) : ∃ t : Fin cfg0.N, (cfg0.win 9).flush t = true ∧ i ∈ ((cfg0.win 9).blk t).view.set := by
  have h0 : (i 0 : Nat) < 512 := (i 0).isLt
  have h1 : (i 1 : Nat) < 1024 := (i 1).isLt
  obtain ⟨-, -, -, -, -, ⟨i9, j9⟩, -, -, -, -⟩ := idx_facts point
  refine ⟨point, flush0_9 point, ?_⟩
  show i ∈ ((View.whole main_v12).slice (win0_9.rect point)).set
  rw [View.set_slice_whole, Rect.mem_set_unit]
  intro a
  match a with
  | ⟨0, _⟩ =>
    show win0_9.index point 0 * 512 ≤ (i 0 : Nat) ∧ (i 0 : Nat) < win0_9.index point 0 * 512 + 512
    rw [i9, Nat.zero_mul, Nat.zero_add]
    exact ⟨Nat.zero_le _, h0⟩
  | ⟨1, _⟩ =>
    show win0_9.index point 1 * 1024 ≤ (i 1 : Nat) ∧ (i 1 : Nat) < win0_9.index point 1 * 1024 + 1024
    rw [j9, Nat.zero_mul, Nat.zero_add]
    exact ⟨Nat.zero_le _, h1⟩

/-- So the result array ends holding the merge. -/
theorem final_arr (h : Args m c A0 A1 A2 A3 A4 A5 A6 A7 A8) :
    (dats m 0 c).arrAt 9 cfg0.N = resultArr A0 A1 A2 A3 A4 A5 A6 A7 A8 :=
  (dats m 0 c).arrAt_eq_of_cover 9 (resultArr A0 A1 A2 A3 A4 A5 A6 A7 A8) (fun t _ => flushed_eq h t) cover

end Cert.Kernel5Ideal.Hand
end
-- ==== Proof.StepRef.lean ====
/-
  The reference's merge of the decoding step's rows read at an entry, and the equation of the two results.
-/
module

public import proofs.«01_k».proof.Proof.StepArray
public import proofs.«01_k».proof.Proof.Gen.Reference5Ideal.Read

@[expose] public section

set_option maxRecDepth 16384

noncomputable section

namespace Cert.Reference5Ideal.Hand

open Cert.Reference5Ideal Cert.Reference5Ideal.Gen Cert.Reference5Ideal.Read Cert.Ent Cert.Merge Cert.StepMerge Cert.Mla
open Idealize.ShloMosaic Idealize.ShloMosaic.TcCoe Idealize.ShloMosaic.ValueIdx
open scoped BigOperators

variable {x0 : Vec Ideal S128x4x1024 .f32} {x1 : Vec Ideal S128x1024 .f32} {x2 x4 x5 : Vec Ideal S128x4x512 .f32}
  {x3 : Vec Ideal S128x4x4x128 .f32} {x6 : Vec Ideal S128x4x128 .f32} {x7 : Vec Ideal S1024x1024 .f32} {x8 : Vec Ideal S1024 .f32}
  {A0 A2 A4 A5 A6 : ℕ → ℕ → ℕ → EReal} {A1 A7 : ℕ → ℕ → EReal} {A3 : ℕ → ℕ → ℕ → ℕ → EReal} {A8 : ℕ → EReal}

/-- The latent attention's output through its value projection, times its gate. -/
theorem gated_apply (h3 : Ent4 (a := 128) (b := 4) (c := 4) (d := 128) x3 A3) (h5 : Ent3 (a := 128) (b := 4) (c := 512) x5 A5)
    (h6 : Ent3 (a := 128) (b := 4) (c := 128) x6 A6) :
    Ent3 (a := 128) (b := 4) (c := 512) (val_main_v4 (F := Ideal) x3 x5 x6)
      fun b t k => (∑ d ∈ Finset.range 128, A3 b t (k / 128) d * A6 d (k / 128) (k % 128)) * A5 b t k := by
  intro i
  have b0 : (i 0).val < 128 := (i 0).isLt
  have b1 : (i 1).val < 4 := (i 1).isLt
  have b2 : (i 2).val < 512 := (i 2).isLt
  have f0 : (((i 0).val * 4 + (i 1).val) * 512 + (i 2).val) / 2048 = (i 0).val := by omega
  have f1 : (((i 0).val * 4 + (i 1).val) * 512 + (i 2).val) / 512 % 4 = (i 1).val := by omega
  have f2 : (((i 0).val * 4 + (i 1).val) * 512 + (i 2).val) / 128 % 4 = (i 2).val / 128 := by omega
  have f3 : (((i 0).val * 4 + (i 1).val) * 512 + (i 2).val) % 128 = (i 2).val % 128 := by omega
  rw [val_main_v4_apply, val_main_v3_apply, val_main_v2_apply, val_main_v1_apply]
  refine congrArg₂ (fun a b : EReal => a * b) ?_ (h5 i)
  refine Eq.trans (Finset.sum_congr rfl fun d _ => ?_)
    (Fin.sum_univ_eq_sum_range (fun d => A3 (i 0).val (i 1).val ((i 2).val / 128) d * A6 d ((i 2).val / 128) ((i 2).val % 128)) 128)
  rw [h6, h3, mul_comm]
  show A3 ((((i 0).val * 4 + (i 1).val) * 512 + (i 2).val) / 2048) ((((i 0).val * 4 + (i 1).val) * 512 + (i 2).val) / 512 % 4)
      ((((i 0).val * 4 + (i 1).val) * 512 + (i 2).val) / 128 % 4) d.val
    * A6 d.val ((((i 0).val * 4 + (i 1).val) * 512 + (i 2).val) / 128 % 4) ((((i 0).val * 4 + (i 1).val) * 512 + (i 2).val) % 128) = _
  rw [f0, f1, f2, f3]

/-- The row before the output projection. -/
theorem joined_apply (h2 : Ent3 (a := 128) (b := 4) (c := 512) x2 A2) (h3 : Ent4 (a := 128) (b := 4) (c := 4) (d := 128) x3 A3)
    (h4 : Ent3 (a := 128) (b := 4) (c := 512) x4 A4) (h5 : Ent3 (a := 128) (b := 4) (c := 512) x5 A5)
    (h6 : Ent3 (a := 128) (b := 4) (c := 128) x6 A6) :
    Ent3 (a := 128) (b := 4) (c := 1024) (val_main_v5 (F := Ideal) x2 x3 x4 x5 x6)
      fun b t => joined (A2 b t) (A4 b t) (fun k => A3 b t (k / 128) (k % 128)) (A5 b t) (fun h d n => A6 d h n) := by
  intro i
  obtain ⟨b, t, k, rfl⟩ : ∃ (b : Fin 128) (t : Fin 4) (k : Fin 1024), i = ix3 b t k := ⟨_, _, _, eq_ix3 i⟩
  have hk : k.val < 1024 := k.isLt
  have hg := gated_apply h3 h5 h6
  have h0 : Ent3 (a := 128) (b := 4) (c := 512) (val_main_v0 (F := Ideal) x2 x4) fun b t k => A2 b t k * A4 b t k := fun y =>
    congrArg₂ (fun a b : EReal => a * b) (h2 y) (h4 y)
  unfold val_main_v5 joined
  generalize val_main_v4 (F := Ideal) x3 x5 x6 = y1 at hg ⊢
  generalize val_main_v0 (F := Ideal) x2 x4 = y0 at h0 ⊢
  show _ = if k.val < 512 then _ else _
  by_cases hc : k.val < 512
  · rw [if_pos hc]
    refine (concatenate_apply_piece (t := S128x4x1024) 2 _ _ _ 0 (by simp) S128x4x512 y0 rfl rfl 0 rfl (ix3 b t (⟨k.val, hc⟩ : Fin 512))
      (fun a ha => ?_) (by show 0 + k.val = k.val; omega)).trans (h0 _)
    fin_cases a <;> first | rfl | exact absurd rfl ha
  · rw [if_neg hc]
    refine (concatenate_apply_piece (t := S128x4x1024) 2 _ _ _ 1 (by simp) S128x4x512 y1 rfl rfl 512 rfl (ix3 b t (⟨k.val - 512, by omega⟩ : Fin 512))
      (fun a ha => ?_) (by show 512 + (k.val - 512) = k.val; omega)).trans ((hg _).trans ?_)
    · fin_cases a <;> first | rfl | exact absurd rfl ha
    show (∑ d ∈ Finset.range 128, A3 b.val t.val ((k.val - 512) / 128) d * A6 d ((k.val - 512) / 128) ((k.val - 512) % 128)) * A5 b.val t.val (k.val - 512) = _
    refine congrArg (fun a : EReal => a * A5 b.val t.val (k.val - 512)) (Finset.sum_congr rfl fun d hd => ?_)
    have hd' := Finset.mem_range.1 hd
    have d1 : (128 * ((k.val - 512) / 128) + d) / 128 = (k.val - 512) / 128 := by omega
    have d2 : (128 * ((k.val - 512) / 128) + d) % 128 = d := by omega
    beta_reduce
    rw [d1, d2]

theorem merged_apply (h0 : Ent3 (a := 128) (b := 4) (c := 1024) x0 A0) (h1 : Ent2 (a := 128) (b := 1024) x1 A1)
    (h2 : Ent3 (a := 128) (b := 4) (c := 512) x2 A2) (h3 : Ent4 (a := 128) (b := 4) (c := 4) (d := 128) x3 A3)
    (h4 : Ent3 (a := 128) (b := 4) (c := 512) x4 A4) (h5 : Ent3 (a := 128) (b := 4) (c := 512) x5 A5)
    (h6 : Ent3 (a := 128) (b := 4) (c := 128) x6 A6) (h7 : Ent2 (a := 1024) (b := 1024) x7 A7) :
    Ent3 (a := 128) (b := 4) (c := 1024) (val_main_v10 (F := Ideal) x0 x1 x2 x3 x4 x5 x6 x7)
      fun b t => merged (A0 b t) (A1 b) (A2 b t) (A4 b t) (fun k => A3 b t (k / 128) (k % 128)) (A5 b t) (fun h d n => A6 d h n) A7 := by
  intro i
  rw [val_main_v10_apply, val_main_v9_apply, val_main_v8_apply, val_main_v7_apply, val_main_v6_apply]
  refine congrArg₂ (fun a b : EReal => a + b) (h0 i) (congrArg₂ (fun a b : EReal => a * b) (h1 _) ?_)
  refine Eq.trans (Finset.sum_congr rfl fun k _ => ?_) (Fin.sum_univ_eq_sum_range (fun k =>
    joined (A2 (i 0).val (i 1).val) (A4 (i 0).val (i 1).val) (fun k => A3 (i 0).val (i 1).val (k / 128) (k % 128)) (A5 (i 0).val (i 1).val)
      (fun h d n => A6 d h n) k * A7 k (i 2).val) 1024)
  rw [joined_apply h2 h3 h4 h5 h6, h7]

/-- The reciprocal root of the row's mean square. -/
theorem scale_apply (h0 : Ent3 (a := 128) (b := 4) (c := 1024) x0 A0) (h1 : Ent2 (a := 128) (b := 1024) x1 A1)
    (h2 : Ent3 (a := 128) (b := 4) (c := 512) x2 A2) (h3 : Ent4 (a := 128) (b := 4) (c := 4) (d := 128) x3 A3)
    (h4 : Ent3 (a := 128) (b := 4) (c := 512) x4 A4) (h5 : Ent3 (a := 128) (b := 4) (c := 512) x5 A5)
    (h6 : Ent3 (a := 128) (b := 4) (c := 128) x6 A6) (h7 : Ent2 (a := 1024) (b := 1024) x7 A7) (i : S128x4x1024.Idx) :
    val_main_v19 (F := Ideal) x0 x1 x2 x3 x4 x5 x6 x7 i = rms 0x44800000#32 0x358637BD#32 1024
      (merged (A0 (i 0).val (i 1).val) (A1 (i 0).val) (A2 (i 0).val (i 1).val) (A4 (i 0).val (i 1).val)
        (fun k => A3 (i 0).val (i 1).val (k / 128) (k % 128)) (A5 (i 0).val (i 1).val) (fun h d n => A6 d h n) A7) := by
  have hm := merged_apply h0 h1 h2 h3 h4 h5 h6 h7
  rw [val_main_v19_apply, val_main_v18_apply, val_main_v17_apply, val_main_v15_apply, val_main_v13_apply, val_main_v12_apply,
    val_main_v14_apply, val_main_v16_apply, val_main_cst_apply, val_main_cst_0_apply, val_main_cst_1_apply, lit_zero, zero_add]
  have hs : ∑ k : Fin 1024, val_main_v11 (F := Ideal) x0 x1 x2 x3 x4 x5 x6 x7 (idx_main_v12 (idx_main_v13 (idx_main_v19 i)) k)
      = ∑ k ∈ Finset.range 1024, merged (A0 (i 0).val (i 1).val) (A1 (i 0).val) (A2 (i 0).val (i 1).val) (A4 (i 0).val (i 1).val)
        (fun k => A3 (i 0).val (i 1).val (k / 128) (k % 128)) (A5 (i 0).val (i 1).val) (fun h d n => A6 d h n) A7 k
        * merged (A0 (i 0).val (i 1).val) (A1 (i 0).val) (A2 (i 0).val (i 1).val) (A4 (i 0).val (i 1).val)
        (fun k => A3 (i 0).val (i 1).val (k / 128) (k % 128)) (A5 (i 0).val (i 1).val) (fun h d n => A6 d h n) A7 k := by
    refine Eq.trans (Finset.sum_congr rfl fun k _ => ?_) (Fin.sum_univ_eq_sum_range (fun k =>
      merged (A0 (i 0).val (i 1).val) (A1 (i 0).val) (A2 (i 0).val (i 1).val) (A4 (i 0).val (i 1).val)
        (fun k => A3 (i 0).val (i 1).val (k / 128) (k % 128)) (A5 (i 0).val (i 1).val) (fun h d n => A6 d h n) A7 k
        * merged (A0 (i 0).val (i 1).val) (A1 (i 0).val) (A2 (i 0).val (i 1).val) (A4 (i 0).val (i 1).val)
        (fun k => A3 (i 0).val (i 1).val (k / 128) (k % 128)) (A5 (i 0).val (i 1).val) (fun h d n => A6 d h n) A7 k) 1024)
    rw [val_main_v11_apply]
    exact congrArg₂ (fun a b : EReal => a * b) (hm _) (hm _)
  rw [hs]
  rfl

/-- The reference's result is the merge. -/
theorem result_apply (h0 : Ent3 (a := 128) (b := 4) (c := 1024) x0 A0) (h1 : Ent2 (a := 128) (b := 1024) x1 A1)
    (h2 : Ent3 (a := 128) (b := 4) (c := 512) x2 A2) (h3 : Ent4 (a := 128) (b := 4) (c := 4) (d := 128) x3 A3)
    (h4 : Ent3 (a := 128) (b := 4) (c := 512) x4 A4) (h5 : Ent3 (a := 128) (b := 4) (c := 512) x5 A5)
    (h6 : Ent3 (a := 128) (b := 4) (c := 128) x6 A6) (h7 : Ent2 (a := 1024) (b := 1024) x7 A7) (h8 : Ent1 (a := 1024) x8 A8) :
    Ent2 (a := 512) (b := 1024) (val_main_v24 (F := Ideal) x0 x1 x2 x3 x4 x5 x6 x7 x8)
      (mergedAt A0 A1 A2 A3 A4 A5 A6 A7 A8) := by
  have key : Ent3 (a := 128) (b := 4) (c := 1024) (val_main_v23 (F := Ideal) x0 x1 x2 x3 x4 x5 x6 x7 x8) fun b t =>
      mergedNorm (A0 b t) (A1 b) (A2 b t) (A4 b t) (fun k => A3 b t (k / 128) (k % 128)) (A5 b t) (fun h d n => A6 d h n) A7 A8 := fun i => by
    rw [val_main_v23_apply, val_main_v20_apply, val_main_v22_apply, val_main_v21_apply, scale_apply h0 h1 h2 h3 h4 h5 h6 h7]
    exact congrArg₂ (fun a b : EReal => a * b) (congrArg (fun a : EReal => a * _) (merged_apply h0 h1 h2 h3 h4 h5 h6 h7 i)) (h8 _)
  unfold val_main_v24
  generalize val_main_v23 (F := Ideal) x0 x1 x2 x3 x4 x5 x6 x7 x8 = y at key ⊢
  exact flat3 (a := 128) (b := 4) (c := 1024) (n := 512) key rfl shapeCasts_S128x4x1024_S512x1024

end Cert.Reference5Ideal.Hand

namespace Cert.StepMerge

open Cert.Ent
open Idealize.ShloMosaic Idealize.ShloMosaic.TcCoe

/-- From equal arguments, the two results are equal. -/
theorem results_eq (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v24 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6))
      (m ((c.tc : Thread Cert.Kernel5Ideal.nD Cert.Kernel5Ideal.τ).loc Cert.Kernel5Ideal.main_arg7))
      (m ((c.tc : Thread Cert.Kernel5Ideal.nD Cert.Kernel5Ideal.τ).loc Cert.Kernel5Ideal.main_arg8))
      = (Cert.Kernel5Ideal.Gen.dats m 0 c).arrAt 9 Cert.Kernel5Ideal.cfg0.N := by
  obtain ⟨A0, h0⟩ := exists3 (a := 128) (b := 4) (c := 1024) (m ((c.tc : Thread Cert.Kernel5Ideal.nD Cert.Kernel5Ideal.τ).loc Cert.Kernel5Ideal.main_arg0))
  obtain ⟨A1, h1⟩ := exists2 (a := 128) (b := 1024) (m ((c.tc : Thread Cert.Kernel5Ideal.nD Cert.Kernel5Ideal.τ).loc Cert.Kernel5Ideal.main_arg1))
  obtain ⟨A2, h2⟩ := exists3 (a := 128) (b := 4) (c := 512) (m ((c.tc : Thread Cert.Kernel5Ideal.nD Cert.Kernel5Ideal.τ).loc Cert.Kernel5Ideal.main_arg2))
  obtain ⟨A3, h3⟩ := exists4 (a := 128) (b := 4) (c := 4) (d := 128) (m ((c.tc : Thread Cert.Kernel5Ideal.nD Cert.Kernel5Ideal.τ).loc Cert.Kernel5Ideal.main_arg3))
  obtain ⟨A4, h4⟩ := exists3 (a := 128) (b := 4) (c := 512) (m ((c.tc : Thread Cert.Kernel5Ideal.nD Cert.Kernel5Ideal.τ).loc Cert.Kernel5Ideal.main_arg4))
  obtain ⟨A5, h5⟩ := exists3 (a := 128) (b := 4) (c := 512) (m ((c.tc : Thread Cert.Kernel5Ideal.nD Cert.Kernel5Ideal.τ).loc Cert.Kernel5Ideal.main_arg5))
  obtain ⟨A6, h6⟩ := exists3 (a := 128) (b := 4) (c := 128) (m ((c.tc : Thread Cert.Kernel5Ideal.nD Cert.Kernel5Ideal.τ).loc Cert.Kernel5Ideal.main_arg6))
  obtain ⟨A7, h7⟩ := exists2 (a := 1024) (b := 1024) (m ((c.tc : Thread Cert.Kernel5Ideal.nD Cert.Kernel5Ideal.τ).loc Cert.Kernel5Ideal.main_arg7))
  obtain ⟨A8, h8⟩ := exists1 (a := 1024) (m ((c.tc : Thread Cert.Kernel5Ideal.nD Cert.Kernel5Ideal.τ).loc Cert.Kernel5Ideal.main_arg8))
  rw [Cert.Kernel5Ideal.Hand.final_arr (m := m) (c := c) ⟨h0, h1, h2, h3, h4, h5, h6, h7, h8⟩]
  funext i
  exact Cert.Reference5Ideal.Hand.result_apply h0 h1 h2 h3 h4 h5 h6 h7 h8 i

end Cert.StepMerge
end
-- ==== Proof.ProjFrame.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! The input projection's idealized kernel, over any float values: the launch up to the call, the blocks of a grid point, what the body leaves in
    each result's block, and the run. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the call -/

/-- The buffers of core `c` when the call is entered: after the host operations before it. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- The program up to the call: the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the call writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the call writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the call writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the call writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the call writes `main_arg4`: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the call writes `main_arg5`: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the call writes `main_arg6`: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the call writes `main_arg7`: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the call writes `main_arg8`: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- The block of window `w` at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of input window 0 holds its block at every grid point, for any proof data that starts from the arrays as the call finds
    them and whose body leaves that block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of input window 1 holds its block at every grid point, for any proof data that starts from the arrays as the call finds
    them and whose body leaves that block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of input window 2 holds its block at every grid point, for any proof data that starts from the arrays as the call finds
    them and whose body leaves that block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer of input window 3 holds its block at every grid point, for any proof data that starts from the arrays as the call finds
    them and whose body leaves that block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The buffer of input window 4 holds its block at every grid point, for any proof data that starts from the arrays as the call finds
    them and whose body leaves that block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The buffer of input window 5 holds its block at every grid point, for any proof data that starts from the arrays as the call finds
    them and whose body leaves that block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The buffer of input window 6 holds its block at every grid point, for any proof data that starts from the arrays as the call finds
    them and whose body leaves that block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The buffer of input window 7 holds its block at every grid point, for any proof data that starts from the arrays as the call finds
    them and whose body leaves that block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- The buffer of input window 8 holds its block at every grid point, for any proof data that starts from the arrays as the call finds
    them and whose body leaves that block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- The buffer of input window 9 holds its block at every grid point, for any proof data that starts from the arrays as the call finds
    them and whose body leaves that block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- The buffer of input window 10 holds its block at every grid point, for any proof data that starts from the arrays as the call finds
    them and whose body leaves that block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- The buffer of input window 11 holds its block at every grid point, for any proof data that starts from the arrays as the call finds
    them and whose body leaves that block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- The buffer of input window 12 holds its block at every grid point, for any proof data that starts from the arrays as the call finds
    them and whose body leaves that block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- The buffer of input window 13 holds its block at every grid point, for any proof data that starts from the arrays as the call finds
    them and whose body leaves that block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- The buffer of input window 14 holds its block at every grid point, for any proof data that starts from the arrays as the call finds
    them and whose body leaves that block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- The buffer of input window 15 holds its block at every grid point, for any proof data that starts from the arrays as the call finds
    them and whose body leaves that block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

set_option maxHeartbeats 1560000 in
/-- From a run that leaves every array as the proof data say: the nine argument arrays end unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The rectangles that the body reads and writes -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S1024x1920 := Rect.unit (s := S1024x1920) ![0, 0] S1024x1920.size inb_S1024x1920_S1024x1920_0_0
abbrev r0_4 : Rect S512x512 := Rect.unit (s := S512x512) ![0, 0] S512x512.size inb_S512x512_S512x512_0_0
abbrev r0_5 : Rect S512x128 := Rect.unit (s := S512x128) ![0, 0] S512x128.size inb_S512x128_S512x128_0_0
abbrev r0_6 : Rect S1x256 := Rect.unit (s := S1x256) ![0, 0] S1x256.size inb_S1x256_S1x256_0_0
abbrev r0_7 : Rect S256x512 := Rect.unit (s := S256x512) ![0, 0] S256x512.size inb_S256x512_S256x512_0_0
abbrev r0_8 : Rect S4x128x128 := Rect.unit (s := S4x128x128) ![0, 0, 0] S1x128x128.size inb_S4x128x128_S1x128x128_0_0_0
abbrev r0_9 : Rect S512x1024 := Rect.unit (s := S512x1024) ![0, 0] S512x128.size inb_S512x1024_S512x128_0_0
abbrev r0_10 : Rect S512x1024 := Rect.unit (s := S512x1024) ![0, 128] S512x128.size inb_S512x1024_S512x128_0_128
abbrev r0_11 : Rect S4x128x128 := Rect.unit (s := S4x128x128) ![1, 0, 0] S1x128x128.size inb_S4x128x128_S1x128x128_1_0_0
abbrev r0_12 : Rect S512x1024 := Rect.unit (s := S512x1024) ![0, 256] S512x128.size inb_S512x1024_S512x128_0_256
abbrev r0_13 : Rect S512x1024 := Rect.unit (s := S512x1024) ![0, 384] S512x128.size inb_S512x1024_S512x128_0_384
abbrev r0_14 : Rect S4x128x128 := Rect.unit (s := S4x128x128) ![2, 0, 0] S1x128x128.size inb_S4x128x128_S1x128x128_2_0_0
abbrev r0_15 : Rect S512x1024 := Rect.unit (s := S512x1024) ![0, 512] S512x128.size inb_S512x1024_S512x128_0_512
abbrev r0_16 : Rect S512x1024 := Rect.unit (s := S512x1024) ![0, 640] S512x128.size inb_S512x1024_S512x128_0_640
abbrev r0_17 : Rect S4x128x128 := Rect.unit (s := S4x128x128) ![3, 0, 0] S1x128x128.size inb_S4x128x128_S1x128x128_3_0_0
abbrev r0_18 : Rect S512x1024 := Rect.unit (s := S512x1024) ![0, 768] S512x128.size inb_S512x1024_S512x128_0_768
abbrev r0_19 : Rect S512x1024 := Rect.unit (s := S512x1024) ![0, 896] S512x128.size inb_S512x1024_S512x128_0_896
abbrev r0_20 : Rect S960x1024 := Rect.unit (s := S960x1024) ![0, 0] S960x1024.size inb_S960x1024_S960x1024_0_0
abbrev r0_21 : Rect S1x512x512 := Rect.unit (s := S1x512x512) ![0, 0, 0] S1x512x512.size inb_S1x512x512_S1x512x512_0_0_0
abbrev r0_22 : Rect S1x256x512 := Rect.unit (s := S1x256x512) ![0, 0, 0] S1x256x512.size inb_S1x256x512_S1x256x512_0_0_0
abbrev r0_23 : Rect S1x768x512 := Rect.unit (s := S1x768x512) ![0, 0, 0] S1x768x512.size inb_S1x768x512_S1x768x512_0_0_0
abbrev r0_24 : Rect S128x1 := Rect.unit (s := S128x1) ![0, 0] S128x1.size inb_S128x1_S128x1_0_0
abbrev r0_25 : Rect S32x512 := Rect.unit (s := S32x512) ![0, 0] S32x512.size inb_S32x512_S32x512_0_0
abbrev r0_26 : Rect S1x192x512 := Rect.unit (s := S1x192x512) ![0, 0, 0] S1x192x512.size inb_S1x192x512_S1x192x512_0_0_0

/-! ## What the body leaves in each output window's buffer -/

/-! ### Values of the body that several results use -/

def k0_pay31 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : FVec F S512x1024 .bf16 :=
  k0_pay3 (View.ld x0 r0_0) (View.ld x3 r0_1) (View.ld x2 r0_2) (View.ld x1 r0_2)
def k0_pay32 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : FVec F S512x1920 .f32 :=
  k0_pay4 (View.ld x0 r0_0) (View.ld x3 r0_1) (View.ld x2 r0_2) (View.ld x1 r0_2) (View.ld x4 r0_3)
def k0_pay33 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : FVec F S512x512 .f32 :=
  k0_pay11 (k0_pay32 x0 x1 x2 x3 x4 x5 x6 x7 x8 x9 x10 x11 x12 x13 x14 x15) (View.ld x6 r0_6) (View.ld x7 r0_7)
def k0_pay34 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : FVec F S512x512 .f32 :=
  k0_pay12 (k0_pay32 x0 x1 x2 x3 x4 x5 x6 x7 x8 x9 x10 x11 x12 x13 x14 x15) (View.ld x6 r0_6) (View.ld x8 r0_7)
def k0_pay35 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : FVec F S512x512 .f32 :=
  k0_pay13 (k0_pay32 x0 x1 x2 x3 x4 x5 x6 x7 x8 x9 x10 x11 x12 x13 x14 x15) (View.ld x6 r0_6) (View.ld x9 r0_7)
def k0_pay36 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : FVec F S512x512 .f32 :=
  k0_pay14 (View.ld x12 r0_5)
def k0_pay37 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : FVec F S512x512 .f32 :=
  k0_pay15 (k0_pay34 x0 x1 x2 x3 x4 x5 x6 x7 x8 x9 x10 x11 x12 x13 x14 x15) (k0_pay35 x0 x1 x2 x3 x4 x5 x6 x7 x8 x9 x10 x11 x12 x13 x14 x15) (k0_pay36 x0 x1 x2 x3 x4 x5 x6 x7 x8 x9 x10 x11 x12 x13 x14 x15) (View.ld x13 r0_5)
def k0_pay38 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : FVec F S960x512 .f32 :=
  k0_pay25 (k0_pay31 x0 x1 x2 x3 x4 x5 x6 x7 x8 x9 x10 x11 x12 x13 x14 x15) (View.ld x5 r0_20)
def k0_pay39 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : FVec F S192x512 .f32 :=
  k0_pay30 (k0_pay38 x0 x1 x2 x3 x4 x5 x6 x7 x8 x9 x10 x11 x12 x13 x14 x15) (View.ld x11 r0_24) (View.ld x14 r0_25) (View.ld x15 r0_25)

/-- What the body leaves in the buffer of result window 16, from the input windows' blocks: its stores, the last one first. -/
def out0_16 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : Vec F S512x512 .bf16 :=
  View.canon [⟨r0_4, k0_pay5 (View.ld x0 r0_0) (View.ld x3 r0_1) (View.ld x2 r0_2) (View.ld x1 r0_2) (View.ld x4 r0_3)⟩]

/-- The stores fill the whole buffer. -/
theorem cover0_16 (p0 : Vec F S512x512 .bf16) (y : S512x512.Idx) :
    ∃ pc ∈ ([⟨r0_4, p0⟩] : List (View.Piece (Elt F) S512x512 .bf16)), y ∈ pc.1.set :=
  View.cover_of_tiled [⟨r0_4, p0⟩] S512x512.size (by rfl) y

/-- What the body leaves in the buffer of result window 17, from the input windows' blocks: its stores, the last one first. -/
def out0_17 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : Vec F S512x128 .f32 :=
  View.canon [⟨r0_5, k0_pay9 (k0_pay32 x0 x1 x2 x3 x4 x5 x6 x7 x8 x9 x10 x11 x12 x13 x14 x15)⟩]

/-- The stores fill the whole buffer. -/
theorem cover0_17 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

/-- What the body leaves in the buffer of result window 18, from the input windows' blocks: its stores, the last one first. -/
def out0_18 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : Vec F S512x512 .f32 :=
  View.canon [⟨r0_4, k0_pay7 (View.ld x0 r0_0) (View.ld x3 r0_1) (View.ld x2 r0_2) (View.ld x1 r0_2) (View.ld x4 r0_3)⟩]

/-- The stores fill the whole buffer. -/
theorem cover0_18 (p0 : Vec F S512x512 .f32) (y : S512x512.Idx) :
    ∃ pc ∈ ([⟨r0_4, p0⟩] : List (View.Piece (Elt F) S512x512 .f32)), y ∈ pc.1.set :=
  View.cover_of_tiled [⟨r0_4, p0⟩] S512x512.size (by rfl) y

/-- What the body leaves in the buffer of result window 19, from the input windows' blocks: its stores, the last one first. -/
def out0_19 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : Vec F S512x512 .f32 :=
  View.canon [⟨r0_4, k0_pay8 (k0_pay6 (View.ld x0 r0_0) (View.ld x3 r0_1) (View.ld x2 r0_2) (View.ld x1 r0_2) (View.ld x4 r0_3))⟩]

/-- The stores fill the whole buffer. -/
theorem cover0_19 (p0 : Vec F S512x512 .f32) (y : S512x512.Idx) :
    ∃ pc ∈ ([⟨r0_4, p0⟩] : List (View.Piece (Elt F) S512x512 .f32)), y ∈ pc.1.set :=
  View.cover_of_tiled [⟨r0_4, p0⟩] S512x512.size (by rfl) y

/-- What the body leaves in the buffer of result window 20, from the input windows' blocks: its stores, the last one first. -/
def out0_20 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : Vec F S512x1024 .bf16 :=
  View.canon [⟨r0_19, k0_pay24 (k0_pay37 x0 x1 x2 x3 x4 x5 x6 x7 x8 x9 x10 x11 x12 x13 x14 x15)⟩,
    ⟨r0_18, k0_pay23 (k0_pay33 x0 x1 x2 x3 x4 x5 x6 x7 x8 x9 x10 x11 x12 x13 x14 x15) (View.ld x10 r0_17)⟩,
    ⟨r0_16, k0_pay22 (k0_pay37 x0 x1 x2 x3 x4 x5 x6 x7 x8 x9 x10 x11 x12 x13 x14 x15)⟩,
    ⟨r0_15, k0_pay21 (k0_pay20 (k0_pay33 x0 x1 x2 x3 x4 x5 x6 x7 x8 x9 x10 x11 x12 x13 x14 x15)) (View.ld x10 r0_14)⟩,
    ⟨r0_13, k0_pay19 (k0_pay34 x0 x1 x2 x3 x4 x5 x6 x7 x8 x9 x10 x11 x12 x13 x14 x15) (k0_pay35 x0 x1 x2 x3 x4 x5 x6 x7 x8 x9 x10 x11 x12 x13 x14 x15) (k0_pay36 x0 x1 x2 x3 x4 x5 x6 x7 x8 x9 x10 x11 x12 x13 x14 x15) (View.ld x13 r0_5)⟩,
    ⟨r0_12, k0_pay18 (k0_pay33 x0 x1 x2 x3 x4 x5 x6 x7 x8 x9 x10 x11 x12 x13 x14 x15) (View.ld x10 r0_11)⟩,
    ⟨r0_10, k0_pay17 (k0_pay34 x0 x1 x2 x3 x4 x5 x6 x7 x8 x9 x10 x11 x12 x13 x14 x15) (k0_pay35 x0 x1 x2 x3 x4 x5 x6 x7 x8 x9 x10 x11 x12 x13 x14 x15) (k0_pay36 x0 x1 x2 x3 x4 x5 x6 x7 x8 x9 x10 x11 x12 x13 x14 x15) (View.ld x13 r0_5)⟩,
    ⟨r0_9, k0_pay16 (k0_pay33 x0 x1 x2 x3 x4 x5 x6 x7 x8 x9 x10 x11 x12 x13 x14 x15) (View.ld x10 r0_8)⟩]

/-- The stores fill the whole buffer. -/
theorem cover0_20 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_19, p0⟩, ⟨r0_18, p1⟩, ⟨r0_16, p2⟩, ⟨r0_15, p3⟩, ⟨r0_13, p4⟩, ⟨r0_12, p5⟩, ⟨r0_10, p6⟩, ⟨r0_9, p7⟩] : List (View.Piece (Elt F) S512x1024 .bf16)), y ∈ pc.1.set :=
  View.cover_of_tiled [⟨r0_19, p0⟩, ⟨r0_18, p1⟩, ⟨r0_16, p2⟩, ⟨r0_15, p3⟩, ⟨r0_13, p4⟩, ⟨r0_12, p5⟩, ⟨r0_10, p6⟩, ⟨r0_9, p7⟩] S512x128.size (by rfl) y

/-- What the body leaves in the buffer of result window 21, from the input windows' blocks: its stores, the last one first. -/
def out0_21 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : Vec F S1x512x512 .f32 :=
  View.canon [⟨r0_21, k0_pay27 (k0_pay26 (k0_pay31 x0 x1 x2 x3 x4 x5 x6 x7 x8 x9 x10 x11 x12 x13 x14 x15) (View.ld x5 r0_20))⟩]

/-- The stores fill the whole buffer. -/
theorem cover0_21 (p0 : Vec F S1x512x512 .f32) (y : S1x512x512.Idx) :
    ∃ pc ∈ ([⟨r0_21, p0⟩] : List (View.Piece (Elt F) S1x512x512 .f32)), y ∈ pc.1.set :=
  View.cover_of_tiled [⟨r0_21, p0⟩] S1x512x512.size (by rfl) y

/-- What the body leaves in the buffer of result window 22, from the input windows' blocks: its stores, the last one first. -/
def out0_22 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : Vec F S1x256x512 .f32 :=
  View.canon [⟨r0_22, k0_pay28 (k0_pay38 x0 x1 x2 x3 x4 x5 x6 x7 x8 x9 x10 x11 x12 x13 x14 x15)⟩]

/-- The stores fill the whole buffer. -/
theorem cover0_22 (p0 : Vec F S1x256x512 .f32) (y : S1x256x512.Idx) :
    ∃ pc ∈ ([⟨r0_22, p0⟩] : List (View.Piece (Elt F) S1x256x512 .f32)), y ∈ pc.1.set :=
  View.cover_of_tiled [⟨r0_22, p0⟩] S1x256x512.size (by rfl) y

/-- What the body leaves in the buffer of result window 23, from the input windows' blocks: its stores, the last one first. -/
def out0_23 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : Vec F S1x768x512 .bf16 :=
  View.canon [⟨r0_23, k0_pay29 (k0_pay38 x0 x1 x2 x3 x4 x5 x6 x7 x8 x9 x10 x11 x12 x13 x14 x15)⟩]

/-- The stores fill the whole buffer. -/
theorem cover0_23 (p0 : Vec F S1x768x512 .bf16) (y : S1x768x512.Idx) :
    ∃ pc ∈ ([⟨r0_23, p0⟩] : List (View.Piece (Elt F) S1x768x512 .bf16)), y ∈ pc.1.set :=
  View.cover_of_tiled [⟨r0_23, p0⟩] S1x768x512.size (by rfl) y

/-- What the body leaves in the buffer of result window 24, from the input windows' blocks: its stores, the last one first. -/
def out0_24 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : Vec F S1x192x512 .f32 :=
  View.canon [⟨r0_26, k0_pay1 (k0_pay39 x0 x1 x2 x3 x4 x5 x6 x7 x8 x9 x10 x11 x12 x13 x14 x15)⟩]

/-- The stores fill the whole buffer. -/
theorem cover0_24 (p0 : Vec F S1x192x512 .f32) (y : S1x192x512.Idx) :
    ∃ pc ∈ ([⟨r0_26, p0⟩] : List (View.Piece (Elt F) S1x192x512 .f32)), y ∈ pc.1.set :=
  View.cover_of_tiled [⟨r0_26, p0⟩] S1x192x512.size (by rfl) y

/-- What the body leaves in the buffer of result window 25, from the input windows' blocks: its stores, the last one first. -/
def out0_25 (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) : Vec F S1x256x512 .bf16 :=
  View.canon [⟨r0_22, k0_pay2 (k0_pay39 x0 x1 x2 x3 x4 x5 x6 x7 x8 x9 x10 x11 x12 x13 x14 x15)⟩]

/-- The stores fill the whole buffer. -/
theorem cover0_25 (p0 : Vec F S1x256x512 .bf16) (y : S1x256x512.Idx) :
    ∃ pc ∈ ([⟨r0_22, p0⟩] : List (View.Piece (Elt F) S1x256x512 .bf16)), y ∈ pc.1.set :=
  View.cover_of_tiled [⟨r0_22, p0⟩] S1x256x512.size (by rfl) y

/-! ## The body's run -/

set_option maxHeartbeats 1000000 in
/-- The kernel's body on whole buffers: from the inputs' contents and any contents of the results it runs to its end, leaves the inputs,
    and leaves in each result's buffer what `out0_16` … `out0_25` say. -/
theorem sound_kernel (c : Dev nD) (E : Set ℕ) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x1920 .bf16) (harg5 : arg5.IsWhole) (arg6 : Memref sig .tc .vmem S960x1024 .bf16) (harg6 : arg6.IsWhole) (arg7 : Memref sig .tc .vmem S1x256 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S4x128x128 .bf16) (harg11 : arg11.IsWhole) (arg12 : Memref sig .tc .vmem S128x1 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S512x512 .bf16) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x1024 .bf16) (harg21 : arg21.IsWhole) (arg22 : Memref sig .tc .vmem S1x512x512 .f32) (harg22 : arg22.IsWhole) (arg23 : Memref sig .tc .vmem S1x256x512 .f32) (harg23 : arg23.IsWhole) (arg24 : Memref sig .tc .vmem S1x768x512 .bf16) (harg24 : arg24.IsWhole) (arg25 : Memref sig .tc .vmem S1x192x512 .f32) (harg25 : arg25.IsWhole) (arg26 : Memref sig .tc .vmem S1x256x512 .bf16) (harg26 : arg26.IsWhole)
    (x0 : Vec F S512x1024 .f32) (x1 : Vec F S1x1x1024 .f32) (x2 : Vec F S1x1x1024 .f32) (x3 : Vec F S1x1024 .f32) (x4 : Vec F S1024x1920 .bf16) (x5 : Vec F S960x1024 .bf16) (x6 : Vec F S1x256 .f32) (x7 : Vec F S256x512 .bf16) (x8 : Vec F S256x512 .bf16) (x9 : Vec F S256x512 .bf16) (x10 : Vec F S4x128x128 .bf16) (x11 : Vec F S128x1 .f32) (x12 : Vec F S512x128 .f32) (x13 : Vec F S512x128 .f32) (x14 : Vec F S32x512 .f32) (x15 : Vec F S32x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15) ∗ owns (c : Thread nD τ) arg18 fullShare (out0_17 x0 x1 x2 x3 x4 x5 x6 x7 x8 x9 x10 x11 x12 x13 x14 x15) ∗ owns (c : Thread nD τ) arg19 fullShare (out0_18 x0 x1 x2 x3 x4 x5 x6 x7 x8 x9 x10 x11 x12 x13 x14 x15) ∗ owns (c : Thread nD τ) arg20 fullShare (out0_19 x0 x1 x2 x3 x4 x5 x6 x7 x8 x9 x10 x11 x12 x13 x14 x15) ∗ owns (c : Thread nD τ) arg21 fullShare (out0_20 x0 x1 x2 x3 x4 x5 x6 x7 x8 x9 x10 x11 x12 x13 x14 x15) ∗ owns (c : Thread nD τ) arg22 fullShare (out0_21 x0 x1 x2 x3 x4 x5 x6 x7 x8 x9 x10 x11 x12 x13 x14 x15) ∗ owns (c : Thread nD τ) arg23 fullShare (out0_22 x0 x1 x2 x3 x4 x5 x6 x7 x8 x9 x10 x11 x12 x13 x14 x15) ∗ owns (c : Thread nD τ) arg24 fullShare (out0_23 x0 x1 x2 x3 x4 x5 x6 x7 x8 x9 x10 x11 x12 x13 x14 x15) ∗ owns (c : Thread nD τ) arg25 fullShare (out0_24 x0 x1 x2 x3 x4 x5 x6 x7 x8 x9 x10 x11 x12 x13 x14 x15) ∗ owns (c : Thread nD τ) arg26 fullShare (out0_25 x0 x1 x2 x3 x4 x5 x6 x7 x8 x9 x10 x11 x12 x13 x14 x15)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_in_proj_eq_skeleton]; unfold cc0_in_proj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _ _ _ _ _ _ _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  iexists _; isplitr
  swap; · iexact H25
  ipureintro
  refine (View.read_writes_eq_canon _ _ _ (cover0_25 _)).trans ?_
  rfl

/-! ## The pipeline's proof data -/

/-- The proof data of the call on core `c`: the arrays as the call finds them; after the body at grid point `t` each input's buffer at
    its block and each result's buffer at its `out0_…` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 26, h⟩ => absurd h (Nat.not_lt.2 (Nat.le_add_left _ _))
  Φ _ := Pipeline.ΦA spec0 c
  q _ := fullShare
  owed _ := 0

/-- The proof data's arrays are the arrays as the call finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's buffer holds its block at every grid point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body at a grid point -/

/-- What the body is given at grid point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

set_option maxHeartbeats 4000000 in
/-- The body at any grid point: the inputs hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body that grid point `t` calls. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body does at every grid point what the proof data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run leaves every array as the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values and any memory, the run leaves every array of the call as the proof data say and every other buffer as the call found it. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the nine argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the program runs to its end, leaves its nine arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel2Ideal.Gen

end
-- ==== Proof.ProjKernelFrame.lean ====
module

public import proofs.«01_k».proof.Proof.ProjFrame
public import proofs.«01_k».proof.Proof.Gen.Kernel2
public import proofs.«01_k».proof.Defs

/-! The input projection's kernel has the same text as its idealized form: its frame is that one's, read at the float words. -/

@[expose] public section

open Idealize Idealize.ShloMosaic

-- the two tables of bodies agree only when the choice of a body by its label is unfolded too
set_option smartUnfolding false in
set_option maxHeartbeats 4000000 in
/-- The kernel runs to its end, leaves its arguments unchanged and every semaphore counter at zero. -/
theorem Cert.Proj.kernel_frame : Cert.quiescent_Kernel2 (hKernel2 := Cert.Kernel2.Gen.facts) :=
  fun m g _ => Cert.Kernel2Ideal.Gen.frame (F := Bits) m g

end
-- ==== Proof.ProjBlock.lean ====
/-
  One block of the input projection: the modulated rows through the two weight matrices, the query's latent part normalised and taken
  through its three matrices, the rotary part of the queries, and the feature-major rows of the sparse attention's and the latent
  attention's keys.
-/
module

public import proofs.«01_k».proof.Proof.Entries
public import proofs.«01_k».proof.Proof.ProjFrame
public import Idealize.ShloMosaic.Lib.WordCmp

@[expose] public section

set_option maxRecDepth 16384

noncomputable section

namespace Cert.Proj

open Cert.Ent
open Idealize.ShloMosaic
open scoped BigOperators

/-- A row normalised by its mean square, times the gains. -/
def normed (l : BitVec 32) (n : ℕ) (v g : ℕ → EReal) (k : ℕ) : EReal := v k * rms l 0x358637BD#32 n v * g k

/-- The modulated row. -/
def hidden (x g sc sh : ℕ → EReal) (k : ℕ) : EReal :=
  normed 0x44800000#32 1024 x g k * (FloatOps.ofBits (F := Ideal) .f32 0x3F800000#32 + sc k) + sh k

/-- A row times a matrix with `n` rows. -/
def mul (n : ℕ) (v : ℕ → EReal) (w : ℕ → ℕ → EReal) (c : ℕ) : EReal := ∑ k ∈ Finset.range n, v k * w k c

def sig (x : EReal) : EReal := FloatOps.logistic (F := Ideal) (φ := .f32) x

def silu (x : EReal) : EReal := x * sig x

/-- The scale of the scores. -/
def sc : EReal := FloatOps.ofBits (F := Ideal) .f32 0x3D93CD3A#32

/-- A row of the packed queries: a head's latent part and its rotary part, scaled. -/
def packed (q ro : ℕ → EReal) (wuk : ℕ → ℕ → ℕ → EReal) (c : ℕ) : EReal :=
  if c % 256 < 128 then (∑ n ∈ Finset.range 128, q (128 * (c / 256) + n) * wuk (c / 256) n (c % 256)) * sc
  else ro (128 * (c / 256) + (c % 256 - 128)) * sc

/-- A latent row of the keys: the normalised part and the two halves of the rotary part. -/
def latent (u g co si : ℕ → EReal) (d : ℕ) : EReal :=
  if d < 128 then normed 0x43000000#32 128 (fun k => u (768 + k)) g d
  else if d < 160 then u (896 + (d - 128)) * co (d - 128) - u (896 + (32 + (d - 128))) * si (d - 128)
  else u (896 + (d - 160)) * si (d - 160) + u (896 + (32 + (d - 160))) * co (d - 160)

/-- The latent row with a one and zeros after it. -/
def latentOne (m : ℕ → EReal) (d : ℕ) : EReal :=
  if d < 192 then m d else if d = 192 then FloatOps.ofBits (F := Ideal) .f32 0x3F800000#32 else FloatOps.ofBits (F := Ideal) .f32 0x00000000#32

end Cert.Proj

namespace Cert.Kernel2Ideal.Hand

open Cert.Kernel2Ideal Cert.Kernel2Ideal.Gen Cert.Ent Cert.Proj
open Idealize.ShloMosaic Idealize.ShloMosaic.ValueIdx
open scoped BigOperators

/-! ## The values the body computes -/

theorem hidden_apply {v0 : Vec Ideal S512x1024 .f32} {v12 : Vec Ideal S1x1024 .f32} {v16 v22 : Vec Ideal S1x1x1024 .f32}
    {X G : ℕ → ℕ → EReal} {SC SH : ℕ → ℕ → ℕ → EReal}
    (h0 : Ent2 (a := 512) (b := 1024) v0 X) (h12 : Ent2 (a := 1) (b := 1024) v12 G)
    (h16 : Ent3 (a := 1) (b := 1) (c := 1024) v16 SC) (h22 : Ent3 (a := 1) (b := 1) (c := 1024) v22 SH) :
    Ent2 (a := 512) (b := 1024) (k0_pay3 v0 v12 v16 v22) fun r => hidden (X r) (G 0) (SC 0 0) (SH 0 0) := by
  intro y
  have c0 := cast22 (a := 512) (b := 1024) h0 shapeCasts_S512x1024_S512x1024
  have hs : Ent2 (a := 1) (b := 1024) (addf (F := Ideal) (broadcast S1x1024 (Scalar.ofBits .f32 0x3F800000#32))
      (shapeCast S1x1024 v16 shapeCasts_S1x1x1024_S1x1024)) fun _ k => FloatOps.ofBits (F := Ideal) .f32 0x3F800000#32 + SC 0 0 k := fun z => by
    have z0 : (z 0).val = 0 := by have : (z 0).val < 1 := (z 0).isLt; omega
    refine congrArg (fun a : EReal => FloatOps.ofBits (F := Ideal) .f32 0x3F800000#32 + a)
      ((cast32 (a := 1) (b := 1024) h16 shapeCasts_S1x1x1024_S1x1024 z).trans ?_)
    rw [z0]
  exact congrArg₂ (fun a b : EReal => a + b) (congrArg₂ (fun a b : EReal => a * b)
    (congrArg₂ (fun a b : EReal => a * b) (congrArg₂ (fun a b : EReal => a * b) (c0 y)
      (rmsRow (a := 512) (b := 1024) c0 0x44800000#32 0x358637BD#32 reduces_S512x1024_S512 (.inl rfl) rfl shapeCasts_S512_S512x1 broadcasts_S512x1_S512x1024 y))
      (rows2 (a := 512) (b := 1024) (cast22 (a := 1) (b := 1024) h12 shapeCasts_S1x1024_S1x1024) broadcasts_S1x1024_S512x1024 y))
    (rows2 (a := 512) (b := 1024) hs broadcasts_S1x1024_S512x1024 y))
    (rows2 (a := 512) (b := 1024) (cast32 (a := 1) (b := 1024) h22 shapeCasts_S1x1x1024_S1x1024) broadcasts_S1x1024_S512x1024 y)

theorem wide_apply {v : FVec Ideal S512x1024 .bf16} {w : FVec Ideal S1024x1920 .bf16} {H W : ℕ → ℕ → EReal}
    (hv : Ent2 (a := 512) (b := 1024) v H) (hw : Ent2 (a := 1024) (b := 1920) w W) :
    Ent2 (a := 512) (b := 1920) (matmul dot_S512x1024_S1024x1920_S512x1920_1_0_0_1_n_n none v
      (shapeCast S1024x1920 w shapeCasts_S1024x1920_S1024x1920) (constant S512x1920 .f32 0x00000000#32)) fun r => mul 1024 (H r) W := by
  intro y
  exact dot (a := 512) (b := 1024) (c := 1920) (φ₁ := .bf16) (φ₂ := .bf16) hv (cast22 (a := 1024) (b := 1920) hw shapeCasts_S1024x1920_S1024x1920) none y

theorem tall_apply {v : FVec Ideal S512x1024 .bf16} {w : Vec Ideal S960x1024 .bf16} {H W : ℕ → ℕ → EReal}
    (hv : Ent2 (a := 512) (b := 1024) v H) (hw : Ent2 (a := 960) (b := 1024) w W) :
    Ent2 (a := 960) (b := 512) (k0_pay25 v w) fun c r => ∑ k ∈ Finset.range 1024, W c k * H r k := by
  intro y
  exact dotT (a := 960) (b := 1024) (c := 512) (φ₁ := .bf16) (φ₂ := .bf16) (cast22 (a := 960) (b := 1024) hw shapeCasts_S960x1024_S960x1024) hv none y

theorem latentQuery_apply {v29 : FVec Ideal S512x1920 .f32} {v55 : Vec Ideal S1x256 .f32} {U G : ℕ → ℕ → EReal}
    (h29 : Ent2 (a := 512) (b := 1920) v29 U) (h55 : Ent2 (a := 1) (b := 256) v55 G) :
    Ent2 (a := 512) (b := 256) (k0_pay10 v29 v55) fun r => normed 0x43800000#32 256 (fun k => U r (1536 + k)) (G 0) := by
  intro y
  have s : Ent2 (a := 512) (b := 256) (extractStridedSlice S512x256 ![0, 1536] v29 slices_S512x1920_o0_1536_S512x256) fun r k => U r (1536 + k) := fun z => by
    refine (slice2 (a := 512) (b := 1920) (c := 512) (d := 256) h29 slices_S512x1920_o0_1536_S512x256 z).trans ?_
    beta_reduce
    rw [Nat.zero_add]
  exact congrArg₂ (fun a b : EReal => a * b) (congrArg₂ (fun a b : EReal => a * b) (s y)
      (rmsRow (a := 512) (b := 256) s 0x43800000#32 0x358637BD#32 reduces_S512x256_S512 (.inl rfl) rfl shapeCasts_S512_S512x1 broadcasts_S512x1_S512x256 y))
      (rows2 (a := 512) (b := 256) (cast22 (a := 1) (b := 256) h55 shapeCasts_S1x256_S1x256) broadcasts_S1x256_S512x256 y)

theorem narrow_apply {v : FVec Ideal S512x256 .bf16} {w : FVec Ideal S256x512 .bf16} {H W : ℕ → ℕ → EReal}
    (hv : Ent2 (a := 512) (b := 256) v H) (hw : Ent2 (a := 256) (b := 512) w W) :
    Ent2 (a := 512) (b := 512) (matmul dot_S512x256_S256x512_S512x512_1_0_0_1_n_n none v
      (shapeCast S256x512 w shapeCasts_S256x512_S256x512) (constant S512x512 .f32 0x00000000#32)) fun r => mul 256 (H r) W := by
  intro y
  exact dot (a := 512) (b := 256) (c := 512) (φ₁ := .bf16) (φ₂ := .bf16) hv (cast22 (a := 256) (b := 512) hw shapeCasts_S256x512_S256x512) none y

/-- Four copies side by side. -/
theorem tiled_apply {v : Vec Ideal S512x128 .f32} {C : ℕ → ℕ → EReal} (hv : Ent2 (a := 512) (b := 128) v C) :
    Ent2 (a := 512) (b := 512) (k0_pay14 v) fun r k => C r (k % 128) := by
  intro y
  obtain ⟨r, k, rfl⟩ : ∃ (r : Fin 512) (k : Fin 512), y = ix2 r k := ⟨_, _, eq_ix2 y⟩
  have hk := k.isLt
  have hc := cast22 (a := 512) (b := 128) hv shapeCasts_S512x128_S512x128
  unfold k0_pay14
  generalize shapeCast S512x128 v shapeCasts_S512x128_S512x128 = w at hc ⊢
  show _ = C r.val (k.val % 128)
  have hq : k.val / 128 = 0 ∨ k.val / 128 = 1 ∨ k.val / 128 = 2 ∨ k.val / 128 = 3 := by omega
  rcases hq with q | q | q | q
  · have e : k.val % 128 = k.val - 0 := by omega
    refine (concatenate_apply_piece (t := S512x512) 1 _ _ _ 0 (by simp) S512x128 w rfl rfl 0 rfl (ix2 r ⟨k.val - 0, by omega⟩)
      (fun a ha => ?_) (by show 0 + (k.val - 0) = k.val; omega)).trans ?_
    · fin_cases a <;> first | rfl | exact absurd rfl ha
    refine (hc _).trans ?_
    rw [e]
  · have e : k.val % 128 = k.val - 128 := by omega
    refine (concatenate_apply_piece (t := S512x512) 1 _ _ _ 1 (by simp) S512x128 w rfl rfl 128 rfl (ix2 r ⟨k.val - 128, by omega⟩)
      (fun a ha => ?_) (by show 128 + (k.val - 128) = k.val; omega)).trans ?_
    · fin_cases a <;> first | rfl | exact absurd rfl ha
    refine (hc _).trans ?_
    rw [e]
  · have e : k.val % 128 = k.val - 256 := by omega
    refine (concatenate_apply_piece (t := S512x512) 1 _ _ _ 2 (by simp) S512x128 w rfl rfl 256 rfl (ix2 r ⟨k.val - 256, by omega⟩)
      (fun a ha => ?_) (by show 256 + (k.val - 256) = k.val; omega)).trans ?_
    · fin_cases a <;> first | rfl | exact absurd rfl ha
    refine (hc _).trans ?_
    rw [e]
  · have e : k.val % 128 = k.val - 384 := by omega
    refine (concatenate_apply_piece (t := S512x512) 1 _ _ _ 3 (by simp) S512x128 w rfl rfl 384 rfl (ix2 r ⟨k.val - 384, by omega⟩)
      (fun a ha => ?_) (by show 384 + (k.val - 384) = k.val; omega)).trans ?_
    · fin_cases a <;> first | rfl | exact absurd rfl ha
    refine (hc _).trans ?_
    rw [e]

/-- The rotary parts of the queries. -/
theorem rotary_apply {v65 v68 v71 : FVec Ideal S512x512 .f32} {v72 : Vec Ideal S512x128 .f32} {Q QS C S : ℕ → ℕ → EReal}
    (h65 : Ent2 (a := 512) (b := 512) v65 Q) (h68 : Ent2 (a := 512) (b := 512) v68 QS)
    (h71 : Ent2 (a := 512) (b := 512) v71 fun r k => C r (k % 128)) (h72 : Ent2 (a := 512) (b := 128) v72 S) :
    Ent2 (a := 512) (b := 512) (k0_pay15 v65 v68 v71 v72) fun r k => Q r k * C r (k % 128) + QS r k * S r (k % 128) := by
  intro y
  exact congrArg₂ (fun a b : EReal => a + b) (congrArg₂ (fun a b : EReal => a * b) (h65 y) (h71 y))
    (congrArg₂ (fun a b : EReal => a * b) (h68 y) (tiled_apply h72 y))

/-- A head's queries through the keys' latent projection, scaled. -/
theorem headLatent_apply (p : ℕ) (v : FVec Ideal S512x512 .f32) (w : FVec Ideal S1x128x128 .bf16) {Q : ℕ → ℕ → EReal} {W X6 : ℕ → ℕ → ℕ → EReal}
    (hv : Ent2 (a := 512) (b := 512) v Q) (hw : Ent3 (a := 1) (b := 128) (c := 128) w W) (h) (n : ℕ) (hn : W 0 = X6 n) :
    Ent2 (a := 512) (b := 128) (truncf (F := Ideal) .bf16 (mulf (matmul dot_S512x128_S128x128_S512x128_1_0_0_1_n_n none
      (truncf .bf16 (extractStridedSlice S512x128 ![0, p] v h) bitsLt_bf16_f32)
      (shapeCast S128x128 w shapeCasts_S1x128x128_S128x128) (constant S512x128 .f32 0x00000000#32))
      (broadcast S512x128 (Scalar.ofBits .f32 0x3D93CD3A#32))) bitsLt_bf16_f32)
      fun r j => (∑ d ∈ Finset.range 128, Q r (p + d) * X6 n d j) * sc := by
  have hs : Ent2 (a := 512) (b := 128) (truncf (F := Ideal) .bf16 (extractStridedSlice S512x128 ![0, p] v h) bitsLt_bf16_f32)
      fun r d => Q (0 + r) (p + d) := slice2 (a := 512) (b := 512) (c := 512) (d := 128) hv h
  intro y
  refine congrArg (fun a : EReal => a * sc) ((dot (a := 512) (b := 128) (c := 128) hs
    (cast32 (a := 128) (b := 128) hw shapeCasts_S1x128x128_S128x128) none y).trans ?_)
  beta_reduce
  rw [hn, Nat.zero_add]

/-- A head's rotary part, scaled. -/
theorem headRotary_apply (p : ℕ) (v : FVec Ideal S512x512 .f32) {Q : ℕ → ℕ → EReal} (hv : Ent2 (a := 512) (b := 512) v Q) (h) :
    Ent2 (a := 512) (b := 128) (truncf (F := Ideal) .bf16 (mulf (extractStridedSlice S512x128 ![0, p] v h)
      (broadcast S512x128 (Scalar.ofBits .f32 0x3D93CD3A#32))) bitsLt_bf16_f32) fun r j => Q r (p + j) * sc := by
  intro y
  refine congrArg (fun a : EReal => a * sc) ((slice2 (a := 512) (b := 512) (c := 512) (d := 128) hv h y).trans ?_)
  beta_reduce
  rw [Nat.zero_add]

/-- Three groups of rows, one above the other. -/
theorem stacked_apply {w0 : FVec Ideal S128x512 .f32} {w1 w2 : FVec Ideal S32x512 .f32} {A B C : ℕ → ℕ → EReal}
    (h0 : Ent2 (a := 128) (b := 512) w0 A) (h1 : Ent2 (a := 32) (b := 512) w1 B) (h2 : Ent2 (a := 32) (b := 512) w2 C) :
    Ent2 (a := 192) (b := 512) (concatenate S192x512 0 [⟨S128x512, w0⟩, ⟨S32x512, w1⟩, ⟨S32x512, w2⟩] concatenates_S128x512_S32x512_S32x512_S192x512_d0)
      fun d r => if d < 128 then A d r else if d < 160 then B (d - 128) r else C (d - 160) r := by
  intro y
  obtain ⟨d, r, rfl⟩ : ∃ (d : Fin 192) (r : Fin 512), y = ix2 d r := ⟨_, _, eq_ix2 y⟩
  have hd := d.isLt
  show _ = if d.val < 128 then A d.val r.val else if d.val < 160 then B (d.val - 128) r.val else C (d.val - 160) r.val
  by_cases k1 : d.val < 128
  · rw [if_pos k1]
    refine (concatenate_apply_piece (t := S192x512) 0 _ _ _ 0 (by simp) S128x512 w0 rfl rfl 0 rfl (ix2 ⟨d.val, k1⟩ r)
      (fun a ha => ?_) (by show 0 + d.val = d.val; omega)).trans (h0 _)
    fin_cases a <;> first | rfl | exact absurd rfl ha
  rw [if_neg k1]
  by_cases k2 : d.val < 160
  · rw [if_pos k2]
    refine (concatenate_apply_piece (t := S192x512) 0 _ _ _ 1 (by simp) S32x512 w1 rfl rfl 128 rfl (ix2 ⟨d.val - 128, by omega⟩ r)
      (fun a ha => ?_) (by show 128 + (d.val - 128) = d.val; omega)).trans (h1 _)
    fin_cases a <;> first | rfl | exact absurd rfl ha
  · rw [if_neg k2]
    refine (concatenate_apply_piece (t := S192x512) 0 _ _ _ 2 (by simp) S32x512 w2 rfl rfl 160 rfl (ix2 ⟨d.val - 160, by omega⟩ r)
      (fun a ha => ?_) (by show 160 + (d.val - 160) = d.val; omega)).trans (h2 _)
    fin_cases a <;> first | rfl | exact absurd rfl ha

/-- Two groups of rows, one above the other. -/
theorem below_apply {w0 : FVec Ideal S192x512 .f32} {w1 : FVec Ideal S64x512 .f32} {A B : ℕ → ℕ → EReal}
    (h0 : Ent2 (a := 192) (b := 512) w0 A) (h1 : Ent2 (a := 64) (b := 512) w1 B) :
    Ent2 (a := 256) (b := 512) (concatenate S256x512 0 [⟨S192x512, w0⟩, ⟨S64x512, w1⟩] concatenates_S192x512_S64x512_S256x512_d0)
      fun d r => if d < 192 then A d r else B (d - 192) r := by
  intro y
  obtain ⟨d, r, rfl⟩ : ∃ (d : Fin 256) (r : Fin 512), y = ix2 d r := ⟨_, _, eq_ix2 y⟩
  have hd := d.isLt
  show _ = if d.val < 192 then A d.val r.val else B (d.val - 192) r.val
  by_cases k1 : d.val < 192
  · rw [if_pos k1]
    refine (concatenate_apply_piece (t := S256x512) 0 _ _ _ 0 (by simp) S192x512 w0 rfl rfl 0 rfl (ix2 ⟨d.val, k1⟩ r)
      (fun a ha => ?_) (by show 0 + d.val = d.val; omega)).trans (h0 _)
    fin_cases a <;> first | rfl | exact absurd rfl ha
  · rw [if_neg k1]
    refine (concatenate_apply_piece (t := S256x512) 0 _ _ _ 1 (by simp) S64x512 w1 rfl rfl 192 rfl (ix2 ⟨d.val - 192, by omega⟩ r)
      (fun a ha => ?_) (by show 192 + (d.val - 192) = d.val; omega)).trans (h1 _)
    fin_cases a <;> first | rfl | exact absurd rfl ha

/-- The latent rows of the keys, feature-major. -/
theorem latent_apply {v136 : FVec Ideal S960x512 .f32} {v161 : Vec Ideal S128x1 .f32} {v168 v170 : Vec Ideal S32x512 .f32} {U G C S : ℕ → ℕ → EReal}
    (h136 : Ent2 (a := 960) (b := 512) v136 U) (h161 : Ent2 (a := 128) (b := 1) v161 G)
    (h168 : Ent2 (a := 32) (b := 512) v168 C) (h170 : Ent2 (a := 32) (b := 512) v170 S) :
    Ent2 (a := 192) (b := 512) (k0_pay30 v136 v161 v168 v170) fun d r => latent (fun c => U c r) (fun k => G k 0) (fun j => C j r) (fun j => S j r) d := by
  have s : Ent2 (a := 128) (b := 512) (extractStridedSlice S128x512 ![768, 0] v136 slices_S960x512_o768_0_S128x512) fun k r => U (768 + k) r := fun z => by
    refine (slice2 (a := 960) (b := 512) (c := 128) (d := 512) h136 slices_S960x512_o768_0_S128x512 z).trans ?_
    beta_reduce
    rw [Nat.zero_add]
  have hn : Ent2 (a := 128) (b := 512) (mulf (F := Ideal) (mulf (extractStridedSlice S128x512 ![768, 0] v136 slices_S960x512_o768_0_S128x512)
      (broadcastTo S128x512 (rsqrt (addf (divf (shapeCast S1x512 (multiReduction .add [0] S512
        (mulf (extractStridedSlice S128x512 ![768, 0] v136 slices_S960x512_o768_0_S128x512) (extractStridedSlice S128x512 ![768, 0] v136 slices_S960x512_o768_0_S128x512))
        0x00000000#32 reduces_S128x512_S512 (.inl rfl) rfl) shapeCasts_S512_S1x512)
      (broadcast S1x512 (Scalar.ofBits .f32 0x43000000#32))) (broadcast S1x512 (Scalar.ofBits .f32 0x358637BD#32)))) broadcasts_S1x512_S128x512))
      (broadcastTo S128x512 (shapeCast S128x1 v161 shapeCasts_S128x1_S128x1) broadcasts_S128x1_S128x512))
      fun d r => normed 0x43000000#32 128 (fun k => U (768 + k) r) (fun k => G k 0) d := fun y =>
    congrArg₂ (fun a b : EReal => a * b) (congrArg₂ (fun a b : EReal => a * b) (s y)
      (rmsCol (a := 128) (b := 512) s 0x43000000#32 0x358637BD#32 reduces_S128x512_S512 (.inl rfl) rfl shapeCasts_S512_S1x512 broadcasts_S1x512_S128x512 y))
      (cols2 (a := 128) (b := 512) (cast22 (a := 128) (b := 1) h161 shapeCasts_S128x1_S128x1) broadcasts_S128x1_S128x512 y)
  have s64 := slice2 (a := 960) (b := 512) (c := 64) (d := 512) h136 slices_S960x512_o896_0_S64x512
  have r1 : Ent2 (a := 32) (b := 512) (extractStridedSlice S32x512 ![0, 0] (extractStridedSlice S64x512 ![896, 0] v136 slices_S960x512_o896_0_S64x512)
      slices_S64x512_o0_0_S32x512) fun j r => U (896 + j) r := fun z => by
    refine (slice2 (a := 64) (b := 512) (c := 32) (d := 512) s64 slices_S64x512_o0_0_S32x512 z).trans ?_
    beta_reduce
    rw [Nat.zero_add, Nat.zero_add, Nat.zero_add]
  have r2 : Ent2 (a := 32) (b := 512) (extractStridedSlice S32x512 ![32, 0] (extractStridedSlice S64x512 ![896, 0] v136 slices_S960x512_o896_0_S64x512)
      slices_S64x512_o32_0_S32x512) fun j r => U (896 + (32 + j)) r := fun z => by
    refine (slice2 (a := 64) (b := 512) (c := 32) (d := 512) s64 slices_S64x512_o32_0_S32x512 z).trans ?_
    beta_reduce
    rw [Nat.zero_add, Nat.zero_add]
  have c1 := cast22 (a := 32) (b := 512) h168 shapeCasts_S32x512_S32x512
  have c2 := cast22 (a := 32) (b := 512) h170 shapeCasts_S32x512_S32x512
  have a1 : Ent2 (a := 32) (b := 512) (subf (F := Ideal) (mulf (φ := .f32)
      (extractStridedSlice S32x512 ![0, 0] (extractStridedSlice S64x512 ![896, 0] v136 slices_S960x512_o896_0_S64x512) slices_S64x512_o0_0_S32x512)
      (shapeCast S32x512 v168 shapeCasts_S32x512_S32x512))
      (mulf (extractStridedSlice S32x512 ![32, 0] (extractStridedSlice S64x512 ![896, 0] v136 slices_S960x512_o896_0_S64x512) slices_S64x512_o32_0_S32x512)
      (shapeCast S32x512 v170 shapeCasts_S32x512_S32x512))) fun j r => U (896 + j) r * C j r - U (896 + (32 + j)) r * S j r := fun y =>
    congrArg₂ (fun a b : EReal => a - b) (congrArg₂ (fun a b : EReal => a * b) (r1 y) (c1 y)) (congrArg₂ (fun a b : EReal => a * b) (r2 y) (c2 y))
  have a2 : Ent2 (a := 32) (b := 512) (addf (F := Ideal) (mulf (φ := .f32)
      (extractStridedSlice S32x512 ![0, 0] (extractStridedSlice S64x512 ![896, 0] v136 slices_S960x512_o896_0_S64x512) slices_S64x512_o0_0_S32x512)
      (shapeCast S32x512 v170 shapeCasts_S32x512_S32x512))
      (mulf (extractStridedSlice S32x512 ![32, 0] (extractStridedSlice S64x512 ![896, 0] v136 slices_S960x512_o896_0_S64x512) slices_S64x512_o32_0_S32x512)
      (shapeCast S32x512 v168 shapeCasts_S32x512_S32x512))) fun j r => U (896 + j) r * S j r + U (896 + (32 + j)) r * C j r := fun y =>
    congrArg₂ (fun a b : EReal => a + b) (congrArg₂ (fun a b : EReal => a * b) (r1 y) (c2 y)) (congrArg₂ (fun a b : EReal => a * b) (r2 y) (c1 y))
  exact stacked_apply hn a1 a2

/-- The latent rows with the row of ones and the zeros below. -/
theorem latentOne_apply {v : FVec Ideal S192x512 .f32} {M : ℕ → ℕ → EReal} (hv : Ent2 (a := 192) (b := 512) v M) :
    Ent3 (a := 1) (b := 256) (c := 512) (k0_pay2 v) fun _ d r => latentOne (fun d => M d r) d := by
  have ho : Ent2 (a := 64) (b := 512) (select (cmpi .eq (iota .tc S64x512 32 [0] iota_S64x512_d0_w32) (broadcast S64x512 0#32))
      (broadcast S64x512 (Scalar.ofBits (F := Ideal) .f32 0x3F800000#32)) (broadcast S64x512 (Scalar.ofBits (F := Ideal) .f32 0x00000000#32)))
      fun d _ => if d = 0 then FloatOps.ofBits (F := Ideal) .f32 0x3F800000#32 else FloatOps.ofBits (F := Ideal) .f32 0x00000000#32 := fun y => by
    obtain ⟨d, r, rfl⟩ : ∃ (d : Fin 64) (r : Fin 512), y = ix2 d r := ⟨_, _, eq_ix2 y⟩
    have hd := d.isLt
    show (if IntOp.cmpi .eq (iota .tc S64x512 32 [0] iota_S64x512_d0_w32 (ix2 d r)) 0#32 = 1#1 then FloatOps.ofBits (F := Ideal) .f32 0x3F800000#32
      else FloatOps.ofBits (F := Ideal) .f32 0x00000000#32) = if d.val = 0 then _ else _
    have hi : iota .tc S64x512 32 [0] iota_S64x512_d0_w32 (ix2 d r) = BitVec.ofNat 32 d.val := by simp [iota]
    rw [hi]
    by_cases k2 : d.val = 0
    · rw [if_pos k2, k2]; rfl
    · rw [if_neg k2, if_neg fun h => k2 ((WordCmp.cmpi_eq_ofNat_eq_one_iff (w := 32) (by omega) (by omega)).1 h)]
  refine cast23 (a := 256) (b := 512) (X := fun d r => latentOne (fun d => M d r) d) (fun y => (below_apply hv ho y).trans ?_) shapeCasts_S256x512_S1x256x512
  unfold latentOne
  beta_reduce
  by_cases k1 : (y 0).val < 192
  · rw [if_pos k1, if_pos k1]
  · rw [if_neg k1, if_neg k1]
    have e : ((y 0).val - 192 = 0) ↔ (y 0).val = 192 := by omega
    simp only [e]

end Cert.Kernel2Ideal.Hand
end
-- ==== Proof.ProjOut.lean ====
/-
  What the body of the input projection leaves in its ten output blocks, from the entries of its sixteen input blocks.
-/
module

public import proofs.«01_k».proof.Proof.ProjBlock

@[expose] public section

set_option maxRecDepth 16384

noncomputable section

namespace Cert.Proj

open Cert.Ent
open scoped BigOperators

/-- The projection of row `r`, by the wide matrix. -/
def wide (X0 : ℕ → ℕ → EReal) (X1 X2 : ℕ → ℕ → ℕ → EReal) (X3 X4 : ℕ → ℕ → EReal) (r : ℕ) : ℕ → EReal :=
  mul 1024 (hidden (X0 r) (X3 0) (X2 0 0) (X1 0 0)) X4

/-- The projection of row `r`, by the tall matrix. -/
def tall (X0 : ℕ → ℕ → EReal) (X1 X2 : ℕ → ℕ → ℕ → EReal) (X3 X5 : ℕ → ℕ → EReal) (r c : ℕ) : EReal :=
  ∑ k ∈ Finset.range 1024, X5 c k * hidden (X0 r) (X3 0) (X2 0 0) (X1 0 0) k

/-- The latent part of the query of row `r`, normalised. -/
def latentQuery (X0 : ℕ → ℕ → EReal) (X1 X2 : ℕ → ℕ → ℕ → EReal) (X3 X4 X6 : ℕ → ℕ → EReal) (r : ℕ) : ℕ → EReal :=
  normed 0x43800000#32 256 (fun k => wide X0 X1 X2 X3 X4 r (1536 + k)) (X6 0)

/-- The rotary part of the queries of row `r`. -/
def rotary (X0 : ℕ → ℕ → EReal) (X1 X2 : ℕ → ℕ → ℕ → EReal) (X3 X4 X6 X8 X9 X12 X13 : ℕ → ℕ → EReal) (r k : ℕ) : EReal :=
  mul 256 (latentQuery X0 X1 X2 X3 X4 X6 r) X8 k * X12 r (k % 128) + mul 256 (latentQuery X0 X1 X2 X3 X4 X6 r) X9 k * X13 r (k % 128)

end Cert.Proj

namespace Cert.Kernel2Ideal.Hand

open Cert.Kernel2Ideal Cert.Kernel2Ideal.Gen Cert.Ent Cert.Proj
open Idealize.ShloMosaic Idealize.ShloMosaic.ValueIdx
open scoped BigOperators

/-- The entries of the sixteen input blocks. -/
structure Blocks (x0 : Vec Ideal S512x1024 .f32) (x1 : Vec Ideal S1x1x1024 .f32) (x2 : Vec Ideal S1x1x1024 .f32) (x3 : Vec Ideal S1x1024 .f32) (x4 : Vec Ideal S1024x1920 .bf16) (x5 : Vec Ideal S960x1024 .bf16) (x6 : Vec Ideal S1x256 .f32) (x7 : Vec Ideal S256x512 .bf16) (x8 : Vec Ideal S256x512 .bf16) (x9 : Vec Ideal S256x512 .bf16) (x10 : Vec Ideal S4x128x128 .bf16) (x11 : Vec Ideal S128x1 .f32) (x12 : Vec Ideal S512x128 .f32) (x13 : Vec Ideal S512x128 .f32) (x14 : Vec Ideal S32x512 .f32) (x15 : Vec Ideal S32x512 .f32)
    (X0 : ℕ → ℕ → EReal) (X1 : ℕ → ℕ → ℕ → EReal) (X2 : ℕ → ℕ → ℕ → EReal) (X3 : ℕ → ℕ → EReal) (X4 : ℕ → ℕ → EReal) (X5 : ℕ → ℕ → EReal) (X6 : ℕ → ℕ → EReal) (X7 : ℕ → ℕ → EReal) (X8 : ℕ → ℕ → EReal) (X9 : ℕ → ℕ → EReal) (X10 : ℕ → ℕ → ℕ → EReal) (X11 : ℕ → ℕ → EReal) (X12 : ℕ → ℕ → EReal) (X13 : ℕ → ℕ → EReal) (X14 : ℕ → ℕ → EReal) (X15 : ℕ → ℕ → EReal) : Prop where
  h0 : Ent2 (a := 512) (b := 1024) x0 X0
  h1 : Ent3 (a := 1) (b := 1) (c := 1024) x1 X1
  h2 : Ent3 (a := 1) (b := 1) (c := 1024) x2 X2
  h3 : Ent2 (a := 1) (b := 1024) x3 X3
  h4 : Ent2 (a := 1024) (b := 1920) x4 X4
  h5 : Ent2 (a := 960) (b := 1024) x5 X5
  h6 : Ent2 (a := 1) (b := 256) x6 X6
  h7 : Ent2 (a := 256) (b := 512) x7 X7
  h8 : Ent2 (a := 256) (b := 512) x8 X8
  h9 : Ent2 (a := 256) (b := 512) x9 X9
  h10 : Ent3 (a := 4) (b := 128) (c := 128) x10 X10
  h11 : Ent2 (a := 128) (b := 1) x11 X11
  h12 : Ent2 (a := 512) (b := 128) x12 X12
  h13 : Ent2 (a := 512) (b := 128) x13 X13
  h14 : Ent2 (a := 32) (b := 512) x14 X14
  h15 : Ent2 (a := 32) (b := 512) x15 X15

variable {x0 : Vec Ideal S512x1024 .f32} {x1 : Vec Ideal S1x1x1024 .f32} {x2 : Vec Ideal S1x1x1024 .f32} {x3 : Vec Ideal S1x1024 .f32} {x4 : Vec Ideal S1024x1920 .bf16} {x5 : Vec Ideal S960x1024 .bf16} {x6 : Vec Ideal S1x256 .f32} {x7 : Vec Ideal S256x512 .bf16} {x8 : Vec Ideal S256x512 .bf16} {x9 : Vec Ideal S256x512 .bf16} {x10 : Vec Ideal S4x128x128 .bf16} {x11 : Vec Ideal S128x1 .f32} {x12 : Vec Ideal S512x128 .f32} {x13 : Vec Ideal S512x128 .f32} {x14 : Vec Ideal S32x512 .f32} {x15 : Vec Ideal S32x512 .f32}
  {X0 : ℕ → ℕ → EReal} {X1 : ℕ → ℕ → ℕ → EReal} {X2 : ℕ → ℕ → ℕ → EReal} {X3 : ℕ → ℕ → EReal} {X4 : ℕ → ℕ → EReal} {X5 : ℕ → ℕ → EReal} {X6 : ℕ → ℕ → EReal} {X7 : ℕ → ℕ → EReal} {X8 : ℕ → ℕ → EReal} {X9 : ℕ → ℕ → EReal} {X10 : ℕ → ℕ → ℕ → EReal} {X11 : ℕ → ℕ → EReal} {X12 : ℕ → ℕ → EReal} {X13 : ℕ → ℕ → EReal} {X14 : ℕ → ℕ → EReal} {X15 : ℕ → ℕ → EReal}

theorem hidden_val (h : Blocks x0 x1 x2 x3 x4 x5 x6 x7 x8 x9 x10 x11 x12 x13 x14 x15 X0 X1 X2 X3 X4 X5 X6 X7 X8 X9 X10 X11 X12 X13 X14 X15) :
    Ent2 (a := 512) (b := 1024) (k0_pay31 x0 x1 x2 x3 x4 x5 x6 x7 x8 x9 x10 x11 x12 x13 x14 x15) fun r => hidden (X0 r) (X3 0) (X2 0 0) (X1 0 0) := by
  have l0 := ld2 (a := 512) (b := 1024) (e := .f32) (f := id) h.h0 inb_S512x1024_S512x1024_0_0
  have l1 : Ent3 (a := 1) (b := 1) (c := 1024) (View.ld x1 r0_2) X1 := fun y => by
    refine (ld3 (a := 1) (b := 1) (c := 1024) (d := 1) (p := 0) (e := .f32) (f := id) h.h1 inb_S1x1x1024_S1x1x1024_0_0_0 y).trans ?_
    beta_reduce
    rw [Nat.zero_add]
  have l2 : Ent3 (a := 1) (b := 1) (c := 1024) (View.ld x2 r0_2) X2 := fun y => by
    refine (ld3 (a := 1) (b := 1) (c := 1024) (d := 1) (p := 0) (e := .f32) (f := id) h.h2 inb_S1x1x1024_S1x1x1024_0_0_0 y).trans ?_
    beta_reduce
    rw [Nat.zero_add]
  have l3 := ld2 (a := 1) (b := 1024) (e := .f32) (f := id) h.h3 inb_S1x1024_S1x1024_0_0
  exact hidden_apply l0 l3 l2 l1

theorem wide_val (h : Blocks x0 x1 x2 x3 x4 x5 x6 x7 x8 x9 x10 x11 x12 x13 x14 x15 X0 X1 X2 X3 X4 X5 X6 X7 X8 X9 X10 X11 X12 X13 X14 X15) :
    Ent2 (a := 512) (b := 1920) (k0_pay32 x0 x1 x2 x3 x4 x5 x6 x7 x8 x9 x10 x11 x12 x13 x14 x15) (wide X0 X1 X2 X3 X4) := by
  have l4 := ld2 (a := 1024) (b := 1920) (e := .bf16) (f := id) h.h4 inb_S1024x1920_S1024x1920_0_0
  exact wide_apply (hidden_val h) l4

theorem tall_val (h : Blocks x0 x1 x2 x3 x4 x5 x6 x7 x8 x9 x10 x11 x12 x13 x14 x15 X0 X1 X2 X3 X4 X5 X6 X7 X8 X9 X10 X11 X12 X13 X14 X15) :
    Ent2 (a := 960) (b := 512) (k0_pay38 x0 x1 x2 x3 x4 x5 x6 x7 x8 x9 x10 x11 x12 x13 x14 x15) fun c r => tall X0 X1 X2 X3 X5 r c := by
  have l5 := ld2 (a := 960) (b := 1024) (e := .bf16) (f := id) h.h5 inb_S960x1024_S960x1024_0_0
  exact tall_apply (hidden_val h) l5

theorem latentQuery_val (h : Blocks x0 x1 x2 x3 x4 x5 x6 x7 x8 x9 x10 x11 x12 x13 x14 x15 X0 X1 X2 X3 X4 X5 X6 X7 X8 X9 X10 X11 X12 X13 X14 X15) :
    Ent2 (a := 512) (b := 256) (k0_pay10 (k0_pay32 x0 x1 x2 x3 x4 x5 x6 x7 x8 x9 x10 x11 x12 x13 x14 x15) (View.ld x6 r0_6)) (latentQuery X0 X1 X2 X3 X4 X6) := by
  have l6 := ld2 (a := 1) (b := 256) (e := .f32) (f := id) h.h6 inb_S1x256_S1x256_0_0
  exact latentQuery_apply (wide_val h) l6

theorem narrow7_val (h : Blocks x0 x1 x2 x3 x4 x5 x6 x7 x8 x9 x10 x11 x12 x13 x14 x15 X0 X1 X2 X3 X4 X5 X6 X7 X8 X9 X10 X11 X12 X13 X14 X15) :
    Ent2 (a := 512) (b := 512) (k0_pay33 x0 x1 x2 x3 x4 x5 x6 x7 x8 x9 x10 x11 x12 x13 x14 x15) fun r => mul 256 (latentQuery X0 X1 X2 X3 X4 X6 r) X7 := by
  have l := ld2 (a := 256) (b := 512) (e := .bf16) (f := id) h.h7 inb_S256x512_S256x512_0_0
  exact narrow_apply (latentQuery_val h) l

theorem narrow8_val (h : Blocks x0 x1 x2 x3 x4 x5 x6 x7 x8 x9 x10 x11 x12 x13 x14 x15 X0 X1 X2 X3 X4 X5 X6 X7 X8 X9 X10 X11 X12 X13 X14 X15) :
    Ent2 (a := 512) (b := 512) (k0_pay34 x0 x1 x2 x3 x4 x5 x6 x7 x8 x9 x10 x11 x12 x13 x14 x15) fun r => mul 256 (latentQuery X0 X1 X2 X3 X4 X6 r) X8 := by
  have l := ld2 (a := 256) (b := 512) (e := .bf16) (f := id) h.h8 inb_S256x512_S256x512_0_0
  exact narrow_apply (latentQuery_val h) l

theorem narrow9_val (h : Blocks x0 x1 x2 x3 x4 x5 x6 x7 x8 x9 x10 x11 x12 x13 x14 x15 X0 X1 X2 X3 X4 X5 X6 X7 X8 X9 X10 X11 X12 X13 X14 X15) :
    Ent2 (a := 512) (b := 512) (k0_pay35 x0 x1 x2 x3 x4 x5 x6 x7 x8 x9 x10 x11 x12 x13 x14 x15) fun r => mul 256 (latentQuery X0 X1 X2 X3 X4 X6 r) X9 := by
  have l := ld2 (a := 256) (b := 512) (e := .bf16) (f := id) h.h9 inb_S256x512_S256x512_0_0
  exact narrow_apply (latentQuery_val h) l

theorem rotary_val (h : Blocks x0 x1 x2 x3 x4 x5 x6 x7 x8 x9 x10 x11 x12 x13 x14 x15 X0 X1 X2 X3 X4 X5 X6 X7 X8 X9 X10 X11 X12 X13 X14 X15) :
    Ent2 (a := 512) (b := 512) (k0_pay37 x0 x1 x2 x3 x4 x5 x6 x7 x8 x9 x10 x11 x12 x13 x14 x15) (rotary X0 X1 X2 X3 X4 X6 X8 X9 X12 X13) := by
  have l12 := ld2 (a := 512) (b := 128) (e := .f32) (f := id) h.h12 inb_S512x128_S512x128_0_0
  have l13 := ld2 (a := 512) (b := 128) (e := .f32) (f := id) h.h13 inb_S512x128_S512x128_0_0
  exact rotary_apply (narrow8_val h) (narrow9_val h) (tiled_apply l12) l13

theorem latent_val (h : Blocks x0 x1 x2 x3 x4 x5 x6 x7 x8 x9 x10 x11 x12 x13 x14 x15 X0 X1 X2 X3 X4 X5 X6 X7 X8 X9 X10 X11 X12 X13 X14 X15) :
    Ent2 (a := 192) (b := 512) (k0_pay39 x0 x1 x2 x3 x4 x5 x6 x7 x8 x9 x10 x11 x12 x13 x14 x15)
      fun d r => latent (tall X0 X1 X2 X3 X5 r) (fun k => X11 k 0) (fun j => X14 j r) (fun j => X15 j r) d := by
  have l11 := ld2 (a := 128) (b := 1) (e := .f32) (f := id) h.h11 inb_S128x1_S128x1_0_0
  have l14 := ld2 (a := 32) (b := 512) (e := .f32) (f := id) h.h14 inb_S32x512_S32x512_0_0
  have l15 := ld2 (a := 32) (b := 512) (e := .f32) (f := id) h.h15 inb_S32x512_S32x512_0_0
  exact latent_apply (tall_val h) l11 l14 l15

/-! ## The ten output blocks -/

theorem out16_apply (h : Blocks x0 x1 x2 x3 x4 x5 x6 x7 x8 x9 x10 x11 x12 x13 x14 x15 X0 X1 X2 X3 X4 X5 X6 X7 X8 X9 X10 X11 X12 X13 X14 X15) :
    Ent2 (a := 512) (b := 512) (out0_16 x0 x1 x2 x3 x4 x5 x6 x7 x8 x9 x10 x11 x12 x13 x14 x15) fun r k => wide X0 X1 X2 X3 X4 r k := by
  have s : Ent2 (a := 512) (b := 512) (extractStridedSlice S512x512 ![0, 0] (k0_pay32 x0 x1 x2 x3 x4 x5 x6 x7 x8 x9 x10 x11 x12 x13 x14 x15) slices_S512x1920_o0_0_S512x512) fun i j => (wide X0 X1 X2 X3 X4 i j) := fun z => by
    refine (slice2 (a := 512) (b := 1920) (c := 512) (d := 512) (wide_val h) slices_S512x1920_o0_0_S512x512 z).trans ?_
    beta_reduce
    rw [Nat.zero_add, Nat.zero_add]
  intro y
  unfold out0_16
  refine View.canon_apply_of_pieces (S := S512x512) (Val := Elt Ideal) (e := .bf16) (fun y => (fun r k => wide X0 X1 X2 X3 X4 r k : ℕ → ℕ → EReal) (y 0).val (y 1).val) _ ?_ y (cover0_16 _ y)
  intro p hp z
  obtain rfl := List.mem_singleton.1 hp
  have e0 : ((r0_4.emb z) 0).val = (z 0).val := by show 0 + 1 * (z 0).val = _; omega
  have e1 : ((r0_4.emb z) 1).val = (z 1).val := by show 0 + 1 * (z 1).val = _; omega
  beta_reduce
  rw [e0, e1]
  exact s z

theorem out17_apply (h : Blocks x0 x1 x2 x3 x4 x5 x6 x7 x8 x9 x10 x11 x12 x13 x14 x15 X0 X1 X2 X3 X4 X5 X6 X7 X8 X9 X10 X11 X12 X13 X14 X15) :
    Ent2 (a := 512) (b := 128) (out0_17 x0 x1 x2 x3 x4 x5 x6 x7 x8 x9 x10 x11 x12 x13 x14 x15) fun r k => Cert.Proj.sig (wide X0 X1 X2 X3 X4 r (1792 + k)) := by
  have s : Ent2 (a := 512) (b := 128) (extractStridedSlice S512x128 ![0, 1792] (k0_pay32 x0 x1 x2 x3 x4 x5 x6 x7 x8 x9 x10 x11 x12 x13 x14 x15) slices_S512x1920_o0_1792_S512x128) fun i j => (wide X0 X1 X2 X3 X4 i (1792 + j)) := fun z => by
    refine (slice2 (a := 512) (b := 1920) (c := 512) (d := 128) (wide_val h) slices_S512x1920_o0_1792_S512x128 z).trans ?_
    beta_reduce
    rw [Nat.zero_add]
  intro y
  unfold out0_17
  refine View.canon_apply_of_pieces (S := S512x128) (Val := Elt Ideal) (e := .f32) (fun y => (fun r k => Cert.Proj.sig (wide X0 X1 X2 X3 X4 r (1792 + k)) : ℕ → ℕ → EReal) (y 0).val (y 1).val) _ ?_ y (cover0_17 _ y)
  intro p hp z
  obtain rfl := List.mem_singleton.1 hp
  have e0 : ((r0_5.emb z) 0).val = (z 0).val := by show 0 + 1 * (z 0).val = _; omega
  have e1 : ((r0_5.emb z) 1).val = (z 1).val := by show 0 + 1 * (z 1).val = _; omega
  beta_reduce
  rw [e0, e1]
  exact congrArg Cert.Proj.sig (s z)

theorem out18_apply (h : Blocks x0 x1 x2 x3 x4 x5 x6 x7 x8 x9 x10 x11 x12 x13 x14 x15 X0 X1 X2 X3 X4 X5 X6 X7 X8 X9 X10 X11 X12 X13 X14 X15) :
    Ent2 (a := 512) (b := 512) (out0_18 x0 x1 x2 x3 x4 x5 x6 x7 x8 x9 x10 x11 x12 x13 x14 x15) fun r k => silu (wide X0 X1 X2 X3 X4 r (512 + k)) := by
  have s : Ent2 (a := 512) (b := 512) (extractStridedSlice S512x512 ![0, 512] (k0_pay32 x0 x1 x2 x3 x4 x5 x6 x7 x8 x9 x10 x11 x12 x13 x14 x15) slices_S512x1920_o0_512_S512x512) fun i j => (wide X0 X1 X2 X3 X4 i (512 + j)) := fun z => by
    refine (slice2 (a := 512) (b := 1920) (c := 512) (d := 512) (wide_val h) slices_S512x1920_o0_512_S512x512 z).trans ?_
    beta_reduce
    rw [Nat.zero_add]
  intro y
  unfold out0_18
  refine View.canon_apply_of_pieces (S := S512x512) (Val := Elt Ideal) (e := .f32) (fun y => (fun r k => silu (wide X0 X1 X2 X3 X4 r (512 + k)) : ℕ → ℕ → EReal) (y 0).val (y 1).val) _ ?_ y (cover0_18 _ y)
  intro p hp z
  obtain rfl := List.mem_singleton.1 hp
  have e0 : ((r0_4.emb z) 0).val = (z 0).val := by show 0 + 1 * (z 0).val = _; omega
  have e1 : ((r0_4.emb z) 1).val = (z 1).val := by show 0 + 1 * (z 1).val = _; omega
  beta_reduce
  rw [e0, e1]
  exact congrArg silu (s z)

theorem out19_apply (h : Blocks x0 x1 x2 x3 x4 x5 x6 x7 x8 x9 x10 x11 x12 x13 x14 x15 X0 X1 X2 X3 X4 X5 X6 X7 X8 X9 X10 X11 X12 X13 X14 X15) :
    Ent2 (a := 512) (b := 512) (out0_19 x0 x1 x2 x3 x4 x5 x6 x7 x8 x9 x10 x11 x12 x13 x14 x15) fun r k => silu (wide X0 X1 X2 X3 X4 r (1024 + k)) := by
  have s : Ent2 (a := 512) (b := 512) (extractStridedSlice S512x512 ![0, 1024] (k0_pay32 x0 x1 x2 x3 x4 x5 x6 x7 x8 x9 x10 x11 x12 x13 x14 x15) slices_S512x1920_o0_1024_S512x512) fun i j => (wide X0 X1 X2 X3 X4 i (1024 + j)) := fun z => by
    refine (slice2 (a := 512) (b := 1920) (c := 512) (d := 512) (wide_val h) slices_S512x1920_o0_1024_S512x512 z).trans ?_
    beta_reduce
    rw [Nat.zero_add]
  intro y
  unfold out0_19
  refine View.canon_apply_of_pieces (S := S512x512) (Val := Elt Ideal) (e := .f32) (fun y => (fun r k => silu (wide X0 X1 X2 X3 X4 r (1024 + k)) : ℕ → ℕ → EReal) (y 0).val (y 1).val) _ ?_ y (cover0_19 _ y)
  intro p hp z
  obtain rfl := List.mem_singleton.1 hp
  have e0 : ((r0_4.emb z) 0).val = (z 0).val := by show 0 + 1 * (z 0).val = _; omega
  have e1 : ((r0_4.emb z) 1).val = (z 1).val := by show 0 + 1 * (z 1).val = _; omega
  beta_reduce
  rw [e0, e1]
  exact congrArg silu (s z)

theorem out20_apply (h : Blocks x0 x1 x2 x3 x4 x5 x6 x7 x8 x9 x10 x11 x12 x13 x14 x15 X0 X1 X2 X3 X4 X5 X6 X7 X8 X9 X10 X11 X12 X13 X14 X15) :
    Ent2 (a := 512) (b := 1024) (out0_20 x0 x1 x2 x3 x4 x5 x6 x7 x8 x9 x10 x11 x12 x13 x14 x15)
      fun r c => packed (mul 256 (latentQuery X0 X1 X2 X3 X4 X6 r) X7) (rotary X0 X1 X2 X3 X4 X6 X8 X9 X12 X13 r) X10 c := by
  have q := narrow7_val h
  have ro := rotary_val h
  have l0 := ld3 (a := 4) (b := 128) (c := 128) (d := 1) (p := 0) (e := .bf16) (f := id) h.h10 inb_S4x128x128_S1x128x128_0_0_0
  have a0 := headLatent_apply (X6 := X10) 0 _ _ q l0 slices_S512x512_o0_0_S512x128 0 rfl
  have b0 := headRotary_apply 0 _ ro slices_S512x512_o0_0_S512x128
  have l1 := ld3 (a := 4) (b := 128) (c := 128) (d := 1) (p := 1) (e := .bf16) (f := id) h.h10 inb_S4x128x128_S1x128x128_1_0_0
  have a1 := headLatent_apply (X6 := X10) 128 _ _ q l1 slices_S512x512_o0_128_S512x128 1 rfl
  have b1 := headRotary_apply 128 _ ro slices_S512x512_o0_128_S512x128
  have l2 := ld3 (a := 4) (b := 128) (c := 128) (d := 1) (p := 2) (e := .bf16) (f := id) h.h10 inb_S4x128x128_S1x128x128_2_0_0
  have a2 := headLatent_apply (X6 := X10) 256 _ _ q l2 slices_S512x512_o0_256_S512x128 2 rfl
  have b2 := headRotary_apply 256 _ ro slices_S512x512_o0_256_S512x128
  have l3 := ld3 (a := 4) (b := 128) (c := 128) (d := 1) (p := 3) (e := .bf16) (f := id) h.h10 inb_S4x128x128_S1x128x128_3_0_0
  have a3 := headLatent_apply (X6 := X10) 384 _ _ q l3 slices_S512x512_o0_384_S512x128 3 rfl
  have b3 := headRotary_apply 384 _ ro slices_S512x512_o0_384_S512x128
  intro y
  unfold out0_20
  refine View.canon_apply_of_pieces (S := S512x1024) (Val := Elt Ideal) (e := .bf16) (fun y => packed (mul 256 (latentQuery X0 X1 X2 X3 X4 X6 (y 0).val) X7)
    (rotary X0 X1 X2 X3 X4 X6 X8 X9 X12 X13 (y 0).val) X10 (y 1).val) _ ?_ y (cover0_20 _ _ _ _ _ _ _ _ y)
  intro p hp z
  simp only [List.mem_cons, List.not_mem_nil, or_false] at hp
  rcases hp with rfl | rfl | rfl | rfl | rfl | rfl | rfl | rfl
  · have z1 : (z 1).val < 128 := (z 1).isLt
    have e0 : ((r0_19.emb z) 0).val = (z 0).val := by show 0 + 1 * (z 0).val = _; omega
    have e1 : ((r0_19.emb z) 1).val = 896 + (z 1).val := by show 896 + 1 * (z 1).val = _; omega
    have m : (896 + (z 1).val) % 256 = 128 + (z 1).val := by omega
    have dv : (896 + (z 1).val) / 256 = 3 := by omega
    beta_reduce
    rw [e0, e1]
    unfold packed
    rw [m, dv, if_neg (by omega), Nat.add_sub_cancel_left]
    exact b3 z
  · have z1 : (z 1).val < 128 := (z 1).isLt
    have e0 : ((r0_18.emb z) 0).val = (z 0).val := by show 0 + 1 * (z 0).val = _; omega
    have e1 : ((r0_18.emb z) 1).val = 768 + (z 1).val := by show 768 + 1 * (z 1).val = _; omega
    have m : (768 + (z 1).val) % 256 = 0 + (z 1).val := by omega
    have dv : (768 + (z 1).val) / 256 = 3 := by omega
    beta_reduce
    rw [e0, e1]
    unfold packed
    rw [m, dv, if_pos (by omega), Nat.zero_add]
    exact a3 z
  · have z1 : (z 1).val < 128 := (z 1).isLt
    have e0 : ((r0_16.emb z) 0).val = (z 0).val := by show 0 + 1 * (z 0).val = _; omega
    have e1 : ((r0_16.emb z) 1).val = 640 + (z 1).val := by show 640 + 1 * (z 1).val = _; omega
    have m : (640 + (z 1).val) % 256 = 128 + (z 1).val := by omega
    have dv : (640 + (z 1).val) / 256 = 2 := by omega
    beta_reduce
    rw [e0, e1]
    unfold packed
    rw [m, dv, if_neg (by omega), Nat.add_sub_cancel_left]
    exact b2 z
  · have z1 : (z 1).val < 128 := (z 1).isLt
    have e0 : ((r0_15.emb z) 0).val = (z 0).val := by show 0 + 1 * (z 0).val = _; omega
    have e1 : ((r0_15.emb z) 1).val = 512 + (z 1).val := by show 512 + 1 * (z 1).val = _; omega
    have m : (512 + (z 1).val) % 256 = 0 + (z 1).val := by omega
    have dv : (512 + (z 1).val) / 256 = 2 := by omega
    beta_reduce
    rw [e0, e1]
    unfold packed
    rw [m, dv, if_pos (by omega), Nat.zero_add]
    exact a2 z
  · have z1 : (z 1).val < 128 := (z 1).isLt
    have e0 : ((r0_13.emb z) 0).val = (z 0).val := by show 0 + 1 * (z 0).val = _; omega
    have e1 : ((r0_13.emb z) 1).val = 384 + (z 1).val := by show 384 + 1 * (z 1).val = _; omega
    have m : (384 + (z 1).val) % 256 = 128 + (z 1).val := by omega
    have dv : (384 + (z 1).val) / 256 = 1 := by omega
    beta_reduce
    rw [e0, e1]
    unfold packed
    rw [m, dv, if_neg (by omega), Nat.add_sub_cancel_left]
    exact b1 z
  · have z1 : (z 1).val < 128 := (z 1).isLt
    have e0 : ((r0_12.emb z) 0).val = (z 0).val := by show 0 + 1 * (z 0).val = _; omega
    have e1 : ((r0_12.emb z) 1).val = 256 + (z 1).val := by show 256 + 1 * (z 1).val = _; omega
    have m : (256 + (z 1).val) % 256 = 0 + (z 1).val := by omega
    have dv : (256 + (z 1).val) / 256 = 1 := by omega
    beta_reduce
    rw [e0, e1]
    unfold packed
    rw [m, dv, if_pos (by omega), Nat.zero_add]
    exact a1 z
  · have z1 : (z 1).val < 128 := (z 1).isLt
    have e0 : ((r0_10.emb z) 0).val = (z 0).val := by show 0 + 1 * (z 0).val = _; omega
    have e1 : ((r0_10.emb z) 1).val = 128 + (z 1).val := by show 128 + 1 * (z 1).val = _; omega
    have m : (128 + (z 1).val) % 256 = 128 + (z 1).val := by omega
    have dv : (128 + (z 1).val) / 256 = 0 := by omega
    beta_reduce
    rw [e0, e1]
    unfold packed
    rw [m, dv, if_neg (by omega), Nat.add_sub_cancel_left]
    exact b0 z
  · have z1 : (z 1).val < 128 := (z 1).isLt
    have e0 : ((r0_9.emb z) 0).val = (z 0).val := by show 0 + 1 * (z 0).val = _; omega
    have e1 : ((r0_9.emb z) 1).val = 0 + (z 1).val := by show 0 + 1 * (z 1).val = _; omega
    have m : (0 + (z 1).val) % 256 = 0 + (z 1).val := by omega
    have dv : (0 + (z 1).val) / 256 = 0 := by omega
    beta_reduce
    rw [e0, e1]
    unfold packed
    rw [m, dv, if_pos (by omega), Nat.zero_add]
    exact a0 z

theorem out21_apply (h : Blocks x0 x1 x2 x3 x4 x5 x6 x7 x8 x9 x10 x11 x12 x13 x14 x15 X0 X1 X2 X3 X4 X5 X6 X7 X8 X9 X10 X11 X12 X13 X14 X15) :
    Ent3 (a := 1) (b := 512) (c := 512) (out0_21 x0 x1 x2 x3 x4 x5 x6 x7 x8 x9 x10 x11 x12 x13 x14 x15) fun _ d r => tall X0 X1 X2 X3 X5 r d := by
  have s : Ent2 (a := 512) (b := 512) (extractStridedSlice S512x512 ![0, 0] (k0_pay38 x0 x1 x2 x3 x4 x5 x6 x7 x8 x9 x10 x11 x12 x13 x14 x15) slices_S960x512_o0_0_S512x512) fun i j => tall X0 X1 X2 X3 X5 j (i) := fun z => by
    refine (slice2 (a := 960) (b := 512) (c := 512) (d := 512) (tall_val h) slices_S960x512_o0_0_S512x512 z).trans ?_
    beta_reduce
    rw [Nat.zero_add, Nat.zero_add]
  intro y
  unfold out0_21
  refine View.canon_apply_of_pieces (S := S1x512x512) (Val := Elt Ideal) (e := .f32) (fun y => (fun d r => tall X0 X1 X2 X3 X5 r d : ℕ → ℕ → EReal) (y 1).val (y 2).val) _ ?_ y (cover0_21 _ y)
  intro p hp z
  obtain rfl := List.mem_singleton.1 hp
  have e1 : ((r0_21.emb z) 1).val = (z 1).val := by show 0 + 1 * (z 1).val = _; omega
  have e2 : ((r0_21.emb z) 2).val = (z 2).val := by show 0 + 1 * (z 2).val = _; omega
  beta_reduce
  rw [e1, e2]
  exact cast23 (a := 512) (b := 512) s shapeCasts_S512x512_S1x512x512 z

theorem out22_apply (h : Blocks x0 x1 x2 x3 x4 x5 x6 x7 x8 x9 x10 x11 x12 x13 x14 x15 X0 X1 X2 X3 X4 X5 X6 X7 X8 X9 X10 X11 X12 X13 X14 X15) :
    Ent3 (a := 1) (b := 256) (c := 512) (out0_22 x0 x1 x2 x3 x4 x5 x6 x7 x8 x9 x10 x11 x12 x13 x14 x15) fun _ d r => tall X0 X1 X2 X3 X5 r (512 + d) := by
  have s : Ent2 (a := 256) (b := 512) (extractStridedSlice S256x512 ![512, 0] (k0_pay38 x0 x1 x2 x3 x4 x5 x6 x7 x8 x9 x10 x11 x12 x13 x14 x15) slices_S960x512_o512_0_S256x512) fun i j => tall X0 X1 X2 X3 X5 j (512 + i) := fun z => by
    refine (slice2 (a := 960) (b := 512) (c := 256) (d := 512) (tall_val h) slices_S960x512_o512_0_S256x512 z).trans ?_
    beta_reduce
    rw [Nat.zero_add]
  intro y
  unfold out0_22
  refine View.canon_apply_of_pieces (S := S1x256x512) (Val := Elt Ideal) (e := .f32) (fun y => (fun d r => tall X0 X1 X2 X3 X5 r (512 + d) : ℕ → ℕ → EReal) (y 1).val (y 2).val) _ ?_ y (cover0_22 _ y)
  intro p hp z
  obtain rfl := List.mem_singleton.1 hp
  have e1 : ((r0_22.emb z) 1).val = (z 1).val := by show 0 + 1 * (z 1).val = _; omega
  have e2 : ((r0_22.emb z) 2).val = (z 2).val := by show 0 + 1 * (z 2).val = _; omega
  beta_reduce
  rw [e1, e2]
  exact cast23 (a := 256) (b := 512) s shapeCasts_S256x512_S1x256x512 z

theorem out23_apply (h : Blocks x0 x1 x2 x3 x4 x5 x6 x7 x8 x9 x10 x11 x12 x13 x14 x15 X0 X1 X2 X3 X4 X5 X6 X7 X8 X9 X10 X11 X12 X13 X14 X15) :
    Ent3 (a := 1) (b := 768) (c := 512) (out0_23 x0 x1 x2 x3 x4 x5 x6 x7 x8 x9 x10 x11 x12 x13 x14 x15) fun _ d r => tall X0 X1 X2 X3 X5 r d := by
  have s : Ent2 (a := 768) (b := 512) (extractStridedSlice S768x512 ![0, 0] (k0_pay38 x0 x1 x2 x3 x4 x5 x6 x7 x8 x9 x10 x11 x12 x13 x14 x15) slices_S960x512_o0_0_S768x512) fun i j => tall X0 X1 X2 X3 X5 j (i) := fun z => by
    refine (slice2 (a := 960) (b := 512) (c := 768) (d := 512) (tall_val h) slices_S960x512_o0_0_S768x512 z).trans ?_
    beta_reduce
    rw [Nat.zero_add, Nat.zero_add]
  intro y
  unfold out0_23
  refine View.canon_apply_of_pieces (S := S1x768x512) (Val := Elt Ideal) (e := .bf16) (fun y => (fun d r => tall X0 X1 X2 X3 X5 r d : ℕ → ℕ → EReal) (y 1).val (y 2).val) _ ?_ y (cover0_23 _ y)
  intro p hp z
  obtain rfl := List.mem_singleton.1 hp
  have e1 : ((r0_23.emb z) 1).val = (z 1).val := by show 0 + 1 * (z 1).val = _; omega
  have e2 : ((r0_23.emb z) 2).val = (z 2).val := by show 0 + 1 * (z 2).val = _; omega
  beta_reduce
  rw [e1, e2]
  exact cast23 (a := 768) (b := 512) s shapeCasts_S768x512_S1x768x512 z

theorem out24_apply (h : Blocks x0 x1 x2 x3 x4 x5 x6 x7 x8 x9 x10 x11 x12 x13 x14 x15 X0 X1 X2 X3 X4 X5 X6 X7 X8 X9 X10 X11 X12 X13 X14 X15) :
    Ent3 (a := 1) (b := 192) (c := 512) (out0_24 x0 x1 x2 x3 x4 x5 x6 x7 x8 x9 x10 x11 x12 x13 x14 x15) fun _ d r => latent (tall X0 X1 X2 X3 X5 r) (fun k => X11 k 0) (fun j => X14 j r) (fun j => X15 j r) d := by
  intro y
  unfold out0_24
  refine View.canon_apply_of_pieces (S := S1x192x512) (Val := Elt Ideal) (e := .f32) (fun y => (fun d r => latent (tall X0 X1 X2 X3 X5 r) (fun k => X11 k 0) (fun j => X14 j r) (fun j => X15 j r) d : ℕ → ℕ → EReal) (y 1).val (y 2).val) _ ?_ y (cover0_24 _ y)
  intro p hp z
  obtain rfl := List.mem_singleton.1 hp
  have e1 : ((r0_26.emb z) 1).val = (z 1).val := by show 0 + 1 * (z 1).val = _; omega
  have e2 : ((r0_26.emb z) 2).val = (z 2).val := by show 0 + 1 * (z 2).val = _; omega
  beta_reduce
  rw [e1, e2]
  exact cast23 (a := 192) (b := 512) (latent_val h) shapeCasts_S192x512_S1x192x512 z

theorem out25_apply (h : Blocks x0 x1 x2 x3 x4 x5 x6 x7 x8 x9 x10 x11 x12 x13 x14 x15 X0 X1 X2 X3 X4 X5 X6 X7 X8 X9 X10 X11 X12 X13 X14 X15) :
    Ent3 (a := 1) (b := 256) (c := 512) (out0_25 x0 x1 x2 x3 x4 x5 x6 x7 x8 x9 x10 x11 x12 x13 x14 x15) fun _ d r => latentOne (latent (tall X0 X1 X2 X3 X5 r) (fun k => X11 k 0) (fun j => X14 j r) (fun j => X15 j r)) d := by
  intro y
  unfold out0_25
  refine View.canon_apply_of_pieces (S := S1x256x512) (Val := Elt Ideal) (e := .bf16) (fun y => (fun d r => latentOne (latent (tall X0 X1 X2 X3 X5 r) (fun k => X11 k 0) (fun j => X14 j r) (fun j => X15 j r)) d : ℕ → ℕ → EReal) (y 1).val (y 2).val) _ ?_ y (cover0_25 _ y)
  intro p hp z
  obtain rfl := List.mem_singleton.1 hp
  have e1 : ((r0_22.emb z) 1).val = (z 1).val := by show 0 + 1 * (z 1).val = _; omega
  have e2 : ((r0_22.emb z) 2).val = (z 2).val := by show 0 + 1 * (z 2).val = _; omega
  beta_reduce
  rw [e1, e2]
  exact latentOne_apply (latent_val h) z

end Cert.Kernel2Ideal.Hand
end
-- ==== Proof.ProjHost.lean ====
/-
  What the arrays of the input projection hold when the call starts: the weights regrouped, padded and signed, and the rotary tables.
-/
module

public import proofs.«01_k».proof.Proof.ProjFrame
public import proofs.«01_k».proof.Proof.Entries
public import Idealize.ShloMosaic.Lib.StableHlo.Run
public import Idealize.ShloMosaic.Lib.KernelVsHost

@[expose] public section

set_option maxRecDepth 16384

noncomputable section

namespace Cert.Kernel2Ideal.Hand

open Cert.Kernel2Ideal Cert.Kernel2Ideal.Gen Cert.Ent
open Idealize.ShloMosaic Idealize.ShloMosaic.TcCoe Idealize.ShloMosaic.ValueIdx Idealize.ShloMosaic.StableHlo
open scoped BigOperators

/-! ## The arrays -/

/-- The zero the padding fills with. -/
def padZero : FVec Ideal S_ .f32 := sitofp (F := Ideal) .f32 (constantI S_ 32 0#32)

/-- The columns of the input weight read row by row. -/
def wideArr (x : FVec Ideal S1024x2776 .f32) : FVec Ideal S1024x1920 .f32 :=
  concatenate S1024x1920 1
    [⟨S1024x512, mulf (F := Ideal) (φ := .f32) (extractStridedSlice S1024x512 ![0, 0] x slices_S1024x2776_S1024x512_0_0) (broadcastInDim S1024x512 ![] bcast_S_S1024x512 (constant (F := Ideal) S_ .f32 0x3E000000#32))⟩,
      ⟨S1024x512, extractStridedSlice S1024x512 ![0, 1304] x slices_S1024x2776_S1024x512_0_1304⟩,
      ⟨S1024x512, extractStridedSlice S1024x512 ![0, 2264] x slices_S1024x2776_S1024x512_0_2264⟩,
      ⟨S1024x256, extractStridedSlice S1024x256 ![0, 1816] x slices_S1024x2776_S1024x256_0_1816⟩,
      ⟨S1024x128, pad S1024x128 ![0, 0] ![0, 104] ![0, 0] (extractStridedSlice S1024x24 ![0, 1280] x slices_S1024x2776_S1024x24_0_1280) padZero pads_S1024x24_S1024x128_000_01040 h_S_⟩]
    concatenates_S1024x512_S1024x512_S1024x512_S1024x256_S1024x128_S1024x1920_d1

/-- The columns of the input weight read column by column. -/
def tallArr (x : FVec Ideal S1024x2776 .f32) : FVec Ideal S1024x960 .f32 :=
  concatenate S1024x960 1
    [⟨S1024x768, extractStridedSlice S1024x768 ![0, 512] x slices_S1024x2776_S1024x768_0_512⟩,
      ⟨S1024x128, extractStridedSlice S1024x128 ![0, 2072] x slices_S1024x2776_S1024x128_0_2072⟩,
      ⟨S1024x64, extractStridedSlice S1024x64 ![0, 2200] x slices_S1024x2776_S1024x64_0_2200⟩]
    concatenates_S1024x768_S1024x128_S1024x64_S1024x960_d1

/-- The query weight's rotary columns. -/
def ropeArr (x : FVec Ideal S256x4x192 .f32) : FVec Ideal S256x4x64 .f32 := extractStridedSlice S256x4x64 ![0, 0, 128] x slices_S256x4x192_S256x4x64_0_0_128

/-- Their halves exchanged, the one that comes first negated. -/
def swapArr (x : FVec Ideal S256x4x64 .f32) : FVec Ideal S256x4x64 .f32 :=
  concatenate S256x4x64 2
    [⟨S256x4x32, Host.negf (F := Ideal) (φ := .f32) (extractStridedSlice S256x4x32 ![0, 0, 32] x slices_S256x4x64_S256x4x32_0_0_32)⟩,
      ⟨S256x4x32, extractStridedSlice S256x4x32 ![0, 0, 0] x slices_S256x4x64_S256x4x32_0_0_0⟩] concatenates_S256x4x32_S256x4x32_S256x4x64_d2

/-- A head's 64 columns with zeros up to 128. -/
def padArr (x : FVec Ideal S256x4x64 .f32) : FVec Ideal S256x4x128 .f32 :=
  pad S256x4x128 ![0, 0, 0] ![0, 0, 64] ![0, 0, 0] x padZero pads_S256x4x64_S256x4x128_000_000_0640 h_S_

/-- The angle of a position and a frequency. -/
def angleArr : FVec Ideal S4096x32 .f32 :=
  mulf (F := Ideal) (φ := .f32) (broadcastInDim S4096x32 ![0, 1] bcast_S4096x1_S4096x32_0_1 (broadcastInDim S4096x1 ![0] bcast_S4096_S4096x1_0 (sitofp (F := Ideal) .f32 (iotaInDim S4096 32 0))))
    (broadcastInDim S4096x32 ![0, 1] bcast_S1x32_S4096x32_0_1 (broadcastInDim S1x32 ![1] bcast_S32_S1x32_1
      (Host.powf (F := Ideal) (φ := .f32) (broadcastInDim S32 ![] bcast_S_S32 (constant (F := Ideal) S_ .f32 0x461C4000#32))
        (Host.divf (F := Ideal) (φ := .f32) (Host.negf (F := Ideal) (φ := .f32) (sitofp (F := Ideal) .f32 (iotaInDim S32 32 0))) (broadcastInDim S32 ![] bcast_S_S32 (constant (F := Ideal) S_ .f32 0x42000000#32))))))

/-- A table twice over, with zeros up to 128. -/
def tableArr (x : FVec Ideal S4096x32 .f32) : FVec Ideal S4096x128 .f32 :=
  concatenate S4096x128 1 [⟨S4096x32, x⟩, ⟨S4096x32, x⟩, ⟨S4096x64, broadcastInDim S4096x64 ![] bcast_S_S4096x64 (constant (F := Ideal) S_ .f32 0x00000000#32)⟩]
    concatenates_S4096x32_S4096x32_S4096x64_S4096x128_d1

variable (m : (ℓ : Loc nD τ sig) → Buf (Elt Ideal) ℓ) (c : Dev nD)

set_option maxHeartbeats 4000000 in
theorem V_v36 : V m c main_v36 = shapeCast S16384x1024 (m ((c : Thread nD τ).loc main_arg0)) shapeCasts_S4x4096x1024_S16384x1024 := by
  show StableHlo.after (List.flatten [hostOps0, hostOps0_1, hostOps0_2, hostOps0_3, hostOps0_4, hostOps0_5, hostOps0_6]) (fun b => m (c, b)) (Proc.devRef .tc main_v36) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v37 : V m c main_v37 = broadcastInDim S4x1x1024 ![0, 2] bcast_S4x1024_S4x1x1024_0_2 (m ((c : Thread nD τ).loc main_arg1)) := by
  show StableHlo.after (List.flatten [hostOps0, hostOps0_1, hostOps0_2, hostOps0_3, hostOps0_4, hostOps0_5, hostOps0_6]) (fun b => m (c, b)) (Proc.devRef .tc main_v37) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v38 : V m c main_v38 = broadcastInDim S4x1x1024 ![0, 2] bcast_S4x1024_S4x1x1024_0_2 (m ((c : Thread nD τ).loc main_arg2)) := by
  show StableHlo.after (List.flatten [hostOps0, hostOps0_1, hostOps0_2, hostOps0_3, hostOps0_4, hostOps0_5, hostOps0_6]) (fun b => m (c, b)) (Proc.devRef .tc main_v38) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v32 : V m c main_v32 = broadcastInDim S1x1024 ![1] bcast_S1024_S1x1024_1 (m ((c : Thread nD τ).loc main_arg3)) := by
  show StableHlo.after (List.flatten [hostOps0, hostOps0_1, hostOps0_2, hostOps0_3, hostOps0_4, hostOps0_5, hostOps0_6]) (fun b => m (c, b)) (Proc.devRef .tc main_v32) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v9 : V m c main_v9 = truncf (F := Ideal) .bf16 (wideArr (m ((c : Thread nD τ).loc main_arg4))) bitsLt_bf16_f32 := by
  show StableHlo.after (List.flatten [hostOps0, hostOps0_1, hostOps0_2, hostOps0_3, hostOps0_4, hostOps0_5, hostOps0_6]) (fun b => m (c, b)) (Proc.devRef .tc main_v9) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v15 : V m c main_v15 = truncf (F := Ideal) .bf16 (transpose S960x1024 [1, 0] (tallArr (m ((c : Thread nD τ).loc main_arg4))) transposes_S1024x960_S960x1024_1_0) bitsLt_bf16_f32 := by
  show StableHlo.after (List.flatten [hostOps0, hostOps0_1, hostOps0_2, hostOps0_3, hostOps0_4, hostOps0_5, hostOps0_6]) (fun b => m (c, b)) (Proc.devRef .tc main_v15) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v33 : V m c main_v33 = broadcastInDim S1x256 ![1] bcast_S256_S1x256_1 (m ((c : Thread nD τ).loc main_arg5)) := by
  show StableHlo.after (List.flatten [hostOps0, hostOps0_1, hostOps0_2, hostOps0_3, hostOps0_4, hostOps0_5, hostOps0_6]) (fun b => m (c, b)) (Proc.devRef .tc main_v33) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v18 : V m c main_v18 = truncf (F := Ideal) .bf16 (shapeCast S256x512 (extractStridedSlice S256x4x128 ![0, 0, 0] (m ((c : Thread nD τ).loc main_arg6)) slices_S256x4x192_S256x4x128_0_0_0) shapeCasts_S256x4x128_S256x512) bitsLt_bf16_f32 := by
  show StableHlo.after (List.flatten [hostOps0, hostOps0_1, hostOps0_2, hostOps0_3, hostOps0_4, hostOps0_5, hostOps0_6]) (fun b => m (c, b)) (Proc.devRef .tc main_v18) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v26 : V m c main_v26 = truncf (F := Ideal) .bf16 (shapeCast S256x512 (padArr (ropeArr (m ((c : Thread nD τ).loc main_arg6)))) shapeCasts_S256x4x128_S256x512) bitsLt_bf16_f32 := by
  show StableHlo.after (List.flatten [hostOps0, hostOps0_1, hostOps0_2, hostOps0_3, hostOps0_4, hostOps0_5, hostOps0_6]) (fun b => m (c, b)) (Proc.devRef .tc main_v26) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v29 : V m c main_v29 = truncf (F := Ideal) .bf16 (shapeCast S256x512 (padArr (swapArr (ropeArr (m ((c : Thread nD τ).loc main_arg6))))) shapeCasts_S256x4x128_S256x512) bitsLt_bf16_f32 := by
  show StableHlo.after (List.flatten [hostOps0, hostOps0_1, hostOps0_2, hostOps0_3, hostOps0_4, hostOps0_5, hostOps0_6]) (fun b => m (c, b)) (Proc.devRef .tc main_v29) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v31 : V m c main_v31 = truncf (F := Ideal) .bf16 (transpose S4x128x128 [1, 2, 0] (m ((c : Thread nD τ).loc main_arg8)) transposes_S128x4x128_S4x128x128_1_2_0) bitsLt_bf16_f32 := by
  show StableHlo.after (List.flatten [hostOps0, hostOps0_1, hostOps0_2, hostOps0_3, hostOps0_4, hostOps0_5, hostOps0_6]) (fun b => m (c, b)) (Proc.devRef .tc main_v31) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v34 : V m c main_v34 = broadcastInDim S128x1 ![0] bcast_S128_S128x1_0 (m ((c : Thread nD τ).loc main_arg7)) := by
  show StableHlo.after (List.flatten [hostOps0, hostOps0_1, hostOps0_2, hostOps0_3, hostOps0_4, hostOps0_5, hostOps0_6]) (fun b => m (c, b)) (Proc.devRef .tc main_v34) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v54 : V m c main_v54 = tableArr (Host.cos (F := Ideal) (φ := .f32) angleArr) := by
  show StableHlo.after (List.flatten [hostOps0, hostOps0_1, hostOps0_2, hostOps0_3, hostOps0_4, hostOps0_5, hostOps0_6]) (fun b => m (c, b)) (Proc.devRef .tc main_v54) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v55 : V m c main_v55 = tableArr (Host.sin (F := Ideal) (φ := .f32) angleArr) := by
  show StableHlo.after (List.flatten [hostOps0, hostOps0_1, hostOps0_2, hostOps0_3, hostOps0_4, hostOps0_5, hostOps0_6]) (fun b => m (c, b)) (Proc.devRef .tc main_v55) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v56 : V m c main_v56 = transpose S32x4096 [1, 0] (Host.cos (F := Ideal) (φ := .f32) angleArr) transposes_S4096x32_S32x4096_1_0 := by
  show StableHlo.after (List.flatten [hostOps0, hostOps0_1, hostOps0_2, hostOps0_3, hostOps0_4, hostOps0_5, hostOps0_6]) (fun b => m (c, b)) (Proc.devRef .tc main_v56) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

set_option maxHeartbeats 4000000 in
theorem V_v57 : V m c main_v57 = transpose S32x4096 [1, 0] (Host.sin (F := Ideal) (φ := .f32) angleArr) transposes_S4096x32_S32x4096_1_0 := by
  show StableHlo.after (List.flatten [hostOps0, hostOps0_1, hostOps0_2, hostOps0_3, hostOps0_4, hostOps0_5, hostOps0_6]) (fun b => m (c, b)) (Proc.devRef .tc main_v57) = _
  simp only [hostOps0, hostOps0_1, hostOps0_2, hostOps0_3, hostOps0_4, hostOps0_5, hostOps0_6, List.flatten_cons, List.flatten_nil,
    List.append_nil, List.cons_append, List.nil_append, TRef.ternary, TRef.unary, TRef.binary, TRef.toBuf, TRef.ofBuf, cast_eq]
  after_results_simp <;> rfl

end Cert.Kernel2Ideal.Hand
end
-- ==== Proof.ProjEnt.lean ====
/-
  The entries of the arrays the input projection reads.
-/
module

public import proofs.«01_k».proof.Proof.ProjHost

@[expose] public section

set_option maxRecDepth 16384

noncomputable section

namespace Cert.Proj

open Idealize.ShloMosaic

/-- The columns of the input weight read row by row: the scaled queries, two gates, the latent query, and the gates with zeros. -/
def wideMat (w : ℕ → ℕ → EReal) (k c : ℕ) : EReal :=
  if c < 512 then w k c * FloatOps.ofBits (F := Ideal) .f32 0x3E000000#32
  else if c < 1024 then w k (1304 + (c - 512))
  else if c < 1536 then w k (2264 + (c - 1024))
  else if c < 1792 then w k (1816 + (c - 1536))
  else if c - 1792 < 24 then w k (1280 + (c - 1792)) else 0

/-- The columns read column by column. -/
def tallMat (w : ℕ → ℕ → EReal) (c k : ℕ) : EReal :=
  if c < 768 then w k (512 + c) else if c < 896 then w k (2072 + (c - 768)) else w k (2200 + (c - 896))

/-- The rotary columns of the query weight, a head's 64 padded to 128. -/
def ropeMat (w : ℕ → ℕ → ℕ → EReal) (q c : ℕ) : EReal := if c % 128 < 64 then w q (c / 128) (128 + c % 128) else 0

/-- Their halves exchanged, the one that comes first negated. -/
def swapMat (w : ℕ → ℕ → ℕ → EReal) (q c : ℕ) : EReal :=
  if c % 128 < 64 then if c % 128 < 32 then -w q (c / 128) (128 + (32 + c % 128)) else w q (c / 128) (128 + (c % 128 - 32)) else 0

/-- A table twice over, with zeros behind. -/
def tableMat (x : ℕ → ℕ → EReal) (r j : ℕ) : EReal := if j < 32 then x r j else if j < 64 then x r (j - 32) else 0

/-- The angle of a position and a frequency. -/
def angle (p j : ℕ) : EReal :=
  FloatOps.mulf (F := Ideal) (φ := .f32) (FloatOps.sitofp (F := Ideal) .f32 (BitVec.ofNat 32 p))
    (FloatOps.hostPowf (F := Ideal) (φ := .f32) (FloatOps.ofBits (F := Ideal) .f32 0x461C4000#32)
      (FloatOps.hostDivf (F := Ideal) (φ := .f32) (FloatOps.hostNegf (F := Ideal) (φ := .f32) (FloatOps.sitofp (F := Ideal) .f32 (BitVec.ofNat 32 j)))
        (FloatOps.ofBits (F := Ideal) .f32 0x42000000#32)))

def cosAt (p j : ℕ) : EReal := FloatOps.hostUnary (F := Ideal) (φ := .f32) .cos (angle p j)

def sinAt (p j : ℕ) : EReal := FloatOps.hostUnary (F := Ideal) (φ := .f32) .sin (angle p j)

end Cert.Proj

namespace Cert.Kernel2Ideal.Hand

open Cert.Kernel2Ideal Cert.Kernel2Ideal.Gen Cert.Ent Cert.Proj Cert.Mla
open Idealize.ShloMosaic Idealize.ShloMosaic.TcCoe Idealize.ShloMosaic.ValueIdx Idealize.ShloMosaic.StableHlo
open scoped BigOperators

variable {a b c d n q : ℕ}

/-- A slice of the last axis. -/
theorem sliceLast {x : (⟨3, ![a, b, c]⟩ : Shape).Idx → EReal} {X : ℕ → ℕ → ℕ → EReal} (hx : Ent3 x X) (h) :
    Ent3 (a := a) (b := b) (c := d) (extractStridedSlice ⟨3, ![a, b, d]⟩ ![0, 0, q] x h) fun i j k => X i j (q + k) := by
  intro y
  obtain ⟨i, j, k, rfl⟩ : ∃ i j k, y = ix3 i j k := ⟨_, _, _, eq_ix3 y⟩
  have h2 : q + d ≤ c := h.2 2
  refine (extractStridedSlice_apply (s := ⟨3, ![a, b, c]⟩) (t := ⟨3, ![a, b, d]⟩) ![0, 0, q] x h (ix3 i j k)
    (ix3 i j ⟨q + k.val, by have := k.isLt; omega⟩) (fun e => ?_)).trans (hx _)
  match e with
  | ⟨0, _⟩ => exact (Nat.zero_add _).symm
  | ⟨1, _⟩ => exact (Nat.zero_add _).symm
  | ⟨2, _⟩ => rfl

/-- The last two axes run together. -/
theorem flatLast {x : (⟨3, ![a, b, c]⟩ : Shape).Idx → EReal} {X : ℕ → ℕ → ℕ → EReal} (hx : Ent3 x X) (hn : n = b * c) (h) :
    Ent2 (a := a) (b := n) (shapeCast ⟨2, ![a, n]⟩ x h) fun i k => X i (k / c) (k % c) := by
  subst hn
  intro y
  obtain ⟨i, k, rfl⟩ : ∃ i k, y = ix2 i k := ⟨_, _, eq_ix2 y⟩
  obtain ⟨k, hk⟩ := k
  have hc : 0 < c := Nat.pos_of_ne_zero fun e => by subst e; exact absurd hk (Nat.not_lt_zero _)
  have k1 : k / c < b := Nat.div_lt_of_lt_mul (by rw [Nat.mul_comm]; exact hk)
  have k2 : k % c < c := Nat.mod_lt _ hc
  refine (shapeCast_apply (s := ⟨3, ![a, b, c]⟩) (t := ⟨2, ![a, b * c]⟩) x h (ix2 i ⟨k, hk⟩) (ix3 i ⟨k / c, k1⟩ ⟨k % c, k2⟩) ?_).trans (hx _)
  rw [Shape.rowMajor_val_three, Shape.rowMajor_val_two]
  show (i.val * b + k / c) * c + k % c = i.val * (b * c) + k
  rw [Nat.add_mul, Nat.mul_assoc, Nat.add_assoc, Nat.mul_comm (k / c) c, Nat.div_add_mod]

theorem swap2 {x : (⟨2, ![a, b]⟩ : Shape).Idx → EReal} {X : ℕ → ℕ → EReal} (hx : Ent2 x X) (h) :
    Ent2 (a := b) (b := a) (transpose ⟨2, ![b, a]⟩ [1, 0] x h) fun i j => X j i := by
  intro y
  obtain ⟨i, j, rfl⟩ : ∃ i j, y = ix2 i j := ⟨_, _, eq_ix2 y⟩
  refine (transpose_apply (s := ⟨2, ![a, b]⟩) (t := ⟨2, ![b, a]⟩) [1, 0] x h (ix2 i j) (ix2 j i) (fun e => ?_)).trans (hx _)
  match e with
  | ⟨0, _⟩ => rfl
  | ⟨1, _⟩ => rfl

theorem padZero_apply (y : S_.Idx) : padZero y = 0 := by
  show FloatOps.sitofp (F := Ideal) .f32 (0#32) = (0 : EReal)
  show (((0#32 : BitVec 32).toInt : ℝ) : EReal) = 0
  norm_num

/-! ## The weights -/

variable {W : ℕ → ℕ → EReal} {U : ℕ → ℕ → ℕ → EReal}

theorem five_apply {y0 y1 y2 : FVec Ideal S1024x512 .f32} {y3 : FVec Ideal S1024x256 .f32} {y4 : FVec Ideal S1024x128 .f32} {Y0 Y1 Y2 Y3 Y4 : ℕ → ℕ → EReal}
    (h0 : Ent2 (a := 1024) (b := 512) y0 Y0) (h1 : Ent2 (a := 1024) (b := 512) y1 Y1) (h2 : Ent2 (a := 1024) (b := 512) y2 Y2)
    (h3 : Ent2 (a := 1024) (b := 256) y3 Y3) (h4 : Ent2 (a := 1024) (b := 128) y4 Y4) :
    Ent2 (a := 1024) (b := 1920) (concatenate S1024x1920 1 [⟨S1024x512, y0⟩, ⟨S1024x512, y1⟩, ⟨S1024x512, y2⟩, ⟨S1024x256, y3⟩, ⟨S1024x128, y4⟩]
      concatenates_S1024x512_S1024x512_S1024x512_S1024x256_S1024x128_S1024x1920_d1)
      fun k c => if c < 512 then Y0 k c else if c < 1024 then Y1 k (c - 512) else if c < 1536 then Y2 k (c - 1024)
        else if c < 1792 then Y3 k (c - 1536) else Y4 k (c - 1792) := by
  intro y
  obtain ⟨k, c, rfl⟩ : ∃ (k : Fin 1024) (c : Fin 1920), y = ix2 k c := ⟨_, _, eq_ix2 y⟩
  have hc : c.val < 1920 := c.isLt
  show _ = if c.val < 512 then Y0 k.val c.val else if c.val < 1024 then Y1 k.val (c.val - 512) else if c.val < 1536 then Y2 k.val (c.val - 1024)
        else if c.val < 1792 then Y3 k.val (c.val - 1536) else Y4 k.val (c.val - 1792)
  by_cases c0 : c.val < 512
  · rw [if_pos c0]
    refine (concatenate_apply_piece (t := S1024x1920) 1 _ _ _ 0 (by simp) S1024x512 y0 rfl rfl 0 rfl (ix2 k (⟨c.val, c0⟩ : Fin 512))
      (fun a ha => ?_) (by show 0 + c.val = c.val; omega)).trans (h0 _)
    fin_cases a <;> first | rfl | exact absurd rfl ha
  rw [if_neg c0]
  by_cases c1 : c.val < 1024
  · rw [if_pos c1]
    refine (concatenate_apply_piece (t := S1024x1920) 1 _ _ _ 1 (by simp) S1024x512 y1 rfl rfl 512 rfl (ix2 k (⟨c.val - 512, by omega⟩ : Fin 512))
      (fun a ha => ?_) (by show 512 + (c.val - 512) = c.val; omega)).trans (h1 _)
    fin_cases a <;> first | rfl | exact absurd rfl ha
  rw [if_neg c1]
  by_cases c2 : c.val < 1536
  · rw [if_pos c2]
    refine (concatenate_apply_piece (t := S1024x1920) 1 _ _ _ 2 (by simp) S1024x512 y2 rfl rfl 1024 rfl (ix2 k (⟨c.val - 1024, by omega⟩ : Fin 512))
      (fun a ha => ?_) (by show 1024 + (c.val - 1024) = c.val; omega)).trans (h2 _)
    fin_cases a <;> first | rfl | exact absurd rfl ha
  rw [if_neg c2]
  by_cases c3 : c.val < 1792
  · rw [if_pos c3]
    refine (concatenate_apply_piece (t := S1024x1920) 1 _ _ _ 3 (by simp) S1024x256 y3 rfl rfl 1536 rfl (ix2 k (⟨c.val - 1536, by omega⟩ : Fin 256))
      (fun a ha => ?_) (by show 1536 + (c.val - 1536) = c.val; omega)).trans (h3 _)
    fin_cases a <;> first | rfl | exact absurd rfl ha
  rw [if_neg c3]
  refine (concatenate_apply_piece (t := S1024x1920) 1 _ _ _ 4 (by simp) S1024x128 y4 rfl rfl 1792 rfl (ix2 k (⟨c.val - 1792, by omega⟩ : Fin 128))
    (fun a ha => ?_) (by show 1792 + (c.val - 1792) = c.val; omega)).trans (h4 _)
  fin_cases a <;> first | rfl | exact absurd rfl ha

theorem gatesPad_apply {x : FVec Ideal S1024x24 .f32} {X : ℕ → ℕ → EReal} (hx : Ent2 (a := 1024) (b := 24) x X) :
    Ent2 (a := 1024) (b := 128) (pad S1024x128 ![0, 0] ![0, 104] ![0, 0] x padZero pads_S1024x24_S1024x128_000_01040 h_S_)
      fun k c => if c < 24 then X k c else 0 := by
  intro y
  obtain ⟨k, c, rfl⟩ : ∃ (k : Fin 1024) (c : Fin 128), y = ix2 k c := ⟨_, _, eq_ix2 y⟩
  show _ = if c.val < 24 then X k.val c.val else 0
  by_cases h : c.val < 24
  · rw [if_pos h]
    refine (pad_apply_of_inside (s := S1024x24) (t := S1024x128) ![0, 0] ![0, 104] ![0, 0] x padZero _ h_S_ (ix2 k c) (ix2 k (⟨c.val, h⟩ : Fin 24)) (fun a => ?_)).trans (hx _)
    match a with
    | ⟨0, _⟩ => show k.val = 0 + k.val * (0 + 1); omega
    | ⟨1, _⟩ => show c.val = 0 + c.val * (0 + 1); omega
  · rw [if_neg h]
    refine (pad_apply_of_not_inside (s := S1024x24) (t := S1024x128) ![0, 0] ![0, 104] ![0, 0] x padZero _ h_S_ (ix2 k c) 1 (fun hi => h ?_)).trans (padZero_apply _)
    have h2 : (c.val - 0) / (0 + 1) < 24 := hi.2.2
    rw [Nat.sub_zero, Nat.zero_add, Nat.div_one] at h2
    exact h2

theorem headPad_apply {x : FVec Ideal S256x4x64 .f32} {X : ℕ → ℕ → ℕ → EReal} (hx : Ent3 (a := 256) (b := 4) (c := 64) x X) :
    Ent3 (a := 256) (b := 4) (c := 128) (padArr x) fun q h c => if c < 64 then X q h c else 0 := by
  intro y
  obtain ⟨k, e, c, rfl⟩ : ∃ (k : Fin 256) (e : Fin 4) (c : Fin 128), y = ix3 k e c := ⟨_, _, _, eq_ix3 y⟩
  show pad S256x4x128 ![0, 0, 0] ![0, 0, 64] ![0, 0, 0] x padZero pads_S256x4x64_S256x4x128_000_000_0640 h_S_ (ix3 k e c) = if c.val < 64 then X k.val e.val c.val else 0
  by_cases h : c.val < 64
  · rw [if_pos h]
    refine (pad_apply_of_inside (s := S256x4x64) (t := S256x4x128) ![0, 0, 0] ![0, 0, 64] ![0, 0, 0] x padZero _ h_S_ (ix3 k e c) (ix3 k e (⟨c.val, h⟩ : Fin 64)) (fun a => ?_)).trans (hx _)
    match a with
    | ⟨0, _⟩ => show k.val = 0 + k.val * (0 + 1); omega
    | ⟨1, _⟩ => show e.val = 0 + e.val * (0 + 1); omega
    | ⟨2, _⟩ => show c.val = 0 + c.val * (0 + 1); omega
  · rw [if_neg h]
    refine (pad_apply_of_not_inside (s := S256x4x64) (t := S256x4x128) ![0, 0, 0] ![0, 0, 64] ![0, 0, 0] x padZero _ h_S_ (ix3 k e c) 2 (fun hi => h ?_)).trans (padZero_apply _)
    have h2 : (c.val - 0) / (0 + 1) < 64 := hi.2.2
    rw [Nat.sub_zero, Nat.zero_add, Nat.div_one] at h2
    exact h2

theorem wideArr_apply {x : FVec Ideal S1024x2776 .f32} (hx : Ent2 (a := 1024) (b := 2776) x W) : Ent2 (a := 1024) (b := 1920) (wideArr x) (wideMat W) := by
  have s0 := slice2 (a := 1024) (b := 2776) (c := 1024) (d := 512) hx slices_S1024x2776_S1024x512_0_0
  have s1 := slice2 (a := 1024) (b := 2776) (c := 1024) (d := 512) hx slices_S1024x2776_S1024x512_0_1304
  have s2 := slice2 (a := 1024) (b := 2776) (c := 1024) (d := 512) hx slices_S1024x2776_S1024x512_0_2264
  have s3 := slice2 (a := 1024) (b := 2776) (c := 1024) (d := 256) hx slices_S1024x2776_S1024x256_0_1816
  have s4 := gatesPad_apply (slice2 (a := 1024) (b := 2776) (c := 1024) (d := 24) hx slices_S1024x2776_S1024x24_0_1280)
  have m0 : Ent2 (a := 1024) (b := 512) (mulf (F := Ideal) (φ := .f32) (extractStridedSlice S1024x512 ![0, 0] x slices_S1024x2776_S1024x512_0_0)
      (broadcastInDim S1024x512 ![] bcast_S_S1024x512 (constant (F := Ideal) S_ .f32 0x3E000000#32)))
      fun k c => W (0 + k) (0 + c) * FloatOps.ofBits (F := Ideal) .f32 0x3E000000#32 := fun y => congrArg (fun a : EReal => a * _) (s0 y)
  intro y
  refine (five_apply m0 s1 s2 s3 s4 y).trans ?_
  unfold wideMat
  simp only [Nat.zero_add]

theorem three_apply {y0 : FVec Ideal S1024x768 .f32} {y1 : FVec Ideal S1024x128 .f32} {y2 : FVec Ideal S1024x64 .f32} {Y0 Y1 Y2 : ℕ → ℕ → EReal}
    (h0 : Ent2 (a := 1024) (b := 768) y0 Y0) (h1 : Ent2 (a := 1024) (b := 128) y1 Y1) (h2 : Ent2 (a := 1024) (b := 64) y2 Y2) :
    Ent2 (a := 1024) (b := 960) (concatenate S1024x960 1 [⟨S1024x768, y0⟩, ⟨S1024x128, y1⟩, ⟨S1024x64, y2⟩] concatenates_S1024x768_S1024x128_S1024x64_S1024x960_d1)
      fun k c => if c < 768 then Y0 k c else if c < 896 then Y1 k (c - 768) else Y2 k (c - 896) := by
  intro y
  obtain ⟨k, c, rfl⟩ : ∃ (k : Fin 1024) (c : Fin 960), y = ix2 k c := ⟨_, _, eq_ix2 y⟩
  have hc : c.val < 960 := c.isLt
  show _ = if c.val < 768 then Y0 k.val c.val else if c.val < 896 then Y1 k.val (c.val - 768) else Y2 k.val (c.val - 896)
  by_cases c0 : c.val < 768
  · rw [if_pos c0]
    refine (concatenate_apply_piece (t := S1024x960) 1 _ _ _ 0 (by simp) S1024x768 y0 rfl rfl 0 rfl (ix2 k (⟨c.val, c0⟩ : Fin 768))
      (fun a ha => ?_) (by show 0 + c.val = c.val; omega)).trans (h0 _)
    fin_cases a <;> first | rfl | exact absurd rfl ha
  rw [if_neg c0]
  by_cases c1 : c.val < 896
  · rw [if_pos c1]
    refine (concatenate_apply_piece (t := S1024x960) 1 _ _ _ 1 (by simp) S1024x128 y1 rfl rfl 768 rfl (ix2 k (⟨c.val - 768, by omega⟩ : Fin 128))
      (fun a ha => ?_) (by show 768 + (c.val - 768) = c.val; omega)).trans (h1 _)
    fin_cases a <;> first | rfl | exact absurd rfl ha
  rw [if_neg c1]
  refine (concatenate_apply_piece (t := S1024x960) 1 _ _ _ 2 (by simp) S1024x64 y2 rfl rfl 896 rfl (ix2 k (⟨c.val - 896, by omega⟩ : Fin 64))
    (fun a ha => ?_) (by show 896 + (c.val - 896) = c.val; omega)).trans (h2 _)
  fin_cases a <;> first | rfl | exact absurd rfl ha

theorem tallArr_apply {x : FVec Ideal S1024x2776 .f32} (hx : Ent2 (a := 1024) (b := 2776) x W) :
    Ent2 (a := 1024) (b := 960) (tallArr x) fun k c => tallMat W c k := by
  have s0 := slice2 (a := 1024) (b := 2776) (c := 1024) (d := 768) hx slices_S1024x2776_S1024x768_0_512
  have s1 := slice2 (a := 1024) (b := 2776) (c := 1024) (d := 128) hx slices_S1024x2776_S1024x128_0_2072
  have s2 := slice2 (a := 1024) (b := 2776) (c := 1024) (d := 64) hx slices_S1024x2776_S1024x64_0_2200
  intro y
  refine (three_apply s0 s1 s2 y).trans ?_
  unfold tallMat
  simp only [Nat.zero_add]

theorem pair_apply {y0 y1 : FVec Ideal S256x4x32 .f32} {Y0 Y1 : ℕ → ℕ → ℕ → EReal}
    (h0 : Ent3 (a := 256) (b := 4) (c := 32) y0 Y0) (h1 : Ent3 (a := 256) (b := 4) (c := 32) y1 Y1) :
    Ent3 (a := 256) (b := 4) (c := 64) (concatenate S256x4x64 2 [⟨S256x4x32, y0⟩, ⟨S256x4x32, y1⟩] concatenates_S256x4x32_S256x4x32_S256x4x64_d2)
      fun q h c => if c < 32 then Y0 q h c else Y1 q h (c - 32) := by
  intro y
  obtain ⟨k, e, c, rfl⟩ : ∃ (k : Fin 256) (e : Fin 4) (c : Fin 64), y = ix3 k e c := ⟨_, _, _, eq_ix3 y⟩
  have hc : c.val < 64 := c.isLt
  show _ = if c.val < 32 then Y0 k.val e.val c.val else Y1 k.val e.val (c.val - 32)
  by_cases c0 : c.val < 32
  · rw [if_pos c0]
    refine (concatenate_apply_piece (t := S256x4x64) 2 _ _ _ 0 (by simp) S256x4x32 y0 rfl rfl 0 rfl (ix3 k e (⟨c.val, c0⟩ : Fin 32))
      (fun a ha => ?_) (by show 0 + c.val = c.val; omega)).trans (h0 _)
    fin_cases a <;> first | rfl | exact absurd rfl ha
  rw [if_neg c0]
  refine (concatenate_apply_piece (t := S256x4x64) 2 _ _ _ 1 (by simp) S256x4x32 y1 rfl rfl 32 rfl (ix3 k e (⟨c.val - 32, by omega⟩ : Fin 32))
    (fun a ha => ?_) (by show 32 + (c.val - 32) = c.val; omega)).trans (h1 _)
  fin_cases a <;> first | rfl | exact absurd rfl ha

theorem ropeArr_apply {x : FVec Ideal S256x4x192 .f32} (hx : Ent3 (a := 256) (b := 4) (c := 192) x U) :
    Ent3 (a := 256) (b := 4) (c := 64) (ropeArr x) fun q h c => U q h (128 + c) :=
  sliceLast (a := 256) (b := 4) (c := 192) (d := 64) hx slices_S256x4x192_S256x4x64_0_0_128

theorem swapArr_apply {x : FVec Ideal S256x4x64 .f32} (hx : Ent3 (a := 256) (b := 4) (c := 64) x U) :
    Ent3 (a := 256) (b := 4) (c := 64) (swapArr x) fun q h c => if c < 32 then -U q h (32 + c) else U q h (c - 32) := by
  have s0 := sliceLast (a := 256) (b := 4) (c := 64) (d := 32) hx slices_S256x4x64_S256x4x32_0_0_32
  have s1 := sliceLast (a := 256) (b := 4) (c := 64) (d := 32) hx slices_S256x4x64_S256x4x32_0_0_0
  have n0 : Ent3 (a := 256) (b := 4) (c := 32) (Host.negf (F := Ideal) (φ := .f32) (extractStridedSlice S256x4x32 ![0, 0, 32] x slices_S256x4x64_S256x4x32_0_0_32))
      fun q h c => -U q h (32 + c) := fun y => congrArg (fun a : EReal => -a) (s0 y)
  intro y
  refine (pair_apply n0 s1 y).trans ?_
  simp only [Nat.zero_add]

/-! ## The tables -/

theorem angleArr_apply : Ent2 (a := 4096) (b := 32) angleArr angle := by
  intro y
  obtain ⟨p, j, rfl⟩ : ∃ (p : Fin 4096) (j : Fin 32), y = ix2 p j := ⟨_, _, eq_ix2 y⟩
  unfold angleArr angle
  refine congrArg₂ (FloatOps.mulf (F := Ideal) (φ := .f32)) ?_ ?_
  · refine (broadcastInDim_apply _ bcast_S4096x1_S4096x32_0_1 _ _ (ix2 p (0 : Fin 1)) (fun a => ?_)).trans
      ((broadcastInDim_apply _ bcast_S4096_S4096x1_0 _ _ (ix1 p) (fun a => ?_)).trans rfl)
    · match a with
      | ⟨0, _⟩ => rfl
      | ⟨1, _⟩ => rfl
    · match a with
      | ⟨0, _⟩ => rfl
  · refine (broadcastInDim_apply _ bcast_S1x32_S4096x32_0_1 _ _ (ix2 (0 : Fin 1) j) (fun a => ?_)).trans
      ((broadcastInDim_apply _ bcast_S32_S1x32_1 _ _ (ix1 j) (fun a => ?_)).trans ?_)
    · match a with
      | ⟨0, _⟩ => rfl
      | ⟨1, _⟩ => rfl
    · match a with
      | ⟨0, _⟩ => rfl
    · rfl

theorem cosArr_apply : Ent2 (a := 4096) (b := 32) (Host.cos (F := Ideal) (φ := .f32) angleArr) cosAt := fun y =>
  congrArg (FloatOps.hostUnary (F := Ideal) (φ := .f32) .cos) (angleArr_apply y)

theorem sinArr_apply : Ent2 (a := 4096) (b := 32) (Host.sin (F := Ideal) (φ := .f32) angleArr) sinAt := fun y =>
  congrArg (FloatOps.hostUnary (F := Ideal) (φ := .f32) .sin) (angleArr_apply y)

theorem tableArr_apply {x : FVec Ideal S4096x32 .f32} {X : ℕ → ℕ → EReal} (hx : Ent2 (a := 4096) (b := 32) x X) :
    Ent2 (a := 4096) (b := 128) (tableArr x) (tableMat X) := by
  intro y
  obtain ⟨k, c, rfl⟩ : ∃ (k : Fin 4096) (c : Fin 128), y = ix2 k c := ⟨_, _, eq_ix2 y⟩
  have hc : c.val < 128 := c.isLt
  unfold tableArr tableMat
  show _ = if c.val < 32 then X k.val c.val else if c.val < 64 then X k.val (c.val - 32) else 0
  by_cases c0 : c.val < 32
  · rw [if_pos c0]
    refine (concatenate_apply_piece (t := S4096x128) 1 _ _ _ 0 (by simp) S4096x32 x rfl rfl 0 rfl (ix2 k (⟨c.val, c0⟩ : Fin 32))
      (fun a ha => ?_) (by show 0 + c.val = c.val; omega)).trans (hx _)
    fin_cases a <;> first | rfl | exact absurd rfl ha
  rw [if_neg c0]
  by_cases c1 : c.val < 64
  · rw [if_pos c1]
    refine (concatenate_apply_piece (t := S4096x128) 1 _ _ _ 1 (by simp) S4096x32 x rfl rfl 32 rfl (ix2 k (⟨c.val - 32, by omega⟩ : Fin 32))
      (fun a ha => ?_) (by show 32 + (c.val - 32) = c.val; omega)).trans (hx _)
    fin_cases a <;> first | rfl | exact absurd rfl ha
  rw [if_neg c1]
  refine (concatenate_apply_piece (t := S4096x128) 1 _ _ _ 2 (by simp) S4096x64 _ rfl rfl 64 rfl (ix2 k (⟨c.val - 64, by omega⟩ : Fin 64))
    (fun a ha => ?_) (by show 64 + (c.val - 64) = c.val; omega)).trans ?_
  · fin_cases a <;> first | rfl | exact absurd rfl ha
  · exact lit_zero

/-! ## The arrays as the call starts -/

variable (m : (ℓ : Loc nD τ sig) → Buf (Elt Ideal) ℓ) (dev : Dev nD)
  {A0 A6 A8 : ℕ → ℕ → ℕ → EReal} {A1 A4 : ℕ → ℕ → EReal} {A3 : ℕ → EReal}

theorem arr0 (h : Ent3 (a := 4) (b := 4096) (c := 1024) (m ((dev : Thread nD τ).loc main_arg0)) A0) :
    Ent2 (a := 16384) (b := 1024) (V m dev main_v36) fun r k => A0 (r / 4096) (r % 4096) k := by
  rw [V_v36]
  exact flat3 (a := 4) (b := 4096) (c := 1024) (n := 16384) h rfl shapeCasts_S4x4096x1024_S16384x1024

theorem mid_apply {x : FVec Ideal S4x1024 .f32} {X : ℕ → ℕ → EReal} (hx : Ent2 (a := 4) (b := 1024) x X) :
    Ent3 (a := 4) (b := 1) (c := 1024) (broadcastInDim S4x1x1024 ![0, 2] bcast_S4x1024_S4x1x1024_0_2 x) fun b _ k => X b k := by
  intro y
  obtain ⟨i, j, k, rfl⟩ : ∃ (i : Fin 4) (j : Fin 1) (k : Fin 1024), y = ix3 i j k := ⟨_, _, _, eq_ix3 y⟩
  refine (broadcastInDim_apply _ bcast_S4x1024_S4x1x1024_0_2 _ _ (ix2 i k) (fun a => ?_)).trans (hx _)
  match a with
  | ⟨0, _⟩ => rfl
  | ⟨1, _⟩ => rfl

theorem arr1 (h : Ent2 (a := 4) (b := 1024) (m ((dev : Thread nD τ).loc main_arg1)) A1) :
    Ent3 (a := 4) (b := 1) (c := 1024) (V m dev main_v37) fun b _ k => A1 b k := by
  rw [V_v37]; exact mid_apply h

theorem arr2 (h : Ent2 (a := 4) (b := 1024) (m ((dev : Thread nD τ).loc main_arg2)) A1) :
    Ent3 (a := 4) (b := 1) (c := 1024) (V m dev main_v38) fun b _ k => A1 b k := by
  rw [V_v38]; exact mid_apply h

theorem arr3 (h : Ent1 (a := 1024) (m ((dev : Thread nD τ).loc main_arg3)) A3) :
    Ent2 (a := 1) (b := 1024) (V m dev main_v32) fun _ k => A3 k := by
  rw [V_v32]
  intro y
  obtain ⟨i, k, rfl⟩ : ∃ (i : Fin 1) (k : Fin 1024), y = ix2 i k := ⟨_, _, eq_ix2 y⟩
  refine (broadcastInDim_apply _ bcast_S1024_S1x1024_1 _ _ (ix1 k) (fun a => ?_)).trans (h _)
  match a with
  | ⟨0, _⟩ => rfl

theorem arr4 (h : Ent2 (a := 1024) (b := 2776) (m ((dev : Thread nD τ).loc main_arg4)) A4) :
    Ent2 (a := 1024) (b := 1920) (V m dev main_v9) (wideMat A4) := by
  rw [V_v9]; exact wideArr_apply h

theorem arr5 (h : Ent2 (a := 1024) (b := 2776) (m ((dev : Thread nD τ).loc main_arg4)) A4) :
    Ent2 (a := 960) (b := 1024) (V m dev main_v15) (tallMat A4) := by
  rw [V_v15]
  exact swap2 (a := 1024) (b := 960) (tallArr_apply h) transposes_S1024x960_S960x1024_1_0

theorem arr6 (h : Ent1 (a := 256) (m ((dev : Thread nD τ).loc main_arg5)) A3) :
    Ent2 (a := 1) (b := 256) (V m dev main_v33) fun _ k => A3 k := by
  rw [V_v33]
  intro y
  obtain ⟨i, k, rfl⟩ : ∃ (i : Fin 1) (k : Fin 256), y = ix2 i k := ⟨_, _, eq_ix2 y⟩
  refine (broadcastInDim_apply _ bcast_S256_S1x256_1 _ _ (ix1 k) (fun a => ?_)).trans (h _)
  match a with
  | ⟨0, _⟩ => rfl

theorem arr7 (h : Ent3 (a := 256) (b := 4) (c := 192) (m ((dev : Thread nD τ).loc main_arg6)) A6) :
    Ent2 (a := 256) (b := 512) (V m dev main_v18) fun q c => A6 q (c / 128) (c % 128) := by
  rw [V_v18]
  have s := sliceLast (a := 256) (b := 4) (c := 192) (d := 128) h slices_S256x4x192_S256x4x128_0_0_0
  intro y
  refine (flatLast (a := 256) (b := 4) (c := 128) (n := 512) s rfl shapeCasts_S256x4x128_S256x512 y).trans ?_
  beta_reduce
  rw [Nat.zero_add]

theorem arr8 (h : Ent3 (a := 256) (b := 4) (c := 192) (m ((dev : Thread nD τ).loc main_arg6)) A6) :
    Ent2 (a := 256) (b := 512) (V m dev main_v26) (ropeMat A6) := by
  rw [V_v26]
  exact flatLast (a := 256) (b := 4) (c := 128) (n := 512) (headPad_apply (ropeArr_apply h)) rfl shapeCasts_S256x4x128_S256x512

theorem arr9 (h : Ent3 (a := 256) (b := 4) (c := 192) (m ((dev : Thread nD τ).loc main_arg6)) A6) :
    Ent2 (a := 256) (b := 512) (V m dev main_v29) (swapMat A6) := by
  rw [V_v29]
  exact flatLast (a := 256) (b := 4) (c := 128) (n := 512) (headPad_apply (swapArr_apply (ropeArr_apply h))) rfl shapeCasts_S256x4x128_S256x512

theorem arr10 (h : Ent3 (a := 128) (b := 4) (c := 128) (m ((dev : Thread nD τ).loc main_arg8)) A8) :
    Ent3 (a := 4) (b := 128) (c := 128) (V m dev main_v31) fun h n r => A8 r h n := by
  rw [V_v31]
  intro y
  obtain ⟨i, j, k, rfl⟩ : ∃ (i : Fin 4) (j : Fin 128) (k : Fin 128), y = ix3 i j k := ⟨_, _, _, eq_ix3 y⟩
  refine (transpose_apply (s := S128x4x128) (t := S4x128x128) [1, 2, 0] (m ((dev : Thread nD τ).loc main_arg8)) transposes_S128x4x128_S4x128x128_1_2_0 _
    (ix3 k i j) (fun a => ?_)).trans (h _)
  match a with
  | ⟨0, _⟩ => rfl
  | ⟨1, _⟩ => rfl
  | ⟨2, _⟩ => rfl

theorem arr11 (h : Ent1 (a := 128) (m ((dev : Thread nD τ).loc main_arg7)) A3) :
    Ent2 (a := 128) (b := 1) (V m dev main_v34) fun k _ => A3 k := by
  rw [V_v34]
  intro y
  obtain ⟨k, i, rfl⟩ : ∃ (k : Fin 128) (i : Fin 1), y = ix2 k i := ⟨_, _, eq_ix2 y⟩
  refine (broadcastInDim_apply _ bcast_S128_S128x1_0 _ _ (ix1 k) (fun a => ?_)).trans (h _)
  match a with
  | ⟨0, _⟩ => rfl

theorem arr12 : Ent2 (a := 4096) (b := 128) (V m dev main_v54) (tableMat cosAt) := by
  rw [V_v54]; exact tableArr_apply cosArr_apply

theorem arr13 : Ent2 (a := 4096) (b := 128) (V m dev main_v55) (tableMat sinAt) := by
  rw [V_v55]; exact tableArr_apply sinArr_apply

theorem arr14 : Ent2 (a := 32) (b := 4096) (V m dev main_v56) fun j p => cosAt p j := by
  rw [V_v56]; exact swap2 (a := 4096) (b := 32) cosArr_apply transposes_S4096x32_S32x4096_1_0

theorem arr15 : Ent2 (a := 32) (b := 4096) (V m dev main_v57) fun j p => sinAt p j := by
  rw [V_v57]; exact swap2 (a := 4096) (b := 32) sinArr_apply transposes_S4096x32_S32x4096_1_0

end Cert.Kernel2Ideal.Hand
end
-- ==== Proof.ProjArray.lean ====
/-
  The ten result arrays of the input projection: every grid point writes the projection of its 512 positions, and the 32 blocks tile each array.
-/
module

public import proofs.«01_k».proof.Proof.ProjOut
public import proofs.«01_k».proof.Proof.ProjEnt

@[expose] public section

set_option maxRecDepth 16384

noncomputable section

namespace Cert.Proj

open scoped BigOperators

/-! ## One position's projection, from the entries of the arguments -/

/-- The normalised and modulated row of one position. -/
def hiddenAt (A0 : ℕ → ℕ → ℕ → EReal) (A1 A2 : ℕ → ℕ → EReal) (A3 : ℕ → EReal) (b p : ℕ) : ℕ → EReal := hidden (A0 b p) A3 (A2 b) (A1 b)

variable (A0 : ℕ → ℕ → ℕ → EReal) (A1 A2 : ℕ → ℕ → EReal) (A3 : ℕ → EReal) (A4 : ℕ → ℕ → EReal) (A5 : ℕ → EReal)
  (A6 : ℕ → ℕ → ℕ → EReal) (A7 : ℕ → EReal) (A8 : ℕ → ℕ → ℕ → EReal)

def wideAt (b p : ℕ) : ℕ → EReal := mul 1024 (hiddenAt A0 A1 A2 A3 b p) (wideMat A4)

def tallAt (b p c : ℕ) : EReal := ∑ k ∈ Finset.range 1024, tallMat A4 c k * hiddenAt A0 A1 A2 A3 b p k

def latentQueryAt (b p : ℕ) : ℕ → EReal := normed 0x43800000#32 256 (fun k => wideAt A0 A1 A2 A3 A4 b p (1536 + k)) A5

def rotaryAt (b p k : ℕ) : EReal :=
  mul 256 (latentQueryAt A0 A1 A2 A3 A4 A5 b p) (ropeMat A6) k * tableMat cosAt p (k % 128)
    + mul 256 (latentQueryAt A0 A1 A2 A3 A4 A5 b p) (swapMat A6) k * tableMat sinAt p (k % 128)

def packedAt (b p : ℕ) : ℕ → EReal :=
  packed (mul 256 (latentQueryAt A0 A1 A2 A3 A4 A5 b p) fun q c => A6 q (c / 128) (c % 128)) (rotaryAt A0 A1 A2 A3 A4 A5 A6 b p) fun h n r => A8 r h n

def latentAt (b p : ℕ) : ℕ → EReal := latent (tallAt A0 A1 A2 A3 A4 b p) A7 (cosAt p) (sinAt p)

end Cert.Proj

namespace Cert.Kernel2Ideal.Hand

open Cert.Kernel2Ideal Cert.Kernel2Ideal.Gen Cert.Ent Cert.Proj
open Idealize.ShloMosaic Idealize.ShloMosaic.TcCoe Idealize.ShloMosaic.ValueIdx Idealize.ShloMosaic.StableHlo
open scoped BigOperators

/-! ## Where the blocks of a grid point lie -/

/-- The grid coordinate of a point. -/
abbrev gp (t : Fin cfg0.N) : ℕ := (grid0.coords t 0).val

theorem gp_lt : ∀ t : Fin cfg0.N, gp t < 32 := (by decide +kernel : ∀ t : Fin grid0.N, (grid0.coords t 0).val < 32)

theorem idx0 : ∀ t : Fin cfg0.N, win0_0.index t 0 = gp t ∧ win0_0.index t 1 = 0 :=
  (by decide +kernel : ∀ t : Fin grid0.N, win0_0.index t 0 = (grid0.coords t 0).val ∧ win0_0.index t 1 = 0)

theorem idx1 : ∀ t : Fin cfg0.N, win0_1.index t 0 = gp t / 8 ∧ win0_1.index t 1 = 0 ∧ win0_1.index t 2 = 0 :=
  (by decide +kernel : ∀ t : Fin grid0.N, win0_1.index t 0 = (grid0.coords t 0).val / 8 ∧ win0_1.index t 1 = 0 ∧ win0_1.index t 2 = 0)

theorem idx2 : ∀ t : Fin cfg0.N, win0_2.index t 0 = gp t / 8 ∧ win0_2.index t 1 = 0 ∧ win0_2.index t 2 = 0 :=
  (by decide +kernel : ∀ t : Fin grid0.N, win0_2.index t 0 = (grid0.coords t 0).val / 8 ∧ win0_2.index t 1 = 0 ∧ win0_2.index t 2 = 0)

theorem idx3 : ∀ t : Fin cfg0.N, win0_3.index t 0 = 0 ∧ win0_3.index t 1 = 0 :=
  (by decide +kernel : ∀ t : Fin grid0.N, win0_3.index t 0 = 0 ∧ win0_3.index t 1 = 0)

theorem idx4 : ∀ t : Fin cfg0.N, win0_4.index t 0 = 0 ∧ win0_4.index t 1 = 0 :=
  (by decide +kernel : ∀ t : Fin grid0.N, win0_4.index t 0 = 0 ∧ win0_4.index t 1 = 0)

theorem idx5 : ∀ t : Fin cfg0.N, win0_5.index t 0 = 0 ∧ win0_5.index t 1 = 0 :=
  (by decide +kernel : ∀ t : Fin grid0.N, win0_5.index t 0 = 0 ∧ win0_5.index t 1 = 0)

theorem idx6 : ∀ t : Fin cfg0.N, win0_6.index t 0 = 0 ∧ win0_6.index t 1 = 0 :=
  (by decide +kernel : ∀ t : Fin grid0.N, win0_6.index t 0 = 0 ∧ win0_6.index t 1 = 0)

theorem idx7 : ∀ t : Fin cfg0.N, win0_7.index t 0 = 0 ∧ win0_7.index t 1 = 0 :=
  (by decide +kernel : ∀ t : Fin grid0.N, win0_7.index t 0 = 0 ∧ win0_7.index t 1 = 0)

theorem idx8 : ∀ t : Fin cfg0.N, win0_8.index t 0 = 0 ∧ win0_8.index t 1 = 0 :=
  (by decide +kernel : ∀ t : Fin grid0.N, win0_8.index t 0 = 0 ∧ win0_8.index t 1 = 0)

theorem idx9 : ∀ t : Fin cfg0.N, win0_9.index t 0 = 0 ∧ win0_9.index t 1 = 0 :=
  (by decide +kernel : ∀ t : Fin grid0.N, win0_9.index t 0 = 0 ∧ win0_9.index t 1 = 0)

theorem idx10 : ∀ t : Fin cfg0.N, win0_10.index t 0 = 0 ∧ win0_10.index t 1 = 0 ∧ win0_10.index t 2 = 0 :=
  (by decide +kernel : ∀ t : Fin grid0.N, win0_10.index t 0 = 0 ∧ win0_10.index t 1 = 0 ∧ win0_10.index t 2 = 0)

theorem idx11 : ∀ t : Fin cfg0.N, win0_11.index t 0 = 0 ∧ win0_11.index t 1 = 0 :=
  (by decide +kernel : ∀ t : Fin grid0.N, win0_11.index t 0 = 0 ∧ win0_11.index t 1 = 0)

theorem idx12 : ∀ t : Fin cfg0.N, win0_12.index t 0 = gp t % 8 ∧ win0_12.index t 1 = 0 :=
  (by decide +kernel : ∀ t : Fin grid0.N, win0_12.index t 0 = (grid0.coords t 0).val % 8 ∧ win0_12.index t 1 = 0)

theorem idx13 : ∀ t : Fin cfg0.N, win0_13.index t 0 = gp t % 8 ∧ win0_13.index t 1 = 0 :=
  (by decide +kernel : ∀ t : Fin grid0.N, win0_13.index t 0 = (grid0.coords t 0).val % 8 ∧ win0_13.index t 1 = 0)

theorem idx14 : ∀ t : Fin cfg0.N, win0_14.index t 0 = 0 ∧ win0_14.index t 1 = gp t % 8 :=
  (by decide +kernel : ∀ t : Fin grid0.N, win0_14.index t 0 = 0 ∧ win0_14.index t 1 = (grid0.coords t 0).val % 8)

theorem idx15 : ∀ t : Fin cfg0.N, win0_15.index t 0 = 0 ∧ win0_15.index t 1 = gp t % 8 :=
  (by decide +kernel : ∀ t : Fin grid0.N, win0_15.index t 0 = 0 ∧ win0_15.index t 1 = (grid0.coords t 0).val % 8)

theorem idx16 : ∀ t : Fin cfg0.N, win0_16.index t 0 = gp t ∧ win0_16.index t 1 = 0 :=
  (by decide +kernel : ∀ t : Fin grid0.N, win0_16.index t 0 = (grid0.coords t 0).val ∧ win0_16.index t 1 = 0)

theorem idx17 : ∀ t : Fin cfg0.N, win0_17.index t 0 = gp t ∧ win0_17.index t 1 = 0 :=
  (by decide +kernel : ∀ t : Fin grid0.N, win0_17.index t 0 = (grid0.coords t 0).val ∧ win0_17.index t 1 = 0)

theorem idx18 : ∀ t : Fin cfg0.N, win0_18.index t 0 = gp t ∧ win0_18.index t 1 = 0 :=
  (by decide +kernel : ∀ t : Fin grid0.N, win0_18.index t 0 = (grid0.coords t 0).val ∧ win0_18.index t 1 = 0)

theorem idx19 : ∀ t : Fin cfg0.N, win0_19.index t 0 = gp t ∧ win0_19.index t 1 = 0 :=
  (by decide +kernel : ∀ t : Fin grid0.N, win0_19.index t 0 = (grid0.coords t 0).val ∧ win0_19.index t 1 = 0)

theorem idx20 : ∀ t : Fin cfg0.N, win0_20.index t 0 = gp t ∧ win0_20.index t 1 = 0 :=
  (by decide +kernel : ∀ t : Fin grid0.N, win0_20.index t 0 = (grid0.coords t 0).val ∧ win0_20.index t 1 = 0)

theorem idx21 : ∀ t : Fin cfg0.N, win0_21.index t 0 = gp t / 8 ∧ win0_21.index t 1 = 0 ∧ win0_21.index t 2 = gp t % 8 :=
  (by decide +kernel : ∀ t : Fin grid0.N, win0_21.index t 0 = (grid0.coords t 0).val / 8 ∧ win0_21.index t 1 = 0 ∧ win0_21.index t 2 = (grid0.coords t 0).val % 8)

theorem idx22 : ∀ t : Fin cfg0.N, win0_22.index t 0 = gp t / 8 ∧ win0_22.index t 1 = 0 ∧ win0_22.index t 2 = gp t % 8 :=
  (by decide +kernel : ∀ t : Fin grid0.N, win0_22.index t 0 = (grid0.coords t 0).val / 8 ∧ win0_22.index t 1 = 0 ∧ win0_22.index t 2 = (grid0.coords t 0).val % 8)

theorem idx23 : ∀ t : Fin cfg0.N, win0_23.index t 0 = gp t / 8 ∧ win0_23.index t 1 = 0 ∧ win0_23.index t 2 = gp t % 8 :=
  (by decide +kernel : ∀ t : Fin grid0.N, win0_23.index t 0 = (grid0.coords t 0).val / 8 ∧ win0_23.index t 1 = 0 ∧ win0_23.index t 2 = (grid0.coords t 0).val % 8)

theorem idx24 : ∀ t : Fin cfg0.N, win0_24.index t 0 = gp t / 8 ∧ win0_24.index t 1 = 0 ∧ win0_24.index t 2 = gp t % 8 :=
  (by decide +kernel : ∀ t : Fin grid0.N, win0_24.index t 0 = (grid0.coords t 0).val / 8 ∧ win0_24.index t 1 = 0 ∧ win0_24.index t 2 = (grid0.coords t 0).val % 8)

theorem idx25 : ∀ t : Fin cfg0.N, win0_25.index t 0 = gp t / 8 ∧ win0_25.index t 1 = 0 ∧ win0_25.index t 2 = gp t % 8 :=
  (by decide +kernel : ∀ t : Fin grid0.N, win0_25.index t 0 = (grid0.coords t 0).val / 8 ∧ win0_25.index t 1 = 0 ∧ win0_25.index t 2 = (grid0.coords t 0).val % 8)

theorem onto16 : ∀ k : Fin 32, ∃ t : Fin cfg0.N, gp t = k.val :=
  (by decide +kernel : ∀ k : Fin 32, ∃ t : Fin grid0.N, (grid0.coords t 0).val = k.val)

variable (m : (ℓ : Loc nD τ sig) → Buf (Elt Ideal) ℓ) (c : Dev nD)

/-- The entries of the nine arguments. -/
structure Args (A0 : ℕ → ℕ → ℕ → EReal) (A1 A2 : ℕ → ℕ → EReal) (A3 : ℕ → EReal) (A4 : ℕ → ℕ → EReal) (A5 : ℕ → EReal) (A6 : ℕ → ℕ → ℕ → EReal) (A7 : ℕ → EReal) (A8 : ℕ → ℕ → ℕ → EReal) : Prop where
  h0 : Ent3 (a := 4) (b := 4096) (c := 1024) (m ((c : Thread nD τ).loc main_arg0)) A0
  h1 : Ent2 (a := 4) (b := 1024) (m ((c : Thread nD τ).loc main_arg1)) A1
  h2 : Ent2 (a := 4) (b := 1024) (m ((c : Thread nD τ).loc main_arg2)) A2
  h3 : Ent1 (a := 1024) (m ((c : Thread nD τ).loc main_arg3)) A3
  h4 : Ent2 (a := 1024) (b := 2776) (m ((c : Thread nD τ).loc main_arg4)) A4
  h5 : Ent1 (a := 256) (m ((c : Thread nD τ).loc main_arg5)) A5
  h6 : Ent3 (a := 256) (b := 4) (c := 192) (m ((c : Thread nD τ).loc main_arg6)) A6
  h7 : Ent1 (a := 128) (m ((c : Thread nD τ).loc main_arg7)) A7
  h8 : Ent3 (a := 128) (b := 4) (c := 128) (m ((c : Thread nD τ).loc main_arg8)) A8

variable {A0 : ℕ → ℕ → ℕ → EReal} {A1 A2 : ℕ → ℕ → EReal} {A3 : ℕ → EReal} {A4 : ℕ → ℕ → EReal} {A5 : ℕ → EReal} {A6 : ℕ → ℕ → ℕ → EReal} {A7 : ℕ → EReal} {A8 : ℕ → ℕ → ℕ → EReal}
variable {m c}

/-! ## The sixteen input blocks -/

theorem block0 (h : Args m c A0 A1 A2 A3 A4 A5 A6 A7 A8) (t : Fin cfg0.N) : Ent2 (a := 512) (b := 1024) (iblk m c 0 t) (fun r k => A0 (gp t / 8) (512 * (gp t % 8) + r) k) := by
  intro y
  obtain ⟨i0, i1⟩ := idx0 t
  have e0 : ((win0_0.rect t).emb y 0).val = win0_0.index t 0 * 512 + (y 0).val := Pipeline.Window.rect_emb_val win0_0 t y 0
  have e1 : ((win0_0.rect t).emb y 1).val = win0_0.index t 1 * 1024 + (y 1).val := Pipeline.Window.rect_emb_val win0_0 t y 1
  show (V m c main_v36 : S16384x1024.Idx → EReal) ((win0_0.rect t).emb y) = _
  refine (arr0 m c h.h0 ((win0_0.rect t).emb y)).trans ?_
  beta_reduce
  have b0 : (y 0).val < 512 := (y 0).isLt
  have q0 : (gp t * 512 + (y 0).val) / 4096 = gp t / 8 := by omega
  have q1 : (gp t * 512 + (y 0).val) % 4096 = 512 * (gp t % 8) + (y 0).val := by omega
  rw [e0, i0, q0, q1, e1, i1, Nat.zero_mul, Nat.zero_add]

theorem block1 (h : Args m c A0 A1 A2 A3 A4 A5 A6 A7 A8) (t : Fin cfg0.N) : Ent3 (a := 1) (b := 1) (c := 1024) (iblk m c 1 t) (fun _ _ k => A1 (gp t / 8) k) := by
  intro y
  obtain ⟨i0, i1, i2⟩ := idx1 t
  have e0 : ((win0_1.rect t).emb y 0).val = win0_1.index t 0 * 1 + (y 0).val := Pipeline.Window.rect_emb_val win0_1 t y 0
  have e1 : ((win0_1.rect t).emb y 1).val = win0_1.index t 1 * 1 + (y 1).val := Pipeline.Window.rect_emb_val win0_1 t y 1
  have e2 : ((win0_1.rect t).emb y 2).val = win0_1.index t 2 * 1024 + (y 2).val := Pipeline.Window.rect_emb_val win0_1 t y 2
  show (V m c main_v37 : S4x1x1024.Idx → EReal) ((win0_1.rect t).emb y) = _
  refine (arr1 m c h.h1 ((win0_1.rect t).emb y)).trans ?_
  beta_reduce
  have b0 : (y 0).val = 0 := by have : (y 0).val < 1 := (y 0).isLt; omega
  rw [e0, i0, b0, Nat.mul_one, Nat.add_zero, e2, i2, Nat.zero_mul, Nat.zero_add]

theorem block2 (h : Args m c A0 A1 A2 A3 A4 A5 A6 A7 A8) (t : Fin cfg0.N) : Ent3 (a := 1) (b := 1) (c := 1024) (iblk m c 2 t) (fun _ _ k => A2 (gp t / 8) k) := by
  intro y
  obtain ⟨i0, i1, i2⟩ := idx2 t
  have e0 : ((win0_2.rect t).emb y 0).val = win0_2.index t 0 * 1 + (y 0).val := Pipeline.Window.rect_emb_val win0_2 t y 0
  have e1 : ((win0_2.rect t).emb y 1).val = win0_2.index t 1 * 1 + (y 1).val := Pipeline.Window.rect_emb_val win0_2 t y 1
  have e2 : ((win0_2.rect t).emb y 2).val = win0_2.index t 2 * 1024 + (y 2).val := Pipeline.Window.rect_emb_val win0_2 t y 2
  show (V m c main_v38 : S4x1x1024.Idx → EReal) ((win0_2.rect t).emb y) = _
  refine (arr2 m c h.h2 ((win0_2.rect t).emb y)).trans ?_
  beta_reduce
  have b0 : (y 0).val = 0 := by have : (y 0).val < 1 := (y 0).isLt; omega
  rw [e0, i0, b0, Nat.mul_one, Nat.add_zero, e2, i2, Nat.zero_mul, Nat.zero_add]

theorem block3 (h : Args m c A0 A1 A2 A3 A4 A5 A6 A7 A8) (t : Fin cfg0.N) : Ent2 (a := 1) (b := 1024) (iblk m c 3 t) (fun _ k => A3 k) := by
  intro y
  obtain ⟨i0, i1⟩ := idx3 t
  have e0 : ((win0_3.rect t).emb y 0).val = win0_3.index t 0 * 1 + (y 0).val := Pipeline.Window.rect_emb_val win0_3 t y 0
  have e1 : ((win0_3.rect t).emb y 1).val = win0_3.index t 1 * 1024 + (y 1).val := Pipeline.Window.rect_emb_val win0_3 t y 1
  show (V m c main_v32 : S1x1024.Idx → EReal) ((win0_3.rect t).emb y) = _
  refine (arr3 m c h.h3 ((win0_3.rect t).emb y)).trans ?_
  beta_reduce
  rw [e1, i1, Nat.zero_mul, Nat.zero_add]

theorem block4 (h : Args m c A0 A1 A2 A3 A4 A5 A6 A7 A8) (t : Fin cfg0.N) : Ent2 (a := 1024) (b := 1920) (iblk m c 4 t) (wideMat A4) := by
  intro y
  obtain ⟨i0, i1⟩ := idx4 t
  have e0 : ((win0_4.rect t).emb y 0).val = win0_4.index t 0 * 1024 + (y 0).val := Pipeline.Window.rect_emb_val win0_4 t y 0
  have e1 : ((win0_4.rect t).emb y 1).val = win0_4.index t 1 * 1920 + (y 1).val := Pipeline.Window.rect_emb_val win0_4 t y 1
  show (V m c main_v9 : S1024x1920.Idx → EReal) ((win0_4.rect t).emb y) = _
  refine (arr4 m c h.h4 ((win0_4.rect t).emb y)).trans ?_
  beta_reduce
  rw [e0, i0, e1, i1]
  simp only [Nat.zero_mul, Nat.zero_add]

theorem block5 (h : Args m c A0 A1 A2 A3 A4 A5 A6 A7 A8) (t : Fin cfg0.N) : Ent2 (a := 960) (b := 1024) (iblk m c 5 t) (tallMat A4) := by
  intro y
  obtain ⟨i0, i1⟩ := idx5 t
  have e0 : ((win0_5.rect t).emb y 0).val = win0_5.index t 0 * 960 + (y 0).val := Pipeline.Window.rect_emb_val win0_5 t y 0
  have e1 : ((win0_5.rect t).emb y 1).val = win0_5.index t 1 * 1024 + (y 1).val := Pipeline.Window.rect_emb_val win0_5 t y 1
  show (V m c main_v15 : S960x1024.Idx → EReal) ((win0_5.rect t).emb y) = _
  refine (arr5 m c h.h4 ((win0_5.rect t).emb y)).trans ?_
  beta_reduce
  rw [e0, i0, e1, i1]
  simp only [Nat.zero_mul, Nat.zero_add]

theorem block6 (h : Args m c A0 A1 A2 A3 A4 A5 A6 A7 A8) (t : Fin cfg0.N) : Ent2 (a := 1) (b := 256) (iblk m c 6 t) (fun _ k => A5 k) := by
  intro y
  obtain ⟨i0, i1⟩ := idx6 t
  have e0 : ((win0_6.rect t).emb y 0).val = win0_6.index t 0 * 1 + (y 0).val := Pipeline.Window.rect_emb_val win0_6 t y 0
  have e1 : ((win0_6.rect t).emb y 1).val = win0_6.index t 1 * 256 + (y 1).val := Pipeline.Window.rect_emb_val win0_6 t y 1
  show (V m c main_v33 : S1x256.Idx → EReal) ((win0_6.rect t).emb y) = _
  refine (arr6 m c h.h5 ((win0_6.rect t).emb y)).trans ?_
  beta_reduce
  rw [e1, i1, Nat.zero_mul, Nat.zero_add]

theorem block7 (h : Args m c A0 A1 A2 A3 A4 A5 A6 A7 A8) (t : Fin cfg0.N) : Ent2 (a := 256) (b := 512) (iblk m c 7 t) (fun q c => A6 q (c / 128) (c % 128)) := by
  intro y
  obtain ⟨i0, i1⟩ := idx7 t
  have e0 : ((win0_7.rect t).emb y 0).val = win0_7.index t 0 * 256 + (y 0).val := Pipeline.Window.rect_emb_val win0_7 t y 0
  have e1 : ((win0_7.rect t).emb y 1).val = win0_7.index t 1 * 512 + (y 1).val := Pipeline.Window.rect_emb_val win0_7 t y 1
  show (V m c main_v18 : S256x512.Idx → EReal) ((win0_7.rect t).emb y) = _
  refine (arr7 m c h.h6 ((win0_7.rect t).emb y)).trans ?_
  beta_reduce
  rw [e0, i0, e1, i1]
  simp only [Nat.zero_mul, Nat.zero_add]

theorem block8 (h : Args m c A0 A1 A2 A3 A4 A5 A6 A7 A8) (t : Fin cfg0.N) : Ent2 (a := 256) (b := 512) (iblk m c 8 t) (ropeMat A6) := by
  intro y
  obtain ⟨i0, i1⟩ := idx8 t
  have e0 : ((win0_8.rect t).emb y 0).val = win0_8.index t 0 * 256 + (y 0).val := Pipeline.Window.rect_emb_val win0_8 t y 0
  have e1 : ((win0_8.rect t).emb y 1).val = win0_8.index t 1 * 512 + (y 1).val := Pipeline.Window.rect_emb_val win0_8 t y 1
  show (V m c main_v26 : S256x512.Idx → EReal) ((win0_8.rect t).emb y) = _
  refine (arr8 m c h.h6 ((win0_8.rect t).emb y)).trans ?_
  beta_reduce
  rw [e0, i0, e1, i1]
  simp only [Nat.zero_mul, Nat.zero_add]

theorem block9 (h : Args m c A0 A1 A2 A3 A4 A5 A6 A7 A8) (t : Fin cfg0.N) : Ent2 (a := 256) (b := 512) (iblk m c 9 t) (swapMat A6) := by
  intro y
  obtain ⟨i0, i1⟩ := idx9 t
  have e0 : ((win0_9.rect t).emb y 0).val = win0_9.index t 0 * 256 + (y 0).val := Pipeline.Window.rect_emb_val win0_9 t y 0
  have e1 : ((win0_9.rect t).emb y 1).val = win0_9.index t 1 * 512 + (y 1).val := Pipeline.Window.rect_emb_val win0_9 t y 1
  show (V m c main_v29 : S256x512.Idx → EReal) ((win0_9.rect t).emb y) = _
  refine (arr9 m c h.h6 ((win0_9.rect t).emb y)).trans ?_
  beta_reduce
  rw [e0, i0, e1, i1]
  simp only [Nat.zero_mul, Nat.zero_add]

theorem block10 (h : Args m c A0 A1 A2 A3 A4 A5 A6 A7 A8) (t : Fin cfg0.N) : Ent3 (a := 4) (b := 128) (c := 128) (iblk m c 10 t) (fun h n r => A8 r h n) := by
  intro y
  obtain ⟨i0, i1, i2⟩ := idx10 t
  have e0 : ((win0_10.rect t).emb y 0).val = win0_10.index t 0 * 4 + (y 0).val := Pipeline.Window.rect_emb_val win0_10 t y 0
  have e1 : ((win0_10.rect t).emb y 1).val = win0_10.index t 1 * 128 + (y 1).val := Pipeline.Window.rect_emb_val win0_10 t y 1
  have e2 : ((win0_10.rect t).emb y 2).val = win0_10.index t 2 * 128 + (y 2).val := Pipeline.Window.rect_emb_val win0_10 t y 2
  show (V m c main_v31 : S4x128x128.Idx → EReal) ((win0_10.rect t).emb y) = _
  refine (arr10 m c h.h8 ((win0_10.rect t).emb y)).trans ?_
  beta_reduce
  rw [e0, i0, e1, i1, e2, i2]
  simp only [Nat.zero_mul, Nat.zero_add]

theorem block11 (h : Args m c A0 A1 A2 A3 A4 A5 A6 A7 A8) (t : Fin cfg0.N) : Ent2 (a := 128) (b := 1) (iblk m c 11 t) (fun k _ => A7 k) := by
  intro y
  obtain ⟨i0, i1⟩ := idx11 t
  have e0 : ((win0_11.rect t).emb y 0).val = win0_11.index t 0 * 128 + (y 0).val := Pipeline.Window.rect_emb_val win0_11 t y 0
  have e1 : ((win0_11.rect t).emb y 1).val = win0_11.index t 1 * 1 + (y 1).val := Pipeline.Window.rect_emb_val win0_11 t y 1
  show (V m c main_v34 : S128x1.Idx → EReal) ((win0_11.rect t).emb y) = _
  refine (arr11 m c h.h7 ((win0_11.rect t).emb y)).trans ?_
  beta_reduce
  rw [e0, i0, Nat.zero_mul, Nat.zero_add]

theorem block12 (t : Fin cfg0.N) : Ent2 (a := 512) (b := 128) (iblk m c 12 t) (fun r => tableMat cosAt (512 * (gp t % 8) + r)) := by
  intro y
  obtain ⟨i0, i1⟩ := idx12 t
  have e0 : ((win0_12.rect t).emb y 0).val = win0_12.index t 0 * 512 + (y 0).val := Pipeline.Window.rect_emb_val win0_12 t y 0
  have e1 : ((win0_12.rect t).emb y 1).val = win0_12.index t 1 * 128 + (y 1).val := Pipeline.Window.rect_emb_val win0_12 t y 1
  show (V m c main_v54 : S4096x128.Idx → EReal) ((win0_12.rect t).emb y) = _
  refine (arr12 m c ((win0_12.rect t).emb y)).trans ?_
  beta_reduce
  rw [e0, i0, e1, i1, Nat.zero_mul, Nat.zero_add, Nat.mul_comm _ 512]

theorem block13 (t : Fin cfg0.N) : Ent2 (a := 512) (b := 128) (iblk m c 13 t) (fun r => tableMat sinAt (512 * (gp t % 8) + r)) := by
  intro y
  obtain ⟨i0, i1⟩ := idx13 t
  have e0 : ((win0_13.rect t).emb y 0).val = win0_13.index t 0 * 512 + (y 0).val := Pipeline.Window.rect_emb_val win0_13 t y 0
  have e1 : ((win0_13.rect t).emb y 1).val = win0_13.index t 1 * 128 + (y 1).val := Pipeline.Window.rect_emb_val win0_13 t y 1
  show (V m c main_v55 : S4096x128.Idx → EReal) ((win0_13.rect t).emb y) = _
  refine (arr13 m c ((win0_13.rect t).emb y)).trans ?_
  beta_reduce
  rw [e0, i0, e1, i1, Nat.zero_mul, Nat.zero_add, Nat.mul_comm _ 512]

theorem block14 (t : Fin cfg0.N) : Ent2 (a := 32) (b := 512) (iblk m c 14 t) (fun j r => cosAt (512 * (gp t % 8) + r) j) := by
  intro y
  obtain ⟨i0, i1⟩ := idx14 t
  have e0 : ((win0_14.rect t).emb y 0).val = win0_14.index t 0 * 32 + (y 0).val := Pipeline.Window.rect_emb_val win0_14 t y 0
  have e1 : ((win0_14.rect t).emb y 1).val = win0_14.index t 1 * 512 + (y 1).val := Pipeline.Window.rect_emb_val win0_14 t y 1
  show (V m c main_v56 : S32x4096.Idx → EReal) ((win0_14.rect t).emb y) = _
  refine (arr14 m c ((win0_14.rect t).emb y)).trans ?_
  beta_reduce
  rw [e0, i0, e1, i1, Nat.zero_mul, Nat.zero_add, Nat.mul_comm _ 512]

theorem block15 (t : Fin cfg0.N) : Ent2 (a := 32) (b := 512) (iblk m c 15 t) (fun j r => sinAt (512 * (gp t % 8) + r) j) := by
  intro y
  obtain ⟨i0, i1⟩ := idx15 t
  have e0 : ((win0_15.rect t).emb y 0).val = win0_15.index t 0 * 32 + (y 0).val := Pipeline.Window.rect_emb_val win0_15 t y 0
  have e1 : ((win0_15.rect t).emb y 1).val = win0_15.index t 1 * 512 + (y 1).val := Pipeline.Window.rect_emb_val win0_15 t y 1
  show (V m c main_v57 : S32x4096.Idx → EReal) ((win0_15.rect t).emb y) = _
  refine (arr15 m c ((win0_15.rect t).emb y)).trans ?_
  beta_reduce
  rw [e0, i0, e1, i1, Nat.zero_mul, Nat.zero_add, Nat.mul_comm _ 512]

theorem blocks (h : Args m c A0 A1 A2 A3 A4 A5 A6 A7 A8) (t : Fin cfg0.N) : Blocks (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (fun r k => A0 (gp t / 8) (512 * (gp t % 8) + r) k) (fun _ _ k => A1 (gp t / 8) k) (fun _ _ k => A2 (gp t / 8) k) (fun _ k => A3 k) (wideMat A4) (tallMat A4) (fun _ k => A5 k) (fun q c => A6 q (c / 128) (c % 128)) (ropeMat A6) (swapMat A6) (fun h n r => A8 r h n) (fun k _ => A7 k) (fun r => tableMat cosAt (512 * (gp t % 8) + r)) (fun r => tableMat sinAt (512 * (gp t % 8) + r)) (fun j r => cosAt (512 * (gp t % 8) + r) j) (fun j r => sinAt (512 * (gp t % 8) + r) j) :=
  ⟨block0 h t, block1 h t, block2 h t, block3 h t, block4 h t, block5 h t, block6 h t, block7 h t, block8 h t, block9 h t, block10 h t, block11 h t, block12 t, block13 t, block14 t, block15 t⟩

/-! ## The ten result arrays -/

/-- Result 0 of one position. -/
def at16 (A0 : ℕ → ℕ → ℕ → EReal) (A1 : ℕ → ℕ → EReal) (A2 : ℕ → ℕ → EReal) (A3 : ℕ → EReal) (A4 : ℕ → ℕ → EReal) (b p k : ℕ) : EReal := wideAt A0 A1 A2 A3 A4 b p k

def arr16 (A0 : ℕ → ℕ → ℕ → EReal) (A1 : ℕ → ℕ → EReal) (A2 : ℕ → ℕ → EReal) (A3 : ℕ → EReal) (A4 : ℕ → ℕ → EReal) : Vec Ideal S16384x512 .bf16 := fun y => at16 A0 A1 A2 A3 A4 ((y 0).val / 4096) ((y 0).val % 4096) (y 1).val

theorem flushed16 (h : Args m c A0 A1 A2 A3 A4 A5 A6 A7 A8) (t : Fin cfg0.N) :
    (dats m 0 c).flushed 16 t = (win0_16.blk t).view.read (Elt Ideal) (arr16 A0 A1 A2 A3 A4) := by
  have hf : (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
    show (cfg0.win 16).cut (grid0.coords t) ((dats m 0 c).after 16 t) = _
    rw [after0_16]
  rw [hf]
  funext y
  obtain ⟨i0, i1⟩ := idx16 t
  have e0 : ((win0_16.rect t).emb y 0).val = win0_16.index t 0 * 512 + (y 0).val := Pipeline.Window.rect_emb_val win0_16 t y 0
  have e1 : ((win0_16.rect t).emb y 1).val = win0_16.index t 1 * 512 + (y 1).val := Pipeline.Window.rect_emb_val win0_16 t y 1
  have b0 : (y 0).val < 512 := (y 0).isLt
  have q0 : (gp t * 512 + (y 0).val) / 4096 = gp t / 8 := by omega
  have q1 : (gp t * 512 + (y 0).val) % 4096 = 512 * (gp t % 8) + (y 0).val := by omega
  refine (out16_apply (blocks h t) y).trans ?_
  show at16 A0 A1 A2 A3 A4 (gp t / 8) (512 * (gp t % 8) + (y 0).val) (y 1).val
    = at16 A0 A1 A2 A3 A4 (((win0_16.rect t).emb y 0).val / 4096) (((win0_16.rect t).emb y 0).val % 4096) ((win0_16.rect t).emb y 1).val
  rw [e0, i0, q0, q1, e1, i1, Nat.zero_mul, Nat.zero_add]

theorem mem16 (t : Fin cfg0.N) (i : S16384x512.Idx) :
    i ∈ ((cfg0.win 16).blk t).view.set ↔ gp t * 512 ≤ (i 0 : Nat) ∧ (i 0 : Nat) < gp t * 512 + 512 := by
  show i ∈ ((View.whole main_v58_0).slice (win0_16.rect t)).set ↔ _
  rw [View.set_slice_whole, Rect.mem_set_unit]
  obtain ⟨i0, i1⟩ := idx16 t
  have h1 : (i 1 : Nat) < 512 := (i 1).isLt
  rw [← i0]
  refine ⟨fun h => h 0, fun h a => ?_⟩
  match a with
  | ⟨0, _⟩ => exact h
  | ⟨1, _⟩ =>
    show win0_16.index t 1 * 512 ≤ (i 1 : Nat) ∧ (i 1 : Nat) < win0_16.index t 1 * 512 + 512
    rw [i1, Nat.zero_mul, Nat.zero_add]
    exact ⟨Nat.zero_le _, h1⟩

theorem cover16 (i : S16384x512.Idx) : ∃ t : Fin cfg0.N, (cfg0.win 16).flush t = true ∧ i ∈ ((cfg0.win 16).blk t).view.set := by
  have h0 : (i 0 : Nat) < 16384 := (i 0).isLt
  obtain ⟨t, ht⟩ := onto16 ⟨(i 0 : Nat) / 512, by omega⟩
  refine ⟨t, flush0_16 t, (mem16 t i).2 ?_⟩
  rw [ht]
  show (i 0 : Nat) / 512 * 512 ≤ _ ∧ _ < (i 0 : Nat) / 512 * 512 + 512
  omega

theorem final16 (h : Args m c A0 A1 A2 A3 A4 A5 A6 A7 A8) : (dats m 0 c).arrAt 16 cfg0.N = arr16 A0 A1 A2 A3 A4 :=
  (dats m 0 c).arrAt_eq_of_cover 16 (arr16 A0 A1 A2 A3 A4) (fun t _ => flushed16 h t) cover16

/-- Result 1 of one position. -/
def at17 (A0 : ℕ → ℕ → ℕ → EReal) (A1 : ℕ → ℕ → EReal) (A2 : ℕ → ℕ → EReal) (A3 : ℕ → EReal) (A4 : ℕ → ℕ → EReal) (b p k : ℕ) : EReal := Cert.Proj.sig (wideAt A0 A1 A2 A3 A4 b p (1792 + k))

def arr17 (A0 : ℕ → ℕ → ℕ → EReal) (A1 : ℕ → ℕ → EReal) (A2 : ℕ → ℕ → EReal) (A3 : ℕ → EReal) (A4 : ℕ → ℕ → EReal) : Vec Ideal S16384x128 .f32 := fun y => at17 A0 A1 A2 A3 A4 ((y 0).val / 4096) ((y 0).val % 4096) (y 1).val

theorem flushed17 (h : Args m c A0 A1 A2 A3 A4 A5 A6 A7 A8) (t : Fin cfg0.N) :
    (dats m 0 c).flushed 17 t = (win0_17.blk t).view.read (Elt Ideal) (arr17 A0 A1 A2 A3 A4) := by
  have hf : (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
    show (cfg0.win 17).cut (grid0.coords t) ((dats m 0 c).after 17 t) = _
    rw [after0_17]
  rw [hf]
  funext y
  obtain ⟨i0, i1⟩ := idx17 t
  have e0 : ((win0_17.rect t).emb y 0).val = win0_17.index t 0 * 512 + (y 0).val := Pipeline.Window.rect_emb_val win0_17 t y 0
  have e1 : ((win0_17.rect t).emb y 1).val = win0_17.index t 1 * 128 + (y 1).val := Pipeline.Window.rect_emb_val win0_17 t y 1
  have b0 : (y 0).val < 512 := (y 0).isLt
  have q0 : (gp t * 512 + (y 0).val) / 4096 = gp t / 8 := by omega
  have q1 : (gp t * 512 + (y 0).val) % 4096 = 512 * (gp t % 8) + (y 0).val := by omega
  refine (out17_apply (blocks h t) y).trans ?_
  show at17 A0 A1 A2 A3 A4 (gp t / 8) (512 * (gp t % 8) + (y 0).val) (y 1).val
    = at17 A0 A1 A2 A3 A4 (((win0_17.rect t).emb y 0).val / 4096) (((win0_17.rect t).emb y 0).val % 4096) ((win0_17.rect t).emb y 1).val
  rw [e0, i0, q0, q1, e1, i1, Nat.zero_mul, Nat.zero_add]

theorem mem17 (t : Fin cfg0.N) (i : S16384x128.Idx) :
    i ∈ ((cfg0.win 17).blk t).view.set ↔ gp t * 512 ≤ (i 0 : Nat) ∧ (i 0 : Nat) < gp t * 512 + 512 := by
  show i ∈ ((View.whole main_v58_1).slice (win0_17.rect t)).set ↔ _
  rw [View.set_slice_whole, Rect.mem_set_unit]
  obtain ⟨i0, i1⟩ := idx17 t
  have h1 : (i 1 : Nat) < 128 := (i 1).isLt
  rw [← i0]
  refine ⟨fun h => h 0, fun h a => ?_⟩
  match a with
  | ⟨0, _⟩ => exact h
  | ⟨1, _⟩ =>
    show win0_17.index t 1 * 128 ≤ (i 1 : Nat) ∧ (i 1 : Nat) < win0_17.index t 1 * 128 + 128
    rw [i1, Nat.zero_mul, Nat.zero_add]
    exact ⟨Nat.zero_le _, h1⟩

theorem cover17 (i : S16384x128.Idx) : ∃ t : Fin cfg0.N, (cfg0.win 17).flush t = true ∧ i ∈ ((cfg0.win 17).blk t).view.set := by
  have h0 : (i 0 : Nat) < 16384 := (i 0).isLt
  obtain ⟨t, ht⟩ := onto16 ⟨(i 0 : Nat) / 512, by omega⟩
  refine ⟨t, flush0_17 t, (mem17 t i).2 ?_⟩
  rw [ht]
  show (i 0 : Nat) / 512 * 512 ≤ _ ∧ _ < (i 0 : Nat) / 512 * 512 + 512
  omega

theorem final17 (h : Args m c A0 A1 A2 A3 A4 A5 A6 A7 A8) : (dats m 0 c).arrAt 17 cfg0.N = arr17 A0 A1 A2 A3 A4 :=
  (dats m 0 c).arrAt_eq_of_cover 17 (arr17 A0 A1 A2 A3 A4) (fun t _ => flushed17 h t) cover17

/-- Result 2 of one position. -/
def at18 (A0 : ℕ → ℕ → ℕ → EReal) (A1 : ℕ → ℕ → EReal) (A2 : ℕ → ℕ → EReal) (A3 : ℕ → EReal) (A4 : ℕ → ℕ → EReal) (b p k : ℕ) : EReal := silu (wideAt A0 A1 A2 A3 A4 b p (512 + k))

def arr18 (A0 : ℕ → ℕ → ℕ → EReal) (A1 : ℕ → ℕ → EReal) (A2 : ℕ → ℕ → EReal) (A3 : ℕ → EReal) (A4 : ℕ → ℕ → EReal) : Vec Ideal S16384x512 .f32 := fun y => at18 A0 A1 A2 A3 A4 ((y 0).val / 4096) ((y 0).val % 4096) (y 1).val

theorem flushed18 (h : Args m c A0 A1 A2 A3 A4 A5 A6 A7 A8) (t : Fin cfg0.N) :
    (dats m 0 c).flushed 18 t = (win0_18.blk t).view.read (Elt Ideal) (arr18 A0 A1 A2 A3 A4) := by
  have hf : (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
    show (cfg0.win 18).cut (grid0.coords t) ((dats m 0 c).after 18 t) = _
    rw [after0_18]
  rw [hf]
  funext y
  obtain ⟨i0, i1⟩ := idx18 t
  have e0 : ((win0_18.rect t).emb y 0).val = win0_18.index t 0 * 512 + (y 0).val := Pipeline.Window.rect_emb_val win0_18 t y 0
  have e1 : ((win0_18.rect t).emb y 1).val = win0_18.index t 1 * 512 + (y 1).val := Pipeline.Window.rect_emb_val win0_18 t y 1
  have b0 : (y 0).val < 512 := (y 0).isLt
  have q0 : (gp t * 512 + (y 0).val) / 4096 = gp t / 8 := by omega
  have q1 : (gp t * 512 + (y 0).val) % 4096 = 512 * (gp t % 8) + (y 0).val := by omega
  refine (out18_apply (blocks h t) y).trans ?_
  show at18 A0 A1 A2 A3 A4 (gp t / 8) (512 * (gp t % 8) + (y 0).val) (y 1).val
    = at18 A0 A1 A2 A3 A4 (((win0_18.rect t).emb y 0).val / 4096) (((win0_18.rect t).emb y 0).val % 4096) ((win0_18.rect t).emb y 1).val
  rw [e0, i0, q0, q1, e1, i1, Nat.zero_mul, Nat.zero_add]

theorem mem18 (t : Fin cfg0.N) (i : S16384x512.Idx) :
    i ∈ ((cfg0.win 18).blk t).view.set ↔ gp t * 512 ≤ (i 0 : Nat) ∧ (i 0 : Nat) < gp t * 512 + 512 := by
  show i ∈ ((View.whole main_v58_2).slice (win0_18.rect t)).set ↔ _
  rw [View.set_slice_whole, Rect.mem_set_unit]
  obtain ⟨i0, i1⟩ := idx18 t
  have h1 : (i 1 : Nat) < 512 := (i 1).isLt
  rw [← i0]
  refine ⟨fun h => h 0, fun h a => ?_⟩
  match a with
  | ⟨0, _⟩ => exact h
  | ⟨1, _⟩ =>
    show win0_18.index t 1 * 512 ≤ (i 1 : Nat) ∧ (i 1 : Nat) < win0_18.index t 1 * 512 + 512
    rw [i1, Nat.zero_mul, Nat.zero_add]
    exact ⟨Nat.zero_le _, h1⟩

theorem cover18 (i : S16384x512.Idx) : ∃ t : Fin cfg0.N, (cfg0.win 18).flush t = true ∧ i ∈ ((cfg0.win 18).blk t).view.set := by
  have h0 : (i 0 : Nat) < 16384 := (i 0).isLt
  obtain ⟨t, ht⟩ := onto16 ⟨(i 0 : Nat) / 512, by omega⟩
  refine ⟨t, flush0_18 t, (mem18 t i).2 ?_⟩
  rw [ht]
  show (i 0 : Nat) / 512 * 512 ≤ _ ∧ _ < (i 0 : Nat) / 512 * 512 + 512
  omega

theorem final18 (h : Args m c A0 A1 A2 A3 A4 A5 A6 A7 A8) : (dats m 0 c).arrAt 18 cfg0.N = arr18 A0 A1 A2 A3 A4 :=
  (dats m 0 c).arrAt_eq_of_cover 18 (arr18 A0 A1 A2 A3 A4) (fun t _ => flushed18 h t) cover18

/-- Result 3 of one position. -/
def at19 (A0 : ℕ → ℕ → ℕ → EReal) (A1 : ℕ → ℕ → EReal) (A2 : ℕ → ℕ → EReal) (A3 : ℕ → EReal) (A4 : ℕ → ℕ → EReal) (b p k : ℕ) : EReal := silu (wideAt A0 A1 A2 A3 A4 b p (1024 + k))

def arr19 (A0 : ℕ → ℕ → ℕ → EReal) (A1 : ℕ → ℕ → EReal) (A2 : ℕ → ℕ → EReal) (A3 : ℕ → EReal) (A4 : ℕ → ℕ → EReal) : Vec Ideal S16384x512 .f32 := fun y => at19 A0 A1 A2 A3 A4 ((y 0).val / 4096) ((y 0).val % 4096) (y 1).val

theorem flushed19 (h : Args m c A0 A1 A2 A3 A4 A5 A6 A7 A8) (t : Fin cfg0.N) :
    (dats m 0 c).flushed 19 t = (win0_19.blk t).view.read (Elt Ideal) (arr19 A0 A1 A2 A3 A4) := by
  have hf : (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
    show (cfg0.win 19).cut (grid0.coords t) ((dats m 0 c).after 19 t) = _
    rw [after0_19]
  rw [hf]
  funext y
  obtain ⟨i0, i1⟩ := idx19 t
  have e0 : ((win0_19.rect t).emb y 0).val = win0_19.index t 0 * 512 + (y 0).val := Pipeline.Window.rect_emb_val win0_19 t y 0
  have e1 : ((win0_19.rect t).emb y 1).val = win0_19.index t 1 * 512 + (y 1).val := Pipeline.Window.rect_emb_val win0_19 t y 1
  have b0 : (y 0).val < 512 := (y 0).isLt
  have q0 : (gp t * 512 + (y 0).val) / 4096 = gp t / 8 := by omega
  have q1 : (gp t * 512 + (y 0).val) % 4096 = 512 * (gp t % 8) + (y 0).val := by omega
  refine (out19_apply (blocks h t) y).trans ?_
  show at19 A0 A1 A2 A3 A4 (gp t / 8) (512 * (gp t % 8) + (y 0).val) (y 1).val
    = at19 A0 A1 A2 A3 A4 (((win0_19.rect t).emb y 0).val / 4096) (((win0_19.rect t).emb y 0).val % 4096) ((win0_19.rect t).emb y 1).val
  rw [e0, i0, q0, q1, e1, i1, Nat.zero_mul, Nat.zero_add]

theorem mem19 (t : Fin cfg0.N) (i : S16384x512.Idx) :
    i ∈ ((cfg0.win 19).blk t).view.set ↔ gp t * 512 ≤ (i 0 : Nat) ∧ (i 0 : Nat) < gp t * 512 + 512 := by
  show i ∈ ((View.whole main_v58_3).slice (win0_19.rect t)).set ↔ _
  rw [View.set_slice_whole, Rect.mem_set_unit]
  obtain ⟨i0, i1⟩ := idx19 t
  have h1 : (i 1 : Nat) < 512 := (i 1).isLt
  rw [← i0]
  refine ⟨fun h => h 0, fun h a => ?_⟩
  match a with
  | ⟨0, _⟩ => exact h
  | ⟨1, _⟩ =>
    show win0_19.index t 1 * 512 ≤ (i 1 : Nat) ∧ (i 1 : Nat) < win0_19.index t 1 * 512 + 512
    rw [i1, Nat.zero_mul, Nat.zero_add]
    exact ⟨Nat.zero_le _, h1⟩

theorem cover19 (i : S16384x512.Idx) : ∃ t : Fin cfg0.N, (cfg0.win 19).flush t = true ∧ i ∈ ((cfg0.win 19).blk t).view.set := by
  have h0 : (i 0 : Nat) < 16384 := (i 0).isLt
  obtain ⟨t, ht⟩ := onto16 ⟨(i 0 : Nat) / 512, by omega⟩
  refine ⟨t, flush0_19 t, (mem19 t i).2 ?_⟩
  rw [ht]
  show (i 0 : Nat) / 512 * 512 ≤ _ ∧ _ < (i 0 : Nat) / 512 * 512 + 512
  omega

theorem final19 (h : Args m c A0 A1 A2 A3 A4 A5 A6 A7 A8) : (dats m 0 c).arrAt 19 cfg0.N = arr19 A0 A1 A2 A3 A4 :=
  (dats m 0 c).arrAt_eq_of_cover 19 (arr19 A0 A1 A2 A3 A4) (fun t _ => flushed19 h t) cover19

/-- Result 4 of one position. -/
def at20 (A0 : ℕ → ℕ → ℕ → EReal) (A1 : ℕ → ℕ → EReal) (A2 : ℕ → ℕ → EReal) (A3 : ℕ → EReal) (A4 : ℕ → ℕ → EReal) (A5 : ℕ → EReal) (A6 : ℕ → ℕ → ℕ → EReal) (A8 : ℕ → ℕ → ℕ → EReal) (b p k : ℕ) : EReal := packedAt A0 A1 A2 A3 A4 A5 A6 A8 b p k

def arr20 (A0 : ℕ → ℕ → ℕ → EReal) (A1 : ℕ → ℕ → EReal) (A2 : ℕ → ℕ → EReal) (A3 : ℕ → EReal) (A4 : ℕ → ℕ → EReal) (A5 : ℕ → EReal) (A6 : ℕ → ℕ → ℕ → EReal) (A8 : ℕ → ℕ → ℕ → EReal) : Vec Ideal S16384x1024 .bf16 := fun y => at20 A0 A1 A2 A3 A4 A5 A6 A8 ((y 0).val / 4096) ((y 0).val % 4096) (y 1).val

theorem flushed20 (h : Args m c A0 A1 A2 A3 A4 A5 A6 A7 A8) (t : Fin cfg0.N) :
    (dats m 0 c).flushed 20 t = (win0_20.blk t).view.read (Elt Ideal) (arr20 A0 A1 A2 A3 A4 A5 A6 A8) := by
  have hf : (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
    show (cfg0.win 20).cut (grid0.coords t) ((dats m 0 c).after 20 t) = _
    rw [after0_20]
  rw [hf]
  funext y
  obtain ⟨i0, i1⟩ := idx20 t
  have e0 : ((win0_20.rect t).emb y 0).val = win0_20.index t 0 * 512 + (y 0).val := Pipeline.Window.rect_emb_val win0_20 t y 0
  have e1 : ((win0_20.rect t).emb y 1).val = win0_20.index t 1 * 1024 + (y 1).val := Pipeline.Window.rect_emb_val win0_20 t y 1
  have b0 : (y 0).val < 512 := (y 0).isLt
  have q0 : (gp t * 512 + (y 0).val) / 4096 = gp t / 8 := by omega
  have q1 : (gp t * 512 + (y 0).val) % 4096 = 512 * (gp t % 8) + (y 0).val := by omega
  refine (out20_apply (blocks h t) y).trans ?_
  show at20 A0 A1 A2 A3 A4 A5 A6 A8 (gp t / 8) (512 * (gp t % 8) + (y 0).val) (y 1).val
    = at20 A0 A1 A2 A3 A4 A5 A6 A8 (((win0_20.rect t).emb y 0).val / 4096) (((win0_20.rect t).emb y 0).val % 4096) ((win0_20.rect t).emb y 1).val
  rw [e0, i0, q0, q1, e1, i1, Nat.zero_mul, Nat.zero_add]

theorem mem20 (t : Fin cfg0.N) (i : S16384x1024.Idx) :
    i ∈ ((cfg0.win 20).blk t).view.set ↔ gp t * 512 ≤ (i 0 : Nat) ∧ (i 0 : Nat) < gp t * 512 + 512 := by
  show i ∈ ((View.whole main_v58_4).slice (win0_20.rect t)).set ↔ _
  rw [View.set_slice_whole, Rect.mem_set_unit]
  obtain ⟨i0, i1⟩ := idx20 t
  have h1 : (i 1 : Nat) < 1024 := (i 1).isLt
  rw [← i0]
  refine ⟨fun h => h 0, fun h a => ?_⟩
  match a with
  | ⟨0, _⟩ => exact h
  | ⟨1, _⟩ =>
    show win0_20.index t 1 * 1024 ≤ (i 1 : Nat) ∧ (i 1 : Nat) < win0_20.index t 1 * 1024 + 1024
    rw [i1, Nat.zero_mul, Nat.zero_add]
    exact ⟨Nat.zero_le _, h1⟩

theorem cover20 (i : S16384x1024.Idx) : ∃ t : Fin cfg0.N, (cfg0.win 20).flush t = true ∧ i ∈ ((cfg0.win 20).blk t).view.set := by
  have h0 : (i 0 : Nat) < 16384 := (i 0).isLt
  obtain ⟨t, ht⟩ := onto16 ⟨(i 0 : Nat) / 512, by omega⟩
  refine ⟨t, flush0_20 t, (mem20 t i).2 ?_⟩
  rw [ht]
  show (i 0 : Nat) / 512 * 512 ≤ _ ∧ _ < (i 0 : Nat) / 512 * 512 + 512
  omega

theorem final20 (h : Args m c A0 A1 A2 A3 A4 A5 A6 A7 A8) : (dats m 0 c).arrAt 20 cfg0.N = arr20 A0 A1 A2 A3 A4 A5 A6 A8 :=
  (dats m 0 c).arrAt_eq_of_cover 20 (arr20 A0 A1 A2 A3 A4 A5 A6 A8) (fun t _ => flushed20 h t) cover20

/-- Result 5 of one position. -/
def at21 (A0 : ℕ → ℕ → ℕ → EReal) (A1 : ℕ → ℕ → EReal) (A2 : ℕ → ℕ → EReal) (A3 : ℕ → EReal) (A4 : ℕ → ℕ → EReal) (b p k : ℕ) : EReal := tallAt A0 A1 A2 A3 A4 b p k

def arr21 (A0 : ℕ → ℕ → ℕ → EReal) (A1 : ℕ → ℕ → EReal) (A2 : ℕ → ℕ → EReal) (A3 : ℕ → EReal) (A4 : ℕ → ℕ → EReal) : Vec Ideal S4x512x4096 .f32 := fun y => at21 A0 A1 A2 A3 A4 (y 0).val (y 2).val (y 1).val

theorem flushed21 (h : Args m c A0 A1 A2 A3 A4 A5 A6 A7 A8) (t : Fin cfg0.N) :
    (dats m 0 c).flushed 21 t = (win0_21.blk t).view.read (Elt Ideal) (arr21 A0 A1 A2 A3 A4) := by
  have hf : (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
    show (cfg0.win 21).cut (grid0.coords t) ((dats m 0 c).after 21 t) = _
    rw [after0_21]
  rw [hf]
  funext y
  obtain ⟨i0, i1, i2⟩ := idx21 t
  have e0 : ((win0_21.rect t).emb y 0).val = win0_21.index t 0 * 1 + (y 0).val := Pipeline.Window.rect_emb_val win0_21 t y 0
  have e1 : ((win0_21.rect t).emb y 1).val = win0_21.index t 1 * 512 + (y 1).val := Pipeline.Window.rect_emb_val win0_21 t y 1
  have e2 : ((win0_21.rect t).emb y 2).val = win0_21.index t 2 * 512 + (y 2).val := Pipeline.Window.rect_emb_val win0_21 t y 2
  have b0 : (y 0).val = 0 := by have : (y 0).val < 1 := (y 0).isLt; omega
  refine (out21_apply (blocks h t) y).trans ?_
  show at21 A0 A1 A2 A3 A4 (gp t / 8) (512 * (gp t % 8) + (y 2).val) (y 1).val
    = at21 A0 A1 A2 A3 A4 ((win0_21.rect t).emb y 0).val ((win0_21.rect t).emb y 2).val ((win0_21.rect t).emb y 1).val
  rw [e0, i0, b0, Nat.mul_one, Nat.add_zero, e1, i1, e2, i2, Nat.zero_mul, Nat.zero_add, Nat.mul_comm _ 512]

theorem mem21 (t : Fin cfg0.N) (i : S4x512x4096.Idx) : i ∈ ((cfg0.win 21).blk t).view.set ↔
    (gp t / 8 * 1 ≤ (i 0 : Nat) ∧ (i 0 : Nat) < gp t / 8 * 1 + 1) ∧ gp t % 8 * 512 ≤ (i 2 : Nat) ∧ (i 2 : Nat) < gp t % 8 * 512 + 512 := by
  show i ∈ ((View.whole main_v58_5).slice (win0_21.rect t)).set ↔ _
  rw [View.set_slice_whole, Rect.mem_set_unit]
  obtain ⟨i0, i1, i2⟩ := idx21 t
  have h1 : (i 1 : Nat) < 512 := (i 1).isLt
  rw [← i0, ← i2]
  refine ⟨fun h => ⟨h 0, h 2⟩, fun h a => ?_⟩
  match a with
  | ⟨0, _⟩ => exact h.1
  | ⟨1, _⟩ =>
    show win0_21.index t 1 * 512 ≤ (i 1 : Nat) ∧ (i 1 : Nat) < win0_21.index t 1 * 512 + 512
    rw [i1, Nat.zero_mul, Nat.zero_add]
    exact ⟨Nat.zero_le _, h1⟩
  | ⟨2, _⟩ => exact h.2

theorem cover21 (i : S4x512x4096.Idx) : ∃ t : Fin cfg0.N, (cfg0.win 21).flush t = true ∧ i ∈ ((cfg0.win 21).blk t).view.set := by
  have h0 : (i 0 : Nat) < 4 := (i 0).isLt
  have h2 : (i 2 : Nat) < 4096 := (i 2).isLt
  obtain ⟨t, ht⟩ := onto16 ⟨8 * (i 0 : Nat) + (i 2 : Nat) / 512, by omega⟩
  have d : gp t / 8 = (i 0 : Nat) := by rw [ht]; show (8 * (i 0 : Nat) + (i 2 : Nat) / 512) / 8 = (i 0 : Nat); omega
  have r : gp t % 8 = (i 2 : Nat) / 512 := by rw [ht]; show (8 * (i 0 : Nat) + (i 2 : Nat) / 512) % 8 = (i 2 : Nat) / 512; omega
  refine ⟨t, flush0_21 t, (mem21 t i).2 ?_⟩
  rw [d, r]
  omega

theorem final21 (h : Args m c A0 A1 A2 A3 A4 A5 A6 A7 A8) : (dats m 0 c).arrAt 21 cfg0.N = arr21 A0 A1 A2 A3 A4 :=
  (dats m 0 c).arrAt_eq_of_cover 21 (arr21 A0 A1 A2 A3 A4) (fun t _ => flushed21 h t) cover21

/-- Result 6 of one position. -/
def at22 (A0 : ℕ → ℕ → ℕ → EReal) (A1 : ℕ → ℕ → EReal) (A2 : ℕ → ℕ → EReal) (A3 : ℕ → EReal) (A4 : ℕ → ℕ → EReal) (b p k : ℕ) : EReal := tallAt A0 A1 A2 A3 A4 b p (512 + k)

def arr22 (A0 : ℕ → ℕ → ℕ → EReal) (A1 : ℕ → ℕ → EReal) (A2 : ℕ → ℕ → EReal) (A3 : ℕ → EReal) (A4 : ℕ → ℕ → EReal) : Vec Ideal S4x256x4096 .f32 := fun y => at22 A0 A1 A2 A3 A4 (y 0).val (y 2).val (y 1).val

theorem flushed22 (h : Args m c A0 A1 A2 A3 A4 A5 A6 A7 A8) (t : Fin cfg0.N) :
    (dats m 0 c).flushed 22 t = (win0_22.blk t).view.read (Elt Ideal) (arr22 A0 A1 A2 A3 A4) := by
  have hf : (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
    show (cfg0.win 22).cut (grid0.coords t) ((dats m 0 c).after 22 t) = _
    rw [after0_22]
  rw [hf]
  funext y
  obtain ⟨i0, i1, i2⟩ := idx22 t
  have e0 : ((win0_22.rect t).emb y 0).val = win0_22.index t 0 * 1 + (y 0).val := Pipeline.Window.rect_emb_val win0_22 t y 0
  have e1 : ((win0_22.rect t).emb y 1).val = win0_22.index t 1 * 256 + (y 1).val := Pipeline.Window.rect_emb_val win0_22 t y 1
  have e2 : ((win0_22.rect t).emb y 2).val = win0_22.index t 2 * 512 + (y 2).val := Pipeline.Window.rect_emb_val win0_22 t y 2
  have b0 : (y 0).val = 0 := by have : (y 0).val < 1 := (y 0).isLt; omega
  refine (out22_apply (blocks h t) y).trans ?_
  show at22 A0 A1 A2 A3 A4 (gp t / 8) (512 * (gp t % 8) + (y 2).val) (y 1).val
    = at22 A0 A1 A2 A3 A4 ((win0_22.rect t).emb y 0).val ((win0_22.rect t).emb y 2).val ((win0_22.rect t).emb y 1).val
  rw [e0, i0, b0, Nat.mul_one, Nat.add_zero, e1, i1, e2, i2, Nat.zero_mul, Nat.zero_add, Nat.mul_comm _ 512]

theorem mem22 (t : Fin cfg0.N) (i : S4x256x4096.Idx) : i ∈ ((cfg0.win 22).blk t).view.set ↔
    (gp t / 8 * 1 ≤ (i 0 : Nat) ∧ (i 0 : Nat) < gp t / 8 * 1 + 1) ∧ gp t % 8 * 512 ≤ (i 2 : Nat) ∧ (i 2 : Nat) < gp t % 8 * 512 + 512 := by
  show i ∈ ((View.whole main_v58_6).slice (win0_22.rect t)).set ↔ _
  rw [View.set_slice_whole, Rect.mem_set_unit]
  obtain ⟨i0, i1, i2⟩ := idx22 t
  have h1 : (i 1 : Nat) < 256 := (i 1).isLt
  rw [← i0, ← i2]
  refine ⟨fun h => ⟨h 0, h 2⟩, fun h a => ?_⟩
  match a with
  | ⟨0, _⟩ => exact h.1
  | ⟨1, _⟩ =>
    show win0_22.index t 1 * 256 ≤ (i 1 : Nat) ∧ (i 1 : Nat) < win0_22.index t 1 * 256 + 256
    rw [i1, Nat.zero_mul, Nat.zero_add]
    exact ⟨Nat.zero_le _, h1⟩
  | ⟨2, _⟩ => exact h.2

theorem cover22 (i : S4x256x4096.Idx) : ∃ t : Fin cfg0.N, (cfg0.win 22).flush t = true ∧ i ∈ ((cfg0.win 22).blk t).view.set := by
  have h0 : (i 0 : Nat) < 4 := (i 0).isLt
  have h2 : (i 2 : Nat) < 4096 := (i 2).isLt
  obtain ⟨t, ht⟩ := onto16 ⟨8 * (i 0 : Nat) + (i 2 : Nat) / 512, by omega⟩
  have d : gp t / 8 = (i 0 : Nat) := by rw [ht]; show (8 * (i 0 : Nat) + (i 2 : Nat) / 512) / 8 = (i 0 : Nat); omega
  have r : gp t % 8 = (i 2 : Nat) / 512 := by rw [ht]; show (8 * (i 0 : Nat) + (i 2 : Nat) / 512) % 8 = (i 2 : Nat) / 512; omega
  refine ⟨t, flush0_22 t, (mem22 t i).2 ?_⟩
  rw [d, r]
  omega

theorem final22 (h : Args m c A0 A1 A2 A3 A4 A5 A6 A7 A8) : (dats m 0 c).arrAt 22 cfg0.N = arr22 A0 A1 A2 A3 A4 :=
  (dats m 0 c).arrAt_eq_of_cover 22 (arr22 A0 A1 A2 A3 A4) (fun t _ => flushed22 h t) cover22

/-- Result 7 of one position. -/
def at23 (A0 : ℕ → ℕ → ℕ → EReal) (A1 : ℕ → ℕ → EReal) (A2 : ℕ → ℕ → EReal) (A3 : ℕ → EReal) (A4 : ℕ → ℕ → EReal) (b p k : ℕ) : EReal := tallAt A0 A1 A2 A3 A4 b p k

def arr23 (A0 : ℕ → ℕ → ℕ → EReal) (A1 : ℕ → ℕ → EReal) (A2 : ℕ → ℕ → EReal) (A3 : ℕ → EReal) (A4 : ℕ → ℕ → EReal) : Vec Ideal S4x768x4096 .bf16 := fun y => at23 A0 A1 A2 A3 A4 (y 0).val (y 2).val (y 1).val

theorem flushed23 (h : Args m c A0 A1 A2 A3 A4 A5 A6 A7 A8) (t : Fin cfg0.N) :
    (dats m 0 c).flushed 23 t = (win0_23.blk t).view.read (Elt Ideal) (arr23 A0 A1 A2 A3 A4) := by
  have hf : (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
    show (cfg0.win 23).cut (grid0.coords t) ((dats m 0 c).after 23 t) = _
    rw [after0_23]
  rw [hf]
  funext y
  obtain ⟨i0, i1, i2⟩ := idx23 t
  have e0 : ((win0_23.rect t).emb y 0).val = win0_23.index t 0 * 1 + (y 0).val := Pipeline.Window.rect_emb_val win0_23 t y 0
  have e1 : ((win0_23.rect t).emb y 1).val = win0_23.index t 1 * 768 + (y 1).val := Pipeline.Window.rect_emb_val win0_23 t y 1
  have e2 : ((win0_23.rect t).emb y 2).val = win0_23.index t 2 * 512 + (y 2).val := Pipeline.Window.rect_emb_val win0_23 t y 2
  have b0 : (y 0).val = 0 := by have : (y 0).val < 1 := (y 0).isLt; omega
  refine (out23_apply (blocks h t) y).trans ?_
  show at23 A0 A1 A2 A3 A4 (gp t / 8) (512 * (gp t % 8) + (y 2).val) (y 1).val
    = at23 A0 A1 A2 A3 A4 ((win0_23.rect t).emb y 0).val ((win0_23.rect t).emb y 2).val ((win0_23.rect t).emb y 1).val
  rw [e0, i0, b0, Nat.mul_one, Nat.add_zero, e1, i1, e2, i2, Nat.zero_mul, Nat.zero_add, Nat.mul_comm _ 512]

theorem mem23 (t : Fin cfg0.N) (i : S4x768x4096.Idx) : i ∈ ((cfg0.win 23).blk t).view.set ↔
    (gp t / 8 * 1 ≤ (i 0 : Nat) ∧ (i 0 : Nat) < gp t / 8 * 1 + 1) ∧ gp t % 8 * 512 ≤ (i 2 : Nat) ∧ (i 2 : Nat) < gp t % 8 * 512 + 512 := by
  show i ∈ ((View.whole main_v58_7).slice (win0_23.rect t)).set ↔ _
  rw [View.set_slice_whole, Rect.mem_set_unit]
  obtain ⟨i0, i1, i2⟩ := idx23 t
  have h1 : (i 1 : Nat) < 768 := (i 1).isLt
  rw [← i0, ← i2]
  refine ⟨fun h => ⟨h 0, h 2⟩, fun h a => ?_⟩
  match a with
  | ⟨0, _⟩ => exact h.1
  | ⟨1, _⟩ =>
    show win0_23.index t 1 * 768 ≤ (i 1 : Nat) ∧ (i 1 : Nat) < win0_23.index t 1 * 768 + 768
    rw [i1, Nat.zero_mul, Nat.zero_add]
    exact ⟨Nat.zero_le _, h1⟩
  | ⟨2, _⟩ => exact h.2

theorem cover23 (i : S4x768x4096.Idx) : ∃ t : Fin cfg0.N, (cfg0.win 23).flush t = true ∧ i ∈ ((cfg0.win 23).blk t).view.set := by
  have h0 : (i 0 : Nat) < 4 := (i 0).isLt
  have h2 : (i 2 : Nat) < 4096 := (i 2).isLt
  obtain ⟨t, ht⟩ := onto16 ⟨8 * (i 0 : Nat) + (i 2 : Nat) / 512, by omega⟩
  have d : gp t / 8 = (i 0 : Nat) := by rw [ht]; show (8 * (i 0 : Nat) + (i 2 : Nat) / 512) / 8 = (i 0 : Nat); omega
  have r : gp t % 8 = (i 2 : Nat) / 512 := by rw [ht]; show (8 * (i 0 : Nat) + (i 2 : Nat) / 512) % 8 = (i 2 : Nat) / 512; omega
  refine ⟨t, flush0_23 t, (mem23 t i).2 ?_⟩
  rw [d, r]
  omega

theorem final23 (h : Args m c A0 A1 A2 A3 A4 A5 A6 A7 A8) : (dats m 0 c).arrAt 23 cfg0.N = arr23 A0 A1 A2 A3 A4 :=
  (dats m 0 c).arrAt_eq_of_cover 23 (arr23 A0 A1 A2 A3 A4) (fun t _ => flushed23 h t) cover23

/-- Result 8 of one position. -/
def at24 (A0 : ℕ → ℕ → ℕ → EReal) (A1 : ℕ → ℕ → EReal) (A2 : ℕ → ℕ → EReal) (A3 : ℕ → EReal) (A4 : ℕ → ℕ → EReal) (A7 : ℕ → EReal) (b p k : ℕ) : EReal := latentAt A0 A1 A2 A3 A4 A7 b p k

def arr24 (A0 : ℕ → ℕ → ℕ → EReal) (A1 : ℕ → ℕ → EReal) (A2 : ℕ → ℕ → EReal) (A3 : ℕ → EReal) (A4 : ℕ → ℕ → EReal) (A7 : ℕ → EReal) : Vec Ideal S4x192x4096 .f32 := fun y => at24 A0 A1 A2 A3 A4 A7 (y 0).val (y 2).val (y 1).val

theorem flushed24 (h : Args m c A0 A1 A2 A3 A4 A5 A6 A7 A8) (t : Fin cfg0.N) :
    (dats m 0 c).flushed 24 t = (win0_24.blk t).view.read (Elt Ideal) (arr24 A0 A1 A2 A3 A4 A7) := by
  have hf : (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
    show (cfg0.win 24).cut (grid0.coords t) ((dats m 0 c).after 24 t) = _
    rw [after0_24]
  rw [hf]
  funext y
  obtain ⟨i0, i1, i2⟩ := idx24 t
  have e0 : ((win0_24.rect t).emb y 0).val = win0_24.index t 0 * 1 + (y 0).val := Pipeline.Window.rect_emb_val win0_24 t y 0
  have e1 : ((win0_24.rect t).emb y 1).val = win0_24.index t 1 * 192 + (y 1).val := Pipeline.Window.rect_emb_val win0_24 t y 1
  have e2 : ((win0_24.rect t).emb y 2).val = win0_24.index t 2 * 512 + (y 2).val := Pipeline.Window.rect_emb_val win0_24 t y 2
  have b0 : (y 0).val = 0 := by have : (y 0).val < 1 := (y 0).isLt; omega
  refine (out24_apply (blocks h t) y).trans ?_
  show at24 A0 A1 A2 A3 A4 A7 (gp t / 8) (512 * (gp t % 8) + (y 2).val) (y 1).val
    = at24 A0 A1 A2 A3 A4 A7 ((win0_24.rect t).emb y 0).val ((win0_24.rect t).emb y 2).val ((win0_24.rect t).emb y 1).val
  rw [e0, i0, b0, Nat.mul_one, Nat.add_zero, e1, i1, e2, i2, Nat.zero_mul, Nat.zero_add, Nat.mul_comm _ 512]

theorem mem24 (t : Fin cfg0.N) (i : S4x192x4096.Idx) : i ∈ ((cfg0.win 24).blk t).view.set ↔
    (gp t / 8 * 1 ≤ (i 0 : Nat) ∧ (i 0 : Nat) < gp t / 8 * 1 + 1) ∧ gp t % 8 * 512 ≤ (i 2 : Nat) ∧ (i 2 : Nat) < gp t % 8 * 512 + 512 := by
  show i ∈ ((View.whole main_v58_8).slice (win0_24.rect t)).set ↔ _
  rw [View.set_slice_whole, Rect.mem_set_unit]
  obtain ⟨i0, i1, i2⟩ := idx24 t
  have h1 : (i 1 : Nat) < 192 := (i 1).isLt
  rw [← i0, ← i2]
  refine ⟨fun h => ⟨h 0, h 2⟩, fun h a => ?_⟩
  match a with
  | ⟨0, _⟩ => exact h.1
  | ⟨1, _⟩ =>
    show win0_24.index t 1 * 192 ≤ (i 1 : Nat) ∧ (i 1 : Nat) < win0_24.index t 1 * 192 + 192
    rw [i1, Nat.zero_mul, Nat.zero_add]
    exact ⟨Nat.zero_le _, h1⟩
  | ⟨2, _⟩ => exact h.2

theorem cover24 (i : S4x192x4096.Idx) : ∃ t : Fin cfg0.N, (cfg0.win 24).flush t = true ∧ i ∈ ((cfg0.win 24).blk t).view.set := by
  have h0 : (i 0 : Nat) < 4 := (i 0).isLt
  have h2 : (i 2 : Nat) < 4096 := (i 2).isLt
  obtain ⟨t, ht⟩ := onto16 ⟨8 * (i 0 : Nat) + (i 2 : Nat) / 512, by omega⟩
  have d : gp t / 8 = (i 0 : Nat) := by rw [ht]; show (8 * (i 0 : Nat) + (i 2 : Nat) / 512) / 8 = (i 0 : Nat); omega
  have r : gp t % 8 = (i 2 : Nat) / 512 := by rw [ht]; show (8 * (i 0 : Nat) + (i 2 : Nat) / 512) % 8 = (i 2 : Nat) / 512; omega
  refine ⟨t, flush0_24 t, (mem24 t i).2 ?_⟩
  rw [d, r]
  omega

theorem final24 (h : Args m c A0 A1 A2 A3 A4 A5 A6 A7 A8) : (dats m 0 c).arrAt 24 cfg0.N = arr24 A0 A1 A2 A3 A4 A7 :=
  (dats m 0 c).arrAt_eq_of_cover 24 (arr24 A0 A1 A2 A3 A4 A7) (fun t _ => flushed24 h t) cover24

/-- Result 9 of one position. -/
def at25 (A0 : ℕ → ℕ → ℕ → EReal) (A1 : ℕ → ℕ → EReal) (A2 : ℕ → ℕ → EReal) (A3 : ℕ → EReal) (A4 : ℕ → ℕ → EReal) (A7 : ℕ → EReal) (b p k : ℕ) : EReal := latentOne (latentAt A0 A1 A2 A3 A4 A7 b p) k

def arr25 (A0 : ℕ → ℕ → ℕ → EReal) (A1 : ℕ → ℕ → EReal) (A2 : ℕ → ℕ → EReal) (A3 : ℕ → EReal) (A4 : ℕ → ℕ → EReal) (A7 : ℕ → EReal) : Vec Ideal S4x256x4096 .bf16 := fun y => at25 A0 A1 A2 A3 A4 A7 (y 0).val (y 2).val (y 1).val

theorem flushed25 (h : Args m c A0 A1 A2 A3 A4 A5 A6 A7 A8) (t : Fin cfg0.N) :
    (dats m 0 c).flushed 25 t = (win0_25.blk t).view.read (Elt Ideal) (arr25 A0 A1 A2 A3 A4 A7) := by
  have hf : (dats m 0 c).flushed 25 t = (cfg0.win 25).cut (grid0.coords t) (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
    show (cfg0.win 25).cut (grid0.coords t) ((dats m 0 c).after 25 t) = _
    rw [after0_25]
  rw [hf]
  funext y
  obtain ⟨i0, i1, i2⟩ := idx25 t
  have e0 : ((win0_25.rect t).emb y 0).val = win0_25.index t 0 * 1 + (y 0).val := Pipeline.Window.rect_emb_val win0_25 t y 0
  have e1 : ((win0_25.rect t).emb y 1).val = win0_25.index t 1 * 256 + (y 1).val := Pipeline.Window.rect_emb_val win0_25 t y 1
  have e2 : ((win0_25.rect t).emb y 2).val = win0_25.index t 2 * 512 + (y 2).val := Pipeline.Window.rect_emb_val win0_25 t y 2
  have b0 : (y 0).val = 0 := by have : (y 0).val < 1 := (y 0).isLt; omega
  refine (out25_apply (blocks h t) y).trans ?_
  show at25 A0 A1 A2 A3 A4 A7 (gp t / 8) (512 * (gp t % 8) + (y 2).val) (y 1).val
    = at25 A0 A1 A2 A3 A4 A7 ((win0_25.rect t).emb y 0).val ((win0_25.rect t).emb y 2).val ((win0_25.rect t).emb y 1).val
  rw [e0, i0, b0, Nat.mul_one, Nat.add_zero, e1, i1, e2, i2, Nat.zero_mul, Nat.zero_add, Nat.mul_comm _ 512]

theorem mem25 (t : Fin cfg0.N) (i : S4x256x4096.Idx) : i ∈ ((cfg0.win 25).blk t).view.set ↔
    (gp t / 8 * 1 ≤ (i 0 : Nat) ∧ (i 0 : Nat) < gp t / 8 * 1 + 1) ∧ gp t % 8 * 512 ≤ (i 2 : Nat) ∧ (i 2 : Nat) < gp t % 8 * 512 + 512 := by
  show i ∈ ((View.whole main_v58_9).slice (win0_25.rect t)).set ↔ _
  rw [View.set_slice_whole, Rect.mem_set_unit]
  obtain ⟨i0, i1, i2⟩ := idx25 t
  have h1 : (i 1 : Nat) < 256 := (i 1).isLt
  rw [← i0, ← i2]
  refine ⟨fun h => ⟨h 0, h 2⟩, fun h a => ?_⟩
  match a with
  | ⟨0, _⟩ => exact h.1
  | ⟨1, _⟩ =>
    show win0_25.index t 1 * 256 ≤ (i 1 : Nat) ∧ (i 1 : Nat) < win0_25.index t 1 * 256 + 256
    rw [i1, Nat.zero_mul, Nat.zero_add]
    exact ⟨Nat.zero_le _, h1⟩
  | ⟨2, _⟩ => exact h.2

theorem cover25 (i : S4x256x4096.Idx) : ∃ t : Fin cfg0.N, (cfg0.win 25).flush t = true ∧ i ∈ ((cfg0.win 25).blk t).view.set := by
  have h0 : (i 0 : Nat) < 4 := (i 0).isLt
  have h2 : (i 2 : Nat) < 4096 := (i 2).isLt
  obtain ⟨t, ht⟩ := onto16 ⟨8 * (i 0 : Nat) + (i 2 : Nat) / 512, by omega⟩
  have d : gp t / 8 = (i 0 : Nat) := by rw [ht]; show (8 * (i 0 : Nat) + (i 2 : Nat) / 512) / 8 = (i 0 : Nat); omega
  have r : gp t % 8 = (i 2 : Nat) / 512 := by rw [ht]; show (8 * (i 0 : Nat) + (i 2 : Nat) / 512) % 8 = (i 2 : Nat) / 512; omega
  refine ⟨t, flush0_25 t, (mem25 t i).2 ?_⟩
  rw [d, r]
  omega

theorem final25 (h : Args m c A0 A1 A2 A3 A4 A5 A6 A7 A8) : (dats m 0 c).arrAt 25 cfg0.N = arr25 A0 A1 A2 A3 A4 A7 :=
  (dats m 0 c).arrAt_eq_of_cover 25 (arr25 A0 A1 A2 A3 A4 A7) (fun t _ => flushed25 h t) cover25

end Cert.Kernel2Ideal.Hand
end
-- ==== Proof.Softmax.lean ====
/-
  The real mathematics of one row of causal softmax attention: a row of scores `s`, the features `f` of the keys and the row's
  own position `t`. `weigh s f t` is the weighted mean of `f` over the keys up to `t`, with weights `exp (s k)`. It does not
  change when every score is shifted by one number, which is how both the kernel and the reference subtract a maximum that
  need not be the same. Beside it, how sums of extended reals that are all real are real sums, and how a sum over the keys is
  taken tile by tile.
-/
module

public import Idealize.ShloMosaic.PureOps.Ideal.Laws
public import Mathlib.Tactic.Linarith
public import Mathlib.Tactic.FieldSimp
public import Mathlib.Tactic.Ring

@[expose] public section

noncomputable section

namespace Cert.Mla

open Idealize.ShloMosaic
open scoped BigOperators

/-! ## Extended reals that are real -/

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over `Fin n` of reals given by a function of the naturals. -/
theorem coe_sum_fin (n : ℕ) (f : ℕ → ℝ) :
    ∑ i : Fin n, ((f i.val : ℝ) : EReal) = ((∑ i ∈ Finset.range n, f i : ℝ) : EReal) := by
  rw [coe_sum, Fin.sum_univ_eq_sum_range]

theorem exists_real {x : EReal} (ht : x ≠ ⊤) (hb : x ≠ ⊥) : ∃ r : ℝ, x = (r : EReal) :=
  ⟨x.toReal, (EReal.coe_toReal ht hb).symm⟩

/-- The maximum of finitely many extended reals below `⊤` is below `⊤`. -/
theorem fold_max_ne_top {ι : Type} (s : Finset ι) (b : EReal) (f : ι → EReal) (hb : b ≠ ⊤) (hf : ∀ i ∈ s, f i ≠ ⊤) :
    s.fold max b f ≠ ⊤ :=
  lt_top_iff_ne_top.1 ((Finset.fold_max_lt _).2 ⟨lt_top_iff_ne_top.2 hb, fun i hi => lt_top_iff_ne_top.2 (hf i hi)⟩)

/-- It is above `⊥` when one of them is. -/
theorem fold_max_ne_bot {ι : Type} (s : Finset ι) (b : EReal) (f : ι → EReal) (i : ι) (hi : i ∈ s) (hf : f i ≠ ⊥) :
    s.fold max b f ≠ ⊥ :=
  bot_lt_iff_ne_bot.1 ((Finset.lt_fold_max _).2 (.inr ⟨i, hi, bot_lt_iff_ne_bot.2 hf⟩))

theorem max_lt_of_ne_top {x y : EReal} (hx : x ≠ ⊤) (hy : y ≠ ⊤) : max x y ≠ ⊤ :=
  lt_top_iff_ne_top.1 (max_lt (lt_top_iff_ne_top.2 hx) (lt_top_iff_ne_top.2 hy))

theorem max_gt_of_ne_bot {x y : EReal} (hy : y ≠ ⊥) : max x y ≠ ⊥ :=
  bot_lt_iff_ne_bot.1 (lt_max_of_lt_right (bot_lt_iff_ne_bot.2 hy))

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The exponential of a score that may be masked to `⊥`, less a real. -/
theorem exp_masked (p : Prop) [Decidable p] (x m : ℝ) :
    Ideal.exp ((if p then ((x : ℝ) : EReal) else ⊥) - (m : EReal)) = ((if p then Real.exp (x - m) else 0 : ℝ) : EReal) := by
  by_cases h : p
  · rw [if_pos h, if_pos h, ← EReal.coe_sub, Ideal.exp_coe]
  · rw [if_neg h, if_neg h, EReal.bot_sub, Ideal.exp_bot, EReal.coe_zero]

theorem exp_real (x m : ℝ) : Ideal.exp ((x : EReal) - (m : EReal)) = ((Real.exp (x - m) : ℝ) : EReal) := by
  rw [← EReal.coe_sub, Ideal.exp_coe]

/-! ## The weighted mean -/

/-- The mean of `f` over the keys up to `t`, weighted by the exponentials of the scores. -/
def weigh (s f : ℕ → ℝ) (t : ℕ) : ℝ :=
  (∑ k ∈ Finset.range (t + 1), Real.exp (s k) * f k) / ∑ k ∈ Finset.range (t + 1), Real.exp (s k)

theorem sum_exp_pos (s : ℕ → ℝ) (t : ℕ) : 0 < ∑ k ∈ Finset.range (t + 1), Real.exp (s k) :=
  Finset.sum_pos (fun k _ => Real.exp_pos _) ⟨0, Finset.mem_range.2 (Nat.succ_pos t)⟩

/-- Shifting the scores changes neither side's quotient. -/
theorem weigh_shift (s f : ℕ → ℝ) (t : ℕ) (m : ℝ) :
    (∑ k ∈ Finset.range (t + 1), Real.exp (s k - m) * f k) / (∑ k ∈ Finset.range (t + 1), Real.exp (s k - m)) = weigh s f t := by
  have h : ∀ k, Real.exp (s k - m) = Real.exp (-m) * Real.exp (s k) := fun k => by rw [← Real.exp_add]; congr 1; ring
  unfold weigh
  simp only [h, mul_assoc, ← Finset.mul_sum]
  exact mul_div_mul_left _ _ (Real.exp_ne_zero _)

/-! ## Sums over the keys -/

/-- A function that vanishes past `t` sums over any longer range to its sum up to `t`. -/
theorem sum_range_cut (g : ℕ → ℝ) (t n : ℕ) (hn : t < n) (hg : ∀ k, t < k → g k = 0) :
    ∑ k ∈ Finset.range n, g k = ∑ k ∈ Finset.range (t + 1), g k := by
  refine (Finset.sum_subset (Finset.range_subset_range.2 hn) fun k _ hk => hg k ?_).symm
  rw [Finset.mem_range] at hk; omega

/-- The sum of the first `n` tiles of `w` keys. -/
theorem sum_tiles (g : ℕ → ℝ) (w n : ℕ) :
    ∑ j ∈ Finset.range n, ∑ l ∈ Finset.range w, g (w * j + l) = ∑ k ∈ Finset.range (w * n), g k := by
  induction n with
  | zero => simp
  | succ n ih => rw [Finset.sum_range_succ, ih, Nat.mul_succ, Finset.sum_range_add]

/-- The tile that holds `t`, then the tiles before it: the sum up to `t`. -/
theorem sum_diag_tiles (g : ℕ → ℝ) (w t : ℕ) (hw : 0 < w) (hg : ∀ k, t < k → g k = 0) :
    ∑ l ∈ Finset.range w, g (w * (t / w) + l) + ∑ j ∈ Finset.range (t / w), ∑ l ∈ Finset.range w, g (w * j + l)
      = ∑ k ∈ Finset.range (t + 1), g k := by
  rw [sum_tiles, add_comm, ← Finset.sum_range_add]
  refine sum_range_cut g t _ ?_ hg
  have h := Nat.div_add_mod t w
  have h' := Nat.mod_lt t hw
  omega

end Cert.Mla
end
-- ==== Proof.ProjForms.lean ====
/-
  The projection in the reference's terms: its one matrix product against the kernel's two, the scale of the queries taken out of a sum,
  the gates' padding, and the rotary queries, where a negated column of the weights is a subtraction.
-/
module

public import proofs.«01_k».proof.Proof.ProjArray
public import proofs.«01_k».proof.Proof.Literals
public import proofs.«01_k».proof.Proof.Softmax

@[expose] public section

set_option maxRecDepth 16384

noncomputable section

namespace Cert.Proj

open Cert.Ent Cert.Mla
open Idealize.ShloMosaic
open scoped BigOperators

/-! ## Constants -/

theorem lit_eighth : FloatOps.ofBits (F := Ideal) .f32 0x3E000000#32 = ((1 / 8 : ℝ) : EReal) := by
  show Ideal.ofBits .f32 0x3E000000#32 = _
  simp [Ideal.ofBits, Ideal.ieee, -EReal.coe_mul]; norm_num

theorem lit_half : FloatOps.ofBits (F := Ideal) .f32 0x3F000000#32 = ((1 / 2 : ℝ) : EReal) := by
  show Ideal.ofBits .f32 0x3F000000#32 = _
  simp [Ideal.ofBits, Ideal.ieee, -EReal.coe_mul]; norm_num

theorem lit_256 : FloatOps.ofBits (F := Ideal) .f32 0x43800000#32 = ((256 : ℝ) : EReal) := by
  show Ideal.ofBits .f32 0x43800000#32 = _
  simp [Ideal.ofBits, Ideal.ieee, -EReal.coe_mul]; norm_num

/-- The number added to a mean square is a positive real. -/
theorem lit_eps : ∃ e : ℝ, 0 < e ∧ FloatOps.ofBits (F := Ideal) .f32 0x358637BD#32 = ((e : ℝ) : EReal) := by
  refine ⟨8796093 * 2 ^ (-43 : ℤ), by positivity, ?_⟩
  show Ideal.ofBits .f32 0x358637BD#32 = _
  simp [Ideal.ofBits, Ideal.ieee, -EReal.coe_mul]

/-! ## Sums -/

/-- A nonnegative real factor of every term is a factor of the sum. -/
theorem sum_scale (n : ℕ) (f : ℕ → EReal) {s : ℝ} (hs : 0 ≤ s) :
    ∑ k ∈ Finset.range n, f k * ((s : ℝ) : EReal) = (∑ k ∈ Finset.range n, f k) * ((s : ℝ) : EReal) := by
  induction n with
  | zero => simp
  | succ n ih =>
    rw [Finset.sum_range_succ, Finset.sum_range_succ, ih]
    exact (EReal.right_distrib_of_nonneg_of_ne_top (EReal.coe_nonneg.2 hs) (EReal.coe_ne_top s) _ _).symm

/-- Over reals the sum of the negated products is the negated sum. -/
theorem sum_negated (n : ℕ) (v w : ℕ → EReal) (hv : ∀ k < n, ∃ r : ℝ, v k = r) (hw : ∀ k < n, ∃ r : ℝ, w k = r) :
    ∃ r : ℝ, ∑ k ∈ Finset.range n, v k * w k = r ∧ ∑ k ∈ Finset.range n, v k * -w k = ((-r : ℝ) : EReal) := by
  induction n with
  | zero => exact ⟨0, by simp, by simp⟩
  | succ n ih =>
    obtain ⟨r, h1, h2⟩ := ih (fun k hk => hv k (by omega)) fun k hk => hw k (by omega)
    obtain ⟨a, ha⟩ := hv n (by omega)
    obtain ⟨b, hb⟩ := hw n (by omega)
    refine ⟨r + a * b, ?_, ?_⟩
    · rw [Finset.sum_range_succ, h1, ha, hb, EReal.coe_add, EReal.coe_mul]
    · rw [Finset.sum_range_succ, h2, ha, hb, ← EReal.coe_neg, ← EReal.coe_mul, ← EReal.coe_add]
      congr 1; ring

/-! ## The sigmoid of zero -/

theorem sig_zero : sig 0 = FloatOps.ofBits (F := Ideal) .f32 0x3F000000#32 := by
  rw [lit_half]
  show Ideal.div 1 (1 + Ideal.exp (-0)) = _
  have e : Ideal.exp (-0) = ((1 : ℝ) : EReal) := by
    rw [neg_zero]
    show ((Real.exp 0 : ℝ) : EReal) = _
    rw [Real.exp_zero]
  rw [e, ← EReal.coe_one, ← EReal.coe_add]
  unfold Ideal.div
  rw [if_neg (by norm_num), ← EReal.coe_inv, ← EReal.coe_mul]
  norm_num

/-! ## A normalised row with real gains is a row of reals -/

theorem rms_infinite (v : ℕ → EReal) (n j : ℕ) (hj : j < n) (hv : v j = ⊤ ∨ v j = ⊥) : rms 0x43800000#32 0x358637BD#32 n v = 0 := by
  have hs : ∑ k ∈ Finset.range n, v k * v k = ⊤ := by
    refine top_le_iff.1 (le_trans (le_of_eq ?_) (Finset.single_le_sum (f := fun k => v k * v k) (fun k _ => ?_) (Finset.mem_range.2 hj)))
    · rcases hv with h | h <;> simp [h]
    · rcases le_total 0 (v k) with h | h
      · exact mul_nonneg h h
      · have := mul_nonneg (EReal.neg_nonneg.2 h) (EReal.neg_nonneg.2 h)
        rwa [EReal.neg_mul, mul_comm, EReal.neg_mul, neg_neg] at this
  obtain ⟨e, _, he⟩ := lit_eps
  unfold rms
  rw [hs, lit_256, he]
  have hd : Ideal.div ⊤ ((256 : ℝ) : EReal) = ⊤ := by
    unfold Ideal.div
    rw [if_neg (by norm_num), ← EReal.coe_inv]
    exact EReal.top_mul_coe_of_pos (by norm_num)
  rw [hd, EReal.top_add_coe]
  rfl

theorem rms_real (v : ℕ → EReal) (n : ℕ) (hv : ∀ k < n, ∃ r : ℝ, v k = r) : ∃ r : ℝ, rms 0x43800000#32 0x358637BD#32 n v = r := by
  have hs : ∃ q : ℝ, 0 ≤ q ∧ ∑ k ∈ Finset.range n, v k * v k = q := by
    induction n with
    | zero => exact ⟨0, le_refl _, by simp⟩
    | succ n ih =>
      obtain ⟨q, h0, h1⟩ := ih fun k hk => hv k (by omega)
      obtain ⟨a, ha⟩ := hv n (by omega)
      exact ⟨q + a * a, add_nonneg h0 (mul_self_nonneg a), by rw [Finset.sum_range_succ, h1, ha, EReal.coe_add, EReal.coe_mul]⟩
  obtain ⟨q, h0, h1⟩ := hs
  obtain ⟨e, hp, he⟩ := lit_eps
  unfold rms
  rw [h1, lit_256, he]
  have hd : Ideal.div ((q : ℝ) : EReal) ((256 : ℝ) : EReal) = ((q * 256⁻¹ : ℝ) : EReal) := by
    unfold Ideal.div
    rw [if_neg (by norm_num), ← EReal.coe_inv, ← EReal.coe_mul]
  rw [hd, ← EReal.coe_add]
  have hpos : 0 < q * 256⁻¹ + e := by positivity
  refine ⟨(Real.sqrt (q * 256⁻¹ + e))⁻¹, ?_⟩
  show (if q * 256⁻¹ + e < 0 then (⊥ : EReal) else if q * 256⁻¹ + e = 0 then ⊤ else _) = _
  rw [if_neg (by linarith), if_neg (by linarith)]

/-- An infinite entry makes the whole row zeros. -/
theorem normed_real (v g : ℕ → EReal) (n : ℕ) (hg : ∀ k < n, ∃ r : ℝ, g k = r) :
    ∀ k < n, ∃ r : ℝ, normed 0x43800000#32 n v g k = r := by
  intro k hk
  obtain ⟨c, hc⟩ := hg k hk
  unfold normed
  by_cases h : ∃ j < n, v j = ⊤ ∨ v j = ⊥
  · obtain ⟨j, hj, h⟩ := h
    rw [rms_infinite v n j hj h, mul_zero, zero_mul]
    exact ⟨0, rfl⟩
  · have hv : ∀ k < n, ∃ r : ℝ, v k = r := fun k hk =>
      ⟨(v k).toReal, (EReal.coe_toReal (fun e => h ⟨k, hk, .inl e⟩) (fun e => h ⟨k, hk, .inr e⟩)).symm⟩
    obtain ⟨a, ha⟩ := hv k hk
    obtain ⟨b, hb⟩ := rms_real v n hv
    exact ⟨a * b * c, by rw [ha, hb, hc, EReal.coe_mul, EReal.coe_mul]⟩

/-! ## One position's projection, by the columns of the one matrix -/

variable (A0 : ℕ → ℕ → ℕ → EReal) (A1 A2 : ℕ → ℕ → EReal) (A3 : ℕ → EReal) (A4 : ℕ → ℕ → EReal) (A5 : ℕ → EReal)
  (A6 : ℕ → ℕ → ℕ → EReal) (A7 : ℕ → EReal) (A8 : ℕ → ℕ → ℕ → EReal)

/-- The modulated row times the whole projection matrix. -/
def projAt (b p : ℕ) : ℕ → EReal := mul 1024 (hiddenAt A0 A1 A2 A3 b p) A4

variable {A0 A1 A2 A3 A4 A5 A6 A7 A8}

theorem wide_col (b p c d : ℕ) (h : ∀ k, wideMat A4 k c = A4 k d) : wideAt A0 A1 A2 A3 A4 b p c = projAt A0 A1 A2 A3 A4 b p d := by
  unfold wideAt projAt mul
  exact Finset.sum_congr rfl fun k _ => congrArg (fun a : EReal => hiddenAt A0 A1 A2 A3 b p k * a) (h k)

theorem tall_col (b p c d : ℕ) (h : ∀ k, tallMat A4 c k = A4 k d) : tallAt A0 A1 A2 A3 A4 b p c = projAt A0 A1 A2 A3 A4 b p d := by
  unfold tallAt projAt mul
  exact Finset.sum_congr rfl fun k _ => by rw [h k, mul_comm]

theorem wide_query (b p k : ℕ) (hk : k < 512) :
    wideAt A0 A1 A2 A3 A4 b p k = projAt A0 A1 A2 A3 A4 b p k * FloatOps.ofBits (F := Ideal) .f32 0x3E000000#32 := by
  unfold wideAt projAt mul
  rw [lit_eighth]
  refine Eq.trans (Finset.sum_congr rfl fun j _ => ?_) (sum_scale 1024 (fun j => hiddenAt A0 A1 A2 A3 b p j * A4 j k) (by norm_num))
  unfold wideMat
  rw [if_pos hk, lit_eighth, mul_assoc]

theorem wide_first (b p k : ℕ) (hk : k < 512) : wideAt A0 A1 A2 A3 A4 b p (512 + k) = projAt A0 A1 A2 A3 A4 b p (1304 + k) :=
  wide_col b p _ _ fun j => by
    unfold wideMat
    rw [if_neg (by omega), if_pos (by omega), show 512 + k - 512 = k by omega]

theorem wide_second (b p k : ℕ) (hk : k < 512) : wideAt A0 A1 A2 A3 A4 b p (1024 + k) = projAt A0 A1 A2 A3 A4 b p (2264 + k) :=
  wide_col b p _ _ fun j => by
    unfold wideMat
    rw [if_neg (by omega), if_neg (by omega), if_pos (by omega), show 1024 + k - 1024 = k by omega]

theorem wide_latent (b p k : ℕ) (hk : k < 256) : wideAt A0 A1 A2 A3 A4 b p (1536 + k) = projAt A0 A1 A2 A3 A4 b p (1816 + k) :=
  wide_col b p _ _ fun j => by
    unfold wideMat
    rw [if_neg (by omega), if_neg (by omega), if_neg (by omega), if_pos (by omega), show 1536 + k - 1536 = k by omega]

theorem wide_gates (b p k : ℕ) (hk : k < 24) : wideAt A0 A1 A2 A3 A4 b p (1792 + k) = projAt A0 A1 A2 A3 A4 b p (1280 + k) :=
  wide_col b p _ _ fun j => by
    unfold wideMat
    rw [if_neg (by omega), if_neg (by omega), if_neg (by omega), if_neg (by omega), if_pos (by omega), show 1792 + k - 1792 = k by omega]

theorem wide_padding (b p k : ℕ) (hk : 24 ≤ k) : wideAt A0 A1 A2 A3 A4 b p (1792 + k) = 0 := by
  unfold wideAt mul
  exact Finset.sum_eq_zero fun j _ => by
    unfold wideMat
    rw [if_neg (by omega), if_neg (by omega), if_neg (by omega), if_neg (by omega), if_neg (by omega), mul_zero]

theorem tall_values (b p k : ℕ) (hk : k < 768) : tallAt A0 A1 A2 A3 A4 b p k = projAt A0 A1 A2 A3 A4 b p (512 + k) :=
  tall_col b p _ _ fun j => by
    unfold tallMat
    rw [if_pos hk]

theorem tall_latent (b p k : ℕ) (hk : k < 128) : tallAt A0 A1 A2 A3 A4 b p (768 + k) = projAt A0 A1 A2 A3 A4 b p (2072 + k) :=
  tall_col b p _ _ fun j => by
    unfold tallMat
    rw [if_neg (by omega), if_pos (by omega), show 768 + k - 768 = k by omega]

theorem tall_rope (b p k : ℕ) : tallAt A0 A1 A2 A3 A4 b p (896 + k) = projAt A0 A1 A2 A3 A4 b p (2200 + k) :=
  tall_col b p _ _ fun j => by
    unfold tallMat
    rw [if_neg (by omega), if_neg (by omega), show 896 + k - 896 = k by omega]

/-! ## Rows that agree -/

theorem normed_congr (l : BitVec 32) (n : ℕ) (v v' g : ℕ → EReal) (h : ∀ k < n, v k = v' k) (k : ℕ) (hk : k < n) :
    normed l n v g k = normed l n v' g k := by
  have e : rms l 0x358637BD#32 n v = rms l 0x358637BD#32 n v' := by
    unfold rms
    rw [Finset.sum_congr rfl fun j hj => by rw [h j (Finset.mem_range.1 hj)]]
  unfold normed
  rw [e, h k hk]

/-! ## The queries of the latent attention -/

variable (A0 A1 A2 A3 A4 A5 A6)

/-- The normalised latent query, from the one matrix. -/
def queryAt (b p : ℕ) : ℕ → EReal := normed 0x43800000#32 256 (fun k => projAt A0 A1 A2 A3 A4 b p (1816 + k)) A5

/-- A head's query: 128 columns without a rotation, 64 to be rotated. -/
def headAt (b p h c : ℕ) : EReal := ∑ q ∈ Finset.range 256, queryAt A0 A1 A2 A3 A4 A5 b p q * A6 q h c

/-- A head's rotated columns. -/
def turnedAt (b p h j : ℕ) : EReal :=
  if j < 32 then headAt A0 A1 A2 A3 A4 A5 A6 b p h (128 + j) * cosAt p j - headAt A0 A1 A2 A3 A4 A5 A6 b p h (128 + (32 + j)) * sinAt p j
  else headAt A0 A1 A2 A3 A4 A5 A6 b p h (128 + (j - 32)) * sinAt p (j - 32)
    + headAt A0 A1 A2 A3 A4 A5 A6 b p h (128 + (32 + (j - 32))) * cosAt p (j - 32)

variable {A0 A1 A2 A3 A4 A5 A6}

theorem query_eq (b p k : ℕ) (hk : k < 256) : latentQueryAt A0 A1 A2 A3 A4 A5 b p k = queryAt A0 A1 A2 A3 A4 A5 b p k :=
  normed_congr _ _ _ _ _ (fun j hj => wide_latent b p j hj) k hk

theorem mul_query (b p h d : ℕ) (w : ℕ → ℕ → EReal) (c : ℕ) (e : ∀ q, w q c = A6 q h d) :
    mul 256 (latentQueryAt A0 A1 A2 A3 A4 A5 b p) w c = headAt A0 A1 A2 A3 A4 A5 A6 b p h d := by
  unfold mul headAt
  exact Finset.sum_congr rfl fun q hq => by rw [e q, query_eq b p q (Finset.mem_range.1 hq)]

theorem mul_negated (b p h d : ℕ) (w : ℕ → ℕ → EReal) (c : ℕ) (e : ∀ q, w q c = -A6 q h d)
    (r5 : ∀ k, ∃ r : ℝ, A5 k = r) (r6 : ∀ q h c, ∃ r : ℝ, A6 q h c = r) :
    mul 256 (latentQueryAt A0 A1 A2 A3 A4 A5 b p) w c = -headAt A0 A1 A2 A3 A4 A5 A6 b p h d := by
  obtain ⟨r, h1, h2⟩ := sum_negated 256 (queryAt A0 A1 A2 A3 A4 A5 b p) (fun q => A6 q h d)
    (normed_real _ _ 256 fun k _ => r5 k) fun q _ => r6 q h d
  unfold mul headAt
  rw [h1, ← EReal.coe_neg, ← h2]
  exact Finset.sum_congr rfl fun q hq => by rw [e q, query_eq b p q (Finset.mem_range.1 hq)]

theorem mul_none (b p : ℕ) (w : ℕ → ℕ → EReal) (c : ℕ) (e : ∀ q, w q c = 0) : mul 256 (latentQueryAt A0 A1 A2 A3 A4 A5 b p) w c = 0 := by
  unfold mul
  exact Finset.sum_eq_zero fun q _ => by rw [e q, mul_zero]

theorem rotary_turned (b p h j : ℕ) (hj : j < 64) (r5 : ∀ k, ∃ r : ℝ, A5 k = r) (r6 : ∀ q h c, ∃ r : ℝ, A6 q h c = r) :
    rotaryAt A0 A1 A2 A3 A4 A5 A6 b p (128 * h + j) = turnedAt A0 A1 A2 A3 A4 A5 A6 b p h j := by
  have e1 : (128 * h + j) % 128 = j := by omega
  have e2 : (128 * h + j) / 128 = h := by omega
  unfold rotaryAt turnedAt
  rw [e1, mul_query b p h (128 + j) (ropeMat A6) _ fun q => by unfold ropeMat; rw [e1, e2, if_pos hj]]
  by_cases hc : j < 32
  · rw [if_pos hc, mul_negated b p h (128 + (32 + j)) (swapMat A6) _ (fun q => by unfold swapMat; rw [e1, e2, if_pos hj, if_pos hc]) r5 r6]
    unfold tableMat
    rw [if_pos hc, if_pos hc, EReal.neg_mul, ← sub_eq_add_neg]
  · rw [if_neg hc, mul_query b p h (128 + (j - 32)) (swapMat A6) _ fun q => by unfold swapMat; rw [e1, e2, if_pos hj, if_neg hc]]
    unfold tableMat
    rw [if_neg hc, if_pos hj, if_neg hc, if_pos hj, add_comm, show 32 + (j - 32) = j by omega]

theorem rotary_padding (b p h j : ℕ) (hj : 64 ≤ j) (hj' : j < 128) : rotaryAt A0 A1 A2 A3 A4 A5 A6 b p (128 * h + j) = 0 := by
  have e1 : (128 * h + j) % 128 = j := by omega
  unfold rotaryAt
  rw [mul_none b p (ropeMat A6) _ fun q => by unfold ropeMat; rw [e1, if_neg (by omega)],
    mul_none b p (swapMat A6) _ fun q => by unfold swapMat; rw [e1, if_neg (by omega)], zero_mul, zero_mul, zero_add]

/-- A packed query: its latent part through the key projection, its rotated part, and zeros. -/
theorem packed_parts (b p c : ℕ) (r5 : ∀ k, ∃ r : ℝ, A5 k = r) (r6 : ∀ q h c, ∃ r : ℝ, A6 q h c = r) :
    packedAt A0 A1 A2 A3 A4 A5 A6 A8 b p c
      = if c % 256 < 128 then (∑ n ∈ Finset.range 128, A8 (c % 256) (c / 256) n * headAt A0 A1 A2 A3 A4 A5 A6 b p (c / 256) n) * sc
        else if c % 256 < 192 then turnedAt A0 A1 A2 A3 A4 A5 A6 b p (c / 256) (c % 256 - 128) * sc
        else FloatOps.ofBits (F := Ideal) .f32 0x00000000#32 := by
  unfold packedAt packed
  by_cases h1 : c % 256 < 128
  · rw [if_pos h1, if_pos h1]
    refine congrArg (fun a : EReal => a * sc) (Finset.sum_congr rfl fun n hn => ?_)
    have hn' := Finset.mem_range.1 hn
    rw [mul_comm, mul_query b p (c / 256) n (fun q c => A6 q (c / 128) (c % 128)) _ fun q => ?_]
    beta_reduce
    rw [show (128 * (c / 256) + n) / 128 = c / 256 by omega, show (128 * (c / 256) + n) % 128 = n by omega]
  · rw [if_neg h1, if_neg h1]
    by_cases h2 : c % 256 < 192
    · rw [if_pos h2, rotary_turned b p (c / 256) (c % 256 - 128) (by omega) r5 r6]
    · rw [if_neg h2, rotary_padding b p (c / 256) (c % 256 - 128) (by omega) (by omega), zero_mul, lit_zero]

/-! ## The latent rows of the keys -/

/-- A latent row, from the one matrix. -/
theorem latent_parts (b p d : ℕ) (hd : d < 192) :
    latentAt A0 A1 A2 A3 A4 A7 b p d
      = if d < 128 then normed 0x43000000#32 128 (fun k => projAt A0 A1 A2 A3 A4 b p (2072 + k)) A7 d
        else if d < 160 then projAt A0 A1 A2 A3 A4 b p (2200 + (d - 128)) * cosAt p (d - 128)
          - projAt A0 A1 A2 A3 A4 b p (2200 + (32 + (d - 128))) * sinAt p (d - 128)
        else projAt A0 A1 A2 A3 A4 b p (2200 + (d - 160)) * sinAt p (d - 160)
          + projAt A0 A1 A2 A3 A4 b p (2200 + (32 + (d - 160))) * cosAt p (d - 160) := by
  unfold latentAt latent
  by_cases h1 : d < 128
  · rw [if_pos h1, if_pos h1]
    exact normed_congr _ _ _ _ _ (fun j hj => tall_latent b p j hj) d h1
  · rw [if_neg h1, if_neg h1]
    rw [tall_rope, tall_rope, tall_rope, tall_rope]

end Cert.Proj
end
-- ==== Proof.ProjRef.lean ====
/-
  The reference's projection read at an entry.
-/
module

public import proofs.«01_k».proof.Proof.ProjForms
public import proofs.«01_k».proof.Proof.Gen.Reference2Ideal.Read

@[expose] public section

set_option maxRecDepth 16384

noncomputable section

namespace Cert.Reference2Ideal.Hand

open Cert.Reference2Ideal Cert.Reference2Ideal.Gen Cert.Reference2Ideal.Read Cert.Ent Cert.Proj Cert.Mla
open Idealize.ShloMosaic Idealize.ShloMosaic.TcCoe Idealize.ShloMosaic.ValueIdx
open scoped BigOperators

variable {x0 : Vec Ideal S4x4096x1024 .f32} {x1 x2 : Vec Ideal S4x1024 .f32} {x3 : Vec Ideal S1024 .f32} {x4 : Vec Ideal S1024x2776 .f32}
  {x5 : Vec Ideal S256 .f32} {x6 : Vec Ideal S256x4x192 .f32} {x7 : Vec Ideal S128 .f32} {x8 : Vec Ideal S128x4x128 .f32}
  {A0 : ℕ → ℕ → ℕ → EReal} {A1 A2 : ℕ → ℕ → EReal} {A3 : ℕ → EReal} {A4 : ℕ → ℕ → EReal} {A5 : ℕ → EReal} {A6 : ℕ → ℕ → ℕ → EReal}
  {A7 : ℕ → EReal} {A8 : ℕ → ℕ → ℕ → EReal}

/-! ## Arrays joined along their last axis -/

theorem join3 {a b c d n : ℕ} (hn : n = c + d) {y0 : FVec Ideal ⟨3, ![a, b, c]⟩ .f32} {y1 : FVec Ideal ⟨3, ![a, b, d]⟩ .f32}
    {Y0 Y1 : ℕ → ℕ → ℕ → EReal} (h0 : Ent3 y0 Y0) (h1 : Ent3 y1 Y1) (h) :
    Ent3 (a := a) (b := b) (c := n) (concatenate ⟨3, ![a, b, n]⟩ 2 [⟨⟨3, ![a, b, c]⟩, y0⟩, ⟨⟨3, ![a, b, d]⟩, y1⟩] h)
      fun i j k => if k < c then Y0 i j k else Y1 i j (k - c) := by
  intro y
  obtain ⟨i, j, k, rfl⟩ : ∃ (i : Fin a) (j : Fin b) (k : Fin n), y = ix3 i j k := ⟨_, _, _, eq_ix3 y⟩
  have hk : k.val < n := k.isLt
  show _ = if k.val < c then Y0 i.val j.val k.val else Y1 i.val j.val (k.val - c)
  by_cases hc : k.val < c
  · rw [if_pos hc]
    refine (concatenate_apply_piece (t := ⟨3, ![a, b, n]⟩) 2 _ _ _ 0 (by simp) ⟨3, ![a, b, c]⟩ y0 rfl rfl 0 rfl (ix3 i j (⟨k.val, hc⟩ : Fin c))
      (fun e he => ?_) (by show 0 + k.val = k.val; omega)).trans (h0 _)
    fin_cases e <;> first | rfl | exact absurd rfl he
  rw [if_neg hc]
  refine (concatenate_apply_piece (t := ⟨3, ![a, b, n]⟩) 2 _ _ _ 1 (by simp) ⟨3, ![a, b, d]⟩ y1 rfl rfl c rfl (ix3 i j (⟨k.val - c, by omega⟩ : Fin d))
    (fun e he => ?_) (by show c + (k.val - c) = k.val; omega)).trans (h1 _)
  fin_cases e <;> first | rfl | exact absurd rfl he

theorem join4 {a b l c d n : ℕ} (hn : n = c + d) {y0 : FVec Ideal ⟨4, ![a, b, l, c]⟩ .f32} {y1 : FVec Ideal ⟨4, ![a, b, l, d]⟩ .f32}
    {Y0 Y1 : ℕ → ℕ → ℕ → ℕ → EReal} (h0 : Ent4 y0 Y0) (h1 : Ent4 y1 Y1) (h) :
    Ent4 (a := a) (b := b) (c := l) (d := n) (concatenate ⟨4, ![a, b, l, n]⟩ 3 [⟨⟨4, ![a, b, l, c]⟩, y0⟩, ⟨⟨4, ![a, b, l, d]⟩, y1⟩] h)
      fun i j q k => if k < c then Y0 i j q k else Y1 i j q (k - c) := by
  intro y
  obtain ⟨i, j, q, k, rfl⟩ : ∃ (i : Fin a) (j : Fin b) (q : Fin l) (k : Fin n), y = ix4 i j q k := ⟨_, _, _, _, eq_ix4 y⟩
  have hk : k.val < n := k.isLt
  show _ = if k.val < c then Y0 i.val j.val q.val k.val else Y1 i.val j.val q.val (k.val - c)
  by_cases hc : k.val < c
  · rw [if_pos hc]
    refine (concatenate_apply_piece (t := ⟨4, ![a, b, l, n]⟩) 3 _ _ _ 0 (by simp) ⟨4, ![a, b, l, c]⟩ y0 rfl rfl 0 rfl
      (ix4 i j q (⟨k.val, hc⟩ : Fin c)) (fun e he => ?_) (by show 0 + k.val = k.val; omega)).trans (h0 _)
    fin_cases e <;> first | rfl | exact absurd rfl he
  rw [if_neg hc]
  refine (concatenate_apply_piece (t := ⟨4, ![a, b, l, n]⟩) 3 _ _ _ 1 (by simp) ⟨4, ![a, b, l, d]⟩ y1 rfl rfl c rfl
    (ix4 i j q (⟨k.val - c, by omega⟩ : Fin d)) (fun e he => ?_) (by show c + (k.val - c) = k.val; omega)).trans (h1 _)
  fin_cases e <;> first | rfl | exact absurd rfl he

/-- Three pieces: a head's latent columns, its rotated columns and its padding. -/
theorem heads_apply {y0 : FVec Ideal S4x4096x4x128 .f32} {y1 y2 : FVec Ideal S4x4096x4x64 .f32} {Y0 Y1 Y2 : ℕ → ℕ → ℕ → ℕ → EReal}
    (h0 : Ent4 (a := 4) (b := 4096) (c := 4) (d := 128) y0 Y0) (h1 : Ent4 (a := 4) (b := 4096) (c := 4) (d := 64) y1 Y1)
    (h2 : Ent4 (a := 4) (b := 4096) (c := 4) (d := 64) y2 Y2) :
    Ent4 (a := 4) (b := 4096) (c := 4) (d := 256)
      (concatenate S4x4096x4x256 3 [⟨S4x4096x4x128, y0⟩, ⟨S4x4096x4x64, y1⟩, ⟨S4x4096x4x64, y2⟩]
        concatenates_S4x4096x4x128_S4x4096x4x64_S4x4096x4x64_S4x4096x4x256_d3)
      fun i j q k => if k < 128 then Y0 i j q k else if k < 192 then Y1 i j q (k - 128) else Y2 i j q (k - 192) := by
  intro y
  obtain ⟨i, j, q, k, rfl⟩ : ∃ (i : Fin 4) (j : Fin 4096) (q : Fin 4) (k : Fin 256), y = ix4 i j q k := ⟨_, _, _, _, eq_ix4 y⟩
  have hk : k.val < 256 := k.isLt
  show _ = if k.val < 128 then Y0 i.val j.val q.val k.val else if k.val < 192 then Y1 i.val j.val q.val (k.val - 128) else Y2 i.val j.val q.val (k.val - 192)
  by_cases c0 : k.val < 128
  · rw [if_pos c0]
    refine (concatenate_apply_piece (t := S4x4096x4x256) 3 _ _ _ 0 (by simp) S4x4096x4x128 y0 rfl rfl 0 rfl
      (ix4 i j q (⟨k.val, c0⟩ : Fin 128)) (fun e he => ?_) (by show 0 + k.val = k.val; omega)).trans (h0 _)
    fin_cases e <;> first | rfl | exact absurd rfl he
  rw [if_neg c0]
  by_cases c1 : k.val < 192
  · rw [if_pos c1]
    refine (concatenate_apply_piece (t := S4x4096x4x256) 3 _ _ _ 1 (by simp) S4x4096x4x64 y1 rfl rfl 128 rfl
      (ix4 i j q (⟨k.val - 128, by omega⟩ : Fin 64)) (fun e he => ?_) (by show 128 + (k.val - 128) = k.val; omega)).trans (h1 _)
    fin_cases e <;> first | rfl | exact absurd rfl he
  rw [if_neg c1]
  refine (concatenate_apply_piece (t := S4x4096x4x256) 3 _ _ _ 2 (by simp) S4x4096x4x64 y2 rfl rfl 192 rfl
    (ix4 i j q (⟨k.val - 192, by omega⟩ : Fin 64)) (fun e he => ?_) (by show 192 + (k.val - 192) = k.val; omega)).trans (h2 _)
  fin_cases e <;> first | rfl | exact absurd rfl he

/-! ## The modulated row and its projection -/

theorem scale_apply (h0 : Ent3 (a := 4) (b := 4096) (c := 1024) x0 A0) (i : S4x4096x1.Idx) :
    val_main_v8 (F := Ideal) x0 i = rms 0x44800000#32 0x358637BD#32 1024 (A0 (i 0).val (i 1).val) := by
  rw [val_main_v8_apply, val_main_v7_apply, val_main_v5_apply, val_main_v3_apply, val_main_v2_apply, val_main_v4_apply, val_main_v6_apply,
    val_main_cst_apply, val_main_cst_0_apply, val_main_cst_1_apply, lit_zero, zero_add]
  have hs : ∑ k : Fin 1024, val_main_v1 (F := Ideal) x0 (idx_main_v2 (idx_main_v3 i) k)
      = ∑ k ∈ Finset.range 1024, A0 (i 0).val (i 1).val k * A0 (i 0).val (i 1).val k := by
    refine Eq.trans (Finset.sum_congr rfl fun k _ => ?_)
      (Fin.sum_univ_eq_sum_range (fun k => A0 (i 0).val (i 1).val k * A0 (i 0).val (i 1).val k) 1024)
    rw [val_main_v1_apply]
    exact congrArg₂ (fun a b : EReal => a * b) (h0 _) (h0 _)
  rw [hs]
  rfl

theorem hidden_apply (h0 : Ent3 (a := 4) (b := 4096) (c := 1024) x0 A0) (h1 : Ent2 (a := 4) (b := 1024) x1 A1)
    (h2 : Ent2 (a := 4) (b := 1024) x2 A2) (h3 : Ent1 (a := 1024) x3 A3) :
    Ent3 (a := 4) (b := 4096) (c := 1024) (val_main_v21 (F := Ideal) x0 x1 x2 x3) (hiddenAt A0 A1 A2 A3) := by
  intro i
  rw [val_main_v21_apply, val_main_v18_apply, val_main_v13_apply, val_main_v10_apply, val_main_v9_apply, val_main_v12_apply, val_main_v11_apply,
    val_main_v17_apply, val_main_v16_apply, val_main_v15_apply, val_main_v14_apply, val_main_cst_2_apply, val_main_v20_apply, val_main_v19_apply,
    scale_apply h0]
  exact congrArg₂ (fun a b : EReal => a + b)
    (congrArg₂ (fun a b : EReal => a * b)
      (congrArg₂ (fun a b : EReal => a * b) (congrArg (fun a : EReal => a * _) (h0 i)) (h3 _))
      (congrArg (fun a : EReal => FloatOps.ofBits (F := Ideal) .f32 0x3F800000#32 + a) (h2 _))) (h1 _)

theorem proj_apply (h0 : Ent3 (a := 4) (b := 4096) (c := 1024) x0 A0) (h1 : Ent2 (a := 4) (b := 1024) x1 A1)
    (h2 : Ent2 (a := 4) (b := 1024) x2 A2) (h3 : Ent1 (a := 1024) x3 A3) (h4 : Ent2 (a := 1024) (b := 2776) x4 A4) :
    Ent3 (a := 4) (b := 4096) (c := 2776) (val_main_v22 (F := Ideal) x0 x1 x2 x3 x4) (projAt A0 A1 A2 A3 A4) := by
  intro i
  rw [val_main_v22_apply]
  refine Eq.trans (Finset.sum_congr rfl fun k _ => ?_)
    (Fin.sum_univ_eq_sum_range (fun k => hiddenAt A0 A1 A2 A3 (i 0).val (i 1).val k * A4 k (i 2).val) 1024)
  rw [hidden_apply h0 h1 h2 h3, h4]

end Cert.Reference2Ideal.Hand
end
-- ==== Proof.ProjResults.lean ====
/-
  The reference's ten results read at an entry.
-/
module

public import proofs.«01_k».proof.Proof.ProjRef

@[expose] public section

set_option maxRecDepth 16384

noncomputable section

namespace Cert.Reference2Ideal.Hand

open Cert.Reference2Ideal Cert.Reference2Ideal.Gen Cert.Reference2Ideal.Read Cert.Ent Cert.Proj Cert.Mla
open Idealize.ShloMosaic Idealize.ShloMosaic.TcCoe Idealize.ShloMosaic.ValueIdx
open scoped BigOperators

variable {x0 : Vec Ideal S4x4096x1024 .f32} {x1 x2 : Vec Ideal S4x1024 .f32} {x3 : Vec Ideal S1024 .f32} {x4 : Vec Ideal S1024x2776 .f32}
  {x5 : Vec Ideal S256 .f32} {x6 : Vec Ideal S256x4x192 .f32} {x7 : Vec Ideal S128 .f32} {x8 : Vec Ideal S128x4x128 .f32}
  {U : ℕ → ℕ → ℕ → EReal} {A5 : ℕ → EReal} {A6 : ℕ → ℕ → ℕ → EReal} {A7 : ℕ → EReal} {A8 : ℕ → ℕ → ℕ → EReal}

/-! ## The sparse attention's queries and gates, and the two branches' gates -/

theorem query_apply (hu : Ent3 (a := 4) (b := 4096) (c := 2776) (val_main_v22 (F := Ideal) x0 x1 x2 x3 x4) U) :
    Ent2 (a := 16384) (b := 512) (val_main_v145 (F := Ideal) x0 x1 x2 x3 x4)
      fun r k => U (r / 4096) (r % 4096) k * FloatOps.ofBits (F := Ideal) .f32 0x3E000000#32 := by
  have key : Ent3 (a := 4) (b := 4096) (c := 512) (val_main_v143 (F := Ideal) x0 x1 x2 x3 x4)
      fun b p k => U b p k * FloatOps.ofBits (F := Ideal) .f32 0x3E000000#32 := fun i => by
    rw [val_main_v143_apply, val_main_v23_apply, val_main_v142_apply, val_main_cst_21_apply]
    exact congrArg (fun a : EReal => a * _) (hu _)
  unfold val_main_v145 val_main_v144
  generalize val_main_v143 (F := Ideal) x0 x1 x2 x3 x4 = y at key ⊢
  exact flat3 (a := 4) (b := 4096) (c := 512) (n := 16384) key rfl shapeCasts_S4x4096x512_S16384x512

theorem gates_apply (hu : Ent3 (a := 4) (b := 4096) (c := 2776) (val_main_v22 (F := Ideal) x0 x1 x2 x3 x4) U) :
    Ent2 (a := 16384) (b := 128) (val_main_v146 (F := Ideal) x0 x1 x2 x3 x4)
      fun r k => if k < 24 then Cert.Proj.sig (U (r / 4096) (r % 4096) (1280 + k)) else FloatOps.ofBits (F := Ideal) .f32 0x3F000000#32 := by
  have key : Ent3 (a := 4) (b := 4096) (c := 24) (val_main_v36 (F := Ideal) x0 x1 x2 x3 x4)
      fun b p k => Cert.Proj.sig (U b p (1280 + k)) := fun i => by
    rw [val_main_v36_apply, val_main_v35_apply, val_main_v34_apply, val_main_v33_apply, val_main_v32_apply, val_main_v31_apply, val_main_v25_apply,
      val_main_cst_4_apply, val_main_cst_3_apply, lit_one, hu]
    rfl
  have fill : Ent3 (a := 4) (b := 4096) (c := 104) (val_main_v129 (F := Ideal)) fun _ _ _ => FloatOps.ofBits (F := Ideal) .f32 0x3F000000#32 := fun i => by
    rw [val_main_v129_apply, val_main_cst_15_apply]
  unfold val_main_v146 val_main_v130
  generalize val_main_v36 (F := Ideal) x0 x1 x2 x3 x4 = y0 at key ⊢
  generalize val_main_v129 (F := Ideal) = y1 at fill ⊢
  exact flat3 (a := 4) (b := 4096) (c := 128) (n := 16384)
    (join3 (a := 4) (b := 4096) (c := 24) (d := 104) (n := 128) rfl key fill concatenates_S4x4096x24_S4x4096x104_S4x4096x128_d2) rfl
    shapeCasts_S4x4096x128_S16384x128

theorem first_apply (hu : Ent3 (a := 4) (b := 4096) (c := 2776) (val_main_v22 (F := Ideal) x0 x1 x2 x3 x4) U) :
    Ent2 (a := 16384) (b := 512) (val_main_v148 (F := Ideal) x0 x1 x2 x3 x4) fun r k => silu (U (r / 4096) (r % 4096) (1304 + k)) := by
  have hx : Ent3 (a := 4) (b := 4096) (c := 512) (val_main_v26 (F := Ideal) x0 x1 x2 x3 x4) fun b p k => U b p (1304 + k) := fun i => by
    rw [val_main_v26_apply, hu]
  have key : Ent3 (a := 4) (b := 4096) (c := 512) (val_main_v147 (F := Ideal) x0 x1 x2 x3 x4) fun b p k => silu (U b p (1304 + k)) := fun i => by
    rw [val_main_v147_apply, val_main_call0_v5_apply, val_main_call0_v4_apply, val_main_call0_v3_apply, val_main_call0_v2_apply, val_main_call0_v1_apply,
      val_main_call0_v0_apply, val_main_call0_cst_0_apply, val_main_call0_cst_apply, lit_one, hx]
    rfl
  unfold val_main_v148
  generalize val_main_v147 (F := Ideal) x0 x1 x2 x3 x4 = y at key ⊢
  exact flat3 (a := 4) (b := 4096) (c := 512) (n := 16384) key rfl shapeCasts_S4x4096x512_S16384x512

theorem second_apply (hu : Ent3 (a := 4) (b := 4096) (c := 2776) (val_main_v22 (F := Ideal) x0 x1 x2 x3 x4) U) :
    Ent2 (a := 16384) (b := 512) (val_main_v150 (F := Ideal) x0 x1 x2 x3 x4) fun r k => silu (U (r / 4096) (r % 4096) (2264 + k)) := by
  have hx : Ent3 (a := 4) (b := 4096) (c := 512) (val_main_v30 (F := Ideal) x0 x1 x2 x3 x4) fun b p k => U b p (2264 + k) := fun i => by
    rw [val_main_v30_apply, hu]
  have key : Ent3 (a := 4) (b := 4096) (c := 512) (val_main_v149 (F := Ideal) x0 x1 x2 x3 x4) fun b p k => silu (U b p (2264 + k)) := fun i => by
    rw [val_main_v149_apply, val_main_call1_v5_apply, val_main_call1_v4_apply, val_main_call1_v3_apply, val_main_call1_v2_apply, val_main_call1_v1_apply,
      val_main_call1_v0_apply, val_main_call1_cst_0_apply, val_main_call1_cst_apply, lit_one, hx]
    rfl
  unfold val_main_v150
  generalize val_main_v149 (F := Ideal) x0 x1 x2 x3 x4 = y at key ⊢
  exact flat3 (a := 4) (b := 4096) (c := 512) (n := 16384) key rfl shapeCasts_S4x4096x512_S16384x512

/-! ## The sparse attention's keys and values -/

theorem values_apply (hu : Ent3 (a := 4) (b := 4096) (c := 2776) (val_main_v22 (F := Ideal) x0 x1 x2 x3 x4) U) :
    Ent3 (a := 4) (b := 768) (c := 4096) (val_main_v137 (F := Ideal) x0 x1 x2 x3 x4) fun b k p => U b p (512 + k) := fun i => by
  rw [val_main_v137_apply, val_main_v24_apply, hu]

theorem values_first (hu : Ent3 (a := 4) (b := 4096) (c := 2776) (val_main_v22 (F := Ideal) x0 x1 x2 x3 x4) U) :
    Ent3 (a := 4) (b := 512) (c := 4096) (val_main_v153 (F := Ideal) x0 x1 x2 x3 x4) fun b k p => U b p (512 + k) := fun i => by
  rw [val_main_v153_apply, values_apply hu]

theorem values_second (hu : Ent3 (a := 4) (b := 4096) (c := 2776) (val_main_v22 (F := Ideal) x0 x1 x2 x3 x4) U) :
    Ent3 (a := 4) (b := 256) (c := 4096) (val_main_v154 (F := Ideal) x0 x1 x2 x3 x4) fun b k p => U b p (512 + (512 + k)) := fun i => by
  rw [val_main_v154_apply, values_apply hu]

theorem values_all (hu : Ent3 (a := 4) (b := 4096) (c := 2776) (val_main_v22 (F := Ideal) x0 x1 x2 x3 x4) U) :
    Ent3 (a := 4) (b := 768) (c := 4096) (val_main_v155 (F := Ideal) x0 x1 x2 x3 x4) fun b k p => U b p (512 + k) := fun i => by
  rw [val_main_v155_apply]
  exact values_apply hu i

/-! ## The rotations' angles -/

theorem cos_apply : Ent2 (a := 4096) (b := 32) (val_main_v64 (F := Ideal)) cosAt := fun i => by
  rw [val_main_v64_apply, val_main_v63_apply, val_main_v61_apply, val_main_v59_apply, val_main_v58_apply, val_main_v0_apply, val_main_v62_apply,
    val_main_v60_apply, val_main_v57_apply, val_main_v56_apply, val_main_v55_apply, val_main_v54_apply, val_main_v53_apply, val_main_cst_9_apply,
    val_main_cst_8_apply]
  rfl

theorem sin_apply : Ent2 (a := 4096) (b := 32) (val_main_v66 (F := Ideal)) sinAt := fun i => by
  rw [val_main_v66_apply, val_main_v63_apply, val_main_v61_apply, val_main_v59_apply, val_main_v58_apply, val_main_v0_apply, val_main_v62_apply,
    val_main_v60_apply, val_main_v57_apply, val_main_v56_apply, val_main_v55_apply, val_main_v54_apply, val_main_v53_apply, val_main_cst_9_apply,
    val_main_cst_8_apply]
  rfl

theorem cos_key_apply : Ent2 (a := 4096) (b := 32) (val_main_v97 (F := Ideal)) cosAt := fun i => by
  rw [val_main_v97_apply, val_main_v96_apply, val_main_v94_apply, val_main_v92_apply, val_main_v91_apply, val_main_v0_apply, val_main_v95_apply,
    val_main_v93_apply, val_main_v90_apply, val_main_v89_apply, val_main_v88_apply, val_main_v87_apply, val_main_v86_apply, val_main_cst_11_apply,
    val_main_cst_10_apply]
  rfl

theorem sin_key_apply : Ent2 (a := 4096) (b := 32) (val_main_v99 (F := Ideal)) sinAt := fun i => by
  rw [val_main_v99_apply, val_main_v96_apply, val_main_v94_apply, val_main_v92_apply, val_main_v91_apply, val_main_v0_apply, val_main_v95_apply,
    val_main_v93_apply, val_main_v90_apply, val_main_v89_apply, val_main_v88_apply, val_main_v87_apply, val_main_v86_apply, val_main_cst_11_apply,
    val_main_cst_10_apply]
  rfl

/-! ## The latent rows of the keys -/

theorem key_scale_apply (hu : Ent3 (a := 4) (b := 4096) (c := 2776) (val_main_v22 (F := Ideal) x0 x1 x2 x3 x4) U) (i : S4x4096x1.Idx) :
    val_main_v122 (F := Ideal) x0 x1 x2 x3 x4 i = rms 0x43000000#32 0x358637BD#32 128 fun k => U (i 0).val (i 1).val (2072 + k) := by
  rw [val_main_v122_apply, val_main_v121_apply, val_main_v119_apply, val_main_v117_apply, val_main_v116_apply, val_main_v118_apply, val_main_v120_apply,
    val_main_cst_12_apply, val_main_cst_13_apply, val_main_cst_14_apply, lit_zero, zero_add]
  have hs : ∑ k : Fin 128, val_main_v115 (F := Ideal) x0 x1 x2 x3 x4 (idx_main_v116 (idx_main_v117 i) k)
      = ∑ k ∈ Finset.range 128, U (i 0).val (i 1).val (2072 + k) * U (i 0).val (i 1).val (2072 + k) := by
    refine Eq.trans (Finset.sum_congr rfl fun k _ => ?_)
      (Fin.sum_univ_eq_sum_range (fun k => U (i 0).val (i 1).val (2072 + k) * U (i 0).val (i 1).val (2072 + k)) 128)
    rw [val_main_v115_apply, val_main_v28_apply, hu]
    rfl
  rw [hs]
  rfl

theorem key_apply (hu : Ent3 (a := 4) (b := 4096) (c := 2776) (val_main_v22 (F := Ideal) x0 x1 x2 x3 x4) U) (h7 : Ent1 (a := 128) x7 A7) :
    Ent3 (a := 4) (b := 4096) (c := 128) (val_main_v127 (F := Ideal) x0 x1 x2 x3 x4 x7)
      fun b p k => normed 0x43000000#32 128 (fun k => U b p (2072 + k)) A7 k := fun i => by
  rw [val_main_v127_apply, val_main_v124_apply, val_main_v28_apply, val_main_v123_apply, val_main_v126_apply, val_main_v125_apply, key_scale_apply hu]
  exact congrArg₂ (fun a b : EReal => a * b) (congrArg (fun a : EReal => a * _) (hu _)) (h7 _)

theorem key_rope_apply (hu : Ent3 (a := 4) (b := 4096) (c := 2776) (val_main_v22 (F := Ideal) x0 x1 x2 x3 x4) U) :
    Ent4 (a := 4) (b := 4096) (c := 1) (d := 64) (val_main_v113 (F := Ideal) x0 x1 x2 x3 x4)
      fun b p _ j => if j < 32 then U b p (2200 + j) * cosAt p j - U b p (2200 + (32 + j)) * sinAt p j
        else U b p (2200 + (j - 32)) * sinAt p (j - 32) + U b p (2200 + (32 + (j - 32))) * cosAt p (j - 32) := by
  have ha : Ent4 (a := 4) (b := 4096) (c := 1) (d := 32) (val_main_v101 (F := Ideal) x0 x1 x2 x3 x4) fun b p _ j => U b p (2200 + j) := fun i => by
    rw [val_main_v101_apply, val_main_v84_apply, val_main_v29_apply, hu]
  have hb : Ent4 (a := 4) (b := 4096) (c := 1) (d := 32) (val_main_v102 (F := Ideal) x0 x1 x2 x3 x4) fun b p _ j => U b p (2200 + (32 + j)) := fun i => by
    rw [val_main_v102_apply, val_main_v84_apply, val_main_v29_apply, hu]
  have k0 : Ent4 (a := 4) (b := 4096) (c := 1) (d := 32) (val_main_v107 (F := Ideal) x0 x1 x2 x3 x4)
      fun b p _ j => U b p (2200 + j) * cosAt p j - U b p (2200 + (32 + j)) * sinAt p j := fun i => by
    rw [val_main_v107_apply, val_main_v104_apply, val_main_v106_apply, val_main_v103_apply, val_main_v105_apply, val_main_v98_apply, val_main_v100_apply,
      ha, hb, cos_key_apply, sin_key_apply]
    rfl
  have k1 : Ent4 (a := 4) (b := 4096) (c := 1) (d := 32) (val_main_v112 (F := Ideal) x0 x1 x2 x3 x4)
      fun b p _ j => U b p (2200 + j) * sinAt p j + U b p (2200 + (32 + j)) * cosAt p j := fun i => by
    rw [val_main_v112_apply, val_main_v109_apply, val_main_v111_apply, val_main_v108_apply, val_main_v110_apply, val_main_v98_apply, val_main_v100_apply,
      ha, hb, cos_key_apply, sin_key_apply]
    rfl
  unfold val_main_v113
  generalize val_main_v107 (F := Ideal) x0 x1 x2 x3 x4 = y0 at k0 ⊢
  generalize val_main_v112 (F := Ideal) x0 x1 x2 x3 x4 = y1 at k1 ⊢
  exact join4 (a := 4) (b := 4096) (l := 1) (c := 32) (d := 32) (n := 64) rfl k0 k1 concatenates_S4x4096x1x32_S4x4096x1x32_S4x4096x1x64_d3

/-- A latent row: its normalised part, then its rotated part. -/
theorem row_apply (hu : Ent3 (a := 4) (b := 4096) (c := 2776) (val_main_v22 (F := Ideal) x0 x1 x2 x3 x4) U) (h7 : Ent1 (a := 128) x7 A7) :
    Ent3 (a := 4) (b := 4096) (c := 192) (val_main_v128 (F := Ideal) x0 x1 x2 x3 x4 x7)
      fun b p d => if d < 128 then normed 0x43000000#32 128 (fun k => U b p (2072 + k)) A7 d
        else if d - 128 < 32 then U b p (2200 + (d - 128)) * cosAt p (d - 128) - U b p (2200 + (32 + (d - 128))) * sinAt p (d - 128)
        else U b p (2200 + (d - 128 - 32)) * sinAt p (d - 128 - 32) + U b p (2200 + (32 + (d - 128 - 32))) * cosAt p (d - 128 - 32) := by
  have k0 := key_apply hu h7
  have k1 : Ent3 (a := 4) (b := 4096) (c := 64) (val_main_v114 (F := Ideal) x0 x1 x2 x3 x4)
      fun b p j => if j < 32 then U b p (2200 + j) * cosAt p j - U b p (2200 + (32 + j)) * sinAt p j
        else U b p (2200 + (j - 32)) * sinAt p (j - 32) + U b p (2200 + (32 + (j - 32))) * cosAt p (j - 32) := fun i => by
    have b0 : (i 0).val < 4 := (i 0).isLt
    have b1 : (i 1).val < 4096 := (i 1).isLt
    have b2 : (i 2).val < 64 := (i 2).isLt
    have f : idx_main_v114 i = ix4 (⟨(i 0).val, b0⟩ : Fin 4) (⟨(i 1).val, b1⟩ : Fin 4096) (0 : Fin 1) (⟨(i 2).val, b2⟩ : Fin 64) := by
      funext a
      refine Fin.ext ?_
      match a with
      | ⟨0, _⟩ => show (((i 0).val * 4096 + (i 1).val) * 64 + (i 2).val) / 262144 = (i 0).val; omega
      | ⟨1, _⟩ => show (((i 0).val * 4096 + (i 1).val) * 64 + (i 2).val) / 64 % 4096 = (i 1).val; omega
      | ⟨2, _⟩ => rfl
      | ⟨3, _⟩ => show (((i 0).val * 4096 + (i 1).val) * 64 + (i 2).val) % 64 = (i 2).val; omega
    rw [val_main_v114_apply, f, key_rope_apply hu]
  unfold val_main_v128
  generalize val_main_v127 (F := Ideal) x0 x1 x2 x3 x4 x7 = y0 at k0 ⊢
  generalize val_main_v114 (F := Ideal) x0 x1 x2 x3 x4 = y1 at k1 ⊢
  exact join3 (a := 4) (b := 4096) (c := 128) (d := 64) (n := 192) rfl k0 k1 concatenates_S4x4096x128_S4x4096x64_S4x4096x192_d2

/-- The rows a column per position. -/
theorem rows_apply {M : ℕ → ℕ → ℕ → EReal} (hm : Ent3 (a := 4) (b := 4096) (c := 192) (val_main_v128 (F := Ideal) x0 x1 x2 x3 x4 x7) M) :
    Ent3 (a := 4) (b := 192) (c := 4096) (val_main_v141 (F := Ideal) x0 x1 x2 x3 x4 x7) fun b d p => M b p d := fun i => by
  rw [val_main_v141_apply, hm]

/-- And with a row of ones and rows of zeros under them. -/
theorem rows_one_apply {M : ℕ → ℕ → ℕ → EReal} (hm : Ent3 (a := 4) (b := 4096) (c := 192) (val_main_v128 (F := Ideal) x0 x1 x2 x3 x4 x7) M) :
    Ent3 (a := 4) (b := 256) (c := 4096) (val_main_v158 (F := Ideal) x0 x1 x2 x3 x4 x7) fun b d p => latentOne (M b p) d := by
  have h1 : Ent3 (a := 4) (b := 4096) (c := 1) (val_main_v138 (F := Ideal)) fun _ _ _ => FloatOps.ofBits (F := Ideal) .f32 0x3F800000#32 := fun i => by
    rw [val_main_v138_apply, val_main_cst_19_apply]
  have h0 : Ent3 (a := 4) (b := 4096) (c := 63) (val_main_v139 (F := Ideal)) fun _ _ _ => FloatOps.ofBits (F := Ideal) .f32 0x00000000#32 := fun i => by
    rw [val_main_v139_apply, val_main_cst_20_apply]
  have hf : Ent3 (a := 4) (b := 4096) (c := 64) (val_main_v140 (F := Ideal)) fun _ _ k =>
      if k < 1 then FloatOps.ofBits (F := Ideal) .f32 0x3F800000#32 else FloatOps.ofBits (F := Ideal) .f32 0x00000000#32 := by
    unfold val_main_v140
    generalize val_main_v138 (F := Ideal) = y0 at h1 ⊢
    generalize val_main_v139 (F := Ideal) = y1 at h0 ⊢
    exact join3 (a := 4) (b := 4096) (c := 1) (d := 63) (n := 64) rfl h1 h0 concatenates_S4x4096x1_S4x4096x63_S4x4096x64_d2
  have hj : Ent3 (a := 4) (b := 4096) (c := 256) (val_main_v156 (F := Ideal) x0 x1 x2 x3 x4 x7) fun b p d => latentOne (M b p) d := by
    unfold val_main_v156
    generalize val_main_v128 (F := Ideal) x0 x1 x2 x3 x4 x7 = y0 at hm ⊢
    generalize val_main_v140 (F := Ideal) = y1 at hf ⊢
    intro i
    refine (join3 (a := 4) (b := 4096) (c := 192) (d := 64) (n := 256) rfl hm hf concatenates_S4x4096x192_S4x4096x64_S4x4096x256_d2 i).trans ?_
    unfold latentOne
    beta_reduce
    by_cases c0 : (i 2).val < 192
    · rw [if_pos c0, if_pos c0]
    rw [if_neg c0, if_neg c0]
    by_cases c1 : (i 2).val = 192
    · rw [if_pos c1, if_pos (by omega)]
    · rw [if_neg c1, if_neg (by omega)]
  intro i
  rw [val_main_v158_apply, val_main_v157_apply]
  exact hj _

/-! ## The queries of the latent attention -/

theorem query_scale_apply (hu : Ent3 (a := 4) (b := 4096) (c := 2776) (val_main_v22 (F := Ideal) x0 x1 x2 x3 x4) U) (i : S4x4096x1.Idx) :
    val_main_v44 (F := Ideal) x0 x1 x2 x3 x4 i = rms 0x43800000#32 0x358637BD#32 256 fun k => U (i 0).val (i 1).val (1816 + k) := by
  rw [val_main_v44_apply, val_main_v43_apply, val_main_v41_apply, val_main_v39_apply, val_main_v38_apply, val_main_v40_apply, val_main_v42_apply,
    val_main_cst_5_apply, val_main_cst_6_apply, val_main_cst_7_apply, lit_zero, zero_add]
  have hs : ∑ k : Fin 256, val_main_v37 (F := Ideal) x0 x1 x2 x3 x4 (idx_main_v38 (idx_main_v39 i) k)
      = ∑ k ∈ Finset.range 256, U (i 0).val (i 1).val (1816 + k) * U (i 0).val (i 1).val (1816 + k) := by
    refine Eq.trans (Finset.sum_congr rfl fun k _ => ?_)
      (Fin.sum_univ_eq_sum_range (fun k => U (i 0).val (i 1).val (1816 + k) * U (i 0).val (i 1).val (1816 + k)) 256)
    rw [val_main_v37_apply, val_main_v27_apply, hu]
    rfl
  rw [hs]
  rfl

theorem latent_query_apply (hu : Ent3 (a := 4) (b := 4096) (c := 2776) (val_main_v22 (F := Ideal) x0 x1 x2 x3 x4) U) (h5 : Ent1 (a := 256) x5 A5) :
    Ent3 (a := 4) (b := 4096) (c := 256) (val_main_v49 (F := Ideal) x0 x1 x2 x3 x4 x5)
      fun b p k => normed 0x43800000#32 256 (fun k => U b p (1816 + k)) A5 k := fun i => by
  rw [val_main_v49_apply, val_main_v46_apply, val_main_v27_apply, val_main_v45_apply, val_main_v48_apply, val_main_v47_apply, query_scale_apply hu]
  exact congrArg₂ (fun a b : EReal => a * b) (congrArg (fun a : EReal => a * _) (hu _)) (h5 _)

theorem head_apply {C : ℕ → ℕ → ℕ → EReal} (hc : Ent3 (a := 4) (b := 4096) (c := 256) (val_main_v49 (F := Ideal) x0 x1 x2 x3 x4 x5) C)
    (h6 : Ent3 (a := 256) (b := 4) (c := 192) x6 A6) :
    Ent4 (a := 4) (b := 4096) (c := 4) (d := 192) (val_main_v50 (F := Ideal) x0 x1 x2 x3 x4 x5 x6)
      fun b p h c => ∑ q ∈ Finset.range 256, C b p q * A6 q h c := fun i => by
  rw [val_main_v50_apply]
  refine Eq.trans (Finset.sum_congr rfl fun k _ => ?_)
    (Fin.sum_univ_eq_sum_range (fun q => C (i 0).val (i 1).val q * A6 q (i 2).val (i 3).val) 256)
  rw [hc, h6]

theorem turned_apply {H : ℕ → ℕ → ℕ → ℕ → EReal}
    (hh : Ent4 (a := 4) (b := 4096) (c := 4) (d := 192) (val_main_v50 (F := Ideal) x0 x1 x2 x3 x4 x5 x6) H) :
    Ent4 (a := 4) (b := 4096) (c := 4) (d := 64) (val_main_v80 (F := Ideal) x0 x1 x2 x3 x4 x5 x6)
      fun b p h j => if j < 32 then H b p h (128 + j) * cosAt p j - H b p h (128 + (32 + j)) * sinAt p j
        else H b p h (128 + (j - 32)) * sinAt p (j - 32) + H b p h (128 + (32 + (j - 32))) * cosAt p (j - 32) := by
  have ha : Ent4 (a := 4) (b := 4096) (c := 4) (d := 32) (val_main_v68 (F := Ideal) x0 x1 x2 x3 x4 x5 x6) fun b p h j => H b p h (128 + j) := fun i => by
    rw [val_main_v68_apply, val_main_v51_apply, hh]
  have hb : Ent4 (a := 4) (b := 4096) (c := 4) (d := 32) (val_main_v69 (F := Ideal) x0 x1 x2 x3 x4 x5 x6) fun b p h j => H b p h (128 + (32 + j)) := fun i => by
    rw [val_main_v69_apply, val_main_v51_apply, hh]
  have k0 : Ent4 (a := 4) (b := 4096) (c := 4) (d := 32) (val_main_v74 (F := Ideal) x0 x1 x2 x3 x4 x5 x6)
      fun b p h j => H b p h (128 + j) * cosAt p j - H b p h (128 + (32 + j)) * sinAt p j := fun i => by
    rw [val_main_v74_apply, val_main_v71_apply, val_main_v73_apply, val_main_v70_apply, val_main_v72_apply, val_main_v65_apply, val_main_v67_apply,
      ha, hb, cos_apply, sin_apply]
    rfl
  have k1 : Ent4 (a := 4) (b := 4096) (c := 4) (d := 32) (val_main_v79 (F := Ideal) x0 x1 x2 x3 x4 x5 x6)
      fun b p h j => H b p h (128 + j) * sinAt p j + H b p h (128 + (32 + j)) * cosAt p j := fun i => by
    rw [val_main_v79_apply, val_main_v76_apply, val_main_v78_apply, val_main_v75_apply, val_main_v77_apply, val_main_v65_apply, val_main_v67_apply,
      ha, hb, cos_apply, sin_apply]
    rfl
  unfold val_main_v80
  generalize val_main_v74 (F := Ideal) x0 x1 x2 x3 x4 x5 x6 = y0 at k0 ⊢
  generalize val_main_v79 (F := Ideal) x0 x1 x2 x3 x4 x5 x6 = y1 at k1 ⊢
  exact join4 (a := 4) (b := 4096) (l := 4) (c := 32) (d := 32) (n := 64) rfl k0 k1 concatenates_S4x4096x4x32_S4x4096x4x32_S4x4096x4x64_d3

theorem absorbed_apply {H : ℕ → ℕ → ℕ → ℕ → EReal}
    (hh : Ent4 (a := 4) (b := 4096) (c := 4) (d := 192) (val_main_v50 (F := Ideal) x0 x1 x2 x3 x4 x5 x6) H)
    (h8 : Ent3 (a := 128) (b := 4) (c := 128) x8 A8) :
    Ent4 (a := 4) (b := 4096) (c := 4) (d := 128) (val_main_v83 (F := Ideal) x0 x1 x2 x3 x4 x5 x6 x8)
      fun b p h r => ∑ n ∈ Finset.range 128, A8 r h n * H b p h n := fun i => by
  rw [val_main_v83_apply, val_main_v82_apply]
  refine Eq.trans (Finset.sum_congr rfl fun k _ => ?_)
    (Fin.sum_univ_eq_sum_range (fun n => A8 (i 3).val (i 2).val n * H (i 0).val (i 1).val (i 2).val n) 128)
  rw [h8, val_main_v81_apply, hh]

/-- The packed queries. -/
theorem packed_apply {H : ℕ → ℕ → ℕ → ℕ → EReal} {T : ℕ → ℕ → ℕ → ℕ → EReal}
    (hh : Ent4 (a := 4) (b := 4096) (c := 4) (d := 192) (val_main_v50 (F := Ideal) x0 x1 x2 x3 x4 x5 x6) H)
    (ht : Ent4 (a := 4) (b := 4096) (c := 4) (d := 64) (val_main_v80 (F := Ideal) x0 x1 x2 x3 x4 x5 x6) T)
    (h8 : Ent3 (a := 128) (b := 4) (c := 128) x8 A8) :
    Ent2 (a := 16384) (b := 1024) (val_main_v152 (F := Ideal) x0 x1 x2 x3 x4 x5 x6 x8)
      fun r c => if c % 256 < 128 then (∑ n ∈ Finset.range 128, A8 (c % 256) (c / 256) n * H (r / 4096) (r % 4096) (c / 256) n) * sc
        else if c % 256 < 192 then T (r / 4096) (r % 4096) (c / 256) (c % 256 - 128) * sc
        else FloatOps.ofBits (F := Ideal) .f32 0x00000000#32 := by
  have k0 : Ent4 (a := 4) (b := 4096) (c := 4) (d := 128) (val_main_v132 (F := Ideal) x0 x1 x2 x3 x4 x5 x6 x8)
      fun b p h r => (∑ n ∈ Finset.range 128, A8 r h n * H b p h n) * sc := fun i => by
    rw [val_main_v132_apply, absorbed_apply hh h8, val_main_v131_apply, val_main_cst_16_apply]
    rfl
  have k1 : Ent4 (a := 4) (b := 4096) (c := 4) (d := 64) (val_main_v134 (F := Ideal) x0 x1 x2 x3 x4 x5 x6) fun b p h j => T b p h j * sc := fun i => by
    rw [val_main_v134_apply, ht, val_main_v133_apply, val_main_cst_17_apply]
    rfl
  have k2 : Ent4 (a := 4) (b := 4096) (c := 4) (d := 64) (val_main_v135 (F := Ideal)) fun _ _ _ _ => FloatOps.ofBits (F := Ideal) .f32 0x00000000#32 := fun i => by
    rw [val_main_v135_apply, val_main_cst_18_apply]
  unfold val_main_v152 val_main_v151 val_main_v136
  generalize val_main_v132 (F := Ideal) x0 x1 x2 x3 x4 x5 x6 x8 = y0 at k0 ⊢
  generalize val_main_v134 (F := Ideal) x0 x1 x2 x3 x4 x5 x6 = y1 at k1 ⊢
  generalize val_main_v135 (F := Ideal) = y2 at k2 ⊢
  exact flat4 (a := 4) (b := 4096) (c := 4) (d := 256) (n := 16384) (k := 1024) (heads_apply k0 k1 k2) rfl rfl shapeCasts_S4x4096x4x256_S16384x1024

end Cert.Reference2Ideal.Hand
end
-- ==== Proof.Real.lean ====
/-
  The real data of the attention — the latent queries `Q`, their rotary parts `R` and the latent rows `M` — and the two
  arrays the queries and the rows are packed into.
-/
module

public import proofs.«01_k».proof.Proof.Literals
public import proofs.«01_k».proof.Proof.Softmax
public import Idealize.ShloMosaic.Lib.ValueIdx

@[expose] public section

noncomputable section

namespace Cert.Mla

open Idealize.ShloMosaic Idealize.ShloMosaic.ValueIdx
open scoped BigOperators

/-- An array of four axes, and one of three, whose entries are the given reals. -/
abbrev Reals4 {a b c d : ℕ} (x : (⟨4, ![a, b, c, d]⟩ : Shape).Idx → EReal) (X : ℕ → ℕ → ℕ → ℕ → ℝ) : Prop :=
  ∀ y, x y = ((X (y 0).val (y 1).val (y 2).val (y 3).val : ℝ) : EReal)

abbrev Reals3 {a b c : ℕ} (x : (⟨3, ![a, b, c]⟩ : Shape).Idx → EReal) (X : ℕ → ℕ → ℕ → ℝ) : Prop :=
  ∀ y, x y = ((X (y 0).val (y 1).val (y 2).val : ℝ) : EReal)

/-- Arrays without an infinite entry are arrays of reals. -/
theorem exists_reals4 {a b c d : ℕ} (x : (⟨4, ![a, b, c, d]⟩ : Shape).Idx → EReal) (ht : ∀ y, x y ≠ ⊤) (hb : ∀ y, x y ≠ ⊥) :
    ∃ X, Reals4 x X := by
  refine ⟨fun i j k l => if h : i < a ∧ j < b ∧ k < c ∧ l < d then
    (x (ix4 ⟨i, h.1⟩ ⟨j, h.2.1⟩ ⟨k, h.2.2.1⟩ ⟨l, h.2.2.2⟩)).toReal else 0, fun y => ?_⟩
  obtain ⟨i, j, k, l, rfl⟩ : ∃ i j k l, y = ix4 i j k l := ⟨_, _, _, _, eq_ix4 y⟩
  have h : (i.val < a ∧ j.val < b ∧ k.val < c ∧ l.val < d) := ⟨i.isLt, j.isLt, k.isLt, l.isLt⟩
  show _ = ((if h : i.val < a ∧ j.val < b ∧ k.val < c ∧ l.val < d then
    (x (ix4 ⟨i.val, h.1⟩ ⟨j.val, h.2.1⟩ ⟨k.val, h.2.2.1⟩ ⟨l.val, h.2.2.2⟩)).toReal else 0 : ℝ) : EReal)
  rw [dif_pos h]
  exact (EReal.coe_toReal (ht _) (hb _)).symm

theorem exists_reals3 {a b c : ℕ} (x : (⟨3, ![a, b, c]⟩ : Shape).Idx → EReal) (ht : ∀ y, x y ≠ ⊤) (hb : ∀ y, x y ≠ ⊥) :
    ∃ X, Reals3 x X := by
  refine ⟨fun i j k => if h : i < a ∧ j < b ∧ k < c then (x (ix3 ⟨i, h.1⟩ ⟨j, h.2.1⟩ ⟨k, h.2.2⟩)).toReal else 0, fun y => ?_⟩
  obtain ⟨i, j, k, rfl⟩ : ∃ i j k, y = ix3 i j k := ⟨_, _, _, eq_ix3 y⟩
  have h : (i.val < a ∧ j.val < b ∧ k.val < c) := ⟨i.isLt, j.isLt, k.isLt⟩
  show _ = ((if h : i.val < a ∧ j.val < b ∧ k.val < c then (x (ix3 ⟨i.val, h.1⟩ ⟨j.val, h.2.1⟩ ⟨k.val, h.2.2⟩)).toReal else 0 : ℝ) : EReal)
  rw [dif_pos h]
  exact (EReal.coe_toReal (ht _) (hb _)).symm

/-- The packed queries: row `r` is position `r % 4096` of sequence `r / 4096`; a head has 256 columns, its scaled latent query,
    its scaled rotary query and 64 zeros. -/
def packQ (Q R : ℕ → ℕ → ℕ → ℕ → ℝ) (r c : ℕ) : ℝ :=
  if c % 256 < 128 then Q (r / 4096) (r % 4096) (c / 256) (c % 256) * scale
  else if c % 256 < 192 then R (r / 4096) (r % 4096) (c / 256) (c % 256 - 128) * scale else 0

/-- The packed rows of a sequence, a column per position: the latent row, a row of ones, and 63 of zeros. -/
def packM (M : ℕ → ℕ → ℕ → ℝ) (b d l : ℕ) : ℝ := if d < 192 then M b l d else if d = 192 then 1 else 0

/-- The score of position `t`'s head `h` against position `l`. -/
def mlaScore (Q R : ℕ → ℕ → ℕ → ℕ → ℝ) (M : ℕ → ℕ → ℕ → ℝ) (b t h l : ℕ) : ℝ :=
  (∑ d ∈ Finset.range 128, M b l d * Q b t h d + ∑ e ∈ Finset.range 64, M b l (128 + e) * R b t h e) * scale

/-- A packed query row times a packed column is the score. -/
theorem pack_score (Q R : ℕ → ℕ → ℕ → ℕ → ℝ) (M : ℕ → ℕ → ℕ → ℝ) (b t h l : ℕ) (ht : t < 4096) :
    ∑ d ∈ Finset.range 256, packQ Q R (4096 * b + t) (256 * h + d) * packM M b d l = mlaScore Q R M b t h l := by
  have hb : (4096 * b + t) / 4096 = b := by omega
  have hm : (4096 * b + t) % 4096 = t := by omega
  have e1 : (∑ d ∈ Finset.range 128, packQ Q R (4096 * b + t) (256 * h + d) * packM M b d l)
      = (∑ d ∈ Finset.range 128, M b l d * Q b t h d) * scale := by
    rw [Finset.sum_mul]
    refine Finset.sum_congr rfl fun d hd => ?_
    have hd := Finset.mem_range.1 hd
    have a1 : (256 * h + d) / 256 = h := by omega
    have a2 : (256 * h + d) % 256 = d := by omega
    simp only [packQ, packM, hb, hm, a1, a2]
    rw [if_pos hd, if_pos (by omega)]; ring
  have e2 : (∑ d ∈ Finset.range 64, packQ Q R (4096 * b + t) (256 * h + (128 + d)) * packM M b (128 + d) l)
      = (∑ d ∈ Finset.range 64, M b l (128 + d) * R b t h d) * scale := by
    rw [Finset.sum_mul]
    refine Finset.sum_congr rfl fun d hd => ?_
    have hd := Finset.mem_range.1 hd
    have a1 : (256 * h + (128 + d)) / 256 = h := by omega
    have a2 : (256 * h + (128 + d)) % 256 = 128 + d := by omega
    simp only [packQ, packM, hb, hm, a1, a2]
    rw [if_neg (by omega), if_pos (by omega), if_pos (by omega), Nat.add_sub_cancel_left]; ring
  have e3 : (∑ d ∈ Finset.range 64, packQ Q R (4096 * b + t) (256 * h + (192 + d)) * packM M b (192 + d) l) = 0 := by
    refine Finset.sum_eq_zero fun d hd => ?_
    have hd := Finset.mem_range.1 hd
    have a2 : (256 * h + (192 + d)) % 256 = 192 + d := by omega
    simp only [packQ, a2]
    rw [if_neg (by omega), if_neg (by omega), zero_mul]
  rw [Finset.sum_range_add _ 192 64, Finset.sum_range_add _ 128 64, e1, e2, e3, mlaScore]; ring

/-- The attention's result, a row per position and 128 columns per head: the mean of the latent rows up to the position, weighted
    by the exponentials of the scores. -/
def attended (Q R : ℕ → ℕ → ℕ → ℕ → ℝ) (M : ℕ → ℕ → ℕ → ℝ) (r c : ℕ) : ℝ :=
  weigh (mlaScore Q R M (r / 4096) (r % 4096) (c / 128)) (fun l => M (r / 4096) l (c % 128)) (r % 4096)

end Cert.Mla
end
-- ==== Proof.Finite.lean ====
/-
  The precondition read: an array whose entries are all below `⊤` in magnitude is an array of reals.
-/
module

public import proofs.«01_k».proof.Pre_finite
public import proofs.«01_k».proof.Proof.Real

@[expose] public section

noncomputable section

namespace Cert.Mla

open Idealize.ShloMosaic

theorem Pre_finite_facts : Cert.Pre_finite.Facts := ⟨by decide, by decide, by decide⟩

/-- An entry below `⊤` in magnitude is neither infinity. -/
theorem entry_real (x : EReal)
    (h : FloatOps.cmpf (F := Ideal) (φ := .f32) .olt (FloatOps.absf (F := Ideal) (φ := .f32) x) (FloatOps.ofBits (F := Ideal) .f32 0x7F800000#32) = 1#1) :
    x ≠ ⊤ ∧ x ≠ ⊥ := by
  rw [lit_inf] at h
  have hlt : max x (-x) < ⊤ := by
    by_contra hn
    have e : BitVec.ofBool (decide (max x (-x) < ⊤)) = 1#1 := h
    rw [decide_eq_false hn] at e
    exact absurd e (by decide)
  refine ⟨fun e => ?_, fun e => ?_⟩
  · rw [e] at hlt; exact absurd (lt_of_le_of_lt (le_max_left _ _) hlt) (lt_irrefl _)
  · rw [e, EReal.neg_bot] at hlt; exact absurd (lt_of_le_of_lt (le_max_right _ _) hlt) (lt_irrefl _)

/-- Under the precondition the three arguments are arrays of reals. -/
theorem reals_of_finite [Cert.Pre_finite.Facts] (x0 : FVec Ideal Cert.Pre_finite.S4x4096x4x128 .f32) (x1 : FVec Ideal Cert.Pre_finite.S4x4096x4x64 .f32)
    (x2 : FVec Ideal Cert.Pre_finite.S4x4096x192 .f32) (h0 : (Cert.Pre_finite.fn x0 x1 x2).1 = fun _ => 1#1)
    (h1 : (Cert.Pre_finite.fn x0 x1 x2).2.1 = fun _ => 1#1) (h2 : (Cert.Pre_finite.fn x0 x1 x2).2.2 = fun _ => 1#1) :
    (∃ Q, Reals4 x0 Q) ∧ (∃ R, Reals4 x1 R) ∧ ∃ M, Reals3 x2 M :=
  ⟨exists_reals4 x0 (fun y => (entry_real _ (congrFun h0 y)).1) (fun y => (entry_real _ (congrFun h0 y)).2),
    exists_reals4 x1 (fun y => (entry_real _ (congrFun h1 y)).1) (fun y => (entry_real _ (congrFun h1 y)).2),
    exists_reals3 x2 (fun y => (entry_real _ (congrFun h2 y)).1) (fun y => (entry_real _ (congrFun h2 y)).2)⟩

end Cert.Mla
end
-- ==== Proof.ProjEquation.lean ====
/-
  The equation of the projection's ten results: the array each program ends with, from equal arguments.
-/
module

public import proofs.«01_k».proof.Pre_finite2
public import proofs.«01_k».proof.Proof.ProjResults
public import proofs.«01_k».proof.Proof.Finite
public import proofs.«01_k».proof.Proof.Gen.Reference2Ideal.Run
public import Idealize.ShloMosaic.Adequacy
public import Idealize.ShloMosaic.Init

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem

variable {m : (ℓ : Loc nD τ sig) → Buf (Elt Ideal) ℓ}

theorem left16 (r : PUnit × MemSt nD τ sig (Elt Ideal)) (h : Pipeline.FramePost cfgs (dats m) 0 (V m) r) (c : Dev nD) :
    r.2.mem ((c : Thread nD τ).loc main_v58_0) = (dats m 0 c).arrAt 16 cfg0.N :=
  (h c).1 16

theorem left17 (r : PUnit × MemSt nD τ sig (Elt Ideal)) (h : Pipeline.FramePost cfgs (dats m) 0 (V m) r) (c : Dev nD) :
    r.2.mem ((c : Thread nD τ).loc main_v58_1) = (dats m 0 c).arrAt 17 cfg0.N :=
  (h c).1 17

theorem left18 (r : PUnit × MemSt nD τ sig (Elt Ideal)) (h : Pipeline.FramePost cfgs (dats m) 0 (V m) r) (c : Dev nD) :
    r.2.mem ((c : Thread nD τ).loc main_v58_2) = (dats m 0 c).arrAt 18 cfg0.N :=
  (h c).1 18

theorem left19 (r : PUnit × MemSt nD τ sig (Elt Ideal)) (h : Pipeline.FramePost cfgs (dats m) 0 (V m) r) (c : Dev nD) :
    r.2.mem ((c : Thread nD τ).loc main_v58_3) = (dats m 0 c).arrAt 19 cfg0.N :=
  (h c).1 19

theorem left20 (r : PUnit × MemSt nD τ sig (Elt Ideal)) (h : Pipeline.FramePost cfgs (dats m) 0 (V m) r) (c : Dev nD) :
    r.2.mem ((c : Thread nD τ).loc main_v58_4) = (dats m 0 c).arrAt 20 cfg0.N :=
  (h c).1 20

theorem left21 (r : PUnit × MemSt nD τ sig (Elt Ideal)) (h : Pipeline.FramePost cfgs (dats m) 0 (V m) r) (c : Dev nD) :
    r.2.mem ((c : Thread nD τ).loc main_v58_5) = (dats m 0 c).arrAt 21 cfg0.N :=
  (h c).1 21

theorem left22 (r : PUnit × MemSt nD τ sig (Elt Ideal)) (h : Pipeline.FramePost cfgs (dats m) 0 (V m) r) (c : Dev nD) :
    r.2.mem ((c : Thread nD τ).loc main_v58_6) = (dats m 0 c).arrAt 22 cfg0.N :=
  (h c).1 22

theorem left23 (r : PUnit × MemSt nD τ sig (Elt Ideal)) (h : Pipeline.FramePost cfgs (dats m) 0 (V m) r) (c : Dev nD) :
    r.2.mem ((c : Thread nD τ).loc main_v58_7) = (dats m 0 c).arrAt 23 cfg0.N :=
  (h c).1 23

theorem left24 (r : PUnit × MemSt nD τ sig (Elt Ideal)) (h : Pipeline.FramePost cfgs (dats m) 0 (V m) r) (c : Dev nD) :
    r.2.mem ((c : Thread nD τ).loc main_v58_8) = (dats m 0 c).arrAt 24 cfg0.N :=
  (h c).1 24

theorem left25 (r : PUnit × MemSt nD τ sig (Elt Ideal)) (h : Pipeline.FramePost cfgs (dats m) 0 (V m) r) (c : Dev nD) :
    r.2.mem ((c : Thread nD τ).loc main_v58_9) = (dats m 0 c).arrAt 25 cfg0.N :=
  (h c).1 25

/-- The idealized kernel's run: its ten arrays, and its arguments as they were. -/
theorem run_arrays (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v58_0) = (dats m 0 c).arrAt 16 cfg0.N
      ∧ r.2.mem ((c.tc : Thread nD τ).loc main_v58_1) = (dats m 0 c).arrAt 17 cfg0.N
      ∧ r.2.mem ((c.tc : Thread nD τ).loc main_v58_2) = (dats m 0 c).arrAt 18 cfg0.N
      ∧ r.2.mem ((c.tc : Thread nD τ).loc main_v58_3) = (dats m 0 c).arrAt 19 cfg0.N
      ∧ r.2.mem ((c.tc : Thread nD τ).loc main_v58_4) = (dats m 0 c).arrAt 20 cfg0.N
      ∧ r.2.mem ((c.tc : Thread nD τ).loc main_v58_5) = (dats m 0 c).arrAt 21 cfg0.N
      ∧ r.2.mem ((c.tc : Thread nD τ).loc main_v58_6) = (dats m 0 c).arrAt 22 cfg0.N
      ∧ r.2.mem ((c.tc : Thread nD τ).loc main_v58_7) = (dats m 0 c).arrAt 23 cfg0.N
      ∧ r.2.mem ((c.tc : Thread nD τ).loc main_v58_8) = (dats m 0 c).arrAt 24 cfg0.N
      ∧ r.2.mem ((c.tc : Thread nD τ).loc main_v58_9) = (dats m 0 c).arrAt 25 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨left16 r h.1 c, left17 r h.1 c, left18 r h.1 c, left19 r h.1 c, left20 r h.1 c, left21 r h.1 c, left22 r h.1 c, left23 r h.1 c, left24 r h.1 c, left25 r h.1 c, h.2.1 c⟩)
    (θ_run_and (run_main m g) (frame m g))

end Cert.Kernel2Ideal.Hand

namespace Cert.Reference2Ideal.Hand

open Cert.Reference2Ideal Cert.Reference2Ideal.Gen Cert.Reference2Ideal.Read
open Idealize.ShloMosaic Idealize.ShloMosaic.TcCoe Idealize.SL.Sem

/-- The reference's run: its ten arrays as functions of its arguments, and its arguments as they were. -/
theorem run_arrays (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v145) = val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v146) = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v148) = val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v150) = val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v152) = val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))
      ∧ r.2.mem ((c.tc : Thread nD τ).loc main_v153) = val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v154) = val_main_v154 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v155) = val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v141) = val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v158) = val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (val_main_v145_eq _),
      (h c).2.1.trans (val_main_v146_eq _),
      (h c).2.2.1.trans (val_main_v148_eq _),
      (h c).2.2.2.1.trans (val_main_v150_eq _),
      (h c).2.2.2.2.1.trans (val_main_v152_eq _),
      (h c).2.2.2.2.2.1.trans (val_main_v153_eq _),
      (h c).2.2.2.2.2.2.1.trans (val_main_v154_eq _),
      (h c).2.2.2.2.2.2.2.1.trans (val_main_v155_eq _),
      (h c).2.2.2.2.2.2.2.2.1.trans (val_main_v141_eq _),
      (h c).2.2.2.2.2.2.2.2.2.1.trans (val_main_v158_eq _),
      (h c).2.2.2.2.2.2.2.2.2.2⟩) (Cert.Reference2Ideal.Value.run m g)

end Cert.Reference2Ideal.Hand

namespace Cert.Proj

open Cert.Ent Cert.Mla
open Idealize.ShloMosaic Idealize.ShloMosaic.TcCoe
open Cert.Reference2Ideal.Hand Cert.Kernel2Ideal.Hand

theorem Pre_finite2_facts : Cert.Pre_finite2.Facts := ⟨by decide, by decide⟩

theorem exists_reals1 {a : ℕ} (x : (⟨1, ![a]⟩ : Shape).Idx → EReal) (ht : ∀ y, x y ≠ ⊤) (hb : ∀ y, x y ≠ ⊥) :
    ∃ X : ℕ → ℝ, Ent1 x fun i => ((X i : ℝ) : EReal) := by
  obtain ⟨X, hX⟩ := exists1 x
  refine ⟨fun i => (X i).toReal, fun y => ?_⟩
  have e := hX y
  show x y = ((X (y 0).val).toReal : EReal)
  rw [← e]
  exact (EReal.coe_toReal (ht y) (hb y)).symm

/-- Under the precondition the latent query's gains and its matrix are reals. -/
theorem reals_of_finite2 [Cert.Pre_finite2.Facts] (x0 : FVec Ideal Cert.Pre_finite2.S4x4096x1024 .f32) (x1 x2 : FVec Ideal Cert.Pre_finite2.S4x1024 .f32)
    (x3 : FVec Ideal Cert.Pre_finite2.S1024 .f32) (x4 : FVec Ideal Cert.Pre_finite2.S1024x2776 .f32) (x5 : FVec Ideal Cert.Pre_finite2.S256 .f32)
    (x6 : FVec Ideal Cert.Pre_finite2.S256x4x192 .f32) (x7 : FVec Ideal Cert.Pre_finite2.S128 .f32) (x8 : FVec Ideal Cert.Pre_finite2.S128x4x128 .f32)
    (h0 : (Cert.Pre_finite2.fn x0 x1 x2 x3 x4 x5 x6 x7 x8).1 = fun _ => 1#1) (h1 : (Cert.Pre_finite2.fn x0 x1 x2 x3 x4 x5 x6 x7 x8).2 = fun _ => 1#1) :
    (∃ G : ℕ → ℝ, Ent1 (a := 256) x5 fun k => ((G k : ℝ) : EReal)) ∧ ∃ W, Reals3 (a := 256) (b := 4) (c := 192) x6 W :=
  ⟨exists_reals1 x5 (fun y => (entry_real _ (congrFun h0 y)).1) (fun y => (entry_real _ (congrFun h0 y)).2),
    exists_reals3 x6 (fun y => (entry_real _ (congrFun h1 y)).1) (fun y => (entry_real _ (congrFun h1 y)).2)⟩

/-! ## The ten results -/

variable {m : (ℓ : Loc Cert.Kernel2Ideal.nD Cert.Kernel2Ideal.τ Cert.Kernel2Ideal.sig) → Buf (Elt Ideal) ℓ} {c : Dev Cert.Kernel2Ideal.nD}
  {A0 : ℕ → ℕ → ℕ → EReal} {A1 A2 : ℕ → ℕ → EReal} {A3 : ℕ → EReal} {A4 : ℕ → ℕ → EReal} {A5 : ℕ → EReal} {A6 : ℕ → ℕ → ℕ → EReal}
  {A7 : ℕ → EReal} {A8 : ℕ → ℕ → ℕ → EReal}

theorem result0 (h : Args m c A0 A1 A2 A3 A4 A5 A6 A7 A8) :
    Cert.Reference2Ideal.Read.val_main_v145 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 16 Cert.Kernel2Ideal.cfg0.N := by
  rw [final16 h]
  funext y
  have hu := proj_apply h.h0 h.h1 h.h2 h.h3 h.h4
  have bk : (y 1).val < 512 := (y 1).isLt
  exact (query_apply hu y).trans (wide_query _ _ _ bk).symm

theorem result1 (h : Args m c A0 A1 A2 A3 A4 A5 A6 A7 A8) :
    Cert.Reference2Ideal.Read.val_main_v146 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 17 Cert.Kernel2Ideal.cfg0.N := by
  rw [final17 h]
  funext y
  have hu := proj_apply h.h0 h.h1 h.h2 h.h3 h.h4
  refine (gates_apply hu y).trans ?_
  unfold arr17 at17
  beta_reduce
  by_cases hk : (y 1).val < 24
  · rw [if_pos hk, wide_gates _ _ _ hk]
  · rw [if_neg hk, wide_padding _ _ _ (by omega), sig_zero]

theorem result2 (h : Args m c A0 A1 A2 A3 A4 A5 A6 A7 A8) :
    Cert.Reference2Ideal.Read.val_main_v148 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 18 Cert.Kernel2Ideal.cfg0.N := by
  rw [final18 h]
  funext y
  have hu := proj_apply h.h0 h.h1 h.h2 h.h3 h.h4
  have bk : (y 1).val < 512 := (y 1).isLt
  exact (first_apply hu y).trans (congrArg silu (wide_first _ _ _ bk).symm)

theorem result3 (h : Args m c A0 A1 A2 A3 A4 A5 A6 A7 A8) :
    Cert.Reference2Ideal.Read.val_main_v150 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 19 Cert.Kernel2Ideal.cfg0.N := by
  rw [final19 h]
  funext y
  have hu := proj_apply h.h0 h.h1 h.h2 h.h3 h.h4
  have bk : (y 1).val < 512 := (y 1).isLt
  exact (second_apply hu y).trans (congrArg silu (wide_second _ _ _ bk).symm)

theorem result4 (h : Args m c A0 A1 A2 A3 A4 A5 A6 A7 A8) (r5 : ∀ k, ∃ r : ℝ, A5 k = r) (r6 : ∀ q h c, ∃ r : ℝ, A6 q h c = r) :
    Cert.Reference2Ideal.Read.val_main_v152 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg8))
      = (Cert.Kernel2Ideal.Gen.dats m 0 c).arrAt 20 Cert.Kernel2Ideal.cfg0.N := by
  rw [final20 h]
  funext y
  have hu := proj_apply h.h0 h.h1 h.h2 h.h3 h.h4
  have hh := head_apply (latent_query_apply hu h.h5) h.h6
  exact (packed_apply hh (turned_apply hh) h.h8 y).trans (packed_parts _ _ _ r5 r6).symm

theorem result5 (h : Args m c A0 A1 A2 A3 A4 A5 A6 A7 A8) :
    Cert.Reference2Ideal.Read.val_main_v153 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 21 Cert.Kernel2Ideal.cfg0.N := by
  rw [final21 h]
  funext y
  have hu := proj_apply h.h0 h.h1 h.h2 h.h3 h.h4
  have bk : (y 1).val < 512 := (y 1).isLt
  exact (values_first hu y).trans (tall_values _ _ _ (by omega)).symm

theorem result6 (h : Args m c A0 A1 A2 A3 A4 A5 A6 A7 A8) :
    Cert.Reference2Ideal.Read.val_main_v154 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 22 Cert.Kernel2Ideal.cfg0.N := by
  rw [final22 h]
  funext y
  have hu := proj_apply h.h0 h.h1 h.h2 h.h3 h.h4
  have bk : (y 1).val < 256 := (y 1).isLt
  exact (values_second hu y).trans (tall_values _ _ _ (by omega)).symm

theorem result7 (h : Args m c A0 A1 A2 A3 A4 A5 A6 A7 A8) :
    Cert.Reference2Ideal.Read.val_main_v155 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 23 Cert.Kernel2Ideal.cfg0.N := by
  rw [final23 h]
  funext y
  have hu := proj_apply h.h0 h.h1 h.h2 h.h3 h.h4
  have bk : (y 1).val < 768 := (y 1).isLt
  exact (values_all hu y).trans (tall_values _ _ _ bk).symm

/-- The reference's latent rows are the kernel's, where the kernel has rows. -/
theorem row_latent (h : Args m c A0 A1 A2 A3 A4 A5 A6 A7 A8) :
    ∃ M : ℕ → ℕ → ℕ → EReal, Ent3 (a := 4) (b := 4096) (c := 192) (Cert.Reference2Ideal.Read.val_main_v128 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg7))) M
      ∧ ∀ b p d, d < 192 → M b p d = latentAt A0 A1 A2 A3 A4 A7 b p d := by
  have hu := proj_apply h.h0 h.h1 h.h2 h.h3 h.h4
  refine ⟨_, row_apply hu h.h7, fun b p d hd => ?_⟩
  rw [latent_parts b p d hd]
  beta_reduce
  by_cases c0 : d < 128
  · rw [if_pos c0, if_pos c0]
  rw [if_neg c0, if_neg c0]
  by_cases c1 : d < 160
  · rw [if_pos c1, if_pos (by omega)]
  · rw [if_neg c1, if_neg (by omega), show d - 128 - 32 = d - 160 by omega]

theorem result8 (h : Args m c A0 A1 A2 A3 A4 A5 A6 A7 A8) :
    Cert.Reference2Ideal.Read.val_main_v141 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg7))
      = (Cert.Kernel2Ideal.Gen.dats m 0 c).arrAt 24 Cert.Kernel2Ideal.cfg0.N := by
  rw [final24 h]
  funext y
  obtain ⟨M, hM, e⟩ := row_latent h
  have bk : (y 1).val < 192 := (y 1).isLt
  exact (rows_apply hM y).trans (e _ _ _ bk)

theorem result9 (h : Args m c A0 A1 A2 A3 A4 A5 A6 A7 A8) :
    Cert.Reference2Ideal.Read.val_main_v158 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg7))
      = (Cert.Kernel2Ideal.Gen.dats m 0 c).arrAt 25 Cert.Kernel2Ideal.cfg0.N := by
  rw [final25 h]
  funext y
  obtain ⟨M, hM, e⟩ := row_latent h
  refine (rows_one_apply hM y).trans ?_
  unfold arr25 at25 latentOne
  beta_reduce
  by_cases hk : (y 1).val < 192
  · rw [if_pos hk, if_pos hk, e _ _ _ hk]
  · rw [if_neg hk, if_neg hk]

end Cert.Proj
end
-- ==== Proof.Packed.lean ====
/-
  What the two packed arrays hold when the attention starts: the queries scaled, side by side with their rotary parts and zeros, and
  the latent rows transposed with a row of ones below them.
-/
module

public import proofs.«01_k».proof.Proof.Gen.KernelIdeal.Frame
public import proofs.«01_k».proof.Proof.Real
public import Idealize.ShloMosaic.Lib.StableHlo.Run
public import Idealize.ShloMosaic.Lib.Pipeline.Value
public import Idealize.ShloMosaic.Lib.WordCmp

@[expose] public section

set_option maxRecDepth 16384

noncomputable section

namespace Cert.KernelIdeal.Hand

open Cert.KernelIdeal Cert.KernelIdeal.Gen Cert.Mla
open Idealize.ShloMosaic Idealize.ShloMosaic.TcCoe Idealize.ShloMosaic.ValueIdx Idealize.ShloMosaic.StableHlo
open scoped BigOperators

variable {F : FTy → Type} [FloatOps F] [Named F]

/-- The packed queries before their rows are flattened. -/
def queryCols (x0 : FVec F S4x4096x4x128 .f32) (x1 : FVec F S4x4096x4x64 .f32) : FVec F S4x4096x4x256 .f32 :=
  concatenate S4x4096x4x256 3
    [⟨S4x4096x4x128, mulf x0 (broadcastInDim S4x4096x4x128 ![] bcast_S_S4x4096x4x128 (constant S_ .f32 0x3D93CD3A#32))⟩,
      ⟨S4x4096x4x64, mulf x1 (broadcastInDim S4x4096x4x64 ![] bcast_S_S4x4096x4x64 (constant S_ .f32 0x3D93CD3A#32))⟩,
      ⟨S4x4096x4x64, broadcastInDim S4x4096x4x64 ![] bcast_S_S4x4096x4x64 (constant S_ .f32 0x00000000#32)⟩]
    concatenates_S4x4096x4x128_S4x4096x4x64_S4x4096x4x64_S4x4096x4x256_d3

/-- The row of ones and the zeros below it. -/
def onesRow : FVec F S4x64x4096 .f32 :=
  select (cmpi .eq (iotaInDim S4x64x4096 32 1) (broadcastInDim S4x64x4096 ![] bcast_S_S4x64x4096 (constantI S_ 32 0#32)))
    (broadcastInDim S4x64x4096 ![] bcast_S_S4x64x4096 (constant S_ .f32 0x3F800000#32))
    (broadcastInDim S4x64x4096 ![] bcast_S_S4x64x4096 (constant S_ .f32 0x00000000#32))

/-- The packed latent rows. -/
def rowCols (x2 : FVec F S4x4096x192 .f32) : FVec F S4x256x4096 .f32 :=
  concatenate S4x256x4096 1
    [⟨S4x192x4096, transpose S4x192x4096 [0, 2, 1] x2 transposes_S4x4096x192_S4x192x4096_0_2_1⟩, ⟨S4x64x4096, onesRow⟩]
    concatenates_S4x192x4096_S4x64x4096_S4x256x4096_d1

variable (m : (ℓ : Loc nD τ sig) → Buf (Elt F) ℓ)

set_option maxHeartbeats 4000000 in
theorem V_v7 (c : Dev nD) : V m c main_v7 = shapeCast S16384x1024
    (truncf .bf16 (queryCols (m ((c : Thread nD τ).loc main_arg0)) (m ((c : Thread nD τ).loc main_arg1))) bitsLt_bf16_f32) shapeCasts_S4x4096x4x256_S16384x1024 := by
  show StableHlo.after (List.flatten [hostOps0, hostOps0_1, hostOps0_2]) (fun b => m (c, b)) (Proc.devRef .tc main_v7) = _
  simp only [hostOps0, hostOps0_1, hostOps0_2, List.flatten_cons, List.flatten_nil, List.append_nil, List.cons_append,
      List.nil_append, TRef.ternary, TRef.unary, TRef.toBuf, TRef.ofBuf, cast_eq]
  after_results_simp <;> rfl

set_option maxHeartbeats 4000000 in
theorem V_v15 (c : Dev nD) : V m c main_v15 = truncf .bf16 (rowCols (m ((c : Thread nD τ).loc main_arg2))) bitsLt_bf16_f32 := by
  show StableHlo.after (List.flatten [hostOps0, hostOps0_1, hostOps0_2]) (fun b => m (c, b)) (Proc.devRef .tc main_v15) = _
  simp only [hostOps0, hostOps0_1, hostOps0_2, List.flatten_cons, List.flatten_nil, List.append_nil, List.cons_append,
      List.nil_append, TRef.ternary, TRef.unary, TRef.toBuf, TRef.ofBuf, cast_eq]
  after_results_simp <;> rfl

/-! ## Their entries -/

theorem query_apply {x0 : FVec Ideal S4x4096x4x128 .f32} {x1 : FVec Ideal S4x4096x4x64 .f32} {Q R : ℕ → ℕ → ℕ → ℕ → ℝ}
    (h0 : Reals4 x0 Q) (h1 : Reals4 x1 R) (b : Fin 4) (t : Fin 4096) (h : Fin 4) (d : Fin 256) :
    queryCols x0 x1 (ix4 b t h d) = ((packQ Q R (4096 * b.val + t.val) (256 * h.val + d.val) : ℝ) : EReal) := by
  have hb : (4096 * b.val + t.val) / 4096 = b.val := by have := t.isLt; omega
  have hm : (4096 * b.val + t.val) % 4096 = t.val := by have := t.isLt; omega
  have a1 : (256 * h.val + d.val) / 256 = h.val := by have := d.isLt; omega
  have a2 : (256 * h.val + d.val) % 256 = d.val := by have := d.isLt; omega
  simp only [packQ, hb, hm, a1, a2]
  unfold queryCols
  by_cases c1 : d.val < 128
  · rw [if_pos c1]
    refine (concatenate_apply_piece (t := S4x4096x4x256) 3 _ _ _ 0 (by simp) S4x4096x4x128 _ rfl rfl 0 rfl (ix4 b t h ⟨d.val, c1⟩)
      (fun a ha => ?_) (by show 0 + d.val = d.val; omega)).trans ?_
    · fin_cases a <;> first | rfl | exact absurd rfl ha
    · show (x0 _ : EReal) * FloatOps.ofBits (F := Ideal) .f32 0x3D93CD3A#32 = _
      rw [h0, lit_scale, ← EReal.coe_mul]
  rw [if_neg c1]
  by_cases c2 : d.val < 192
  · rw [if_pos c2]
    refine (concatenate_apply_piece (t := S4x4096x4x256) 3 _ _ _ 1 (by simp) S4x4096x4x64 _ rfl rfl 128 rfl (ix4 b t h ⟨d.val - 128, by omega⟩)
      (fun a ha => ?_) (by show 128 + (d.val - 128) = d.val; omega)).trans ?_
    · fin_cases a <;> first | rfl | exact absurd rfl ha
    · show (x1 _ : EReal) * FloatOps.ofBits (F := Ideal) .f32 0x3D93CD3A#32 = _
      rw [h1, lit_scale, ← EReal.coe_mul]
  · rw [if_neg c2]
    refine (concatenate_apply_piece (t := S4x4096x4x256) 3 _ _ _ 2 (by simp) S4x4096x4x64 _ rfl rfl 192 rfl (ix4 b t h ⟨d.val - 192, by have := d.isLt; omega⟩)
      (fun a ha => ?_) (by show 192 + (d.val - 192) = d.val; omega)).trans ?_
    · fin_cases a <;> first | rfl | exact absurd rfl ha
    · show FloatOps.ofBits (F := Ideal) .f32 0x00000000#32 = _
      rw [lit_zero]; rfl

theorem ones_apply (b : Fin 4) (d : Fin 64) (l : Fin 4096) :
    (onesRow (F := Ideal)) (ix3 b d l) = (((if d.val = 0 then 1 else 0 : ℝ)) : EReal) := by
  show (if IntOp.cmpi .eq (BitVec.ofNat 32 d.val) 0#32 = 1#1 then FloatOps.ofBits (F := Ideal) .f32 0x3F800000#32
    else FloatOps.ofBits (F := Ideal) .f32 0x00000000#32) = _
  rw [lit_one, lit_zero]
  by_cases hd : d.val = 0
  · rw [if_pos hd, hd]; rfl
  · rw [if_neg hd, if_neg]; · rfl
    exact fun h => hd ((WordCmp.cmpi_eq_ofNat_eq_one_iff (w := 32) (by have := d.isLt; omega) (by omega)).1 h)

theorem rows_apply {x2 : FVec Ideal S4x4096x192 .f32} {M : ℕ → ℕ → ℕ → ℝ} (h2 : Reals3 x2 M) (b : Fin 4) (d : Fin 256) (l : Fin 4096) :
    rowCols x2 (ix3 b d l) = ((packM M b.val d.val l.val : ℝ) : EReal) := by
  unfold packM rowCols
  by_cases c1 : d.val < 192
  · rw [if_pos c1]
    refine (concatenate_pair_apply_left (t := S4x256x4096) (s₁ := S4x192x4096) (s₂ := S4x64x4096) 1 _ _ _ _ rfl (ix3 b ⟨d.val, c1⟩ l)
      (fun a => ?_)).trans ?_
    · fin_cases a <;> rfl
    · refine (transpose_apply (s := S4x4096x192) (t := S4x192x4096) [0, 2, 1] _ _ _ (ix3 b l ⟨d.val, c1⟩) (fun a => ?_)).trans ?_
      · fin_cases a <;> rfl
      · exact h2 _
  · rw [if_neg c1]
    refine (concatenate_pair_apply_right (t := S4x256x4096) (s₁ := S4x192x4096) (s₂ := S4x64x4096) 1 _ _ _ _ rfl rfl
      (ix3 b ⟨d.val - 192, by have := d.isLt; omega⟩ l) (fun a ha => ?_) (by show d.val - 192 + 192 = d.val; omega)).trans ?_
    · fin_cases a <;> first | rfl | exact absurd rfl ha
    · rw [ones_apply]
      have e : (d.val - 192 = 0) ↔ d.val = 192 := by omega
      simp only [e]

end Cert.KernelIdeal.Hand
end
-- ==== Proof.Tiles.lean ====
/-
  What one grid point of the attention kernel computes, as plain functions of the two blocks it is handed: the queries'
  block (256 positions, four heads side by side, 256 columns a head) and the key rows of its batch (256 rows, 4096
  positions). The keys are taken in tiles of 1024 positions. Over any float interpretation.
-/
module

public import proofs.«01_k».proof.Proof.Gen.KernelIdeal
public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.VecWindow

variable {F : FTy → Type} [FloatOps F] [Named F]

/-! ## The loops' trip counts and the accesses' offsets -/

/-- The key tiles wholly before the diagonal one. -/
abbrev nFull (i : grid0.Coords) : ℕ := (i 1).val / 4

/-- Key tile `j`'s offsets in the key rows, and in the scores. -/
def ko (j : ℕ) : Fin 3 → ℕ := ![0, 0, 1024 * min j 3]
def so (j : ℕ) : Fin 2 → ℕ := ![0, 1024 * min j 3]

theorem ko_inb (j : ℕ) : ∀ a, ko j a + S1x256x1024.size a ≤ S1x256x4096.size a := by
  intro a
  fin_cases a
  · show 0 + 1 ≤ 1; omega
  · show 0 + 256 ≤ 256; omega
  · show 1024 * min j 3 + 1024 ≤ 4096; omega

theorem so_inb (j : ℕ) : ∀ a, so j a + S1024x1024.size a ≤ S1024x4096.size a := by
  intro a
  fin_cases a
  · show 0 + 1024 ≤ 1024; omega
  · show 1024 * min j 3 + 1024 ≤ 4096; omega

theorem trips1 : ∀ i : grid0.Coords, (k0_t1_loop i).trips = nFull i := by decide +kernel
theorem trips3 : ∀ i : grid0.Coords, (k0_t3_loop i).trips = nFull i := by decide +kernel

theorem nFull_le (i : grid0.Coords) : nFull i ≤ 3 := by
  have h : (i 1).val < 16 := (i 1).isLt
  unfold nFull; omega

theorem lt4_1 {i : grid0.Coords} (k : Fin (k0_t1_loop i).trips) : k.val < 4 := by
  have h := k.isLt
  have h1 := trips1 i
  have h2 := nFull_le i
  omega
theorem lt4_3 {i : grid0.Coords} (k : Fin (k0_t3_loop i).trips) : k.val < 4 := by
  have h := k.isLt
  have h1 := trips3 i
  have h2 := nFull_le i
  omega

theorem word_off : ∀ k : Fin 4, (Scalar.indexCast (Scalar.muli (Scf.iv 0#32 1#32 k.val) 1024#32)).toNat = 1024 * min k.val 3 := by
  decide

theorem off1_eq {i : grid0.Coords} (k : Fin (k0_t1_loop i).trips) : k0_off1 i k = ko k.val :=
  congrArg (fun n => ![0, 0, n]) (word_off ⟨k.val, lt4_1 k⟩)
theorem off2_eq {i : grid0.Coords} (k : Fin (k0_t1_loop i).trips) : k0_off2 i k = so k.val :=
  congrArg (fun n => ![0, n]) (word_off ⟨k.val, lt4_1 k⟩)
theorem off6_eq {i : grid0.Coords} (k : Fin (k0_t3_loop i).trips) : k0_off6 i k = so k.val :=
  congrArg (fun n => ![0, n]) (word_off ⟨k.val, lt4_3 k⟩)
theorem off7_eq {i : grid0.Coords} (k : Fin (k0_t3_loop i).trips) : k0_off7 i k = ko k.val :=
  congrArg (fun n => ![0, 0, n]) (word_off ⟨k.val, lt4_3 k⟩)
theorem off5_eq : ∀ i : grid0.Coords, k0_off5 i = ko (nFull i) := by decide +kernel

/-! ## The tiles -/

/-- Head `h`'s queries: columns 256 h to 256 h + 255 of the queries' block. -/
def q0 (x0 : Vec F S256x1024 .bf16) : Vec F S256x256 .bf16 := window x0 ![0, 0] S256x256.size inb_S256x1024_S256x256_0_0
def q1 (x0 : Vec F S256x1024 .bf16) : Vec F S256x256 .bf16 := window x0 ![0, 256] S256x256.size inb_S256x1024_S256x256_0_256
def q2 (x0 : Vec F S256x1024 .bf16) : Vec F S256x256 .bf16 := window x0 ![0, 512] S256x256.size inb_S256x1024_S256x256_0_512
def q3 (x0 : Vec F S256x1024 .bf16) : Vec F S256x256 .bf16 := window x0 ![0, 768] S256x256.size inb_S256x1024_S256x256_0_768

/-- The four heads' queries one above the other. -/
def qAll (x0 : Vec F S256x1024 .bf16) : FVec F S1024x256 .bf16 := k0_pay6 (q0 x0) (q1 x0) (q2 x0) (q3 x0)

/-- Key tile `j`. -/
def kTile (x1 : Vec F S1x256x4096 .bf16) (j : ℕ) : Vec F S1x256x1024 .bf16 := window x1 (ko j) S1x256x1024.size (ko_inb j)

/-- The scores against key tile `j`, for any four heads' queries. -/
def sG (v0 v1 v2 v3 : Vec F S256x256 .bf16) (x1 : Vec F S1x256x4096 .bf16) (j : ℕ) : FVec F S1024x1024 .f32 :=
  k0_pay9 v0 v1 v2 v3 (kTile x1 j)

/-- The rows' running maxima after the first `k` key tiles. -/
def mG (v0 v1 v2 v3 : Vec F S256x256 .bf16) (x1 : Vec F S1x256x4096 .bf16) : ℕ → FVec F S1024x1 .f32
  | 0 => k0_pay7
  | k + 1 => k0_pay10 v0 v1 v2 v3 (mG v0 v1 v2 v3 x1 k) (kTile x1 k)

/-- The accumulator after the diagonal tile and the first `k` whole tiles, from the words, the queries, the maxima and the diagonal tile. -/
def aG (w1 wd : BitVec 32) (q : FVec F S1024x256 .bf16) (mx : FVec F S1024x1 .f32) (kd : Vec F S1x256x1024 .bf16)
    (sc : ℕ → FVec F S1024x1024 .f32) (x1 : Vec F S1x256x4096 .bf16) : ℕ → FVec F S1024x256 .f32
  | 0 => k0_pay16 w1 q mx wd kd kd
  | k + 1 => k0_pay17 w1 q mx wd kd (sc k) (aG w1 wd q mx kd sc x1 k) (kTile x1 k)

/-- Those of the block's own queries. -/
def sTile (x0 : Vec F S256x1024 .bf16) (x1 : Vec F S1x256x4096 .bf16) : ℕ → FVec F S1024x1024 .f32 :=
  sG (q0 x0) (q1 x0) (q2 x0) (q3 x0) x1
def mAt (x0 : Vec F S256x1024 .bf16) (x1 : Vec F S1x256x4096 .bf16) : ℕ → FVec F S1024x1 .f32 :=
  mG (q0 x0) (q1 x0) (q2 x0) (q3 x0) x1

/-- The grid coordinate along the positions and the diagonal tile's first position, as the kernel's words. -/
abbrev wI (i : grid0.Coords) : BitVec 32 := BitVec.ofNat 32 (i 1).val
abbrev wD (i : grid0.Coords) : BitVec 32 := Scalar.muli (BitVec.ofNat 32 (nFull i)) 1024#32

/-- The accumulator at the end. -/
def accEnd (i : grid0.Coords) (x0 : Vec F S256x1024 .bf16) (x1 : Vec F S1x256x4096 .bf16) : FVec F S1024x256 .f32 :=
  aG (wI i) (wD i) (qAll x0) (mAt x0 x1 (nFull i)) (kTile x1 (nFull i)) (sTile x0 x1) x1 (nFull i)

/-- The output block: the heads side by side. -/
def outBlk (i : grid0.Coords) (x0 : Vec F S256x1024 .bf16) (x1 : Vec F S1x256x4096 .bf16) : Vec F S256x512 .f32 :=
  View.canon
    [⟨Rect.unit (s := S256x512) ![0, 384] S256x128.size inb_S256x512_S256x128_0_384, k0_pay5 (k0_pay19 (accEnd i x0 x1)) (k0_pay20 (accEnd i x0 x1))⟩,
     ⟨Rect.unit (s := S256x512) ![0, 256] S256x128.size inb_S256x512_S256x128_0_256, k0_pay4 (k0_pay19 (accEnd i x0 x1)) (k0_pay20 (accEnd i x0 x1))⟩,
     ⟨Rect.unit (s := S256x512) ![0, 128] S256x128.size inb_S256x512_S256x128_0_128, k0_pay3 (k0_pay19 (accEnd i x0 x1)) (k0_pay20 (accEnd i x0 x1))⟩,
     ⟨Rect.unit (s := S256x512) ![0, 0] S256x128.size inb_S256x512_S256x128_0_0, k0_pay2 (k0_pay19 (accEnd i x0 x1)) (k0_pay20 (accEnd i x0 x1))⟩]

end Cert.KernelIdeal.Hand
end
-- ==== Proof.Scores.lean ====
/-
  What the idealized kernel's tiles hold when the two blocks are real: the scores of the block's 1024 rows (four heads of 256
  positions) against a tile of 1024 keys, and the diagonal tile with the keys after the row's own position masked.
-/
module

public import proofs.«01_k».proof.Proof.Tiles
public import proofs.«01_k».proof.Proof.Softmax
public import proofs.«01_k».proof.Proof.Literals
public import Idealize.ShloMosaic.Lib.ValueIdx
public import Idealize.ShloMosaic.Lib.Pipeline.Value
public import Idealize.ShloMosaic.Lib.MatmulPlain
public import Idealize.ShloMosaic.Lib.WordCmp

@[expose] public section

set_option maxRecDepth 16384

noncomputable section

namespace Cert.KernelIdeal.Hand

open Cert.KernelIdeal Cert.KernelIdeal.Gen Cert.Mla
open Idealize.ShloMosaic Idealize.ShloMosaic.VecWindow Idealize.ShloMosaic.ValueIdx
open scoped BigOperators

/-- A matrix of extended reals whose entries are the reals `X`. -/
abbrev Reals {a b : ℕ} (x : (⟨2, ![a, b]⟩ : Shape).Idx → EReal) (X : ℕ → ℕ → ℝ) : Prop :=
  ∀ y, x y = ((X (y 0).val (y 1).val : ℝ) : EReal)

/-- The key rows' block, likewise: row and position. -/
abbrev KeyReals {b : ℕ} (x : (⟨3, ![1, 256, b]⟩ : Shape).Idx → EReal) (X : ℕ → ℕ → ℝ) : Prop :=
  ∀ y, x y = ((X (y 1).val (y 2).val : ℝ) : EReal)

/-! ## The two products -/

theorem dotScore_apply (A : FVec Ideal S1024x256 .bf16) (B : FVec Ideal S256x1024 .bf16) (a b : ℕ → ℕ → ℝ)
    (hA : Reals A a) (hB : Reals B b) :
    Reals (matmul dot_S1024x256_S256x1024_S1024x1024_1_0_0_1_n_n none A B (constant S1024x1024 .f32 0x00000000#32))
      fun r l => ∑ d ∈ Finset.range 256, a r d * b d l := by
  intro y
  obtain ⟨r, l, rfl⟩ : ∃ r l, y = ix2 r l := ⟨_, _, eq_ix2 y⟩
  refine (Ideal.matmul_plain_apply (M := 1024) (K := 256) (N := 1024) none A B (constant S1024x1024 .f32 0x00000000#32) r l).trans ?_
  have h0 : constant (F := Ideal) S1024x1024 .f32 0x00000000#32 (ix2 r l) = 0 := lit_zero
  rw [h0, zero_add]
  refine Eq.trans (Finset.sum_congr rfl fun k _ => ?_) (coe_sum_fin 256 fun d => a r.val d * b d l.val)
  rw [hA, hB, EReal.coe_mul]

theorem dotOut_apply (A : FVec Ideal S1024x1024 .bf16) (B : FVec Ideal S256x1024 .bf16) (a b : ℕ → ℕ → ℝ)
    (hA : Reals A a) (hB : Reals B b) :
    Reals (matmul dot_S1024x1024_S256x1024_S1024x256_1_1_0_0_n_n none A B (constant S1024x256 .f32 0x00000000#32))
      fun r c => ∑ l ∈ Finset.range 1024, a r l * b c l := by
  intro y
  obtain ⟨r, l, rfl⟩ : ∃ r l, y = ix2 r l := ⟨_, _, eq_ix2 y⟩
  refine (Ideal.matmul_transposedRhs_apply (M := 1024) (K := 1024) (N := 256) none A B (constant S1024x256 .f32 0x00000000#32) r l).trans ?_
  have h0 : constant (F := Ideal) S1024x256 .f32 0x00000000#32 (ix2 r l) = 0 := lit_zero
  rw [h0, zero_add]
  refine Eq.trans (Finset.sum_congr rfl fun k _ => ?_) (coe_sum_fin 1024 fun d => a r.val d * b l.val d)
  rw [hA, hB, EReal.coe_mul]

variable {x0 : Vec Ideal S256x1024 .bf16} {x1 : Vec Ideal S1x256x4096 .bf16} {X0 X1 : ℕ → ℕ → ℝ}

/-! ## The queries and a key tile -/

/-- Row `r` of the four heads' queries, one above the other. -/
def qRow (X0 : ℕ → ℕ → ℝ) (r d : ℕ) : ℝ := X0 (r % 256) (256 * (r / 256) + d)

theorem q_window (h : ℕ) (inb : ∀ a, (![0, 256 * h] : Fin 2 → ℕ) a + S256x256.size a ≤ S256x1024.size a) (hx : Reals x0 X0) :
    Reals (a := 256) (b := 256) (window x0 ![0, 256 * h] S256x256.size inb) fun r d => X0 r (256 * h + d) := by
  intro y
  refine (hx _).trans ?_
  have e0 : (((Rect.unit (s := S256x1024) ![0, 256 * h] S256x256.size inb).emb y) 0).val = (y 0).val := by
    show 0 + 1 * (y 0).val = _; omega
  have e1 : (((Rect.unit (s := S256x1024) ![0, 256 * h] S256x256.size inb).emb y) 1).val = 256 * h + (y 1).val := by
    show 256 * h + 1 * (y 1).val = _; omega
  rw [e0, e1]

theorem qAll_apply (hx : Reals x0 X0) : Reals (qAll x0) (qRow X0) := by
  intro y
  have hy : (y 0).val < 1024 := (y 0).isLt
  have hy1 : (y 1).val < 256 := (y 1).isLt
  unfold qAll k0_pay6 qRow
  simp only [shapeCast_self]
  have key : ∀ n : Fin 4, (y 0).val / 256 = n.val →
      concatenate S1024x256 0 [⟨S256x256, q0 x0⟩, ⟨S256x256, q1 x0⟩, ⟨S256x256, q2 x0⟩, ⟨S256x256, q3 x0⟩]
        concatenates_S256x256_S256x256_S256x256_S256x256_S1024x256_d0 y
        = (![q0 x0, q1 x0, q2 x0, q3 x0] n) (ix2 (⟨(y 0).val % 256, Nat.mod_lt _ (by decide)⟩ : Fin 256) (⟨(y 1).val, hy1⟩ : Fin 256)) := by
    intro n hn
    exact concatenate_ofFn_apply (t := S1024x256) (s₁ := S256x256) 0 (fun n : Fin 4 => ![q0 x0, q1 x0, q2 x0, q3 x0] n)
      concatenates_S256x256_S256x256_S256x256_S256x256_S1024x256_d0 rfl 256 rfl y n hn _ rfl
      (fun b hb => by
        match b with
        | ⟨0, _⟩ => exact absurd rfl hb
        | ⟨1, _⟩ => rfl)
  have h4 : (y 0).val / 256 < 4 := by omega
  rw [key ⟨(y 0).val / 256, h4⟩ rfl]
  have hq : (y 0).val / 256 = 0 ∨ (y 0).val / 256 = 1 ∨ (y 0).val / 256 = 2 ∨ (y 0).val / 256 = 3 := by omega
  rcases hq with h | h | h | h
  · simp only [h]; exact q_window 0 inb_S256x1024_S256x256_0_0 hx _
  · simp only [h]; exact q_window 1 inb_S256x1024_S256x256_0_256 hx _
  · simp only [h]; exact q_window 2 inb_S256x1024_S256x256_0_512 hx _
  · simp only [h]; exact q_window 3 inb_S256x1024_S256x256_0_768 hx _

theorem kTile_apply (hx : KeyReals x1 X1) (j : ℕ) (hj : j ≤ 3) :
    Reals (shapeCast S256x1024 (kTile x1 j) shapeCasts_S1x256x1024_S256x1024) fun d l => X1 d (1024 * j + l) := by
  intro y
  rw [shapeCast_dropUnit_apply (n := 2) ![256, 1024] (kTile x1 j)]
  refine (hx _).trans ?_
  have e1 : (((Rect.unit (s := S1x256x4096) (ko j) S1x256x1024.size (ko_inb j)).emb (Fin.cons ⟨0, Nat.one_pos⟩ y)) 1).val = (y 0).val := by
    show 0 + 1 * (y 0).val = _; omega
  have e2 : (((Rect.unit (s := S1x256x4096) (ko j) S1x256x1024.size (ko_inb j)).emb (Fin.cons ⟨0, Nat.one_pos⟩ y)) 2).val = 1024 * j + (y 1).val := by
    show 1024 * min j 3 + 1 * (y 1).val = _
    rw [Nat.min_eq_left hj]; omega
  rw [e1, e2]

/-! ## The scores -/

/-- Row `r`'s score of the key at position `k`. -/
def score (X0 X1 : ℕ → ℕ → ℝ) (r k : ℕ) : ℝ := ∑ d ∈ Finset.range 256, qRow X0 r d * X1 d k

theorem pay8_apply (h0 : Reals x0 X0) (h1 : KeyReals x1 X1) (j : ℕ) (hj : j ≤ 3) :
    Reals (k0_pay8 (q0 x0) (q1 x0) (q2 x0) (q3 x0) (kTile x1 j)) fun r l => score X0 X1 r (1024 * j + l) :=
  dotScore_apply _ _ _ _ (qAll_apply h0) (kTile_apply h1 j hj)

theorem sTile_apply (h0 : Reals x0 X0) (h1 : KeyReals x1 X1) (j : ℕ) (hj : j ≤ 3) :
    Reals (sTile x0 x1 j) fun r l => score X0 X1 r (1024 * j + l) := by
  unfold sTile sG k0_pay9
  simp only [shapeCast_self]
  exact pay8_apply h0 h1 j hj

theorem mask_bot : Named.named (F := Ideal) (φ := .f32) κ "mask" 0xF149F2CA#32 = (⊥ : EReal) :=
  IdealRules.named_const.ideal_named_scalar _ _ _ _ rfl

/-- Row `r`'s position. -/
def pos (i : grid0.Coords) (r : ℕ) : ℕ := 256 * (i 1).val + r % 256

theorem pos_div (i : grid0.Coords) (r : ℕ) : pos i r / 1024 = nFull i := by
  unfold pos nFull; omega

/-- The diagonal tile: the keys past the row's position are masked. -/
theorem diag_apply (i : grid0.Coords) (h0 : Reals x0 X0) (h1 : KeyReals x1 X1) (y : S1024x1024.Idx) :
    k0_pay14 (wI i) (qAll x0) (wD i) (kTile x1 (nFull i)) y
      = if 1024 * nFull i + (y 1).val ≤ pos i (y 0).val then ((score X0 X1 (y 0).val (1024 * nFull i + (y 1).val) : ℝ) : EReal) else ⊥ := by
  have hi : (i 1).val < 16 := (i 1).isLt
  have hn := nFull_le i
  have hy0 : (y 0).val < 1024 := (y 0).isLt
  have hy1 : (y 1).val < 1024 := (y 1).isLt
  have hm : (y 0).val % 256 < 256 := Nat.mod_lt _ (by decide)
  unfold k0_pay14
  show Scalar.select (IntOp.cmpi .sle (wD i + iota .tc S1024x1024 32 [1] iota_S1024x1024_d1_w32 y)
      (wI i * 256#32 + shapeCast S1024x1024 (iota .tc S4x256x1024 32 [1] iota_S4x256x1024_d1_w32) shapeCasts_S4x256x1024_S1024x1024 y)) _
      (Named.named (F := Ideal) (φ := .f32) κ "mask" 0xF149F2CA#32) = _
  rw [mask_bot, iota_single_apply, shapeCast_apply _ _ y (ix3 (⟨(y 0).val / 256, by omega⟩ : Fin 4) (⟨(y 0).val % 256, hm⟩ : Fin 256) (⟨(y 1).val, hy1⟩ : Fin 1024))
    (by rw [Shape.rowMajor_val_three, Shape.rowMajor_val_two]; simp; omega), iota_single_apply]
  have ea : wD i + BitVec.ofNat 32 (y 1).val = BitVec.ofNat 32 (1024 * nFull i + (y 1).val) := by
    show BitVec.ofNat 32 (nFull i) * BitVec.ofNat 32 1024 + _ = _
    rw [← BitVec.ofNat_mul, ← BitVec.ofNat_add, Nat.mul_comm]
  have eb : wI i * 256#32 + BitVec.ofNat 32 ((y 0).val % 256) = BitVec.ofNat 32 (pos i (y 0).val) := by
    show BitVec.ofNat 32 (i 1).val * BitVec.ofNat 32 256 + _ = _
    rw [← BitVec.ofNat_mul, ← BitVec.ofNat_add, Nat.mul_comm]; rfl
  show Scalar.select (IntOp.cmpi .sle (wD i + BitVec.ofNat 32 (y 1).val) (wI i * 256#32 + BitVec.ofNat 32 ((y 0).val % 256))) _ _ = _
  rw [ea, eb]
  have hc := WordCmp.cmpi_sle_ofNat_eq_one_iff (w := 32) (a := 1024 * nFull i + (y 1).val) (b := pos i (y 0).val) (by norm_num; omega) (by unfold pos; norm_num; omega)
  unfold Scalar.select
  by_cases h : 1024 * nFull i + (y 1).val ≤ pos i (y 0).val
  · refine (if_pos (hc.2 h)).trans ?_
    rw [if_pos h]
    exact dotScore_apply _ _ _ _ (qAll_apply h0) (kTile_apply h1 _ hn) y
  · refine (if_neg fun e => h (hc.1 e)).trans ?_
    rw [if_neg h]

end Cert.KernelIdeal.Hand
end
-- ==== Proof.Attend.lean ====
/-
  The block the idealized kernel leaves, when the two blocks it reads are real and the key rows hold ones in row 192: every
  entry is the weighted mean (`weigh`) of a key row over the positions up to its own. The maximum subtracted from a row's
  scores is some real number; which one does not matter.
-/
module

public import proofs.«01_k».proof.Proof.Scores

@[expose] public section

set_option maxRecDepth 16384

noncomputable section

namespace Cert.KernelIdeal.Hand

open Cert.KernelIdeal Cert.KernelIdeal.Gen Cert.Mla
open Idealize.ShloMosaic Idealize.ShloMosaic.VecWindow Idealize.ShloMosaic.ValueIdx
open scoped BigOperators

variable {x0 : Vec Ideal S256x1024 .bf16} {x1 : Vec Ideal S1x256x4096 .bf16} {X0 X1 : ℕ → ℕ → ℝ}

/-! ## The subtracted maxima are real -/

/-- A row's maximum over a tile, read as a fold over the tile's columns. -/
theorem rowMax_apply (s : FVec Ideal S1024x1024 .f32) (y : S1024x1.Idx) :
    ∃ f : Fin 1024 → EReal, (∀ l, f l = s (ix2 (⟨(y 0).val, (y 0).isLt⟩ : Fin 1024) l)) ∧
      shapeCast S1024x1 (multiReduction .maximumf [1] S1024 s 0xFF800000#32 reduces_S1024x1024_S1024 (.inl rfl) rfl) shapeCasts_S1024_S1024x1 y
        = (Finset.univ : Finset (Fin 1024)).fold max ⊥ f := by
  have hy : (y 0).val < 1024 := (y 0).isLt
  have hy1 : (y 1).val < 1 := (y 1).isLt
  refine ⟨fun l => s (ix2 (⟨(y 0).val, hy⟩ : Fin 1024) l), fun _ => rfl, ?_⟩
  rw [shapeCast_apply _ _ y (ix1 (⟨(y 0).val, hy⟩ : Fin 1024))
    (by rw [Shape.rowMajor_val_one, Shape.rowMajor_val_two]; simp; omega)]
  refine (Ideal.multiReduction_maximumf_single s _ reduces_S1024x1024_S1024 (.inl rfl) rfl _).trans ?_
  refine congrArg₂ (fun b f => (Finset.univ : Finset (Fin 1024)).fold max b f) lit_neg_inf
    (funext fun l => congrArg s (funext fun a => ?_))
  match a with
  | ⟨0, _⟩ => rfl
  | ⟨1, _⟩ => rfl

/-- The running maxima stay below `⊤`. -/
theorem mAt_ne_top (h0 : Reals x0 X0) (h1 : KeyReals x1 X1) (k : ℕ) (hk : k ≤ 3) (y : S1024x1.Idx) : mAt x0 x1 k y ≠ (⊤ : EReal) := by
  induction k with
  | zero =>
    show Named.named (F := Ideal) (φ := .f32) κ "mask" 0xF149F2CA#32 ≠ (⊤ : EReal)
    rw [mask_bot]; exact bot_ne_top
  | succ k ih =>
    obtain ⟨f, hf, e⟩ := rowMax_apply (k0_pay8 (q0 x0) (q1 x0) (q2 x0) (q3 x0) (kTile x1 k)) y
    show max (mAt x0 x1 k y) (shapeCast S1024x1 _ shapeCasts_S1024_S1024x1 y) ≠ (⊤ : EReal)
    rw [e]
    refine max_lt_of_ne_top (ih (by omega)) (fold_max_ne_top _ _ _ bot_ne_top fun l _ => ?_)
    rw [hf, pay8_apply h0 h1 k (by omega)]
    exact EReal.coe_ne_top _

/-- What the kernel subtracts from a row's scores is a real number: the row's own position is never masked. -/
theorem max_real (i : grid0.Coords) (h0 : Reals x0 X0) (h1 : KeyReals x1 X1) (y : S1024x1.Idx) :
    ∃ μ : ℝ, k0_pay15 (wI i) (qAll x0) (mAt x0 x1 (nFull i)) (wD i) (kTile x1 (nFull i)) y = ((μ : ℝ) : EReal) := by
  obtain ⟨f, hf, e⟩ := rowMax_apply (k0_pay14 (wI i) (qAll x0) (wD i) (kTile x1 (nFull i))) y
  have hd : ∀ l : Fin 1024, f l = if 1024 * nFull i + l.val ≤ pos i (y 0).val then ((score X0 X1 (y 0).val (1024 * nFull i + l.val) : ℝ) : EReal) else ⊥ :=
    fun l => (hf l).trans (diag_apply i h0 h1 _)
  have hpos := Nat.div_add_mod (pos i (y 0).val) 1024
  rw [pos_div] at hpos
  have hlt : pos i (y 0).val % 1024 < 1024 := Nat.mod_lt _ (by decide)
  show ∃ μ : ℝ, max (mAt x0 x1 (nFull i) y) (shapeCast S1024x1 _ shapeCasts_S1024_S1024x1 y) = ((μ : ℝ) : EReal)
  rw [e]
  refine exists_real (max_lt_of_ne_top (mAt_ne_top h0 h1 _ (nFull_le i) y) (fold_max_ne_top _ _ _ bot_ne_top fun l _ => ?_))
    (max_gt_of_ne_bot (fold_max_ne_bot _ _ _ ⟨pos i (y 0).val % 1024, hlt⟩ (Finset.mem_univ _) ?_))
  · rw [hd]; split
    · exact EReal.coe_ne_top _
    · exact bot_ne_top
  · rw [hd, if_pos (by show 1024 * nFull i + pos i (y 0).val % 1024 ≤ _; omega)]
    exact EReal.coe_ne_bot _

/-! ## The accumulator -/

/-- What key `k` adds to row `r`'s accumulator in column `c`, with `μ` subtracted from the scores. -/
def term (i : grid0.Coords) (X0 X1 : ℕ → ℕ → ℝ) (μ : ℕ → ℝ) (r c k : ℕ) : ℝ :=
  (if k ≤ pos i r then Real.exp (score X0 X1 r k - μ r) else 0) * X1 c k

theorem bcast_apply (v : FVec Ideal S1024x1 .f32) (y : S1024x1024.Idx) :
    broadcastTo S1024x1024 v broadcasts_S1024x1_S1024x1024 y = v (ix2 (⟨(y 0).val, (y 0).isLt⟩ : Fin 1024) (0 : Fin 1)) :=
  broadcastTo_apply v broadcasts_S1024x1_S1024x1024 y _ fun a => by
    match a with
    | ⟨0, _⟩ => rfl
    | ⟨1, _⟩ => rfl

theorem acc_apply (i : grid0.Coords) (h0 : Reals x0 X0) (h1 : KeyReals x1 X1) (μ : ℕ → ℝ)
    (hμ : ∀ y, k0_pay15 (wI i) (qAll x0) (mAt x0 x1 (nFull i)) (wD i) (kTile x1 (nFull i)) y = ((μ (y 0).val : ℝ) : EReal))
    (k : ℕ) (hk : k ≤ nFull i) :
    Reals (aG (wI i) (wD i) (qAll x0) (mAt x0 x1 (nFull i)) (kTile x1 (nFull i)) (sTile x0 x1) x1 k) fun r c =>
      ∑ l ∈ Finset.range 1024, term i X0 X1 μ r c (1024 * nFull i + l)
        + ∑ j ∈ Finset.range k, ∑ l ∈ Finset.range 1024, term i X0 X1 μ r c (1024 * j + l) := by
  have hn := nFull_le i
  induction k with
  | zero =>
    intro y
    show k0_pay16 (wI i) (qAll x0) (mAt x0 x1 (nFull i)) (wD i) (kTile x1 (nFull i)) (kTile x1 (nFull i)) y = _
    unfold k0_pay16
    simp only [shapeCast_self, Finset.range_zero, Finset.sum_empty, add_zero]
    refine dotOut_apply _ _
      (fun r l => if 1024 * nFull i + l ≤ pos i r then Real.exp (score X0 X1 r (1024 * nFull i + l) - μ r) else 0)
      (fun c l => X1 c (1024 * nFull i + l)) ?_ (kTile_apply h1 _ hn) y
    intro z
    show Ideal.exp (k0_pay14 (wI i) (qAll x0) (wD i) (kTile x1 (nFull i)) z - broadcastTo S1024x1024 _ broadcasts_S1024x1_S1024x1024 z) = _
    rw [bcast_apply, hμ, diag_apply i h0 h1, exp_masked]
  | succ k ih =>
    intro y
    show k0_pay17 (wI i) (qAll x0) (mAt x0 x1 (nFull i)) (wD i) (kTile x1 (nFull i)) (sTile x0 x1 k)
      (aG (wI i) (wD i) (qAll x0) (mAt x0 x1 (nFull i)) (kTile x1 (nFull i)) (sTile x0 x1) x1 k) (kTile x1 k) y = _
    unfold k0_pay17
    simp only [shapeCast_self]
    show (aG (wI i) (wD i) (qAll x0) (mAt x0 x1 (nFull i)) (kTile x1 (nFull i)) (sTile x0 x1) x1 k y : EReal)
      + matmul dot_S1024x1024_S256x1024_S1024x256_1_1_0_0_n_n none _ _ (constant S1024x256 .f32 0x00000000#32) y = _
    rw [ih (by omega) y, dotOut_apply _ _
      (fun r l => if 1024 * k + l ≤ pos i r then Real.exp (score X0 X1 r (1024 * k + l) - μ r) else 0)
      (fun c l => X1 c (1024 * k + l)) ?_ (kTile_apply h1 k (by omega)) y, ← EReal.coe_add]
    · have e := Finset.sum_range_succ (fun j => ∑ l ∈ Finset.range 1024, term i X0 X1 μ (y 0).val (y 1).val (1024 * j + l)) k
      exact congrArg (fun r : ℝ => (r : EReal)) ((add_assoc _ _ _).trans (congrArg (_ + ·) e.symm))
    · intro z
      have hz : (z 1).val < 1024 := (z 1).isLt
      have hin : 1024 * k + (z 1).val ≤ pos i (z 0).val := by
        have hpos := Nat.div_add_mod (pos i (z 0).val) 1024
        rw [pos_div] at hpos
        omega
      show Ideal.exp (sTile x0 x1 k z - broadcastTo S1024x1024 _ broadcasts_S1024x1_S1024x1024 z) = _
      rw [bcast_apply, hμ, sTile_apply h0 h1 k (by omega), exp_real]
      exact congrArg (fun r : ℝ => (r : EReal)) (if_pos hin).symm

/-- The accumulator at the end: the sum over the keys up to the row's position. -/
theorem accEnd_apply (i : grid0.Coords) (h0 : Reals x0 X0) (h1 : KeyReals x1 X1) :
    ∃ μ : ℕ → ℝ, Reals (accEnd i x0 x1) fun r c =>
      ∑ k ∈ Finset.range (pos i r + 1), Real.exp (score X0 X1 r k - μ r) * X1 c k := by
  choose ν hν using fun y => max_real i h0 h1 y
  obtain ⟨μ, hμ⟩ : ∃ μ : ℕ → ℝ, ∀ y : S1024x1.Idx,
      k0_pay15 (wI i) (qAll x0) (mAt x0 x1 (nFull i)) (wD i) (kTile x1 (nFull i)) y = ((μ (y 0).val : ℝ) : EReal) := by
    refine ⟨fun r => if h : r < 1024 then ν (ix2 (⟨r, h⟩ : Fin 1024) (0 : Fin 1)) else 0, fun y => ?_⟩
    have hy : (y 0).val < 1024 := (y 0).isLt
    have hy1 : (y 1).val < 1 := (y 1).isLt
    have e : y = ix2 (⟨(y 0).val, hy⟩ : Fin 1024) (0 : Fin 1) := funext fun a => by
      match a with
      | ⟨0, _⟩ => rfl
      | ⟨1, _⟩ => exact Fin.ext (by show (y 1).val = 0; omega)
    refine (hν y).trans (congrArg (fun r : ℝ => (r : EReal)) ?_)
    beta_reduce
    rw [dif_pos hy, ← e]
  refine ⟨μ, fun y => ?_⟩
  unfold accEnd
  refine (acc_apply i h0 h1 μ hμ (nFull i) le_rfl y).trans (congrArg (fun r : ℝ => (r : EReal)) ?_)
  have e := sum_diag_tiles (term i X0 X1 μ (y 0).val (y 1).val)
    1024 (pos i (y 0).val) (by decide) (fun k hk => by unfold term; rw [if_neg (by omega), zero_mul])
  rw [pos_div] at e
  refine e.trans (Finset.sum_congr rfl fun k hk => ?_)
  rw [Finset.mem_range] at hk
  unfold term
  rw [if_pos (by omega)]

/-! ## The block -/

/-- The quotient the kernel forms: the accumulator over its ones column. -/
theorem quot_apply (i : grid0.Coords) (h0 : Reals x0 X0) (h1 : KeyReals x1 X1) (hones : ∀ k, X1 192 k = 1) :
    Reals (k0_pay1 (k0_pay19 (accEnd i x0 x1)) (k0_pay20 (accEnd i x0 x1))) fun r c => weigh (score X0 X1 r) (X1 c) (pos i r) := by
  intro y
  obtain ⟨μ, hacc⟩ := accEnd_apply i h0 h1
  have hy0 : (y 0).val < 1024 := (y 0).isLt
  have hy1 : (y 1).val < 128 := (y 1).isLt
  unfold k0_pay1
  show Ideal.div (k0_pay19 (accEnd i x0 x1) y) (k0_pay20 (accEnd i x0 x1) y) = _
  have e1 : k0_pay19 (accEnd i x0 x1) y = accEnd i x0 x1 (ix2 (⟨(y 0).val, hy0⟩ : Fin 1024) (⟨(y 1).val, by omega⟩ : Fin 256)) := by
    unfold k0_pay19
    refine extractStridedSlice_apply _ _ _ y _ fun a => ?_
    match a with
    | ⟨0, _⟩ => exact (Nat.zero_add _).symm
    | ⟨1, _⟩ => exact (Nat.zero_add _).symm
  have e2 : k0_pay20 (accEnd i x0 x1) y = accEnd i x0 x1 (ix2 (⟨(y 0).val, hy0⟩ : Fin 1024) (⟨192, by decide⟩ : Fin 256)) := by
    unfold k0_pay20
    refine (broadcastTo_apply _ broadcasts_S1024x1_S1024x128 y (ix2 (⟨(y 0).val, hy0⟩ : Fin 1024) (0 : Fin 1)) fun a => ?_).trans
      (extractStridedSlice_apply _ _ _ _ _ fun a => ?_)
    · match a with
      | ⟨0, _⟩ => rfl
      | ⟨1, _⟩ => rfl
    · match a with
      | ⟨0, _⟩ => exact (Nat.zero_add _).symm
      | ⟨1, _⟩ => rfl
  rw [e1, e2, hacc, hacc, div_real]
  · show ((_ / (∑ k ∈ Finset.range (pos i (y 0).val + 1), Real.exp (score X0 X1 (y 0).val k - μ (y 0).val) * X1 192 k) : ℝ) : EReal) = _
    simp only [hones, mul_one]
    exact congrArg _ (weigh_shift (score X0 X1 (y 0).val) (X1 (y 1).val) (pos i (y 0).val) (μ (y 0).val))
  · show (∑ k ∈ Finset.range (pos i (y 0).val + 1), Real.exp (score X0 X1 (y 0).val k - μ (y 0).val) * X1 192 k) ≠ 0
    simp only [hones, mul_one]
    exact (sum_exp_pos (fun k => score X0 X1 (y 0).val k - μ (y 0).val) (pos i (y 0).val)).ne'

/-- The block's scores, by position in the block and head. -/
def headScore (X0 X1 : ℕ → ℕ → ℝ) (r h k : ℕ) : ℝ := ∑ d ∈ Finset.range 256, X0 r (256 * h + d) * X1 d k

/-- The block's entry at position `r` of the block and column `c` (head `c / 128`). -/
def blkReal (i : grid0.Coords) (X0 X1 : ℕ → ℕ → ℝ) (r c : ℕ) : ℝ :=
  weigh (headScore X0 X1 r (c / 128)) (X1 (c % 128)) (256 * (i 1).val + r)

theorem slice_apply (i : grid0.Coords) (h0 : Reals x0 X0) (h1 : KeyReals x1 X1) (hones : ∀ k, X1 192 k = 1) (h : ℕ) (hh : h < 4)
    (hs : S1024x128.Slices ![256 * h, 0] S256x128) :
    Reals (a := 256) (b := 128) (extractStridedSlice S256x128 ![256 * h, 0] (k0_pay1 (k0_pay19 (accEnd i x0 x1)) (k0_pay20 (accEnd i x0 x1))) hs)
      fun r c => blkReal i X0 X1 r (128 * h + c) := by
  intro y
  have hy0 : (y 0).val < 256 := (y 0).isLt
  have hy1 : (y 1).val < 128 := (y 1).isLt
  rw [extractStridedSlice_apply _ _ hs y (ix2 (⟨256 * h + (y 0).val, by omega⟩ : Fin 1024) (⟨(y 1).val, hy1⟩ : Fin 128)) fun a => by
    match a with
    | ⟨0, _⟩ => rfl
    | ⟨1, _⟩ => exact (Nat.zero_add _).symm]
  refine (quot_apply i h0 h1 hones _).trans ?_
  show ((weigh (score X0 X1 (256 * h + (y 0).val)) (X1 (y 1).val) (pos i (256 * h + (y 0).val)) : ℝ) : EReal) = _
  have em : (256 * h + (y 0).val) % 256 = (y 0).val := by omega
  have ed : (256 * h + (y 0).val) / 256 = h := by omega
  have ec : (128 * h + (y 1).val) / 128 = h := by omega
  have ecm : (128 * h + (y 1).val) % 128 = (y 1).val := by omega
  have es : score X0 X1 (256 * h + (y 0).val) = headScore X0 X1 (y 0).val h := by
    funext k; unfold score headScore qRow; rw [em, ed]
  unfold blkReal pos
  beta_reduce
  rw [es, em, ec, ecm]

/-- The block's entries as extended reals. -/
def outReal (i : grid0.Coords) (X0 X1 : ℕ → ℕ → ℝ) : Vec Ideal S256x512 .f32 :=
  fun y => ((blkReal i X0 X1 (y 0).val (y 1).val : ℝ) : EReal)

/-- Every entry of the block. -/
theorem outBlk_apply (i : grid0.Coords) (h0 : Reals x0 X0) (h1 : KeyReals x1 X1) (hones : ∀ k, X1 192 k = 1) :
    Reals (outBlk i x0 x1) (blkReal i X0 X1) := by
  intro y
  have hy0 : (y 0).val < 256 := (y 0).isLt
  have hy1 : (y 1).val < 512 := (y 1).isLt
  unfold outBlk
  refine View.canon_apply_of_pieces (outReal i X0 X1) _ ?_ y ?_
  · have coords : ∀ (h : ℕ) (inb : ∀ a, (![0, 128 * h] : Fin 2 → ℕ) a + S256x128.size a ≤ S256x512.size a) (x : S256x128.Idx),
        ((blkReal i X0 X1 (x 0).val (128 * h + (x 1).val) : ℝ) : EReal)
          = outReal i X0 X1 ((Rect.unit (s := S256x512) ![0, 128 * h] S256x128.size inb).emb x) := by
      intro h inb x
      show _ = ((blkReal i X0 X1 (0 + 1 * (x 0).val) (128 * h + 1 * (x 1).val) : ℝ) : EReal)
      rw [Nat.zero_add, Nat.one_mul, Nat.one_mul]
    intro p hp x
    simp only [List.mem_cons, List.not_mem_nil, or_false] at hp
    rcases hp with rfl | rfl | rfl | rfl
    · exact (slice_apply i h0 h1 hones 3 (by decide) slices_S1024x128_o768_0_S256x128 x).trans (coords 3 inb_S256x512_S256x128_0_384 x)
    · exact (slice_apply i h0 h1 hones 2 (by decide) slices_S1024x128_o512_0_S256x128 x).trans (coords 2 inb_S256x512_S256x128_0_256 x)
    · exact (slice_apply i h0 h1 hones 1 (by decide) slices_S1024x128_o256_0_S256x128 x).trans (coords 1 inb_S256x512_S256x128_0_128 x)
    · exact (slice_apply i h0 h1 hones 0 (by decide) slices_S1024x128_o0_0_S256x128 x).trans (coords 0 inb_S256x512_S256x128_0_0 x)
  · have mem : ∀ (o : ℕ) (inb : ∀ a, (![0, o] : Fin 2 → ℕ) a + S256x128.size a ≤ S256x512.size a), o ≤ (y 1).val → (y 1).val < o + 128 →
        y ∈ (Rect.unit (s := S256x512) ![0, o] S256x128.size inb).set := by
      intro o inb ho hlt
      rw [Rect.mem_set_unit]
      intro a
      match a with
      | ⟨0, _⟩ => exact ⟨Nat.zero_le _, by show (y 0).val < 0 + 256; omega⟩
      | ⟨1, _⟩ => exact ⟨ho, hlt⟩
    by_cases c3 : 384 ≤ (y 1).val
    · exact ⟨_, List.mem_cons_self .., mem 384 inb_S256x512_S256x128_0_384 c3 (by omega)⟩
    by_cases c2 : 256 ≤ (y 1).val
    · exact ⟨_, List.mem_cons_of_mem _ (List.mem_cons_self ..), mem 256 inb_S256x512_S256x128_0_256 c2 (by omega)⟩
    by_cases c1 : 128 ≤ (y 1).val
    · exact ⟨_, List.mem_cons_of_mem _ (List.mem_cons_of_mem _ (List.mem_cons_self ..)), mem 128 inb_S256x512_S256x128_0_128 c1 (by omega)⟩
    · exact ⟨_, List.mem_cons_of_mem _ (List.mem_cons_of_mem _ (List.mem_cons_of_mem _ (List.mem_cons_self ..))),
        mem 0 inb_S256x512_S256x128_0_0 (Nat.zero_le _) (by omega)⟩

end Cert.KernelIdeal.Hand
end
-- ==== Proof.Body.lean ====
/-
  The run of the kernel's body at one grid point: it leaves the block `outBlk` of the two blocks it read.
-/
module

public import proofs.«01_k».proof.Proof.Gen.KernelIdeal
public import proofs.«01_k».proof.Proof.Gen.KernelIdeal.Frame
public import proofs.«01_k».proof.Proof.Tiles
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body's loads read -/

section
variable {arg2 : Memref sig .tc .vmem S256x1024 .bf16} (harg2 : arg2.IsWhole) {arg3 : Memref sig .tc .vmem S1x256x4096 .bf16} (harg3 : arg3.IsWhole)
  (x0 : Vec F S256x1024 .bf16) (x1 : Vec F S1x256x4096 .bf16)

theorem ld0 : arg2.view.readAt (Elt F) (Rect.unit (s := S256x1024) ![0, 0] S256x256.size inb_S256x1024_S256x256_0_0).toLoadRect (harg2.unread x0) = q0 x0 := by
  rw [View.readAt_unit _ _ _ rfl inb_S256x1024_S256x256_0_0, harg2.read_unread]; rfl
theorem ld1 : arg2.view.readAt (Elt F) (Rect.unit (s := S256x1024) ![0, 256] S256x256.size inb_S256x1024_S256x256_0_256).toLoadRect (harg2.unread x0) = q1 x0 := by
  rw [View.readAt_unit _ _ _ rfl inb_S256x1024_S256x256_0_256, harg2.read_unread]; rfl
theorem ld2 : arg2.view.readAt (Elt F) (Rect.unit (s := S256x1024) ![0, 512] S256x256.size inb_S256x1024_S256x256_0_512).toLoadRect (harg2.unread x0) = q2 x0 := by
  rw [View.readAt_unit _ _ _ rfl inb_S256x1024_S256x256_0_512, harg2.read_unread]; rfl
theorem ld3 : arg2.view.readAt (Elt F) (Rect.unit (s := S256x1024) ![0, 768] S256x256.size inb_S256x1024_S256x256_0_768).toLoadRect (harg2.unread x0) = q3 x0 := by
  rw [View.readAt_unit _ _ _ rfl inb_S256x1024_S256x256_0_768, harg2.read_unread]; rfl
theorem ldK {off : Fin 3 → ℕ} (inb : ∀ a, off a + S1x256x1024.size a ≤ S1x256x4096.size a) (j : ℕ) (h : off = ko j) :
    arg3.view.readAt (Elt F) (Rect.unit (s := S1x256x4096) off S1x256x1024.size inb).toLoadRect (harg3.unread x1) = kTile x1 j := by
  rw [View.readAt_unit _ _ _ h (ko_inb j), harg3.read_unread]; rfl

/-- Storing score tile `k` keeps the earlier tiles and adds its own. -/
theorem put_tiles (v : View sig .tc .vmem S1024x4096 .f32) (f : v.ty.Contents (Elt F)) (sc : ℕ → FVec F S1024x1024 .f32) (k : ℕ) (hk : k < 4)
    {off : Fin 2 → ℕ} (inb : ∀ a, off a + S1024x1024.size a ≤ S1024x4096.size a) (ho : off = so k)
    (w : FVec F S1024x1024 .f32) (hw : w = sc k)
    (hf : ∀ j < k, window (v.read (Elt F) f) (so j) S1024x1024.size (so_inb j) = sc j) (j : ℕ) (hj : j < k + 1) :
    window (v.read (Elt F) (v.writes (Elt F) f [⟨Rect.unit (s := S1024x4096) off S1024x1024.size inb, w⟩])) (so j) S1024x1024.size (so_inb j) = sc j := by
  rw [View.read_writes_cons_put v f inb w [] ho]
  rcases Nat.lt_succ_iff_lt_or_eq.mp hj with h | h
  · rw [window_put_of_disjoint _ _ _ _ _ _ _ 1 (Or.inl ?_)]
    · exact hf j h
    · show 1024 * min j 3 + 1024 ≤ 1024 * min k 3
      omega
  · subst h; subst hw
    exact window_put_same _ _ _ _ _
end

theorem run0 (c : Dev nD) (i : grid0.Coords) (arg2 : Memref sig .tc .vmem S256x1024 .bf16) (harg2 : arg2.IsWhole) (arg3 : Memref sig .tc .vmem S1x256x4096 .bf16) (harg3 : arg3.IsWhole) (arg4 : Memref sig .tc .vmem S256x512 .f32) (harg4 : arg4.IsWhole) (arg5 : Memref sig .tc .vmem S1024x4096 .f32) (harg5 : arg5.IsWhole) (arg6 : Memref sig .tc .vmem S1024x256 .f32) (harg6 : arg6.IsWhole)
    (x0 : Vec F S256x1024 .bf16) (x1 : Vec F S1x256x4096 .bf16) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
      ∗ (iprop(owns (c : Thread nD τ) arg2 fullShare x0 ∗ owns (c : Thread nD τ) arg3 fullShare x1 ∗ owns (c : Thread nD τ) arg4 fullShare (outBlk i x0 x1) ∗ (∃ d, owns (c : Thread nD τ) arg5 fullShare d) ∗ (∃ d, owns (c : Thread nD τ) arg6 fullShare d)) -∗ K ⟨⟩))
    ⊢ wp frame (wpE (defs₀ (F := F)) Variants.none c none) E (cc0_prompt_mla i arg2 harg2 arg3 harg3 arg4 harg4 arg5 harg5 arg6 harg6) K := by
  simp only [cc0_prompt_mla_eq_skeleton]; unfold cc0_prompt_mla_skel
  unfold owns
  iintro ⟨⟨%f0, %hf0, H0⟩, ⟨%f1, %hf1, H1⟩, ⟨%d2, %f2, -, H2⟩, ⟨%ds0, %fs0, -, HS0⟩, ⟨%ds1, %fs1, -, HS1⟩, Hk⟩
  obtain rfl := harg2.eq_unread hf0; obtain rfl := harg3.eq_unread hf1
  sl_exec
  sl_for (fun k acc => iprop((arg3.view.loc (c : Thread nD τ) ↦[arg3.view.set]{fullShare} harg3.unread x1)
    ∗ (∃ f, (arg5.view.loc (c : Thread nD τ) ↦[arg5.view.set]{fullShare} f) ∗ ⌜∀ j < k, window (arg5.view.read (Elt F) f) (so j) S1024x1024.size (so_inb j) = sTile x0 x1 j⌝)
    ∗ ⌜acc = mAt x0 x1 k⌝)) $$ [H1 HS0]
  case region =>
    intro k acc
    iintro ⟨H1, ⟨%f, HS0, %hf⟩, %hacc⟩
    subst hacc
    sl_exec
    sl_step
    isplitl [H1]; · iexact H1
    isplitl [HS0]
    · iexists _; isplitl [HS0]; · iexact HS0
      ipureintro
      refine put_tiles (F := F) arg5.view f (sTile x0 x1) k.val (lt4_1 k) (k0_off2_inb i k) (off2_eq k) _ ?_ hf
      rw [ld0 harg2, ld1 harg2, ld2 harg2, ld3 harg2, ldK harg3 x1 _ k.val (off1_eq k)]; rfl
    · ipureintro
      rw [ld0 harg2, ld1 harg2, ld2 harg2, ld3 harg2, ldK harg3 x1 _ k.val (off1_eq k)]; rfl
  · isplitl [H1]; · iexact H1
    isplitl [HS0]
    · iexists _; isplitl [HS0]; · iexact HS0
      ipureintro; exact fun j hj => absurd hj (Nat.not_lt_zero j)
    · ipureintro; rfl
  iintro %acc ⟨H1, ⟨%f, HS0, %hf⟩, %hacc⟩
  subst hacc
  have ht : Scf.trips (k0_t1_loop i).lb (k0_t1_loop i).ub (k0_t1_loop i).st = nFull i := trips1 i
  have hf' := fun (j : ℕ) (hj : j < nFull i) => hf j (Nat.lt_of_lt_of_eq hj ht.symm)
  sl_exec
  have hr : run0.sl.r c arg2 harg2 x0 = qAll x0 := by
    show k0_pay6 _ _ _ _ = _
    rw [ld0 harg2, ld1 harg2, ld2 harg2, ld3 harg2]; rfl
  have hm : run0.sl.r_1 i x0 x1 = mAt x0 x1 (nFull i) := congrArg (mAt x0 x1) ht
  have hv : run0.sl.v35 i = wD i := (by decide +kernel : ∀ i, run0.sl.v35 i = wD i) i
  sl_for (fun k _ => iprop((arg3.view.loc (c : Thread nD τ) ↦[arg3.view.set]{fullShare} harg3.unread x1)
    ∗ (arg5.view.loc (c : Thread nD τ) ↦[arg5.view.set]{fullShare} f)
    ∗ (∃ g, (arg6.view.loc (c : Thread nD τ) ↦[arg6.view.set]{fullShare} g)
        ∗ ⌜arg6.view.read (Elt F) g = aG (wI i) (wD i) (qAll x0) (mAt x0 x1 (nFull i)) (kTile x1 (nFull i)) (sTile x0 x1) x1 k⌝))) $$ [H1 HS0 HS1]
  case region =>
    intro k acc
    iintro ⟨H1, HS0, ⟨%g, HS1, %hg⟩⟩
    sl_exec
    sl_step
    isplitl [H1]; · iexact H1
    isplitl [HS0]; · iexact HS0
    iexists _; isplitl [HS1]; · iexact HS1
    ipureintro
    have hk : k.val < nFull i := Nat.lt_of_lt_of_eq k.isLt (trips3 i)
    rw [View.read_writes_full, hr, hm, hv, ldK harg3 x1 _ (nFull i) (off5_eq i), ldK harg3 x1 _ k.val (off7_eq k),
      View.readAt_unit _ _ _ (off6_eq k) (so_inb k.val), hf' k.val hk, View.readAt_full, hg]
    rfl
  · isplitl [H1]; · iexact H1
    isplitl [HS0]; · iexact HS0
    iexists _; isplitl [HS1]; · iexact HS1
    ipureintro
    refine (View.read_writes_full _ _ _ _ _).trans ?_
    show k0_pay16 _ _ _ _ _ _ = _
    rw [hr, hm, hv, ldK harg3 x1 _ (nFull i) (off5_eq i)]
    rfl
  iintro %_ ⟨H1, HS0, ⟨%g, HS1, %hg⟩⟩
  have ht3 : Scf.trips (k0_t3_loop i).lb (k0_t3_loop i).ub (k0_t3_loop i).st = nFull i := trips3 i
  sl_exec
  sl_step
  have ha : arg6.view.readAt (Elt F) (Rect.unit (s := S1024x256) ![0, 0] S1024x256.size inb_S1024x256_S1024x256_0_0).toLoadRect g = accEnd i x0 x1 :=
    (View.readAt_full _ _ _).trans (hg.trans (congrArg (aG (wI i) (wD i) (qAll x0) (mAt x0 x1 (nFull i)) (kTile x1 (nFull i)) (sTile x0 x1) x1) ht3))
  have h2 : run0.sl.r_2 c arg6 g = k0_pay19 (accEnd i x0 x1) := congrArg k0_pay19 ha
  have h3 : run0.sl.r_3 c arg6 g = k0_pay20 (accEnd i x0 x1) := congrArg k0_pay20 ha
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (View.read_writes_eq_canon arg4.view f2 _ (View.cover_of_tiledL _ S256x128.size (by sl_kernel_rfl))).trans ?_
    rw [h2, h3]; rfl
  isplitl [HS0]
  · iexists (arg5.view.read (Elt F) f); iexists f; isplitr; · ipureintro; rfl
    iexact HS0
  iexists (arg6.view.read (Elt F) g); iexists g; isplitr; · ipureintro; rfl
  iexact HS1

end Cert.KernelIdeal.Hand
end
-- ==== Proof.IdealRun.lean ====
/-
  The idealized kernel's whole run, over any float interpretation: every grid point leaves its block `outBlk` of the two
  blocks it read, so the program ends with the output array those blocks make, the arguments unchanged and every
  semaphore counter at zero.
-/
module

public import proofs.«01_k».proof.Proof.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffers a point's body is handed, and their wholeness. -/
abbrev st0 (t : Fin cfg0.N) : Memref sig .tc .vmem S256x1024 .bf16 := win0_0.stage (cfg0.slots t 0)
abbrev st1 (t : Fin cfg0.N) : Memref sig .tc .vmem S1x256x4096 .bf16 := win0_1.stage (cfg0.slots t 1)
abbrev st2 (t : Fin cfg0.N) : Memref sig .tc .vmem S256x512 .f32 := win0_2.stage (cfg0.slots t 2)
abbrev scA : Memref sig .tc .vmem S1024x4096 .f32 := Memref.whole cc0_scratch0
abbrev scB : Memref sig .tc .vmem S1024x256 .f32 := Memref.whole cc0_scratch1

/-- What a point holds between bodies: the two scratch arrays at some contents and the generator register. -/
theorem held_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- The block point `t` leaves. -/
def blkAt (c : Dev nD) (t : Fin cfg0.N) : Vec F S256x512 .f32 := outBlk (grid0.coords t) (iblk m c 0 t) (iblk m c 1 t)

/-- The pipeline's data: after the body each input's buffer holds its block and the output's `blkAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blkAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = blkAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t))

/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl, after0, after1, after2]
  rw [show (dats m 0 c).Φ t.castSucc = Pipeline.ΦA spec0 c from rfl, held_eq]
  unfold blkAt
  iintro ⟨⟨⟨HA, HB⟩, Hg⟩, Ho, ⟨%d0, H0⟩, ⟨%d1, H1⟩, ⟨%d2, H2⟩⟩
  iapply (run0 c (grid0.coords t) _ _ _ _ _ _ _ _ _ _ (iblk m c 0 t) (iblk m c 1 t) Set.univ _)
  isplitl [H0]; · iexact H0
  isplitl [H1]; · iexact H1
  isplitl [H2]; · iexists _; iexact H2
  isplitl [HA]; · iexact HA
  isplitl [HB]; · iexact HB
  iintro ⟨H0, H1, H2, HA, HB⟩
  isplitl [HA HB Hg]
  · isplitl [HA HB]
    · isplitl [HA]; · iexact HA
      iexact HB
    iexact Hg
  isplitl [Ho]; · iexact Ho
  isplitl [H0]; · iexact H0
  isplitl [H1]; · iexact H1
  iexact H2

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The run: the arrays of the pipeline at what the blocks make them, the other arrays as the launch found them, and every
    counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_all m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_all m ρ))

end Cert.KernelIdeal.Hand
end
-- ==== Proof.Array.lean ====
/-
  The result array of the idealized kernel: every row block is the attention of its 256 positions, and the 64 blocks tile the array.
-/
module

public import proofs.«01_k».proof.Proof.Packed
public import proofs.«01_k».proof.Proof.Attend
public import proofs.«01_k».proof.Proof.IdealRun

@[expose] public section

set_option maxRecDepth 16384

noncomputable section

namespace Cert.KernelIdeal.Hand

open Cert.KernelIdeal Cert.KernelIdeal.Gen Cert.Mla
open Idealize.ShloMosaic Idealize.ShloMosaic.TcCoe Idealize.ShloMosaic.ValueIdx Idealize.SL.Sem
open scoped BigOperators

/-- Where the point's blocks lie: the sequence is the outer coordinate, the row block the inner. -/
theorem idx_facts : ∀ t : Fin cfg0.N,
    ((grid0.coords t 0).val < 4 ∧ (grid0.coords t 1).val < 16)
      ∧ (win0_0.index t 0 = 16 * (grid0.coords t 0).val + (grid0.coords t 1).val ∧ win0_0.index t 1 = 0)
      ∧ (win0_1.index t 0 = (grid0.coords t 0).val ∧ win0_1.index t 1 = 0 ∧ win0_1.index t 2 = 0)
      ∧ (win0_2.index t 0 = 16 * (grid0.coords t 0).val + (grid0.coords t 1).val ∧ win0_2.index t 1 = 0) :=
  (by decide +kernel : ∀ t : Fin grid0.N, _)

theorem idx_onto : ∀ k : Fin 64, ∃ t : Fin cfg0.N, win0_2.index t 0 = k.val :=
  (by decide +kernel : ∀ k : Fin 64, ∃ t : Fin grid0.N, win0_2.index t 0 = k.val)

variable (m : (ℓ : Loc nD τ sig) → Buf (Elt Ideal) ℓ) (c : Dev nD) {Q R : ℕ → ℕ → ℕ → ℕ → ℝ} {M : ℕ → ℕ → ℕ → ℝ}

/-- The point's block of queries. -/
theorem block0 (h0 : Reals4 (a := 4) (b := 4096) (c := 4) (d := 128) (m ((c : Thread nD τ).loc main_arg0)) Q)
    (h1 : Reals4 (a := 4) (b := 4096) (c := 4) (d := 64) (m ((c : Thread nD τ).loc main_arg1)) R) (t : Fin cfg0.N) :
    Reals (a := 256) (b := 1024) (iblk m c 0 t)
      fun r => packQ Q R (256 * (16 * (grid0.coords t 0).val + (grid0.coords t 1).val) + r) := by
  intro y
  obtain ⟨⟨g0, g1⟩, ⟨i0, i1⟩, -⟩ := idx_facts t
  have e0 : ((win0_0.rect t).emb y 0).val = win0_0.index t 0 * 256 + (y 0).val := Pipeline.Window.rect_emb_val win0_0 t y 0
  have e1 : ((win0_0.rect t).emb y 1).val = win0_0.index t 1 * 1024 + (y 1).val := Pipeline.Window.rect_emb_val win0_0 t y 1
  have b0 : (y 0).val < 256 := (y 0).isLt
  have b1 : (y 1).val < 1024 := (y 1).isLt
  show (V m c main_v7 : S16384x1024.Idx → EReal) ((win0_0.rect t).emb y) = _
  rw [V_v7]
  generalize hr : (16 * (grid0.coords t 0).val + (grid0.coords t 1).val) * 256 + (y 0).val = row at *
  have hrow : row < 16384 := by omega
  refine (shapeCast_apply (s := S4x4096x4x256) (t := S16384x1024) _ _ _
    (ix4 (⟨row / 4096, by omega⟩ : Fin 4) (⟨row % 4096, by omega⟩ : Fin 4096) (⟨(y 1).val / 256, by omega⟩ : Fin 4)
      (⟨(y 1).val % 256, by omega⟩ : Fin 256)) ?_).trans ?_
  · rw [Shape.rowMajor_val_four, Shape.rowMajor_val_two]
    simp only [e0, e1, i0, i1]
    simp
    omega
  · refine (query_apply h0 h1 _ _ _ _).trans ?_
    have f0 : 4096 * (row / 4096) + row % 4096 = row := by omega
    have f1 : 256 * ((y 1).val / 256) + (y 1).val % 256 = (y 1).val := by omega
    have f2 : 256 * (16 * (grid0.coords t 0).val + (grid0.coords t 1).val) + (y 0).val = row := by omega
    show ((packQ Q R (4096 * (row / 4096) + row % 4096) (256 * ((y 1).val / 256) + (y 1).val % 256) : ℝ) : EReal) = _
    rw [f0, f1]
    beta_reduce
    rw [f2]

/-- The point's block of packed rows: its whole sequence's. -/
theorem block1 (h2 : Reals3 (a := 4) (b := 4096) (c := 192) (m ((c : Thread nD τ).loc main_arg2)) M) (t : Fin cfg0.N) :
    KeyReals (b := 4096) (iblk m c 1 t) (packM M (grid0.coords t 0).val) := by
  intro y
  obtain ⟨⟨g0, g1⟩, -, ⟨i0, i1, i2⟩, -⟩ := idx_facts t
  have e0 : ((win0_1.rect t).emb y 0).val = win0_1.index t 0 * 1 + (y 0).val := Pipeline.Window.rect_emb_val win0_1 t y 0
  have e1 : ((win0_1.rect t).emb y 1).val = win0_1.index t 1 * 256 + (y 1).val := Pipeline.Window.rect_emb_val win0_1 t y 1
  have e2 : ((win0_1.rect t).emb y 2).val = win0_1.index t 2 * 4096 + (y 2).val := Pipeline.Window.rect_emb_val win0_1 t y 2
  have b0 : (y 0).val < 1 := (y 0).isLt
  have b1 : (y 1).val < 256 := (y 1).isLt
  have b2 : (y 2).val < 4096 := (y 2).isLt
  show (V m c main_v15 : S4x256x4096.Idx → EReal) ((win0_1.rect t).emb y) = _
  rw [V_v15]
  have hy : (win0_1.rect t).emb y = ix3 (⟨(grid0.coords t 0).val, g0⟩ : Fin 4) (⟨(y 1).val, b1⟩ : Fin 256) (⟨(y 2).val, b2⟩ : Fin 4096) := by
    funext a
    refine Fin.ext ?_
    fin_cases a
    · refine e0.trans ?_
      show _ = (grid0.coords t 0).val
      omega
    · refine e1.trans ?_
      show _ = (y 1).val
      omega
    · refine e2.trans ?_
      show _ = (y 2).val
      omega
  rw [hy]
  exact rows_apply h2 _ _ _

variable (Q R M) in
/-- What the result array is shown to hold. -/
def resultArr : Vec Ideal S16384x512 .f32 := fun y => ((attended Q R M (y 0).val (y 1).val : ℝ) : EReal)

/-- The block a point writes back is its block of the attention. -/
theorem blkAt_apply (h0 : Reals4 (a := 4) (b := 4096) (c := 4) (d := 128) (m ((c : Thread nD τ).loc main_arg0)) Q)
    (h1 : Reals4 (a := 4) (b := 4096) (c := 4) (d := 64) (m ((c : Thread nD τ).loc main_arg1)) R)
    (h2 : Reals3 (a := 4) (b := 4096) (c := 192) (m ((c : Thread nD τ).loc main_arg2)) M) (t : Fin cfg0.N) :
    Reals (a := 256) (b := 512) (blkAt m c t)
      fun r => attended Q R M (256 * (16 * (grid0.coords t 0).val + (grid0.coords t 1).val) + r) := by
  intro y
  obtain ⟨⟨g0, g1⟩, -⟩ := idx_facts t
  have b0 : (y 0).val < 256 := (y 0).isLt
  have b1 : (y 1).val < 512 := (y 1).isLt
  refine (outBlk_apply (grid0.coords t) (block0 m c h0 h1 t) (block1 m c h2 t) (fun k => ?_) y).trans ?_
  · unfold packM; rw [if_neg (by omega), if_pos rfl]
  refine congrArg (fun r : ℝ => (r : EReal)) ?_
  unfold blkReal attended
  have d0 : (256 * (16 * (grid0.coords t 0).val + (grid0.coords t 1).val) + (y 0).val) / 4096 = (grid0.coords t 0).val := by omega
  have d1 : (256 * (16 * (grid0.coords t 0).val + (grid0.coords t 1).val) + (y 0).val) % 4096
      = 256 * (grid0.coords t 1).val + (y 0).val := by omega
  beta_reduce
  rw [d0, d1]
  have hs : headScore (fun r => packQ Q R (256 * (16 * (grid0.coords t 0).val + (grid0.coords t 1).val) + r))
      (packM M (grid0.coords t 0).val) (y 0).val ((y 1).val / 128)
      = mlaScore Q R M (grid0.coords t 0).val (256 * (grid0.coords t 1).val + (y 0).val) ((y 1).val / 128) := by
    funext l
    unfold headScore
    rw [← pack_score Q R M _ _ _ l (by omega)]
    refine Finset.sum_congr rfl fun d _ => ?_
    beta_reduce
    rw [show 256 * (16 * (grid0.coords t 0).val + (grid0.coords t 1).val) + (y 0).val
      = 4096 * (grid0.coords t 0).val + (256 * (grid0.coords t 1).val + (y 0).val) by omega]
  have hv : packM M (grid0.coords t 0).val ((y 1).val % 128) = fun l => M (grid0.coords t 0).val l ((y 1).val % 128) := by
    funext l; unfold packM; rw [if_pos (by omega)]
  rw [hs, hv]

theorem flushed_eq (h0 : Reals4 (a := 4) (b := 4096) (c := 4) (d := 128) (m ((c : Thread nD τ).loc main_arg0)) Q)
    (h1 : Reals4 (a := 4) (b := 4096) (c := 4) (d := 64) (m ((c : Thread nD τ).loc main_arg1)) R)
    (h2 : Reals3 (a := 4) (b := 4096) (c := 192) (m ((c : Thread nD τ).loc main_arg2)) M) (t : Fin cfg0.N) :
    (dats m 0 c).flushed 2 t = (win0_2.blk t).view.read (Elt Ideal) (resultArr Q R M) := by
  show (cfg0.win 2).cut (grid0.coords t) ((dats m 0 c).after 2 t) = _
  rw [after2]
  funext y
  obtain ⟨-, -, -, ⟨i0, i1⟩⟩ := idx_facts t
  have e0 : ((win0_2.rect t).emb y 0).val = win0_2.index t 0 * 256 + (y 0).val := Pipeline.Window.rect_emb_val win0_2 t y 0
  have e1 : ((win0_2.rect t).emb y 1).val = win0_2.index t 1 * 512 + (y 1).val := Pipeline.Window.rect_emb_val win0_2 t y 1
  refine (blkAt_apply m c h0 h1 h2 t y).trans ?_
  show _ = ((attended Q R M ((win0_2.rect t).emb y 0).val ((win0_2.rect t).emb y 1).val : ℝ) : EReal)
  rw [e0, e1, i0, i1, Nat.mul_comm _ 256, Nat.zero_mul, Nat.zero_add]

theorem mem_blk (t : Fin cfg0.N) (i : S16384x512.Idx) :
    i ∈ ((cfg0.win 2).blk t).view.set ↔ win0_2.index t 0 * 256 ≤ (i 0 : Nat) ∧ (i 0 : Nat) < win0_2.index t 0 * 256 + 256 := by
  show i ∈ ((View.whole main_v16).slice (win0_2.rect t)).set ↔ _
  rw [View.set_slice_whole, Rect.mem_set_unit]
  obtain ⟨-, -, -, ⟨-, i1⟩⟩ := idx_facts t
  have h1 : (i 1 : Nat) < 512 := (i 1).isLt
  refine ⟨fun h => h 0, fun h a => ?_⟩
  match a with
  | ⟨0, _⟩ => exact h
  | ⟨1, _⟩ =>
    show win0_2.index t 1 * 512 ≤ (i 1 : Nat) ∧ (i 1 : Nat) < win0_2.index t 1 * 512 + 512
    rw [i1]; omega

theorem cover (i : S16384x512.Idx) : ∃ t : Fin cfg0.N, (cfg0.win 2).flush t = true ∧ i ∈ ((cfg0.win 2).blk t).view.set := by
  have h0 : (i 0 : Nat) < 16384 := (i 0).isLt
  obtain ⟨t, ht⟩ := idx_onto ⟨(i 0 : Nat) / 256, by omega⟩
  refine ⟨t, flush0_2 t, (mem_blk t i).2 ?_⟩
  rw [ht]
  show (i 0 : Nat) / 256 * 256 ≤ _ ∧ _ < (i 0 : Nat) / 256 * 256 + 256
  omega

/-- So the result array ends holding the attention. -/
theorem final_arr (h0 : Reals4 (a := 4) (b := 4096) (c := 4) (d := 128) (m ((c : Thread nD τ).loc main_arg0)) Q)
    (h1 : Reals4 (a := 4) (b := 4096) (c := 4) (d := 64) (m ((c : Thread nD τ).loc main_arg1)) R)
    (h2 : Reals3 (a := 4) (b := 4096) (c := 192) (m ((c : Thread nD τ).loc main_arg2)) M) :
    (dats m 0 c).arrAt 2 cfg0.N = resultArr Q R M :=
  (dats m 0 c).arrAt_eq_of_cover 2 (resultArr Q R M) (fun t _ => flushed_eq m c h0 h1 h2 t) cover

end Cert.KernelIdeal.Hand
end
-- ==== Proof.RefValue.lean ====
/-
  What the reference's host program computes on real arguments: the masked scores, their softmax over the positions up to the
  row's own, and the weighted mean of the latent rows.
-/
module

public import proofs.«01_k».proof.Proof.Gen.ReferenceIdeal.Read
public import proofs.«01_k».proof.Proof.Real
public import Idealize.ShloMosaic.Lib.WordCmp

@[expose] public section

set_option maxRecDepth 16384

noncomputable section

namespace Cert.ReferenceIdeal.Hand

open Cert.ReferenceIdeal Cert.ReferenceIdeal.Gen Cert.ReferenceIdeal.Read Cert.Mla
open Idealize.ShloMosaic Idealize.ShloMosaic.TcCoe Idealize.ShloMosaic.ValueIdx
open scoped BigOperators

variable {x0 : FVec Ideal S4x4096x4x128 .f32} {x1 : FVec Ideal S4x4096x4x64 .f32} {x2 : FVec Ideal S4x4096x192 .f32}
  {Q R : ℕ → ℕ → ℕ → ℕ → ℝ} {M : ℕ → ℕ → ℕ → ℝ}

/-! ## The scores -/

theorem scores_apply (h0 : Reals4 x0 Q) (h1 : Reals4 x1 R) (h2 : Reals3 x2 M) (i : S4x4x4096x4096.Idx) :
    val_main_v9 (F := Ideal) x0 x1 x2 i = ((mlaScore Q R M (i 0).val (i 2).val (i 1).val (i 3).val : ℝ) : EReal) := by
  have e4 : val_main_v4 (F := Ideal) x0 x2 i
      = ((∑ d ∈ Finset.range 128, M (i 0).val (i 3).val d * Q (i 0).val (i 2).val (i 1).val d : ℝ) : EReal) := by
    rw [val_main_v4_apply, val_main_v3_apply]
    refine Eq.trans (Finset.sum_congr rfl fun k _ => ?_)
      (coe_sum_fin 128 fun d => M (i 0).val (i 3).val d * Q (i 0).val (i 2).val (i 1).val d)
    rw [val_main_v1_apply, h2, h0, ← EReal.coe_mul]
  have e6 : val_main_v6 (F := Ideal) x1 x2 i
      = ((∑ d ∈ Finset.range 64, M (i 0).val (i 3).val (128 + d) * R (i 0).val (i 2).val (i 1).val d : ℝ) : EReal) := by
    rw [val_main_v6_apply, val_main_v5_apply]
    refine Eq.trans (Finset.sum_congr rfl fun k _ => ?_)
      (coe_sum_fin 64 fun d => M (i 0).val (i 3).val (128 + d) * R (i 0).val (i 2).val (i 1).val d)
    rw [val_main_v2_apply, h2, h1, ← EReal.coe_mul]
  rw [val_main_v9_apply, val_main_v7_apply, e4, e6, val_main_v8_apply, val_main_cst_apply, lit_scale]
  show (((_ : ℝ) : EReal) + ((_ : ℝ) : EReal)) * ((scale : ℝ) : EReal) = _
  rw [← EReal.coe_add, ← EReal.coe_mul, mlaScore]

/-- The mask: set exactly at the positions up to the row's own. -/
theorem mask_apply (i : S1x1x4096x4096.Idx) : val_main_v15 (F := Ideal) i = 1#1 ↔ (i 3).val ≤ (i 2).val := by
  rw [val_main_v15_apply, val_main_v14_apply, val_main_v12_apply, val_main_v13_apply, val_main_v10_apply, val_main_v11_apply,
    val_main_v0_apply, val_main_v0_apply]
  have h2 : (i 2).val < 4096 := (i 2).isLt
  have h3 : (i 3).val < 4096 := (i 3).isLt
  exact WordCmp.cmpi_sle_ofNat_eq_one_iff (w := 32) (a := (i 3).val) (b := (i 2).val) (by norm_num; omega) (by norm_num; omega)

theorem select_of {α : Type} (b : BitVec 1) (p : Prop) [Decidable p] (h : b = 1#1 ↔ p) (x y : α) :
    Scalar.select b x y = if p then x else y := by
  by_cases hp : p
  · rw [if_pos hp, h.2 hp]; rfl
  · rw [if_neg hp]
    exact if_neg fun hb => hp (h.1 hb)

theorem masked_apply (h0 : Reals4 x0 Q) (h1 : Reals4 x1 R) (h2 : Reals3 x2 M) (i : S4x4x4096x4096.Idx) :
    val_main_v16 (F := Ideal) x0 x1 x2 i
      = if (i 3).val ≤ (i 2).val then ((mlaScore Q R M (i 0).val (i 2).val (i 1).val (i 3).val : ℝ) : EReal) else ⊥ := by
  rw [val_main_v16_apply, select_of _ ((i 3).val ≤ (i 2).val) (by rw [val_main_call0_v1_apply]; exact mask_apply _),
    scores_apply h0 h1 h2, val_main_call0_v2_apply, val_main_call0_v0_apply, val_main_cst_0_apply, lit_neg_inf]

/-! ## The subtracted maximum is a real number -/

/-- The host's maximum over the keys, read at an entry. -/
theorem keyMax_apply (x : FVec Ideal S4x4x4096x4096 .f32) (v : FVec Ideal S_ .f32) (hv : v (Shape.Idx.first h_S_) = (⊥ : EReal)) (j : S4x4x4096.Idx) :
    ∃ f : Fin 4096 → EReal, (∀ k, f k = x (idx_main_v24 j k)) ∧
      Host.reduce FloatOps.maximumf x v reducesTo_S4x4x4096x4096_S4x4x4096_d3 h_S_ j
        = (Finset.univ : Finset (Fin 4096)).fold max ⊥ f := by
  have hred : S4x4x4096x4096.Reduces [3] S4x4x4096 := by decide
  refine ⟨fun k => x (idx_main_v24 j k), fun _ => rfl, ?_⟩
  refine (Host.reduce_eq_fold_single (FloatOps.maximumf (F := Ideal) (φ := .f32)) x v _ hred h_S_ j).trans ?_
  refine congrArg₂ (fun b f => (Finset.univ : Finset (Fin 4096)).fold max b f) hv (funext fun l => congrArg x (funext fun a => ?_))
  match a with
  | ⟨0, _⟩ => rfl
  | ⟨1, _⟩ => rfl
  | ⟨2, _⟩ => rfl
  | ⟨3, _⟩ => rfl

theorem maxed_real (a : EReal) (f : Fin 4096 → EReal) (ha : a ≠ ⊤) (hf : ∀ k, f k ≠ ⊤) (h : f ⟨0, by decide⟩ ≠ ⊥) :
    ∃ μ : ℝ, max a ((Finset.univ : Finset (Fin 4096)).fold max ⊥ f) = ((μ : ℝ) : EReal) :=
  exists_real (max_lt_of_ne_top ha (fold_max_ne_top _ _ _ bot_ne_top fun k _ => hf k))
    (max_gt_of_ne_bot (fold_max_ne_bot _ _ _ (⟨0, by decide⟩ : Fin 4096) (Finset.mem_univ _) h))

theorem max_real (h0 : Reals4 x0 Q) (h1 : Reals4 x1 R) (h2 : Reals3 x2 M) (j : S4x4x4096.Idx) :
    ∃ μ : ℝ, val_main_v19 (F := Ideal) x0 x1 x2 j = ((μ : ℝ) : EReal) := by
  rw [val_main_v19_apply]
  unfold val_main_v17
  have hx := fun i => masked_apply h0 h1 h2 i
  generalize val_main_v16 (F := Ideal) x0 x1 x2 = x at hx ⊢
  obtain ⟨f, hf, e⟩ := keyMax_apply x (val_main_cst_1 (F := Ideal)) (by rw [val_main_cst_1_apply, lit_neg_inf]) j
  rw [e, val_main_v18_apply, val_main_cst_2_apply, lit_neg_inf]
  refine maxed_real ⊥ f bot_ne_top (fun k => ?_) ?_
  · rw [hf, hx]
    split_ifs
    · exact EReal.coe_ne_top _
    · exact bot_ne_top
  · rw [hf, hx, if_pos (Nat.zero_le _)]
    exact EReal.coe_ne_bot _

/-! ## The softmax and the result -/

theorem exp_apply (h0 : Reals4 x0 Q) (h1 : Reals4 x1 R) (h2 : Reals3 x2 M) (μ : ℝ) (j : S4x4x4096.Idx)
    (hμ : val_main_v19 (F := Ideal) x0 x1 x2 j = ((μ : ℝ) : EReal)) (k : Fin 4096) :
    val_main_v23 (F := Ideal) x0 x1 x2 (idx_main_v24 j k)
      = ((if k.val ≤ (j 2).val then Real.exp (mlaScore Q R M (j 0).val (j 2).val (j 1).val k.val - μ) else 0 : ℝ) : EReal) := by
  have hj : idx_main_v20 (idx_main_v21 (idx_main_v24 j k)) = j := by
    funext a
    match a with
    | ⟨0, _⟩ => rfl
    | ⟨1, _⟩ => rfl
    | ⟨2, _⟩ => rfl
  rw [val_main_v23_apply, val_main_v22_apply, masked_apply h0 h1 h2, val_main_v21_apply, val_main_v20_apply, hj, hμ]
  exact exp_masked (k.val ≤ (j 2).val) _ μ

theorem sum_apply (h0 : Reals4 x0 Q) (h1 : Reals4 x1 R) (h2 : Reals3 x2 M) (μ : ℝ) (j : S4x4x4096.Idx)
    (hμ : val_main_v19 (F := Ideal) x0 x1 x2 j = ((μ : ℝ) : EReal)) :
    val_main_v24 (F := Ideal) x0 x1 x2 j
      = ((∑ k ∈ Finset.range ((j 2).val + 1), Real.exp (mlaScore Q R M (j 0).val (j 2).val (j 1).val k - μ) : ℝ) : EReal) := by
  have hj : (j 2).val < 4096 := (j 2).isLt
  rw [val_main_v24_apply, val_main_cst_3_apply, lit_zero, zero_add]
  refine (Finset.sum_congr rfl fun k _ => exp_apply h0 h1 h2 μ j hμ k).trans ?_
  refine (coe_sum_fin 4096 fun k => if k ≤ (j 2).val then Real.exp (mlaScore Q R M (j 0).val (j 2).val (j 1).val k - μ) else 0).trans ?_
  refine congrArg (fun r : ℝ => (r : EReal)) ?_
  rw [sum_range_cut _ (j 2).val 4096 hj fun k hk => if_neg (by omega)]
  exact Finset.sum_congr rfl fun k hk => if_pos (by have := Finset.mem_range.1 hk; omega)

theorem weight_apply (h0 : Reals4 x0 Q) (h1 : Reals4 x1 R) (h2 : Reals3 x2 M) (μ : ℝ) (j : S4x4x4096.Idx)
    (hμ : val_main_v19 (F := Ideal) x0 x1 x2 j = ((μ : ℝ) : EReal)) (k : Fin 4096) :
    val_main_v28 (F := Ideal) x0 x1 x2 (idx_main_v24 j k)
      = ((if k.val ≤ (j 2).val then Real.exp (mlaScore Q R M (j 0).val (j 2).val (j 1).val k.val - μ)
          / (∑ l ∈ Finset.range ((j 2).val + 1), Real.exp (mlaScore Q R M (j 0).val (j 2).val (j 1).val l - μ)) else 0 : ℝ) : EReal) := by
  have hj : idx_main_v25 (idx_main_v26 (idx_main_v24 j k)) = j := by
    funext a
    match a with
    | ⟨0, _⟩ => rfl
    | ⟨1, _⟩ => rfl
    | ⟨2, _⟩ => rfl
  rw [val_main_v28_apply, select_of _ (k.val ≤ (j 2).val) (by rw [val_main_call1_v1_apply]; exact mask_apply _),
    val_main_v27_apply, val_main_v26_apply, val_main_v25_apply, hj, exp_apply h0 h1 h2 μ j hμ, sum_apply h0 h1 h2 μ j hμ,
    val_main_call1_v2_apply, val_main_call1_v0_apply, val_main_cst_4_apply, lit_zero]
  by_cases hk : k.val ≤ (j 2).val
  · rw [if_pos hk, if_pos hk, if_pos hk]
    exact div_real _ _ (ne_of_gt (sum_exp_pos (fun l => mlaScore Q R M (j 0).val (j 2).val (j 1).val l - μ) (j 2).val))
  · rw [if_neg hk, if_neg hk]; rfl

/-- A sum against masked softmax weights is the weighted mean. -/
theorem weighted (s v : ℕ → ℝ) (t : ℕ) (ht : t < 4096) (μ : ℝ) :
    ∑ k : Fin 4096, ((v k.val * (if k.val ≤ t then Real.exp (s k.val - μ)
        / (∑ l ∈ Finset.range (t + 1), Real.exp (s l - μ)) else 0) : ℝ) : EReal) = ((weigh s v t : ℝ) : EReal) := by
  refine (coe_sum_fin 4096 fun k => v k * (if k ≤ t then Real.exp (s k - μ)
        / (∑ l ∈ Finset.range (t + 1), Real.exp (s l - μ)) else 0)).trans (congrArg (fun r : ℝ => (r : EReal)) ?_)
  rw [sum_range_cut _ t 4096 ht fun k hk => by rw [if_neg (by omega), mul_zero], ← weigh_shift s v t μ, Finset.sum_div]
  refine Finset.sum_congr rfl fun k hk => ?_
  rw [if_pos (by have := Finset.mem_range.1 hk; omega)]
  ring

/-- The reference's result is the attention. -/
theorem result_apply (h0 : Reals4 x0 Q) (h1 : Reals4 x1 R) (h2 : Reals3 x2 M) (i : S16384x512.Idx) :
    val_main_v31 (F := Ideal) x0 x1 x2 i = ((attended Q R M (i 0).val (i 1).val : ℝ) : EReal) := by
  have b0 : (i 0).val < 16384 := (i 0).isLt
  have b1 : (i 1).val < 512 := (i 1).isLt
  have f0 : ((i 0).val * 512 + (i 1).val) / 2097152 = (i 0).val / 4096 := by omega
  have f1 : ((i 0).val * 512 + (i 1).val) / 512 % 4096 = (i 0).val % 4096 := by omega
  have f2 : ((i 0).val * 512 + (i 1).val) / 128 % 4 = (i 1).val / 128 := by omega
  have f3 : ((i 0).val * 512 + (i 1).val) % 128 = (i 1).val % 128 := by omega
  let j : S4x4x4096.Idx := ix3 (⟨(i 0).val / 4096, by omega⟩ : Fin 4) (⟨(i 1).val / 128, by omega⟩ : Fin 4)
    (⟨(i 0).val % 4096, by omega⟩ : Fin 4096)
  obtain ⟨μ, hμ⟩ := max_real h0 h1 h2 j
  have hr : ∀ k : Fin 4096, ridx_main_v29 (idx_main_v30 (idx_main_v31 i)) k = idx_main_v24 j k := fun k => by
    funext a
    refine Fin.ext ?_
    match a with
    | ⟨0, _⟩ => exact f0
    | ⟨1, _⟩ => exact f2
    | ⟨2, _⟩ => exact f1
    | ⟨3, _⟩ => rfl
  have ht : (i 0).val % 4096 < 4096 := Nat.mod_lt _ (by decide)
  rw [val_main_v31_apply, val_main_v30_apply, val_main_v29_apply]
  have key : ∀ k : Fin 4096, val_main_v1 (F := Ideal) x2 (lidx_main_v29 (idx_main_v30 (idx_main_v31 i)) k)
      * val_main_v28 (F := Ideal) x0 x1 x2 (ridx_main_v29 (idx_main_v30 (idx_main_v31 i)) k)
      = ((M ((i 0).val / 4096) k.val ((i 1).val % 128)
        * (if k.val ≤ (i 0).val % 4096 then Real.exp (mlaScore Q R M ((i 0).val / 4096) ((i 0).val % 4096) ((i 1).val / 128) k.val - μ)
          / (∑ l ∈ Finset.range ((i 0).val % 4096 + 1), Real.exp (mlaScore Q R M ((i 0).val / 4096) ((i 0).val % 4096) ((i 1).val / 128) l - μ)) else 0) : ℝ) : EReal) := fun k => by
    have e1 : val_main_v1 (F := Ideal) x2 (lidx_main_v29 (idx_main_v30 (idx_main_v31 i)) k)
        = ((M ((i 0).val / 4096) k.val ((i 1).val % 128) : ℝ) : EReal) := by
      rw [val_main_v1_apply, h2]
      exact congrArg₂ (fun a b => ((M a k.val b : ℝ) : EReal)) f0 f3
    rw [e1, hr, weight_apply h0 h1 h2 μ j hμ]
    exact (EReal.coe_mul _ _).symm
  rw [Finset.sum_congr rfl fun k _ => key k]
  unfold attended
  generalize mlaScore Q R M ((i 0).val / 4096) ((i 0).val % 4096) ((i 1).val / 128) = s
  exact weighted s (fun l => M ((i 0).val / 4096) l ((i 1).val % 128)) _ ht μ

end Cert.ReferenceIdeal.Hand
end
-- ==== Proof.Equation.lean ====
/-
  The equation: on finite arguments the idealized kernel's result array is the reference's.
-/
module

public import proofs.«01_k».proof.Proof.Array
public import proofs.«01_k».proof.Proof.RefValue
public import proofs.«01_k».proof.Proof.Finite

@[expose] public section

noncomputable section

namespace Cert.Mla

open Idealize.ShloMosaic Idealize.ShloMosaic.TcCoe Idealize.SL.Sem

/-- The idealized kernel's run, read: the result array at what the blocks make it, the arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v16)
            = (Cert.KernelIdeal.Hand.dats m 0 c).arrAt 2 Cert.KernelIdeal.cfg0.N
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c => ⟨(h.1 c).1 2, h.2.1 c⟩)
    (θ_run_and (Cert.KernelIdeal.Hand.run_main m g) (Cert.KernelIdeal.Hand.frame m g))

/-- From equal finite arguments, the two results are equal. -/
theorem results_eq [Cert.Pre_finite.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h : (∃ Q, Reals4 (a := 4) (b := 4096) (c := 4) (d := 128) (m ((c.tc : Thread Cert.KernelIdeal.nD Cert.KernelIdeal.τ).loc Cert.KernelIdeal.main_arg0)) Q)
      ∧ (∃ R, Reals4 (a := 4) (b := 4096) (c := 4) (d := 64) (m ((c.tc : Thread Cert.KernelIdeal.nD Cert.KernelIdeal.τ).loc Cert.KernelIdeal.main_arg1)) R)
      ∧ ∃ M, Reals3 (a := 4) (b := 4096) (c := 192) (m ((c.tc : Thread Cert.KernelIdeal.nD Cert.KernelIdeal.τ).loc Cert.KernelIdeal.main_arg2)) M) :
    Cert.ReferenceIdeal.Value.res_main_v31 m' c = (Cert.KernelIdeal.Hand.dats m 0 c).arrAt 2 Cert.KernelIdeal.cfg0.N := by
  obtain ⟨⟨Q, h0⟩, ⟨R, h1⟩, ⟨M, h2⟩⟩ := h
  rw [Cert.KernelIdeal.Hand.final_arr m c h0 h1 h2, Cert.ReferenceIdeal.Read.val_main_v31_eq, a0, a1, a2]
  funext i
  exact Cert.ReferenceIdeal.Hand.result_apply h0 h1 h2 i

end Cert.Mla
end
-- ==== Proof.lean ====
/-
  The certificate: the frames of the programs, the idealizations' ledgers, and the equations of the kernels' and the references'
  results, for the latent attention, the input projection, the merge (of the prompt and of the decoding step) and the modulation.
-/
module

public import proofs.«01_k».proof.Proof.Gen.Kernel3.Frame
public import proofs.«01_k».proof.Proof.Gen.Kernel3
public import proofs.«01_k».proof.Proof.Gen.Kernel3Ideal
public import proofs.«01_k».proof.Proof.Gen.Kernel3Ideal.Value
public import proofs.«01_k».proof.Proof.MergeRef
public import proofs.«01_k».proof.Proof.ModRef
public import proofs.«01_k».proof.Proof.StepRef
public import proofs.«01_k».proof.Proof.ProjKernelFrame
public import proofs.«01_k».proof.Proof.ProjEquation
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import proofs.«01_k».proof.Proof.BitsRun
public import Idealize.ShloMosaic.Adequacy
public import Idealize.ShloMosaic.Init
public import Idealize.ShloMosaic.Lib.Quiescent

@[expose] public section

noncomputable section

namespace Cert.Proof

open Idealize.ShloMosaic Idealize.SL.Sem

/-- The kernel as written runs and leaves its arguments as they were. -/
theorem kernel_frame : Cert.quiescent_Kernel (hKernel := Cert.Kernel.Gen.facts) :=
  fun m g _ => Cert.Kernel.Hand.frame m g

/-- So does its idealization. -/
theorem ideal_frame (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  Cert.KernelIdeal.Hand.frame m g

/-- And the reference, which has no semaphores. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- On finite arguments the idealized kernel's result is the reference's. -/
theorem attention : Cert.algebraic_KernelIdeal_ReferenceIdeal_pre_finite (hKernelIdeal := Cert.KernelIdeal.Gen.facts)
    (hReferenceIdeal := Cert.ReferenceIdeal.Gen.facts) (hPre_finite := Cert.Mla.Pre_finite_facts) := by
  intro m g m' g' hpre hargs
  refine ⟨fun c => (Cert.KernelIdeal.Hand.dats m 0 c).arrAt 2 Cert.KernelIdeal.cfg0.N, Cert.Mla.kernel_run m g, ?_⟩
  have := Cert.Mla.Pre_finite_facts
  exact (θ_run Cert.ReferenceIdeal.defs _ _).mono (fun r h c =>
    ⟨(h c).1.trans (Cert.Mla.results_eq m m' c (hargs c).1 (hargs c).2.1 (hargs c).2.2
      (Cert.Mla.reals_of_finite _ _ _ (hpre c).1 (hpre c).2.1 (hpre c).2.2)), (h c).2⟩) (Cert.ReferenceIdeal.Value.run m' g')

/-! ## The merge -/

theorem merge_reference_frame : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run m g)

/-- The idealized kernel's result is the reference's. -/
theorem merge : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 9 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run m' g')
  obtain ⟨a0, a1, a2, a3, a4, a5, a6, a7, a8⟩ := hargs c
  have e := Cert.Merge.results_eq m c
  rw [← a0, ← a1, ← a2, ← a3, ← a4, ← a5, ← a6, ← a7, ← a8] at e
  exact (Cert.Reference3Ideal.Read.val_main_v24_eq _ _ _ _ _ _ _ _ _).trans e

/-! ## The input projection -/

theorem projection_reference_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
        ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
        ∧ r.2.sem = fun _ => 0) :=
  (θ_run Cert.Reference2Ideal.defs _ _).mono (fun r h => ⟨fun c => (h c).2.2.2.2.2.2.2.2.2.2, sem_eq_zero_of_no_sems (by decide) r.2⟩)
    (Cert.Reference2Ideal.Hand.run_arrays m g)

set_option maxHeartbeats 4000000 in
/-- Where the latent query's gains and its matrix are finite, the idealized kernel's ten results are the reference's. -/
theorem projection : Cert.algebraic_Kernel2Ideal_Reference2Ideal_pre_finite2 (hKernel2Ideal := Cert.Kernel2Ideal.Gen.facts)
    (hReference2Ideal := Cert.Reference2Ideal.Gen.facts) (hPre_finite2 := Cert.Proj.Pre_finite2_facts) := by
  intro m g m' g' hpre hargs
  have := Cert.Proj.Pre_finite2_facts
  refine ⟨fun c => (Cert.Kernel2Ideal.Gen.dats m 0 c).arrAt 16 Cert.Kernel2Ideal.cfg0.N, fun c => (Cert.Kernel2Ideal.Gen.dats m 0 c).arrAt 17 Cert.Kernel2Ideal.cfg0.N, fun c => (Cert.Kernel2Ideal.Gen.dats m 0 c).arrAt 18 Cert.Kernel2Ideal.cfg0.N, fun c => (Cert.Kernel2Ideal.Gen.dats m 0 c).arrAt 19 Cert.Kernel2Ideal.cfg0.N, fun c => (Cert.Kernel2Ideal.Gen.dats m 0 c).arrAt 20 Cert.Kernel2Ideal.cfg0.N, fun c => (Cert.Kernel2Ideal.Gen.dats m 0 c).arrAt 21 Cert.Kernel2Ideal.cfg0.N, fun c => (Cert.Kernel2Ideal.Gen.dats m 0 c).arrAt 22 Cert.Kernel2Ideal.cfg0.N, fun c => (Cert.Kernel2Ideal.Gen.dats m 0 c).arrAt 23 Cert.Kernel2Ideal.cfg0.N, fun c => (Cert.Kernel2Ideal.Gen.dats m 0 c).arrAt 24 Cert.Kernel2Ideal.cfg0.N, fun c => (Cert.Kernel2Ideal.Gen.dats m 0 c).arrAt 25 Cert.Kernel2Ideal.cfg0.N,
    Cert.Kernel2Ideal.Hand.run_arrays m g, ?_⟩
  refine (θ_run Cert.Reference2Ideal.defs _ _).mono (fun r h c => ?_) (Cert.Reference2Ideal.Hand.run_arrays m' g')
  obtain ⟨a0, a1, a2, a3, a4, a5, a6, a7, a8⟩ := hargs c
  obtain ⟨⟨G, h5⟩, W, h6⟩ := Cert.Proj.reals_of_finite2 _ _ _ _ _ _ _ _ _ (hpre c).1 (hpre c).2
  obtain ⟨A0, h0⟩ := Cert.Ent.exists3 (a := 4) (b := 4096) (c := 1024) (m ((c.tc : Thread Cert.Kernel2Ideal.nD Cert.Kernel2Ideal.τ).loc Cert.Kernel2Ideal.main_arg0))
  obtain ⟨A1, h1⟩ := Cert.Ent.exists2 (a := 4) (b := 1024) (m ((c.tc : Thread Cert.Kernel2Ideal.nD Cert.Kernel2Ideal.τ).loc Cert.Kernel2Ideal.main_arg1))
  obtain ⟨A2, h2⟩ := Cert.Ent.exists2 (a := 4) (b := 1024) (m ((c.tc : Thread Cert.Kernel2Ideal.nD Cert.Kernel2Ideal.τ).loc Cert.Kernel2Ideal.main_arg2))
  obtain ⟨A3, h3⟩ := Cert.Ent.exists1 (a := 1024) (m ((c.tc : Thread Cert.Kernel2Ideal.nD Cert.Kernel2Ideal.τ).loc Cert.Kernel2Ideal.main_arg3))
  obtain ⟨A4, h4⟩ := Cert.Ent.exists2 (a := 1024) (b := 2776) (m ((c.tc : Thread Cert.Kernel2Ideal.nD Cert.Kernel2Ideal.τ).loc Cert.Kernel2Ideal.main_arg4))
  obtain ⟨A7, h7⟩ := Cert.Ent.exists1 (a := 128) (m ((c.tc : Thread Cert.Kernel2Ideal.nD Cert.Kernel2Ideal.τ).loc Cert.Kernel2Ideal.main_arg7))
  obtain ⟨A8, h8⟩ := Cert.Ent.exists3 (a := 128) (b := 4) (c := 128) (m ((c.tc : Thread Cert.Kernel2Ideal.nD Cert.Kernel2Ideal.τ).loc Cert.Kernel2Ideal.main_arg8))
  have hA : Cert.Kernel2Ideal.Hand.Args m c A0 A1 A2 A3 A4 (fun k => ((G k : ℝ) : EReal)) (fun q h c => ((W q h c : ℝ) : EReal)) A7 A8 :=
    ⟨h0, h1, h2, h3, h4, h5, h6, h7, h8⟩
  have r5 : ∀ k, ∃ r : ℝ, ((G k : ℝ) : EReal) = r := fun k => ⟨_, rfl⟩
  have r6 : ∀ q h c, ∃ r : ℝ, ((W q h c : ℝ) : EReal) = r := fun q h c => ⟨_, rfl⟩
  exact ⟨(h c).1.trans (by rw [a0, a1, a2, a3, a4]; exact Cert.Proj.result0 hA),
    (h c).2.1.trans (by rw [a0, a1, a2, a3, a4]; exact Cert.Proj.result1 hA),
    (h c).2.2.1.trans (by rw [a0, a1, a2, a3, a4]; exact Cert.Proj.result2 hA),
    (h c).2.2.2.1.trans (by rw [a0, a1, a2, a3, a4]; exact Cert.Proj.result3 hA),
    (h c).2.2.2.2.1.trans (by rw [a0, a1, a2, a3, a4, a5, a6, a8]; exact Cert.Proj.result4 hA r5 r6),
    (h c).2.2.2.2.2.1.trans (by rw [a0, a1, a2, a3, a4]; exact Cert.Proj.result5 hA),
    (h c).2.2.2.2.2.2.1.trans (by rw [a0, a1, a2, a3, a4]; exact Cert.Proj.result6 hA),
    (h c).2.2.2.2.2.2.2.1.trans (by rw [a0, a1, a2, a3, a4]; exact Cert.Proj.result7 hA),
    (h c).2.2.2.2.2.2.2.2.1.trans (by rw [a0, a1, a2, a3, a4, a7]; exact Cert.Proj.result8 hA),
    (h c).2.2.2.2.2.2.2.2.2.1.trans (by rw [a0, a1, a2, a3, a4, a7]; exact Cert.Proj.result9 hA),
    (h c).2.2.2.2.2.2.2.2.2.2⟩

/-! ## The modulation -/

theorem modulation_reference_frame : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run m g)

/-- The idealized kernel's result is the reference's. -/
theorem modulation : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 3 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run m' g')
  obtain ⟨a0, a1, a2, a3⟩ := hargs c
  have e := Cert.Mod.results_eq m c
  rw [← a0, ← a1, ← a2, ← a3] at e
  exact (Cert.Reference4Ideal.Read.val_main_v9_eq _ _ _ _).trans e

/-! ## The merge of the decoding step's rows -/

theorem step_merge_reference_frame : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run m g)

/-- The idealized kernel's result is the reference's. -/
theorem step_merge : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 9 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run m' g')
  obtain ⟨a0, a1, a2, a3, a4, a5, a6, a7, a8⟩ := hargs c
  have e := Cert.StepMerge.results_eq m c
  rw [← a0, ← a1, ← a2, ← a3, ← a4, ← a5, ← a6, ← a7, ← a8] at e
  exact (Cert.Reference5Ideal.Read.val_main_v24_eq _ _ _ _ _ _ _ _ _).trans e

/-! ## The whole claim -/

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts,
    Cert.Reference5Ideal.Gen.facts, Cert.Mla.Pre_finite_facts, Cert.Proj.Pre_finite2_facts, kernel_frame,
    fun m g _ => ideal_frame m g, fun m g _ => ideal_frame m g, fun m g _ => reference_frame m g, fun m g _ => reference_frame m g,
    Cert.Proj.kernel_frame, fun m g _ => Cert.Kernel2Ideal.Gen.frame m g, fun m g _ => Cert.Kernel2Ideal.Gen.frame m g,
    fun m g _ => projection_reference_frame m g, fun m g _ => projection_reference_frame m g,
    fun m g _ => Cert.Kernel3.Gen.frame m g, fun m g _ => Cert.Kernel3Ideal.Gen.frame m g, merge_reference_frame,
    fun m g _ => Cert.Kernel4.Gen.frame m g, fun m g _ => Cert.Kernel4Ideal.Gen.frame m g, modulation_reference_frame,
    fun m g _ => Cert.Kernel5.Gen.frame m g, fun m g _ => Cert.Kernel5Ideal.Gen.frame m g, step_merge_reference_frame,
    IdealRules.named_const.statement Cert.KernelIdeal.κ "mask" .f32 0xF149F2CA#32 ⊥ rfl, attention, trivial, projection, trivial, merge,
    trivial, modulation, trivial, step_merge⟩

end Cert.Proof

end
